-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_down_bwd_finite [hPre_down_bwd_finite : Cert.Pre_down_bwd_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_down_bwd_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_down_bwd_finite [hPre_down_bwd_finite : Cert.Pre_down_bwd_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_down_bwd_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_gate_bwd_finite [hPre_gate_bwd_finite : Cert.Pre_gate_bwd_finite.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_gate_bwd_finite.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_gate_bwd_finite [hPre_gate_bwd_finite : Cert.Pre_gate_bwd_finite.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_gate_bwd_finite.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2))) = (fun _ => 1#1)

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Kernel25Ideal_conv_bwd_finite [hPre_conv_bwd_finite : Cert.Pre_conv_bwd_finite.Facts] (m : (ℓ : Loc Cert.Kernel25Ideal.nD Cert.Kernel25Ideal.τ Cert.Kernel25Ideal.sig) → Buf (Elt Ideal) ℓ) : Prop :=
  ∀ c : Dev Cert.Kernel25Ideal.nD,
    (Cert.Pre_conv_bwd_finite.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3))) = (fun _ => 1#1)

def Pre_Reference25Ideal (m : (ℓ : Loc Cert.Reference25Ideal.nD Cert.Reference25Ideal.τ Cert.Reference25Ideal.sig) → Buf (Elt Ideal) ℓ) : Prop :=
  True

def Pre_Reference25Ideal_conv_bwd_finite [hPre_conv_bwd_finite : Cert.Pre_conv_bwd_finite.Facts] (m : (ℓ : Loc Cert.Reference25Ideal.nD Cert.Reference25Ideal.τ Cert.Reference25Ideal.sig) → Buf (Elt Ideal) ℓ) : Prop :=
  ∀ c : Dev Cert.Reference25Ideal.nD,
    (Cert.Pre_conv_bwd_finite.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3))) = (fun _ => 1#1)

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Kernel26Ideal_mla_fwd_finite [hPre_mla_fwd_finite : Cert.Pre_mla_fwd_finite.Facts] (m : (ℓ : Loc Cert.Kernel26Ideal.nD Cert.Kernel26Ideal.τ Cert.Kernel26Ideal.sig) → Buf (Elt Ideal) ℓ) : Prop :=
  ∀ c : Dev Cert.Kernel26Ideal.nD,
    (Cert.Pre_mla_fwd_finite.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2))) = (fun _ => 1#1)

def Pre_Reference26Ideal (m : (ℓ : Loc Cert.Reference26Ideal.nD Cert.Reference26Ideal.τ Cert.Reference26Ideal.sig) → Buf (Elt Ideal) ℓ) : Prop :=
  True

def Pre_Reference26Ideal_mla_fwd_finite [hPre_mla_fwd_finite : Cert.Pre_mla_fwd_finite.Facts] (m : (ℓ : Loc Cert.Reference26Ideal.nD Cert.Reference26Ideal.τ Cert.Reference26Ideal.sig) → Buf (Elt Ideal) ℓ) : Prop :=
  ∀ c : Dev Cert.Reference26Ideal.nD,
    (Cert.Pre_mla_fwd_finite.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2))) = (fun _ => 1#1)

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Kernel27Ideal_xattn_fwd_finite [hPre_xattn_fwd_finite : Cert.Pre_xattn_fwd_finite.Facts] (m : (ℓ : Loc Cert.Kernel27Ideal.nD Cert.Kernel27Ideal.τ Cert.Kernel27Ideal.sig) → Buf (Elt Ideal) ℓ) : Prop :=
  ∀ c : Dev Cert.Kernel27Ideal.nD,
    (Cert.Pre_xattn_fwd_finite.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2))) = (fun _ => 1#1)

def Pre_Reference27Ideal (m : (ℓ : Loc Cert.Reference27Ideal.nD Cert.Reference27Ideal.τ Cert.Reference27Ideal.sig) → Buf (Elt Ideal) ℓ) : Prop :=
  True

def Pre_Reference27Ideal_xattn_fwd_finite [hPre_xattn_fwd_finite : Cert.Pre_xattn_fwd_finite.Facts] (m : (ℓ : Loc Cert.Reference27Ideal.nD Cert.Reference27Ideal.τ Cert.Reference27Ideal.sig) → Buf (Elt Ideal) ℓ) : Prop :=
  ∀ c : Dev Cert.Reference27Ideal.nD,
    (Cert.Pre_xattn_fwd_finite.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2))) = (fun _ => 1#1)

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Kernel33Ideal_xattn_bwd_finite [hPre_xattn_bwd_finite : Cert.Pre_xattn_bwd_finite.Facts] (m : (ℓ : Loc Cert.Kernel33Ideal.nD Cert.Kernel33Ideal.τ Cert.Kernel33Ideal.sig) → Buf (Elt Ideal) ℓ) : Prop :=
  ∀ c : Dev Cert.Kernel33Ideal.nD,
    (Cert.Pre_xattn_bwd_finite.fn (F := Ideal) (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2)) (m ((c.tc : Thread Cert.Kernel33Ideal.nD Cert.Kernel33Ideal.τ).loc Cert.Kernel33Ideal.main_arg3))) = (fun _ => 1#1)

def Pre_Reference33Ideal (m : (ℓ : Loc Cert.Reference33Ideal.nD Cert.Reference33Ideal.τ Cert.Reference33Ideal.sig) → Buf (Elt Ideal) ℓ) : Prop :=
  True

def Pre_Reference33Ideal_xattn_bwd_finite [hPre_xattn_bwd_finite : Cert.Pre_xattn_bwd_finite.Facts] (m : (ℓ : Loc Cert.Reference33Ideal.nD Cert.Reference33Ideal.τ Cert.Reference33Ideal.sig) → Buf (Elt Ideal) ℓ) : Prop :=
  ∀ c : Dev Cert.Reference33Ideal.nD,
    (Cert.Pre_xattn_bwd_finite.fn (F := Ideal) (m ((c.tc : Thread Cert.Reference33Ideal.nD Cert.Reference33Ideal.τ).loc Cert.Reference33Ideal.main_arg0)) (m ((c.tc : Thread Cert.Reference33Ideal.nD Cert.Reference33Ideal.τ).loc Cert.Reference33Ideal.main_arg1)) (m ((c.tc : Thread Cert.Reference33Ideal.nD Cert.Reference33Ideal.τ).loc Cert.Reference33Ideal.main_arg2)) (m ((c.tc : Thread Cert.Reference33Ideal.nD Cert.Reference33Ideal.τ).loc Cert.Reference33Ideal.main_arg3))) = (fun _ => 1#1)

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_down_bwd_finite [hKernel4Ideal : Cert.Kernel4Ideal.Facts] [hPre_down_bwd_finite : Cert.Pre_down_bwd_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_down_bwd_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_down_bwd_finite [hReference4Ideal : Cert.Reference4Ideal.Facts] [hPre_down_bwd_finite : Cert.Pre_down_bwd_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_down_bwd_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Kernel23Ideal_pre_gate_bwd_finite [hKernel23Ideal : Cert.Kernel23Ideal.Facts] [hPre_gate_bwd_finite : Cert.Pre_gate_bwd_finite.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_gate_bwd_finite m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Reference23Ideal_pre_gate_bwd_finite [hReference23Ideal : Cert.Reference23Ideal.Facts] [hPre_gate_bwd_finite : Cert.Pre_gate_bwd_finite.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_gate_bwd_finite m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Kernel25Ideal_pre_conv_bwd_finite [hKernel25Ideal : Cert.Kernel25Ideal.Facts] [hPre_conv_bwd_finite : Cert.Pre_conv_bwd_finite.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal_conv_bwd_finite m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Reference25Ideal_pre_conv_bwd_finite [hReference25Ideal : Cert.Reference25Ideal.Facts] [hPre_conv_bwd_finite : Cert.Pre_conv_bwd_finite.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal_conv_bwd_finite m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Kernel26Ideal_pre_mla_fwd_finite [hKernel26Ideal : Cert.Kernel26Ideal.Facts] [hPre_mla_fwd_finite : Cert.Pre_mla_fwd_finite.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal_mla_fwd_finite m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Reference26Ideal_pre_mla_fwd_finite [hReference26Ideal : Cert.Reference26Ideal.Facts] [hPre_mla_fwd_finite : Cert.Pre_mla_fwd_finite.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal_mla_fwd_finite m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Kernel27Ideal_pre_xattn_fwd_finite [hKernel27Ideal : Cert.Kernel27Ideal.Facts] [hPre_xattn_fwd_finite : Cert.Pre_xattn_fwd_finite.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal_xattn_fwd_finite m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Reference27Ideal_pre_xattn_fwd_finite [hReference27Ideal : Cert.Reference27Ideal.Facts] [hPre_xattn_fwd_finite : Cert.Pre_xattn_fwd_finite.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal_xattn_fwd_finite m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Kernel33Ideal_pre_xattn_bwd_finite [hKernel33Ideal : Cert.Kernel33Ideal.Facts] [hPre_xattn_bwd_finite : Cert.Pre_xattn_bwd_finite.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal_xattn_bwd_finite m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Reference33Ideal_pre_xattn_bwd_finite [hReference33Ideal : Cert.Reference33Ideal.Facts] [hPre_xattn_bwd_finite : Cert.Pre_xattn_bwd_finite.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal_xattn_bwd_finite m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_v3) = v1 c
          ∧ r.2.mem ((c.tc : Thread Cert.Reference2Ideal.nD Cert.Reference2Ideal.τ).loc Cert.Reference2Ideal.main_v6) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_down_bwd_finite [hKernel4Ideal : Cert.Kernel4Ideal.Facts] [hReference4Ideal : Cert.Reference4Ideal.Facts] [hPre_down_bwd_finite : Cert.Pre_down_bwd_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_down_bwd_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_v8) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v8)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v17) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal_pre_gate_bwd_finite [hKernel23Ideal : Cert.Kernel23Ideal.Facts] [hReference23Ideal : Cert.Reference23Ideal.Facts] [hPre_gate_bwd_finite : Cert.Pre_gate_bwd_finite.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_gate_bwd_finite m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_v5) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v1_0)) (v1 : (c : Dev Cert.Kernel24Ideal.nD) → Buf (Elt Ideal) ((c.tc : Thread Cert.Kernel24Ideal.nD Cert.Kernel24Ideal.τ).loc Cert.Kernel24Ideal.main_v1_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1_0) = v0 c
          ∧ r.2.mem ((c.tc : Thread Cert.Kernel24Ideal.nD Cert.Kernel24Ideal.τ).loc Cert.Kernel24Ideal.main_v1_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v36) = v0 c
          ∧ r.2.mem ((c.tc : Thread Cert.Reference24Ideal.nD Cert.Reference24Ideal.τ).loc Cert.Reference24Ideal.main_v37) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal_pre_conv_bwd_finite [hKernel25Ideal : Cert.Kernel25Ideal.Facts] [hReference25Ideal : Cert.Reference25Ideal.Facts] [hPre_conv_bwd_finite : Cert.Pre_conv_bwd_finite.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal_conv_bwd_finite m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v3_0)) (v1 : (c : Dev Cert.Kernel25Ideal.nD) → Buf (Elt Ideal) ((c.tc : Thread Cert.Kernel25Ideal.nD Cert.Kernel25Ideal.τ).loc Cert.Kernel25Ideal.main_v3_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v3_0) = v0 c
          ∧ r.2.mem ((c.tc : Thread Cert.Kernel25Ideal.nD Cert.Kernel25Ideal.τ).loc Cert.Kernel25Ideal.main_v3_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v84) = v0 c
          ∧ r.2.mem ((c.tc : Thread Cert.Reference25Ideal.nD Cert.Reference25Ideal.τ).loc Cert.Reference25Ideal.main_v87) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  IdealRules.named_const.Statement Cert.Kernel26Ideal.κ "mask" .f32 0xF149F2CA#32 ⊥

def algebraic_Kernel26Ideal_Reference26Ideal_pre_mla_fwd_finite [hKernel26Ideal : Cert.Kernel26Ideal.Facts] [hReference26Ideal : Cert.Reference26Ideal.Facts] [hPre_mla_fwd_finite : Cert.Pre_mla_fwd_finite.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal_mla_fwd_finite m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v7_0)) (v1 : (c : Dev Cert.Kernel26Ideal.nD) → Buf (Elt Ideal) ((c.tc : Thread Cert.Kernel26Ideal.nD Cert.Kernel26Ideal.τ).loc Cert.Kernel26Ideal.main_v7_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v7_0) = v0 c
          ∧ r.2.mem ((c.tc : Thread Cert.Kernel26Ideal.nD Cert.Kernel26Ideal.τ).loc Cert.Kernel26Ideal.main_v7_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v27) = v0 c
          ∧ r.2.mem ((c.tc : Thread Cert.Reference26Ideal.nD Cert.Reference26Ideal.τ).loc Cert.Reference26Ideal.main_v34) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  IdealRules.named_const.Statement Cert.Kernel27Ideal.κ "mask" .f32 0xF149F2CA#32 ⊥

def algebraic_Kernel27Ideal_Reference27Ideal_pre_xattn_fwd_finite [hKernel27Ideal : Cert.Kernel27Ideal.Facts] [hReference27Ideal : Cert.Reference27Ideal.Facts] [hPre_xattn_fwd_finite : Cert.Pre_xattn_fwd_finite.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal_xattn_fwd_finite m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v5_0)) (v1 : (c : Dev Cert.Kernel27Ideal.nD) → Buf (Elt Ideal) ((c.tc : Thread Cert.Kernel27Ideal.nD Cert.Kernel27Ideal.τ).loc Cert.Kernel27Ideal.main_v5_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v5_0) = v0 c
          ∧ r.2.mem ((c.tc : Thread Cert.Kernel27Ideal.nD Cert.Kernel27Ideal.τ).loc Cert.Kernel27Ideal.main_v5_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v18) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v2) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v0) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v4) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v2) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v5) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v6)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v6) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v3) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v5)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v5) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v5) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal_pre_xattn_bwd_finite [hKernel33Ideal : Cert.Kernel33Ideal.Facts] [hReference33Ideal : Cert.Reference33Ideal.Facts] [hPre_xattn_bwd_finite : Cert.Pre_xattn_bwd_finite.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal_xattn_bwd_finite m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v31_0)) (v1 : (c : Dev Cert.Kernel33Ideal.nD) → Buf (Elt Ideal) ((c.tc : Thread Cert.Kernel33Ideal.nD Cert.Kernel33Ideal.τ).loc Cert.Kernel33Ideal.main_v31_1)) (v2 : (c : Dev Cert.Kernel33Ideal.nD) → Buf (Elt Ideal) ((c.tc : Thread Cert.Kernel33Ideal.nD Cert.Kernel33Ideal.τ).loc Cert.Kernel33Ideal.main_v31_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v31_0) = v0 c
          ∧ r.2.mem ((c.tc : Thread Cert.Kernel33Ideal.nD Cert.Kernel33Ideal.τ).loc Cert.Kernel33Ideal.main_v31_1) = v1 c
          ∧ r.2.mem ((c.tc : Thread Cert.Kernel33Ideal.nD Cert.Kernel33Ideal.τ).loc Cert.Kernel33Ideal.main_v31_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v56) = v0 c
          ∧ r.2.mem ((c.tc : Thread Cert.Reference33Ideal.nD Cert.Reference33Ideal.τ).loc Cert.Reference33Ideal.main_v57) = v1 c
          ∧ r.2.mem ((c.tc : Thread Cert.Reference33Ideal.nD Cert.Reference33Ideal.τ).loc Cert.Reference33Ideal.main_v58) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v14) = v0 c
          ∧ r.2.mem ((c.tc : Thread Cert.Reference34Ideal.nD Cert.Reference34Ideal.τ).loc Cert.Reference34Ideal.main_v15) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v3_0)) (v1 : (c : Dev Cert.Kernel35Ideal.nD) → Buf (Elt Ideal) ((c.tc : Thread Cert.Kernel35Ideal.nD Cert.Kernel35Ideal.τ).loc Cert.Kernel35Ideal.main_v3_1)) (v2 : (c : Dev Cert.Kernel35Ideal.nD) → Buf (Elt Ideal) ((c.tc : Thread Cert.Kernel35Ideal.nD Cert.Kernel35Ideal.τ).loc Cert.Kernel35Ideal.main_v3_2)) (v3 : (c : Dev Cert.Kernel35Ideal.nD) → Buf (Elt Ideal) ((c.tc : Thread Cert.Kernel35Ideal.nD Cert.Kernel35Ideal.τ).loc Cert.Kernel35Ideal.main_v3_3)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v3_0) = v0 c
          ∧ r.2.mem ((c.tc : Thread Cert.Kernel35Ideal.nD Cert.Kernel35Ideal.τ).loc Cert.Kernel35Ideal.main_v3_1) = v1 c
          ∧ r.2.mem ((c.tc : Thread Cert.Kernel35Ideal.nD Cert.Kernel35Ideal.τ).loc Cert.Kernel35Ideal.main_v3_2) = v2 c
          ∧ r.2.mem ((c.tc : Thread Cert.Kernel35Ideal.nD Cert.Kernel35Ideal.τ).loc Cert.Kernel35Ideal.main_v3_3) = v3 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v25) = v0 c
          ∧ r.2.mem ((c.tc : Thread Cert.Reference35Ideal.nD Cert.Reference35Ideal.τ).loc Cert.Reference35Ideal.main_v26) = v1 c
          ∧ r.2.mem ((c.tc : Thread Cert.Reference35Ideal.nD Cert.Reference35Ideal.τ).loc Cert.Reference35Ideal.main_v27) = v2 c
          ∧ r.2.mem ((c.tc : Thread Cert.Reference35Ideal.nD Cert.Reference35Ideal.τ).loc Cert.Reference35Ideal.main_v28) = v3 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v2) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)) →
    ∃ (v0 : (c : Dev Cert.Kernel37Ideal.nD) → Buf (Elt Ideal) ((c.tc : Thread Cert.Kernel37Ideal.nD Cert.Kernel37Ideal.τ).loc Cert.Kernel37Ideal.main_v3)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v3) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v35) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)) →
    ∃ (v0 : (c : Dev Cert.Kernel38Ideal.nD) → Buf (Elt Ideal) ((c.tc : Thread Cert.Kernel38Ideal.nD Cert.Kernel38Ideal.τ).loc Cert.Kernel38Ideal.main_v1)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v1) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v13) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hPre_finite : Cert.Pre_finite.Facts) (hPre_down_bwd_finite : Cert.Pre_down_bwd_finite.Facts) (hPre_gate_bwd_finite : Cert.Pre_gate_bwd_finite.Facts) (hPre_conv_bwd_finite : Cert.Pre_conv_bwd_finite.Facts) (hPre_mla_fwd_finite : Cert.Pre_mla_fwd_finite.Facts) (hPre_xattn_fwd_finite : Cert.Pre_xattn_fwd_finite.Facts) (hPre_xattn_bwd_finite : Cert.Pre_xattn_bwd_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_down_bwd_finite (hKernel4Ideal := hKernel4Ideal) (hPre_down_bwd_finite := hPre_down_bwd_finite)
    ∧ quiescent_Reference4Ideal (hReference4Ideal := hReference4Ideal)
    ∧ quiescent_Reference4Ideal_pre_down_bwd_finite (hReference4Ideal := hReference4Ideal) (hPre_down_bwd_finite := hPre_down_bwd_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Kernel23Ideal_pre_gate_bwd_finite (hKernel23Ideal := hKernel23Ideal) (hPre_gate_bwd_finite := hPre_gate_bwd_finite)
    ∧ quiescent_Reference23Ideal (hReference23Ideal := hReference23Ideal)
    ∧ quiescent_Reference23Ideal_pre_gate_bwd_finite (hReference23Ideal := hReference23Ideal) (hPre_gate_bwd_finite := hPre_gate_bwd_finite)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Kernel25Ideal_pre_conv_bwd_finite (hKernel25Ideal := hKernel25Ideal) (hPre_conv_bwd_finite := hPre_conv_bwd_finite)
    ∧ quiescent_Reference25Ideal (hReference25Ideal := hReference25Ideal)
    ∧ quiescent_Reference25Ideal_pre_conv_bwd_finite (hReference25Ideal := hReference25Ideal) (hPre_conv_bwd_finite := hPre_conv_bwd_finite)
    ∧ quiescent_Kernel26 (hKernel26 := hKernel26)
    ∧ quiescent_Kernel26Ideal (hKernel26Ideal := hKernel26Ideal)
    ∧ quiescent_Kernel26Ideal_pre_mla_fwd_finite (hKernel26Ideal := hKernel26Ideal) (hPre_mla_fwd_finite := hPre_mla_fwd_finite)
    ∧ quiescent_Reference26Ideal (hReference26Ideal := hReference26Ideal)
    ∧ quiescent_Reference26Ideal_pre_mla_fwd_finite (hReference26Ideal := hReference26Ideal) (hPre_mla_fwd_finite := hPre_mla_fwd_finite)
    ∧ quiescent_Kernel27 (hKernel27 := hKernel27)
    ∧ quiescent_Kernel27Ideal (hKernel27Ideal := hKernel27Ideal)
    ∧ quiescent_Kernel27Ideal_pre_xattn_fwd_finite (hKernel27Ideal := hKernel27Ideal) (hPre_xattn_fwd_finite := hPre_xattn_fwd_finite)
    ∧ quiescent_Reference27Ideal (hReference27Ideal := hReference27Ideal)
    ∧ quiescent_Reference27Ideal_pre_xattn_fwd_finite (hReference27Ideal := hReference27Ideal) (hPre_xattn_fwd_finite := hPre_xattn_fwd_finite)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Kernel33Ideal_pre_xattn_bwd_finite (hKernel33Ideal := hKernel33Ideal) (hPre_xattn_bwd_finite := hPre_xattn_bwd_finite)
    ∧ quiescent_Reference33Ideal (hReference33Ideal := hReference33Ideal)
    ∧ quiescent_Reference33Ideal_pre_xattn_bwd_finite (hReference33Ideal := hReference33Ideal) (hPre_xattn_bwd_finite := hPre_xattn_bwd_finite)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_down_bwd_finite (hKernel4Ideal := hKernel4Ideal) (hReference4Ideal := hReference4Ideal) (hPre_down_bwd_finite := hPre_down_bwd_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal_pre_gate_bwd_finite (hKernel23Ideal := hKernel23Ideal) (hReference23Ideal := hReference23Ideal) (hPre_gate_bwd_finite := hPre_gate_bwd_finite)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal_pre_conv_bwd_finite (hKernel25Ideal := hKernel25Ideal) (hReference25Ideal := hReference25Ideal) (hPre_conv_bwd_finite := hPre_conv_bwd_finite)
    ∧ preserves_Kernel26_Kernel26Ideal
    ∧ algebraic_Kernel26Ideal_Reference26Ideal_pre_mla_fwd_finite (hKernel26Ideal := hKernel26Ideal) (hReference26Ideal := hReference26Ideal) (hPre_mla_fwd_finite := hPre_mla_fwd_finite)
    ∧ preserves_Kernel27_Kernel27Ideal
    ∧ algebraic_Kernel27Ideal_Reference27Ideal_pre_xattn_fwd_finite (hKernel27Ideal := hKernel27Ideal) (hReference27Ideal := hReference27Ideal) (hPre_xattn_fwd_finite := hPre_xattn_fwd_finite)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal_pre_xattn_bwd_finite (hKernel33Ideal := hKernel33Ideal) (hReference33Ideal := hReference33Ideal) (hPre_xattn_bwd_finite := hPre_xattn_bwd_finite)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
-- ==== Pre_conv_bwd_finite.lean ====
abbrev S2x2048x3840 : Shape := ⟨3, ![2, 2048, 3840]⟩
abbrev S4x1536 : Shape := ⟨2, ![4, 1536]⟩
abbrev S1536 : Shape := ⟨1, ![1536]⟩
abbrev S2x2048x1536 : Shape := ⟨3, ![2, 2048, 1536]⟩
abbrev S_ : Shape := ⟨0, ![]⟩

class Facts : Prop where
  bcast_S_S2x2048x1536 : S_.BroadcastsInDim S2x2048x1536 (![] : Fin 0 → Fin S2x2048x1536.rank)
  reducesTo_S2x2048x1536_S_d0_1_2 : S2x2048x1536.ReducesTo [0, 1, 2] S_
  h_S_ : 0 < S_.numel

variable [Facts]

def fn {F : FTy → Type} [FloatOps F] (main_arg0 : FVec F S2x2048x3840 .f32) (main_arg1 : FVec F S4x1536 .f32) (main_arg2 : FVec F S1536 .f32) (main_arg3 : FVec F S2x2048x1536 .f32) : IVec S_ 1 :=
  let main_v0 : FVec F S2x2048x1536 .f32 := Host.absf main_arg3
  let main_cst : FVec F S_ .f32 := constant S_ .f32 0x7F800000#32
  let main_v1 : FVec F S2x2048x1536 .f32 := broadcastInDim S2x2048x1536 ![] bcast_S_S2x2048x1536 main_cst
  let main_v2 : IVec S2x2048x1536 1 := cmpf .olt main_v0 main_v1
  let main_c : IVec S_ 1 := constantI S_ 1 1#1
  let main_v3 : IVec S_ 1 := (fun x v => Host.reduce IntOp.andi x v reducesTo_S2x2048x1536_S_d0_1_2 h_S_) main_v2 main_c
  main_v3
-- ==== Pre_down_bwd_finite.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x5632 .f32) (main_arg1 : FVec F S4096x5632 .f32) (main_arg2 : FVec F S5632x2048 .f32) (main_arg3 : FVec F S4096x2048 .f32) : IVec S_ 1 :=
  let main_v0 : FVec F S4096x5632 .f32 := Host.absf main_arg1
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_c : IVec S_ 1 := constantI S_ 1 1#1
  let main_v3 : IVec S_ 1 := (fun x v => Host.reduce IntOp.andi x v reducesTo_S4096x5632_S_d0_1 h_S_) main_v2 main_c
  let main_v4 : FVec F S5632x2048 .f32 := Host.absf main_arg2
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : IVec S_ 1 := andi main_v3 main_v7
  let main_v9 : FVec F S4096x2048 .f32 := Host.absf main_arg3
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  main_v13
-- ==== Pre_finite.lean ====
abbrev S2x2048x8x192 : Shape := ⟨4, ![2, 2048, 8, 192]⟩
abbrev S2x2048x8x256 : Shape := ⟨4, ![2, 2048, 8, 256]⟩
abbrev S2x2048x2048 : Shape := ⟨3, ![2, 2048, 2048]⟩
abbrev S2x2048x8x128 : Shape := ⟨4, ![2, 2048, 8, 128]⟩
abbrev S2x2048x1024 : Shape := ⟨3, ![2, 2048, 1024]⟩
abbrev S_ : Shape := ⟨0, ![]⟩

class Facts : Prop where
  slices_S2x2048x8x256_S2x2048x8x128_0_0_0_128 : S2x2048x8x256.Slices ![0, 0, 0, 128] S2x2048x8x128
  slices_S2x2048x2048_S2x2048x1024_0_0_1024 : S2x2048x2048.Slices ![0, 0, 1024] S2x2048x1024
  bcast_S_S2x2048x8x192 : S_.BroadcastsInDim S2x2048x8x192 (![] : Fin 0 → Fin S2x2048x8x192.rank)
  reducesTo_S2x2048x8x192_S_d0_1_2_3 : S2x2048x8x192.ReducesTo [0, 1, 2, 3] S_
  h_S_ : 0 < S_.numel
  bcast_S_S2x2048x8x128 : S_.BroadcastsInDim S2x2048x8x128 (![] : Fin 0 → Fin S2x2048x8x128.rank)
  reducesTo_S2x2048x8x128_S_d0_1_2_3 : S2x2048x8x128.ReducesTo [0, 1, 2, 3] S_
  bcast_S_S2x2048x1024 : S_.BroadcastsInDim S2x2048x1024 (![] : Fin 0 → Fin S2x2048x1024.rank)
  reducesTo_S2x2048x1024_S_d0_1_2 : S2x2048x1024.ReducesTo [0, 1, 2] S_

variable [Facts]

def fn_part1 {F : FTy → Type} [FloatOps F] (main_v15 : IVec S_ 1) (main_v16 : FVec F S2x2048x1024 .f32) (main_cst_4 : FVec F S_ .f32) : IVec S_ 1 :=
  let main_v17 : FVec F S2x2048x1024 .f32 := broadcastInDim S2x2048x1024 ![] bcast_S_S2x2048x1024 main_cst_4
  let main_v18 : IVec S2x2048x1024 1 := cmpf .olt main_v16 main_v17
  let main_c_5 : IVec S_ 1 := constantI S_ 1 1#1
  let main_v19 : IVec S_ 1 := (fun x v => Host.reduce IntOp.andi x v reducesTo_S2x2048x1024_S_d0_1_2 h_S_) main_v18 main_c_5
  let main_v20 : IVec S_ 1 := andi main_v15 main_v19
  main_v20

def fn {F : FTy → Type} [FloatOps F] (main_arg0 : FVec F S2x2048x8x192 .f32) (main_arg1 : FVec F S2x2048x8x192 .f32) (main_arg2 : FVec F S2x2048x8x256 .f32) (main_arg3 : FVec F S2x2048x2048 .f32) : IVec S_ 1 :=
  let main_v0 : FVec F S2x2048x8x128 .f32 := (extractStridedSlice S2x2048x8x128 ![0, 0, 0, 128] · slices_S2x2048x8x256_S2x2048x8x128_0_0_0_128) main_arg2
  let main_v1 : FVec F S2x2048x1024 .f32 := (extractStridedSlice S2x2048x1024 ![0, 0, 1024] · slices_S2x2048x2048_S2x2048x1024_0_0_1024) main_arg3
  let main_v2 : FVec F S2x2048x8x192 .f32 := Host.absf main_arg0
  let main_cst : FVec F S_ .f32 := constant S_ .f32 0x7F800000#32
  let main_v3 : FVec F S2x2048x8x192 .f32 := broadcastInDim S2x2048x8x192 ![] bcast_S_S2x2048x8x192 main_cst
  let main_v4 : IVec S2x2048x8x192 1 := cmpf .olt main_v2 main_v3
  let main_c : IVec S_ 1 := constantI S_ 1 1#1
  let main_v5 : IVec S_ 1 := (fun x v => Host.reduce IntOp.andi x v reducesTo_S2x2048x8x192_S_d0_1_2_3 h_S_) main_v4 main_c
  let main_v6 : FVec F S2x2048x8x192 .f32 := Host.absf main_arg1
  let main_cst_0 : FVec F S_ .f32 := constant S_ .f32 0x7F800000#32
  let main_v7 : FVec F S2x2048x8x192 .f32 := broadcastInDim S2x2048x8x192 ![] bcast_S_S2x2048x8x192 main_cst_0
  let main_v8 : IVec S2x2048x8x192 1 := cmpf .olt main_v6 main_v7
  let main_c_1 : IVec S_ 1 := constantI S_ 1 1#1
  let main_v9 : IVec S_ 1 := (fun x v => Host.reduce IntOp.andi x v reducesTo_S2x2048x8x192_S_d0_1_2_3 h_S_) main_v8 main_c_1
  let main_v10 : IVec S_ 1 := andi main_v5 main_v9
  let main_v11 : FVec F S2x2048x8x128 .f32 := Host.absf main_v0
  let main_cst_2 : FVec F S_ .f32 := constant S_ .f32 0x7F800000#32
  let main_v12 : FVec F S2x2048x8x128 .f32 := broadcastInDim S2x2048x8x128 ![] bcast_S_S2x2048x8x128 main_cst_2
  let main_v13 : IVec S2x2048x8x128 1 := cmpf .olt main_v11 main_v12
  let main_c_3 : IVec S_ 1 := constantI S_ 1 1#1
  let main_v14 : IVec S_ 1 := (fun x v => Host.reduce IntOp.andi x v reducesTo_S2x2048x8x128_S_d0_1_2_3 h_S_) main_v13 main_c_3
  let main_v15 : IVec S_ 1 := andi main_v10 main_v14
  let main_v16 : FVec F S2x2048x1024 .f32 := Host.absf main_v1
  let main_cst_4 : FVec F S_ .f32 := constant S_ .f32 0x7F800000#32
  fn_part1 (F := F) main_v15 main_v16 main_cst_4
-- ==== Pre_gate_bwd_finite.lean ====
abbrev S4096x1024 : Shape := ⟨2, ![4096, 1024]⟩
abbrev S4096x3840 : Shape := ⟨2, ![4096, 3840]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) (main_arg2 : FVec F S4096x3840 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Pre_mla_fwd_finite.lean ====
abbrev S2x2048x8x192 : Shape := ⟨4, ![2, 2048, 8, 192]⟩
abbrev S2x2048x8x256 : Shape := ⟨4, ![2, 2048, 8, 256]⟩
abbrev S_ : Shape := ⟨0, ![]⟩

class Facts : Prop where
  bcast_S_S2x2048x8x192 : S_.BroadcastsInDim S2x2048x8x192 (![] : Fin 0 → Fin S2x2048x8x192.rank)
  reducesTo_S2x2048x8x192_S_d0_1_2_3 : S2x2048x8x192.ReducesTo [0, 1, 2, 3] S_
  h_S_ : 0 < S_.numel

variable [Facts]

def fn {F : FTy → Type} [FloatOps F] (main_arg0 : FVec F S2x2048x8x192 .f32) (main_arg1 : FVec F S2x2048x8x192 .f32) (main_arg2 : FVec F S2x2048x8x256 .f32) : IVec S_ 1 :=
  let main_v0 : FVec F S2x2048x8x192 .f32 := Host.absf main_arg0
  let main_cst : FVec F S_ .f32 := constant S_ .f32 0x7F800000#32
  let main_v1 : FVec F S2x2048x8x192 .f32 := broadcastInDim S2x2048x8x192 ![] bcast_S_S2x2048x8x192 main_cst
  let main_v2 : IVec S2x2048x8x192 1 := cmpf .olt main_v0 main_v1
  let main_c : IVec S_ 1 := constantI S_ 1 1#1
  let main_v3 : IVec S_ 1 := (fun x v => Host.reduce IntOp.andi x v reducesTo_S2x2048x8x192_S_d0_1_2_3 h_S_) main_v2 main_c
  let main_v4 : FVec F S2x2048x8x192 .f32 := Host.absf main_arg1
  let main_cst_0 : FVec F S_ .f32 := constant S_ .f32 0x7F800000#32
  let main_v5 : FVec F S2x2048x8x192 .f32 := broadcastInDim S2x2048x8x192 ![] bcast_S_S2x2048x8x192 main_cst_0
  let main_v6 : IVec S2x2048x8x192 1 := cmpf .olt main_v4 main_v5
  let main_c_1 : IVec S_ 1 := constantI S_ 1 1#1
  let main_v7 : IVec S_ 1 := (fun x v => Host.reduce IntOp.andi x v reducesTo_S2x2048x8x192_S_d0_1_2_3 h_S_) main_v6 main_c_1
  let main_v8 : IVec S_ 1 := andi main_v3 main_v7
  main_v8
-- ==== Pre_xattn_bwd_finite.lean ====
abbrev S2x2048x4x128 : Shape := ⟨4, ![2, 2048, 4, 128]⟩
abbrev S2x256x4x128 : Shape := ⟨4, ![2, 256, 4, 128]⟩
abbrev S2x2048x512 : Shape := ⟨3, ![2, 2048, 512]⟩
abbrev S_ : Shape := ⟨0, ![]⟩

class Facts : Prop where
  bcast_S_S2x2048x4x128 : S_.BroadcastsInDim S2x2048x4x128 (![] : Fin 0 → Fin S2x2048x4x128.rank)
  reducesTo_S2x2048x4x128_S_d0_1_2_3 : S2x2048x4x128.ReducesTo [0, 1, 2, 3] S_
  h_S_ : 0 < S_.numel
  bcast_S_S2x256x4x128 : S_.BroadcastsInDim S2x256x4x128 (![] : Fin 0 → Fin S2x256x4x128.rank)
  reducesTo_S2x256x4x128_S_d0_1_2_3 : S2x256x4x128.ReducesTo [0, 1, 2, 3] S_
  bcast_S_S2x2048x512 : S_.BroadcastsInDim S2x2048x512 (![] : Fin 0 → Fin S2x2048x512.rank)
  reducesTo_S2x2048x512_S_d0_1_2 : S2x2048x512.ReducesTo [0, 1, 2] S_

variable [Facts]

def fn_part1 {F : FTy → Type} [FloatOps F] (main_v13 : IVec S_ 1) (main_v16 : IVec S2x2048x512 1) : IVec S_ 1 :=
  let main_c_5 : IVec S_ 1 := constantI S_ 1 1#1
  let main_v17 : IVec S_ 1 := (fun x v => Host.reduce IntOp.andi x v reducesTo_S2x2048x512_S_d0_1_2 h_S_) main_v16 main_c_5
  let main_v18 : IVec S_ 1 := andi main_v13 main_v17
  main_v18

def fn {F : FTy → Type} [FloatOps F] (main_arg0 : FVec F S2x2048x4x128 .f32) (main_arg1 : FVec F S2x256x4x128 .f32) (main_arg2 : FVec F S2x256x4x128 .f32) (main_arg3 : FVec F S2x2048x512 .f32) : IVec S_ 1 :=
  let main_v0 : FVec F S2x2048x4x128 .f32 := Host.absf main_arg0
  let main_cst : FVec F S_ .f32 := constant S_ .f32 0x7F800000#32
  let main_v1 : FVec F S2x2048x4x128 .f32 := broadcastInDim S2x2048x4x128 ![] bcast_S_S2x2048x4x128 main_cst
  let main_v2 : IVec S2x2048x4x128 1 := cmpf .olt main_v0 main_v1
  let main_c : IVec S_ 1 := constantI S_ 1 1#1
  let main_v3 : IVec S_ 1 := (fun x v => Host.reduce IntOp.andi x v reducesTo_S2x2048x4x128_S_d0_1_2_3 h_S_) main_v2 main_c
  let main_v4 : FVec F S2x256x4x128 .f32 := Host.absf main_arg1
  let main_cst_0 : FVec F S_ .f32 := constant S_ .f32 0x7F800000#32
  let main_v5 : FVec F S2x256x4x128 .f32 := broadcastInDim S2x256x4x128 ![] bcast_S_S2x256x4x128 main_cst_0
  let main_v6 : IVec S2x256x4x128 1 := cmpf .olt main_v4 main_v5
  let main_c_1 : IVec S_ 1 := constantI S_ 1 1#1
  let main_v7 : IVec S_ 1 := (fun x v => Host.reduce IntOp.andi x v reducesTo_S2x256x4x128_S_d0_1_2_3 h_S_) main_v6 main_c_1
  let main_v8 : IVec S_ 1 := andi main_v3 main_v7
  let main_v9 : FVec F S2x256x4x128 .f32 := Host.absf main_arg2
  let main_cst_2 : FVec F S_ .f32 := constant S_ .f32 0x7F800000#32
  let main_v10 : FVec F S2x256x4x128 .f32 := broadcastInDim S2x256x4x128 ![] bcast_S_S2x256x4x128 main_cst_2
  let main_v11 : IVec S2x256x4x128 1 := cmpf .olt main_v9 main_v10
  let main_c_3 : IVec S_ 1 := constantI S_ 1 1#1
  let main_v12 : IVec S_ 1 := (fun x v => Host.reduce IntOp.andi x v reducesTo_S2x256x4x128_S_d0_1_2_3 h_S_) main_v11 main_c_3
  let main_v13 : IVec S_ 1 := andi main_v8 main_v12
  let main_v14 : FVec F S2x2048x512 .f32 := Host.absf main_arg3
  let main_cst_4 : FVec F S_ .f32 := constant S_ .f32 0x7F800000#32
  let main_v15 : FVec F S2x2048x512 .f32 := broadcastInDim S2x2048x512 ![] bcast_S_S2x2048x512 main_cst_4
  let main_v16 : IVec S2x2048x512 1 := cmpf .olt main_v14 main_v15
  fn_part1 (F := F) main_v13 main_v16
-- ==== Pre_xattn_fwd_finite.lean ====
abbrev S2x2048x4x128 : Shape := ⟨4, ![2, 2048, 4, 128]⟩
abbrev S2x256x4x128 : Shape := ⟨4, ![2, 256, 4, 128]⟩
abbrev S_ : Shape := ⟨0, ![]⟩

class Facts : Prop where
  bcast_S_S2x2048x4x128 : S_.BroadcastsInDim S2x2048x4x128 (![] : Fin 0 → Fin S2x2048x4x128.rank)
  reducesTo_S2x2048x4x128_S_d0_1_2_3 : S2x2048x4x128.ReducesTo [0, 1, 2, 3] S_
  h_S_ : 0 < S_.numel
  bcast_S_S2x256x4x128 : S_.BroadcastsInDim S2x256x4x128 (![] : Fin 0 → Fin S2x256x4x128.rank)
  reducesTo_S2x256x4x128_S_d0_1_2_3 : S2x256x4x128.ReducesTo [0, 1, 2, 3] S_

variable [Facts]

def fn {F : FTy → Type} [FloatOps F] (main_arg0 : FVec F S2x2048x4x128 .f32) (main_arg1 : FVec F S2x256x4x128 .f32) (main_arg2 : FVec F S2x256x4x128 .f32) : IVec S_ 1 :=
  let main_v0 : FVec F S2x2048x4x128 .f32 := Host.absf main_arg0
  let main_cst : FVec F S_ .f32 := constant S_ .f32 0x7F800000#32
  let main_v1 : FVec F S2x2048x4x128 .f32 := broadcastInDim S2x2048x4x128 ![] bcast_S_S2x2048x4x128 main_cst
  let main_v2 : IVec S2x2048x4x128 1 := cmpf .olt main_v0 main_v1
  let main_c : IVec S_ 1 := constantI S_ 1 1#1
  let main_v3 : IVec S_ 1 := (fun x v => Host.reduce IntOp.andi x v reducesTo_S2x2048x4x128_S_d0_1_2_3 h_S_) main_v2 main_c
  let main_v4 : FVec F S2x256x4x128 .f32 := Host.absf main_arg1
  let main_cst_0 : FVec F S_ .f32 := constant S_ .f32 0x7F800000#32
  let main_v5 : FVec F S2x256x4x128 .f32 := broadcastInDim S2x256x4x128 ![] bcast_S_S2x256x4x128 main_cst_0
  let main_v6 : IVec S2x256x4x128 1 := cmpf .olt main_v4 main_v5
  let main_c_1 : IVec S_ 1 := constantI S_ 1 1#1
  let main_v7 : IVec S_ 1 := (fun x v => Host.reduce IntOp.andi x v reducesTo_S2x256x4x128_S_d0_1_2_3 h_S_) main_v6 main_c_1
  let main_v8 : IVec S_ 1 := andi main_v3 main_v7
  main_v8
-- ==== Kernel.lean ====
abbrev S2x2048x8x192 : Shape := ⟨4, ![2, 2048, 8, 192]⟩
abbrev S2x2048x8x256 : Shape := ⟨4, ![2, 2048, 8, 256]⟩
abbrev S2x2048x2048 : Shape := ⟨3, ![2, 2048, 2048]⟩
abbrev S_ : Shape := ⟨0, ![]⟩
abbrev S2x2048x8x128 : Shape := ⟨4, ![2, 2048, 8, 128]⟩
abbrev S2x8x2048x2048 : Shape := ⟨4, ![2, 8, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩
abbrev S2x2048x1024 : Shape := ⟨3, ![2, 2048, 1024]⟩
abbrev S1x512x256 : Shape := ⟨3, ![1, 512, 256]⟩
abbrev S1x512x128 : Shape := ⟨3, ![1, 512, 128]⟩
abbrev S1x1x512x1 : Shape := ⟨4, ![1, 1, 512, 1]⟩
abbrev S1x2048x256 : Shape := ⟨3, ![1, 2048, 256]⟩
abbrev S512x256 : Shape := ⟨2, ![512, 256]⟩
abbrev S512x128 : Shape := ⟨2, ![512, 128]⟩
abbrev S512x512 : Shape := ⟨2, ![512, 512]⟩
abbrev S512x1 : Shape := ⟨2, ![512, 1]⟩
abbrev S512 : Shape := ⟨1, ![512]⟩

abbrev nBuf : Space → Nat
  | .hbm => 63
  | .vmem => 20
  | .smem => 0
  | _ => 0

abbrev bufTy : (tb : Table) → Fin (tcTables nBuf tb) → BufTy
  | .hbm, ⟨0, _⟩ => ⟨S2x2048x8x192, .f32⟩
  | .hbm, ⟨1, _⟩ => ⟨S2x2048x8x192, .f32⟩
  | .hbm, ⟨2, _⟩ => ⟨S2x2048x8x256, .f32⟩
  | .hbm, ⟨3, _⟩ => ⟨S2x2048x2048, .f32⟩
  | .hbm, ⟨4, _⟩ => ⟨S2x2048x2048, .f32⟩
  | .hbm, ⟨5, _⟩ => ⟨S_, .i32⟩
  | .hbm, ⟨6, _⟩ => ⟨S_, .f32⟩
  | .hbm, ⟨7, _⟩ => ⟨S2x2048x8x256, .f32⟩
  | .hbm, ⟨8, _⟩ => ⟨S2x2048x2048, .f32⟩
  | .hbm, ⟨9, _⟩ => ⟨S2x2048x2048, .bf16⟩
  | .hbm, ⟨10, _⟩ => ⟨S_, .i32⟩
  | .hbm, ⟨11, _⟩ => ⟨S_, .f32⟩
  | .hbm, ⟨12, _⟩ => ⟨S2x2048x8x256, .f32⟩
  | .hbm, ⟨13, _⟩ => ⟨S2x2048x2048, .f32⟩
  | .hbm, ⟨14, _⟩ => ⟨S2x2048x2048, .bf16⟩
  | .hbm, ⟨15, _⟩ => ⟨S2x2048x8x128, .f32⟩
  | .hbm, ⟨16, _⟩ => ⟨S2x8x2048x2048, .f32⟩
  | .hbm, ⟨17, _⟩ => ⟨S_, .f32⟩
  | .hbm, ⟨18, _⟩ => ⟨S2x8x2048x2048, .f32⟩
  | .hbm, ⟨19, _⟩ => ⟨S2x8x2048x2048, .f32⟩
  | .hbm, ⟨20, _⟩ => ⟨S2048, .i32⟩
  | .hbm, ⟨21, _⟩ => ⟨S2048x1, .i32⟩
  | .hbm, ⟨22, _⟩ => ⟨S2048, .i32⟩
  | .hbm, ⟨23, _⟩ => ⟨S1x2048, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S2x8x2048x2048, .i1⟩
  | .hbm, ⟨30, _⟩ => ⟨S2x8x2048x2048, .f32⟩
  | .hbm, ⟨31, _⟩ => ⟨S2x8x2048x2048, .f32⟩
  | .hbm, ⟨32, _⟩ => ⟨S_, .f32⟩
  | .hbm, ⟨33, _⟩ => ⟨S2x8x2048, .f32⟩
  | .hbm, ⟨34, _⟩ => ⟨S_, .f32⟩
  | .hbm, ⟨35, _⟩ => ⟨S2x8x2048, .f32⟩
  | .hbm, ⟨36, _⟩ => ⟨S2x8x2048, .f32⟩
  | .hbm, ⟨37, _⟩ => ⟨S2x8x2048x1, .f32⟩
  | .hbm, ⟨38, _⟩ => ⟨S2x8x2048x2048, .f32⟩
  | .hbm, ⟨39, _⟩ => ⟨S2x8x2048x2048, .f32⟩
  | .hbm, ⟨40, _⟩ => ⟨S2x8x2048x2048, .f32⟩
  | .hbm, ⟨41, _⟩ => ⟨S_, .f32⟩
  | .hbm, ⟨42, _⟩ => ⟨S2x8x2048, .f32⟩
  | .hbm, ⟨43, _⟩ => ⟨S2x8x2048x1, .f32⟩
  | .hbm, ⟨44, _⟩ => ⟨S2x8x2048x2048, .f32⟩
  | .hbm, ⟨45, _⟩ => ⟨S2x8x2048x2048, .f32⟩
  | .hbm, ⟨46, _⟩ => ⟨S2x8x128x2048, .f32⟩
  | .hbm, ⟨47, _⟩ => ⟨S2x2048x8x128, .f32⟩
  | .hbm, ⟨48, _⟩ => ⟨S_, .f32⟩
  | .hbm, ⟨49, _⟩ => ⟨S2x8x2048, .f32⟩
  | .hbm, ⟨50, _⟩ => ⟨S2x8x2048x1, .f32⟩
  | .hbm, ⟨51, _⟩ => ⟨S2x8x2048x2048, .f32⟩
  | .hbm, ⟨52, _⟩ => ⟨S2x8x2048x2048, .f32⟩
  | .hbm, ⟨53, _⟩ => ⟨S2x8x2048x2048, .f32⟩
  | .hbm, ⟨54, _⟩ => ⟨S_, .f32⟩
  | .hbm, ⟨55, _⟩ => ⟨S2x8x2048, .f32⟩
  | .hbm, ⟨56, _⟩ => ⟨S2x8x2048x1, .f32⟩
  | .hbm, ⟨57, _⟩ => ⟨S2x8x2048x1, .f32⟩
  | .hbm, ⟨58, _⟩ => ⟨S2x8x2048x1, .f32⟩
  | .hbm, ⟨59, _⟩ => ⟨S2x2048x1024, .f32⟩
  | .hbm, ⟨60, _⟩ => ⟨S2x2048x2048, .f32⟩
  | .hbm, ⟨61, _⟩ => ⟨S2x2048x2048, .f32⟩
  | .hbm, ⟨62, _⟩ => ⟨S2x2048x1024, .f32⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x1x512x1, .f32⟩
  | .local _ .vmem, ⟨11, _⟩ => ⟨S1x1x512x1, .f32⟩
  | .local _ .vmem, ⟨12, _⟩ => ⟨S1x2048x256, .f32⟩
  | .local _ .vmem, ⟨13, _⟩ => ⟨S1x2048x256, .f32⟩
  | .local _ .vmem, ⟨14, _⟩ => ⟨S1x512x256, .f32⟩
  | .local _ .vmem, ⟨15, _⟩ => ⟨S1x512x256, .f32⟩
  | .local _ .vmem, ⟨16, _⟩ => ⟨S1x512x128, .f32⟩
  | .local _ .vmem, ⟨17, _⟩ => ⟨S1x512x128, .f32⟩
  | .local _ .vmem, ⟨18, _⟩ => ⟨S512x256, .f32⟩
  | .local _ .vmem, ⟨19, _⟩ => ⟨S512x128, .f32⟩
  | _, _ => ⟨S2x2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42_0 : Ref sig .tc := ⟨.hbm, 60, rfl⟩
abbrev main_v42_1 : Ref sig .tc := ⟨.hbm, 61, rfl⟩
abbrev main_v42_2 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨4, ![2, 8, 4, 4], ![false, false, false, false]⟩

def k0_cond3 (i : grid0.Coords) : BitVec 1 :=
  let arg3 : BitVec 32 := BitVec.ofNat 32 (i 3).val
  let arg2 : BitVec 32 := BitVec.ofNat 32 (i 2).val
  let v8 : BitVec 1 := Scalar.cmpi .sgt arg3 arg2
  let v9 : BitVec 32 := Scalar.extui v8
  let c0_i32_4 : BitVec 32 := 0#32
  let v10 : BitVec 1 := Scalar.cmpi .ne v9 c0_i32_4
  v10

def k0_mult1 (i : grid0.Coords) : BitVec 32 :=
  let arg3 : BitVec 32 := BitVec.ofNat 32 (i 3).val
  let c512_i32 : BitVec 32 := 512#32
  let v65 : BitVec 32 := Scalar.muli arg3 c512_i32
  v65
def k0_off1 (i : grid0.Coords) : Fin 3 → Nat :=
  let c0_45 : Index := 0#32
  let arg3 : BitVec 32 := BitVec.ofNat 32 (i 3).val
  let c512_i32 : BitVec 32 := 512#32
  let v65 : BitVec 32 := Scalar.muli arg3 c512_i32
  let v66 : BitVec 32 := v65
  let v67 : Index := Scalar.indexCast v66
  let c0_46 : Index := 0#32
  ![0, v67.toNat, 0]
def k0_cond4 (i : grid0.Coords) : BitVec 1 :=
  let arg3 : BitVec 32 := BitVec.ofNat 32 (i 3).val
  let arg2 : BitVec 32 := BitVec.ofNat 32 (i 2).val
  let v11 : BitVec 1 := Scalar.cmpi .eq arg3 arg2
  let v12 : BitVec 32 := Scalar.extui v11
  let c0_i32_5 : BitVec 32 := 0#32
  let v13 : BitVec 1 := Scalar.cmpi .ne v12 c0_i32_5
  v13

def k0_mult2 (i : grid0.Coords) : BitVec 32 :=
  let arg3 : BitVec 32 := BitVec.ofNat 32 (i 3).val
  let c512_i32_48 : BitVec 32 := 512#32
  let v78 : BitVec 32 := Scalar.muli arg3 c512_i32_48
  v78
def k0_off2 (i : grid0.Coords) : Fin 3 → Nat :=
  let c0_49 : Index := 0#32
  let arg3 : BitVec 32 := BitVec.ofNat 32 (i 3).val
  let c512_i32_48 : BitVec 32 := 512#32
  let v78 : BitVec 32 := Scalar.muli arg3 c512_i32_48
  let v79 : BitVec 32 := v78
  let v80 : Index := Scalar.indexCast v79
  let c0_50 : Index := 0#32
  ![0, v80.toNat, 0]
def k0_cond1 (i : grid0.Coords) : BitVec 1 :=
  let arg2 : BitVec 32 := BitVec.ofNat 32 (i 2).val
  let c0_i32 : BitVec 32 := 0#32
  let v0 : BitVec 1 := Scalar.cmpi .eq arg2 c0_i32
  let arg3 : BitVec 32 := BitVec.ofNat 32 (i 3).val
  let c0_i32_0 : BitVec 32 := 0#32
  let v1 : BitVec 1 := Scalar.cmpi .eq arg3 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond5 (i : grid0.Coords) : BitVec 1 :=
  let arg3 : BitVec 32 := BitVec.ofNat 32 (i 3).val
  let c3_i32 : BitVec 32 := 3#32
  let v14 : BitVec 1 := Scalar.cmpi .eq arg3 c3_i32
  let v15 : BitVec 32 := Scalar.extui v14
  let c0_i32_6 : BitVec 32 := 0#32
  let v16 : BitVec 1 := Scalar.cmpi .ne v15 c0_i32_6
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.maxsi arg3 arg2
  let c0_i32 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.maxsi arg3 arg2
  let c8_i32 : BitVec 32 := 8#32
  let v1 : BitVec 32 := Scalar.addi arg1 c8_i32
  let c0_i32 : BitVec 32 := 0#32
  ![arg0.toNat, v0.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.maxsi arg3 arg2
  let c0_i32 : BitVec 32 := 0#32
  ![arg0.toNat, v0.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.maxsi arg3 arg2
  let c0_i32 : BitVec 32 := 0#32
  let c0_i32_0 : BitVec 32 := 0#32
  ![arg0.toNat, arg1.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]

abbrev stage0_5 : Fin 2 → Memref sig .tc .vmem S1x1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, true]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false, false]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true, false]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true, false]
-- ==== ReferenceIdeal.lean ====
abbrev S2x2048x8x192 : Shape := ⟨4, ![2, 2048, 8, 192]⟩
abbrev S2x2048x8x256 : Shape := ⟨4, ![2, 2048, 8, 256]⟩
abbrev S2x2048x2048 : Shape := ⟨3, ![2, 2048, 2048]⟩
abbrev S2x2048x8x128 : Shape := ⟨4, ![2, 2048, 8, 128]⟩
abbrev S2x2048x1024 : Shape := ⟨3, ![2, 2048, 1024]⟩
abbrev S2x8x2048x2048 : Shape := ⟨4, ![2, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩
abbrev S2x8x2048x192 : Shape := ⟨4, ![2, 8, 2048, 192]⟩

abbrev nBuf : Space → Nat
  | .hbm => 102
  | .vmem => 0
  | .smem => 0
  | _ => 0

abbrev bufTy : (tb : Table) → Fin (tcTables nBuf tb) → BufTy
  | .hbm, ⟨0, _⟩ => ⟨S2x2048x8x192, .f32⟩
  | .hbm, ⟨1, _⟩ => ⟨S2x2048x8x192, .f32⟩
  | .hbm, ⟨2, _⟩ => ⟨S2x2048x8x256, .f32⟩
  | .hbm, ⟨3, _⟩ => ⟨S2x2048x2048, .f32⟩
  | .hbm, ⟨4, _⟩ => ⟨S2x2048x8x128, .f32⟩
  | .hbm, ⟨5, _⟩ => ⟨S2x2048x1024, .f32⟩
  | .hbm, ⟨6, _⟩ => ⟨S2x2048x8x128, .f32⟩
  | .hbm, ⟨7, _⟩ => ⟨S2x8x2048x2048, .f32⟩
  | .hbm, ⟨8, _⟩ => ⟨S_, .f32⟩
  | .hbm, ⟨9, _⟩ => ⟨S2x8x2048x2048, .f32⟩
  | .hbm, ⟨10, _⟩ => ⟨S2x8x2048x2048, .f32⟩
  | .hbm, ⟨11, _⟩ => ⟨S2048, .i32⟩
  | .hbm, ⟨12, _⟩ => ⟨S2048x1, .i32⟩
  | .hbm, ⟨13, _⟩ => ⟨S2048, .i32⟩
  | .hbm, ⟨14, _⟩ => ⟨S1x2048, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S_, .f32⟩
  | .hbm, ⟨19, _⟩ => ⟨S_, .f32⟩
  | .hbm, ⟨20, _⟩ => ⟨S2x8x2048x2048, .i1⟩
  | .hbm, ⟨21, _⟩ => ⟨S2x8x2048x2048, .f32⟩
  | .hbm, ⟨22, _⟩ => ⟨S2x8x2048x2048, .f32⟩
  | .hbm, ⟨23, _⟩ => ⟨S_, .f32⟩
  | .hbm, ⟨24, _⟩ => ⟨S2x8x2048x2048, .f32⟩
  | .hbm, ⟨25, _⟩ => ⟨S_, .f32⟩
  | .hbm, ⟨26, _⟩ => ⟨S2x8x2048, .f32⟩
  | .hbm, ⟨27, _⟩ => ⟨S2x8x2048x1, .f32⟩
  | .hbm, ⟨28, _⟩ => ⟨S2x8x2048x2048, .f32⟩
  | .hbm, ⟨29, _⟩ => ⟨S2x8x2048x2048, .i1⟩
  | .hbm, ⟨30, _⟩ => ⟨S2x8x2048x2048, .f32⟩
  | .hbm, ⟨31, _⟩ => ⟨S_, .f32⟩
  | .hbm, ⟨32, _⟩ => ⟨S2x8x2048, .f32⟩
  | .hbm, ⟨33, _⟩ => ⟨S_, .f32⟩
  | .hbm, ⟨34, _⟩ => ⟨S2x8x2048, .f32⟩
  | .hbm, ⟨35, _⟩ => ⟨S2x8x2048, .f32⟩
  | .hbm, ⟨36, _⟩ => ⟨S_, .f32⟩
  | .hbm, ⟨37, _⟩ => ⟨S2x8x2048, .f32⟩
  | .hbm, ⟨38, _⟩ => ⟨S2x8x2048, .i1⟩
  | .hbm, ⟨39, _⟩ => ⟨S_, .f32⟩
  | .hbm, ⟨40, _⟩ => ⟨S2x8x2048, .f32⟩
  | .hbm, ⟨41, _⟩ => ⟨S2x8x2048, .i1⟩
  | .hbm, ⟨42, _⟩ => ⟨S_, .f32⟩
  | .hbm, ⟨43, _⟩ => ⟨S2x8x2048, .f32⟩
  | .hbm, ⟨44, _⟩ => ⟨S_, .f32⟩
  | .hbm, ⟨45, _⟩ => ⟨S2x8x2048, .f32⟩
  | .hbm, ⟨46, _⟩ => ⟨S_, .f32⟩
  | .hbm, ⟨47, _⟩ => ⟨S2x8x2048, .f32⟩
  | .hbm, ⟨48, _⟩ => ⟨S2x8x2048, .f32⟩
  | .hbm, ⟨49, _⟩ => ⟨S2x8x2048, .f32⟩
  | .hbm, ⟨50, _⟩ => ⟨S2x8x2048x1, .f32⟩
  | .hbm, ⟨51, _⟩ => ⟨S2x8x2048x2048, .f32⟩
  | .hbm, ⟨52, _⟩ => ⟨S2x8x2048x2048, .f32⟩
  | .hbm, ⟨53, _⟩ => ⟨S2x8x2048x2048, .f32⟩
  | .hbm, ⟨54, _⟩ => ⟨S_, .f32⟩
  | .hbm, ⟨55, _⟩ => ⟨S2x8x2048, .f32⟩
  | .hbm, ⟨56, _⟩ => ⟨S2x8x2048x1, .f32⟩
  | .hbm, ⟨57, _⟩ => ⟨S2x8x2048x2048, .f32⟩
  | .hbm, ⟨58, _⟩ => ⟨S2x8x2048x2048, .f32⟩
  | .hbm, ⟨59, _⟩ => ⟨S2x8x2048x1, .f32⟩
  | .hbm, ⟨60, _⟩ => ⟨S_, .f32⟩
  | .hbm, ⟨61, _⟩ => ⟨S2x8x2048x1, .f32⟩
  | .hbm, ⟨62, _⟩ => ⟨S2x8x2048x1, .f32⟩
  | .hbm, ⟨63, _⟩ => ⟨S2x8x128x2048, .f32⟩
  | .hbm, ⟨64, _⟩ => ⟨S2x2048x8x128, .f32⟩
  | .hbm, ⟨65, _⟩ => ⟨S2x8x128x2048, .f32⟩
  | .hbm, ⟨66, _⟩ => ⟨S2x8x2048x2048, .f32⟩
  | .hbm, ⟨67, _⟩ => ⟨S2x8x128x2048, .f32⟩
  | .hbm, ⟨68, _⟩ => ⟨S2x2048x8x128, .f32⟩
  | .hbm, ⟨69, _⟩ => ⟨S2x8x2048x2048, .f32⟩
  | .hbm, ⟨70, _⟩ => ⟨S2x8x2048x2048, .f32⟩
  | .hbm, ⟨71, _⟩ => ⟨S2x8x2048x2048, .f32⟩
  | .hbm, ⟨72, _⟩ => ⟨S_, .f32⟩
  | .hbm, ⟨73, _⟩ => ⟨S2x8x2048, .f32⟩
  | .hbm, ⟨74, _⟩ => ⟨S2x8x2048x1, .f32⟩
  | .hbm, ⟨75, _⟩ => ⟨S2x8x2048x1, .f32⟩
  | .hbm, ⟨76, _⟩ => ⟨S2x8x2048x2048, .f32⟩
  | .hbm, ⟨77, _⟩ => ⟨S2x8x2048x2048, .f32⟩
  | .hbm, ⟨78, _⟩ => ⟨S_, .f32⟩
  | .hbm, ⟨79, _⟩ => ⟨S2x8x2048, .f32⟩
  | .hbm, ⟨80, _⟩ => ⟨S2x8x2048x2048, .f32⟩
  | .hbm, ⟨81, _⟩ => ⟨S2x8x2048x2048, .f32⟩
  | .hbm, ⟨82, _⟩ => ⟨S2x8x2048x2048, .f32⟩
  | .hbm, ⟨83, _⟩ => ⟨S_, .f32⟩
  | .hbm, ⟨84, _⟩ => ⟨S2x8x2048x2048, .f32⟩
  | .hbm, ⟨85, _⟩ => ⟨S2x8x2048x2048, .f32⟩
  | .hbm, ⟨86, _⟩ => ⟨S_, .f32⟩
  | .hbm, ⟨87, _⟩ => ⟨S2x8x2048x2048, .f32⟩
  | .hbm, ⟨88, _⟩ => ⟨S2x8x2048x2048, .f32⟩
  | .hbm, ⟨89, _⟩ => ⟨S2x8x2048x192, .f32⟩
  | .hbm, ⟨90, _⟩ => ⟨S2x2048x8x192, .f32⟩
  | .hbm, ⟨91, _⟩ => ⟨S2x8x2048x192, .f32⟩
  | .hbm, ⟨92, _⟩ => ⟨S2x2048x8x192, .f32⟩
  | .hbm, ⟨93, _⟩ => ⟨S_, .i32⟩
  | .hbm, ⟨94, _⟩ => ⟨S_, .f32⟩
  | .hbm, ⟨95, _⟩ => ⟨S2x2048x8x256, .f32⟩
  | .hbm, ⟨96, _⟩ => ⟨S2x2048x2048, .f32⟩
  | .hbm, ⟨97, _⟩ => ⟨S_, .i32⟩
  | .hbm, ⟨98, _⟩ => ⟨S_, .f32⟩
  | .hbm, ⟨99, _⟩ => ⟨S2x2048x8x256, .f32⟩
  | .hbm, ⟨100, _⟩ => ⟨S2x2048x2048, .f32⟩
  | .hbm, ⟨101, _⟩ => ⟨S2x2048x1024, .f32⟩
  | _, _ => ⟨S2x2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_v13_1 : Ref sig .tc := ⟨.hbm, 20, rfl⟩
abbrev main_call0_v2 : Ref sig .tc := ⟨.hbm, 21, rfl⟩
abbrev main_v13_0 : Ref sig .tc := ⟨.hbm, 22, rfl⟩
abbrev main_call0_cst : Ref sig .tc := ⟨.hbm, 23, rfl⟩
abbrev main_v13_2 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call1_cst : Ref sig .tc := ⟨.hbm, 83, rfl⟩
abbrev main_call1_v0 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c : Ref sig .tc := ⟨.hbm, 93, rfl⟩
abbrev main_call2_v0 : Ref sig .tc := ⟨.hbm, 94, rfl⟩
abbrev main_v67 : Ref sig .tc := ⟨.hbm, 95, rfl⟩
abbrev main_v68 : Ref sig .tc := ⟨.hbm, 96, rfl⟩
abbrev main_c_14 : Ref sig .tc := ⟨.hbm, 97, rfl⟩
abbrev main_call3_v0 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩

abbrev nD : Nat := 1
abbrev τ : Topo := Topo.v7x

variable {F : FTy → Type} [FloatOps F]
-- ==== Kernel2.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 11
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S4096x2048, .bf16⟩
  | .hbm, ⟨4, _⟩ => ⟨S5632x2048, .f32⟩
  | .hbm, ⟨5, _⟩ => ⟨S5632x2048, .bf16⟩
  | .hbm, ⟨6, _⟩ => ⟨S5632x2048, .f32⟩
  | .hbm, ⟨7, _⟩ => ⟨S5632x2048, .bf16⟩
  | .hbm, ⟨8, _⟩ => ⟨S4096x5632, .bf16⟩
  | .hbm, ⟨9, _⟩ => ⟨S4096x5632, .bf16⟩
  | .hbm, ⟨10, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .bf16⟩
  | .local _ .vmem, ⟨7, _⟩ => ⟨S512x2048, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S4096x2048 : Shape := ⟨2, ![4096, 2048]⟩
abbrev S2048x5632 : Shape := ⟨2, ![2048, 5632]⟩
abbrev S4096x5632 : Shape := ⟨2, ![4096, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S4096x5632, .f32⟩
  | .hbm, ⟨4, _⟩ => ⟨S4096x5632, .f32⟩
  | .hbm, ⟨5, _⟩ => ⟨S4096x5632, .bf16⟩
  | .hbm, ⟨6, _⟩ => ⟨S4096x5632, .bf16⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel3.lean ====
abbrev S4096x5632 : Shape := ⟨2, ![4096, 5632]⟩
abbrev S5632x2048 : Shape := ⟨2, ![5632, 2048]⟩
abbrev S4096x2048 : Shape := ⟨2, ![4096, 2048]⟩
abbrev S512x5632 : Shape := ⟨2, ![512, 5632]⟩
abbrev S5632x512 : Shape := ⟨2, ![5632, 512]⟩
abbrev S512x512 : Shape := ⟨2, ![512, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x5632, .bf16⟩
  | .hbm, ⟨4, _⟩ => ⟨S5632x2048, .bf16⟩
  | .hbm, ⟨5, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S5632x512, .bf16⟩
  | .local _ .vmem, ⟨3, _⟩ => ⟨S5632x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel4.lean ====
abbrev S4096x5632 : Shape := ⟨2, ![4096, 5632]⟩
abbrev S5632x2048 : Shape := ⟨2, ![5632, 2048]⟩
abbrev S4096x2048 : Shape := ⟨2, ![4096, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 9
  | .vmem => 12
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S5632x2048, .f32⟩
  | .hbm, ⟨3, _⟩ => ⟨S4096x2048, .f32⟩
  | .hbm, ⟨4, _⟩ => ⟨S5632x2048, .bf16⟩
  | .hbm, ⟨5, _⟩ => ⟨S4096x5632, .bf16⟩
  | .hbm, ⟨6, _⟩ => ⟨S4096x5632, .bf16⟩
  | .hbm, ⟨7, _⟩ => ⟨S4096x5632, .bf16⟩
  | .hbm, ⟨8, _⟩ => ⟨S4096x5632, .bf16⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S5632x2048, .f32⟩
  | .hbm, ⟨3, _⟩ => ⟨S4096x2048, .f32⟩
  | .hbm, ⟨4, _⟩ => ⟨S4096x5632, .f32⟩
  | .hbm, ⟨5, _⟩ => ⟨S4096x5632, .f32⟩
  | .hbm, ⟨6, _⟩ => ⟨S_, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x2048, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .bf16⟩
  | .hbm, ⟨27, _⟩ => ⟨S4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Kernel5.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S4096x5632, .bf16⟩
  | .hbm, ⟨3, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .f32⟩
  | .local _ .vmem, ⟨3, _⟩ => ⟨S4096x512, .f32⟩
  | .local _ .vmem, ⟨4, _⟩ => ⟨S512x512, .bf16⟩
  | .local _ .vmem, ⟨5, _⟩ => ⟨S512x512, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S_, .f32⟩
  | .hbm, ⟨3, _⟩ => ⟨S5632x2048, .f32⟩
  | .hbm, ⟨4, _⟩ => ⟨S4096x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x2048 : Shape := ⟨2, ![4096, 2048]⟩
abbrev S4096x5632 : Shape := ⟨2, ![4096, 5632]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S4096x5632, .bf16⟩
  | .hbm, ⟨3, _⟩ => ⟨S4096x2048, .bf16⟩
  | .hbm, ⟨4, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S_, .f32⟩
  | .hbm, ⟨3, _⟩ => ⟨S2048x5632, .f32⟩
  | .hbm, ⟨4, _⟩ => ⟨S4096x5632, .f32⟩
  | .hbm, ⟨5, _⟩ => ⟨S5632x2048, .f32⟩
  | .hbm, ⟨6, _⟩ => ⟨S2048x5632, .f32⟩
  | .hbm, ⟨7, _⟩ => ⟨S5632x2048, .f32⟩
  | .hbm, ⟨8, _⟩ => ⟨S5632x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x5632 : Shape := ⟨2, ![4096, 5632]⟩
abbrev S2048x5632 : Shape := ⟨2, ![2048, 5632]⟩
abbrev S5632x2048 : Shape := ⟨2, ![5632, 2048]⟩
abbrev S4096x2048 : Shape := ⟨2, ![4096, 2048]⟩
abbrev S512x5632 : Shape := ⟨2, ![512, 5632]⟩
abbrev S5632x256 : Shape := ⟨2, ![5632, 256]⟩
abbrev S512x256 : Shape := ⟨2, ![512, 256]⟩

abbrev nBuf : Space → Nat
  | .hbm => 11
  | .vmem => 10
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S5632x2048, .bf16⟩
  | .hbm, ⟨6, _⟩ => ⟨S5632x2048, .f32⟩
  | .hbm, ⟨7, _⟩ => ⟨S5632x2048, .bf16⟩
  | .hbm, ⟨8, _⟩ => ⟨S4096x5632, .bf16⟩
  | .hbm, ⟨9, _⟩ => ⟨S4096x5632, .bf16⟩
  | .hbm, ⟨10, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S5632x256, .bf16⟩
  | .local _ .vmem, ⟨3, _⟩ => ⟨S5632x256, .bf16⟩
  | .local _ .vmem, ⟨4, _⟩ => ⟨S512x5632, .bf16⟩
  | .local _ .vmem, ⟨5, _⟩ => ⟨S512x5632, .bf16⟩
  | .local _ .vmem, ⟨6, _⟩ => ⟨S5632x256, .bf16⟩
  | .local _ .vmem, ⟨7, _⟩ => ⟨S5632x256, .bf16⟩
  | .local _ .vmem, ⟨8, _⟩ => ⟨S512x256, .f32⟩
  | .local _ .vmem, ⟨9, _⟩ => ⟨S512x256, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S5632x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S4096x5632 : Shape := ⟨2, ![4096, 5632]⟩
abbrev S2048x5632 : Shape := ⟨2, ![2048, 5632]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S4096x2048, .f32⟩
  | .hbm, ⟨6, _⟩ => ⟨S4096x5632, .f32⟩
  | .hbm, ⟨7, _⟩ => ⟨S4096x5632, .f32⟩
  | .hbm, ⟨8, _⟩ => ⟨S4096x2048, .f32⟩
  | .hbm, ⟨9, _⟩ => ⟨S4096x2048, .f32⟩
  | .hbm, ⟨10, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel8.lean ====
abbrev S4096x2048 : Shape := ⟨2, ![4096, 2048]⟩
abbrev S2048x3664 : Shape := ⟨2, ![2048, 3664]⟩
abbrev S3664x2048 : Shape := ⟨2, ![3664, 2048]⟩
abbrev S2560x2048 : Shape := ⟨2, ![2560, 2048]⟩
abbrev S1088x2048 : Shape := ⟨2, ![1088, 2048]⟩
abbrev S16x2048 : Shape := ⟨2, ![16, 2048]⟩
abbrev S_ : Shape := ⟨0, ![]⟩
abbrev S176x2048 : Shape := ⟨2, ![176, 2048]⟩
abbrev S3840x2048 : Shape := ⟨2, ![3840, 2048]⟩
abbrev S4096x3840 : Shape := ⟨2, ![4096, 3840]⟩
abbrev S1024x2048 : Shape := ⟨2, ![1024, 2048]⟩
abbrev S768x2048 : Shape := ⟨2, ![768, 2048]⟩
abbrev S1024x768 : Shape := ⟨2, ![1024, 768]⟩

abbrev nBuf : Space → Nat
  | .hbm => 12
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x3664, .f32⟩
  | .hbm, ⟨2, _⟩ => ⟨S4096x2048, .bf16⟩
  | .hbm, ⟨3, _⟩ => ⟨S3664x2048, .f32⟩
  | .hbm, ⟨4, _⟩ => ⟨S3664x2048, .bf16⟩
  | .hbm, ⟨5, _⟩ => ⟨S2560x2048, .bf16⟩
  | .hbm, ⟨6, _⟩ => ⟨S1088x2048, .bf16⟩
  | .hbm, ⟨7, _⟩ => ⟨S16x2048, .bf16⟩
  | .hbm, ⟨8, _⟩ => ⟨S_, .bf16⟩
  | .hbm, ⟨9, _⟩ => ⟨S176x2048, .bf16⟩
  | .hbm, ⟨10, _⟩ => ⟨S3840x2048, .bf16⟩
  | .hbm, ⟨11, _⟩ => ⟨S4096x3840, .f32⟩
  | .local _ .vmem, ⟨0, _⟩ => ⟨S1024x2048, .bf16⟩
  | .local _ .vmem, ⟨1, _⟩ => ⟨S1024x2048, .bf16⟩
  | .local _ .vmem, ⟨2, _⟩ => ⟨S768x2048, .bf16⟩
  | .local _ .vmem, ⟨3, _⟩ => ⟨S768x2048, .bf16⟩
  | .local _ .vmem, ⟨4, _⟩ => ⟨S1024x768, .f32⟩
  | .local _ .vmem, ⟨5, _⟩ => ⟨S1024x768, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x2048 : Shape := ⟨2, ![4096, 2048]⟩
abbrev S2048x3664 : Shape := ⟨2, ![2048, 3664]⟩
abbrev S4096x3664 : Shape := ⟨2, ![4096, 3664]⟩
abbrev S4096x2560 : Shape := ⟨2, ![4096, 2560]⟩
abbrev S4096x1088 : Shape := ⟨2, ![4096, 1088]⟩
abbrev S4096x16 : Shape := ⟨2, ![4096, 16]⟩
abbrev S_ : Shape := ⟨0, ![]⟩
abbrev S4096x176 : Shape := ⟨2, ![4096, 176]⟩
abbrev S4096x3840 : Shape := ⟨2, ![4096, 3840]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x3664, .f32⟩
  | .hbm, ⟨2, _⟩ => ⟨S4096x3664, .f32⟩
  | .hbm, ⟨3, _⟩ => ⟨S4096x2560, .f32⟩
  | .hbm, ⟨4, _⟩ => ⟨S4096x1088, .f32⟩
  | .hbm, ⟨5, _⟩ => ⟨S4096x16, .f32⟩
  | .hbm, ⟨6, _⟩ => ⟨S_, .f32⟩
  | .hbm, ⟨7, _⟩ => ⟨S4096x176, .f32⟩
  | .hbm, ⟨8, _⟩ => ⟨S4096x3840, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4096x3840 : Shape := ⟨2, ![4096, 3840]⟩
abbrev S2048x3664 : Shape := ⟨2, ![2048, 3664]⟩
abbrev S3664x2048 : Shape := ⟨2, ![3664, 2048]⟩
abbrev S2560x2048 : Shape := ⟨2, ![2560, 2048]⟩
abbrev S1088x2048 : Shape := ⟨2, ![1088, 2048]⟩
abbrev S16x2048 : Shape := ⟨2, ![16, 2048]⟩
abbrev S_ : Shape := ⟨0, ![]⟩
abbrev S176x2048 : Shape := ⟨2, ![176, 2048]⟩
abbrev S3840x2048 : Shape := ⟨2, ![3840, 2048]⟩
abbrev S4096x2048 : Shape := ⟨2, ![4096, 2048]⟩
abbrev S1024x3840 : Shape := ⟨2, ![1024, 3840]⟩
abbrev S3840x512 : Shape := ⟨2, ![3840, 512]⟩
abbrev S1024x512 : Shape := ⟨2, ![1024, 512]⟩

abbrev nBuf : Space → Nat
  | .hbm => 12
  | .vmem => 6
  | .smem => 0
  | _ => 0

abbrev bufTy : (tb : Table) → Fin (tcTables nBuf tb) → BufTy
  | .hbm, ⟨0, _⟩ => ⟨S4096x3840, .f32⟩
  | .hbm, ⟨1, _⟩ => ⟨S2048x3664, .f32⟩
  | .hbm, ⟨2, _⟩ => ⟨S4096x3840, .bf16⟩
  | .hbm, ⟨3, _⟩ => ⟨S3664x2048, .f32⟩
  | .hbm, ⟨4, _⟩ => ⟨S3664x2048, .bf16⟩
  | .hbm, ⟨5, _⟩ => ⟨S2560x2048, .bf16⟩
  | .hbm, ⟨6, _⟩ => ⟨S1088x2048, .bf16⟩
  | .hbm, ⟨7, _⟩ => ⟨S16x2048, .bf16⟩
  | .hbm, ⟨8, _⟩ => ⟨S_, .bf16⟩
  | .hbm, ⟨9, _⟩ => ⟨S176x2048, .bf16⟩
  | .hbm, ⟨10, _⟩ => ⟨S3840x2048, .bf16⟩
  | .hbm, ⟨11, _⟩ => ⟨S4096x2048, .f32⟩
  | .local _ .vmem, ⟨0, _⟩ => ⟨S1024x3840, .bf16⟩
  | .local _ .vmem, ⟨1, _⟩ => ⟨S1024x3840, .bf16⟩
  | .local _ .vmem, ⟨2, _⟩ => ⟨S3840x512, .bf16⟩
  | .local _ .vmem, ⟨3, _⟩ => ⟨S3840x512, .bf16⟩
  | .local _ .vmem, ⟨4, _⟩ => ⟨S1024x512, .f32⟩
  | .local _ .vmem, ⟨5, _⟩ => ⟨S1024x512, .f32⟩
  | _, _ => ⟨S4096x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3840x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x3840 : Shape := ⟨2, ![4096, 3840]⟩
abbrev S2048x3664 : Shape := ⟨2, ![2048, 3664]⟩
abbrev S_ : Shape := ⟨0, ![]⟩
abbrev S4096x2048 : Shape := ⟨2, ![4096, 2048]⟩
abbrev S4096x3664 : Shape := ⟨2, ![4096, 3664]⟩
abbrev S4096x2560 : Shape := ⟨2, ![4096, 2560]⟩
abbrev S4096x1088 : Shape := ⟨2, ![4096, 1088]⟩
abbrev S4096x16 : Shape := ⟨2, ![4096, 16]⟩
abbrev S4096x176 : Shape := ⟨2, ![4096, 176]⟩

abbrev nBuf : Space → Nat
  | .hbm => 26
  | .vmem => 0
  | .smem => 0
  | _ => 0

abbrev bufTy : (tb : Table) → Fin (tcTables nBuf tb) → BufTy
  | .hbm, ⟨0, _⟩ => ⟨S4096x3840, .f32⟩
  | .hbm, ⟨1, _⟩ => ⟨S2048x3664, .f32⟩
  | .hbm, ⟨2, _⟩ => ⟨S_, .f32⟩
  | .hbm, ⟨3, _⟩ => ⟨S4096x2048, .f32⟩
  | .hbm, ⟨4, _⟩ => ⟨S4096x3664, .f32⟩
  | .hbm, ⟨5, _⟩ => ⟨S4096x2560, .f32⟩
  | .hbm, ⟨6, _⟩ => ⟨S4096x1088, .f32⟩
  | .hbm, ⟨7, _⟩ => ⟨S4096x16, .f32⟩
  | .hbm, ⟨8, _⟩ => ⟨S_, .f32⟩
  | .hbm, ⟨9, _⟩ => ⟨S4096x176, .f32⟩
  | .hbm, ⟨10, _⟩ => ⟨S4096x3840, .f32⟩
  | .hbm, ⟨11, _⟩ => ⟨S_, .f32⟩
  | .hbm, ⟨12, _⟩ => ⟨S4096x176, .f32⟩
  | .hbm, ⟨13, _⟩ => ⟨S4096x2560, .f32⟩
  | .hbm, ⟨14, _⟩ => ⟨S4096x1088, .f32⟩
  | .hbm, ⟨15, _⟩ => ⟨S4096x16, .f32⟩
  | .hbm, ⟨16, _⟩ => ⟨S4096x176, .f32⟩
  | .hbm, ⟨17, _⟩ => ⟨S_, .f32⟩
  | .hbm, ⟨18, _⟩ => ⟨S4096x3664, .f32⟩
  | .hbm, ⟨19, _⟩ => ⟨S_, .f32⟩
  | .hbm, ⟨20, _⟩ => ⟨S4096x3664, .f32⟩
  | .hbm, ⟨21, _⟩ => ⟨S4096x3664, .f32⟩
  | .hbm, ⟨22, _⟩ => ⟨S_, .f32⟩
  | .hbm, ⟨23, _⟩ => ⟨S4096x3664, .f32⟩
  | .hbm, ⟨24, _⟩ => ⟨S4096x3664, .f32⟩
  | .hbm, ⟨25, _⟩ => ⟨S4096x2048, .f32⟩
  | _, _ => ⟨S4096x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel10.lean ====
abbrev S4096x3840 : Shape := ⟨2, ![4096, 3840]⟩
abbrev S4096x2048 : Shape := ⟨2, ![4096, 2048]⟩
abbrev S3840x2048 : Shape := ⟨2, ![3840, 2048]⟩
abbrev S4096x768 : Shape := ⟨2, ![4096, 768]⟩
abbrev S4096x1024 : Shape := ⟨2, ![4096, 1024]⟩
abbrev S768x1024 : Shape := ⟨2, ![768, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x3840, .f32⟩
  | .hbm, ⟨1, _⟩ => ⟨S4096x2048, .f32⟩
  | .hbm, ⟨2, _⟩ => ⟨S4096x3840, .bf16⟩
  | .hbm, ⟨3, _⟩ => ⟨S4096x2048, .bf16⟩
  | .hbm, ⟨4, _⟩ => ⟨S3840x2048, .bf16⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S4096x1024, .bf16⟩
  | .local _ .vmem, ⟨4, _⟩ => ⟨S768x1024, .bf16⟩
  | .local _ .vmem, ⟨5, _⟩ => ⟨S768x1024, .bf16⟩
  | _, _ => ⟨S4096x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x3840 : Shape := ⟨2, ![4096, 3840]⟩
abbrev S4096x2048 : Shape := ⟨2, ![4096, 2048]⟩
abbrev S_ : Shape := ⟨0, ![]⟩
abbrev S2048x3840 : Shape := ⟨2, ![2048, 3840]⟩
abbrev S3840x2048 : Shape := ⟨2, ![3840, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x3840, .f32⟩
  | .hbm, ⟨1, _⟩ => ⟨S4096x2048, .f32⟩
  | .hbm, ⟨2, _⟩ => ⟨S_, .f32⟩
  | .hbm, ⟨3, _⟩ => ⟨S2048x3840, .f32⟩
  | .hbm, ⟨4, _⟩ => ⟨S4096x3840, .f32⟩
  | .hbm, ⟨5, _⟩ => ⟨S3840x2048, .f32⟩
  | .hbm, ⟨6, _⟩ => ⟨S2048x3840, .f32⟩
  | .hbm, ⟨7, _⟩ => ⟨S3840x2048, .f32⟩
  | .hbm, ⟨8, _⟩ => ⟨S3840x2048, .bf16⟩
  | _, _ => ⟨S4096x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4096x1024 : Shape := ⟨2, ![4096, 1024]⟩
abbrev S2048x2048 : Shape := ⟨2, ![2048, 2048]⟩
abbrev S4096x2048 : Shape := ⟨2, ![4096, 2048]⟩
abbrev S1024x2048 : Shape := ⟨2, ![1024, 2048]⟩
abbrev S1024x1024 : Shape := ⟨2, ![1024, 1024]⟩
abbrev S1024x512 : Shape := ⟨2, ![1024, 512]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2048x2048, .f32⟩
  | .hbm, ⟨3, _⟩ => ⟨S4096x2048, .f32⟩
  | .hbm, ⟨4, _⟩ => ⟨S2048x2048, .bf16⟩
  | .hbm, ⟨5, _⟩ => ⟨S4096x1024, .bf16⟩
  | .hbm, ⟨6, _⟩ => ⟨S1024x2048, .bf16⟩
  | .hbm, ⟨7, _⟩ => ⟨S1024x2048, .bf16⟩
  | .hbm, ⟨8, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S4096x1024 : Shape := ⟨2, ![4096, 1024]⟩
abbrev S2048x2048 : Shape := ⟨2, ![2048, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2048x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel12.lean ====
abbrev S4096x2048 : Shape := ⟨2, ![4096, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .bf16⟩
  | .hbm, ⟨3, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S4096x1024 : Shape := ⟨2, ![4096, 1024]⟩
abbrev S4096x2048 : Shape := ⟨2, ![4096, 2048]⟩
abbrev S1024x2048 : Shape := ⟨2, ![1024, 2048]⟩
abbrev S4096x512 : Shape := ⟨2, ![4096, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S1024x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .f32⟩
  | .local _ .vmem, ⟨3, _⟩ => ⟨S4096x512, .f32⟩
  | .local _ .vmem, ⟨4, _⟩ => ⟨S512x512, .bf16⟩
  | .local _ .vmem, ⟨5, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4096x1024 : Shape := ⟨2, ![4096, 1024]⟩
abbrev S4096x2048 : Shape := ⟨2, ![4096, 2048]⟩
abbrev S1024x2048 : Shape := ⟨2, ![1024, 2048]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1024x2048, .bf16⟩
  | .local _ .vmem, ⟨0, _⟩ => ⟨S4096x512, .f32⟩
  | .local _ .vmem, ⟨1, _⟩ => ⟨S4096x512, .f32⟩
  | .local _ .vmem, ⟨2, _⟩ => ⟨S4096x512, .f32⟩
  | .local _ .vmem, ⟨3, _⟩ => ⟨S4096x512, .f32⟩
  | .local _ .vmem, ⟨4, _⟩ => ⟨S512x512, .bf16⟩
  | .local _ .vmem, ⟨5, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S4096x512 : Shape := ⟨2, ![4096, 512]⟩
abbrev S512x2048 : Shape := ⟨2, ![512, 2048]⟩
abbrev S2048x512 : Shape := ⟨2, ![2048, 512]⟩
abbrev S4096x2048 : Shape := ⟨2, ![4096, 2048]⟩
abbrev S1024x512 : Shape := ⟨2, ![1024, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x512, .bf16⟩
  | .hbm, ⟨3, _⟩ => ⟨S2048x512, .f32⟩
  | .hbm, ⟨4, _⟩ => ⟨S2048x512, .bf16⟩
  | .hbm, ⟨5, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x2048, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel16.lean ====
abbrev S4096x2048 : Shape := ⟨2, ![4096, 2048]⟩
abbrev S512x2048 : Shape := ⟨2, ![512, 2048]⟩
abbrev S2048x512 : Shape := ⟨2, ![2048, 512]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S512x2048, .f32⟩
  | .hbm, ⟨2, _⟩ => ⟨S2048x512, .f32⟩
  | .hbm, ⟨3, _⟩ => ⟨S2048x512, .bf16⟩
  | .hbm, ⟨4, _⟩ => ⟨S4096x512, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S4096x2048 : Shape := ⟨2, ![4096, 2048]⟩
abbrev S512x2048 : Shape := ⟨2, ![512, 2048]⟩
abbrev S_ : Shape := ⟨0, ![]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S512x2048, .f32⟩
  | .hbm, ⟨2, _⟩ => ⟨S_, .f32⟩
  | .hbm, ⟨3, _⟩ => ⟨S4096x512, .f32⟩
  | .hbm, ⟨4, _⟩ => ⟨S4096x2048, .f32⟩
  | .hbm, ⟨5, _⟩ => ⟨S4096x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel17.lean ====
abbrev S4096x2048 : Shape := ⟨2, ![4096, 2048]⟩
abbrev S4096x512 : Shape := ⟨2, ![4096, 512]⟩
abbrev S2048x512 : Shape := ⟨2, ![2048, 512]⟩
abbrev S512x512 : Shape := ⟨2, ![512, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x512, .bf16⟩
  | .hbm, ⟨3, _⟩ => ⟨S2048x512, .bf16⟩
  | .local _ .vmem, ⟨0, _⟩ => ⟨S4096x512, .f32⟩
  | .local _ .vmem, ⟨1, _⟩ => ⟨S4096x512, .f32⟩
  | .local _ .vmem, ⟨2, _⟩ => ⟨S4096x512, .bf16⟩
  | .local _ .vmem, ⟨3, _⟩ => ⟨S512x512, .bf16⟩
  | .local _ .vmem, ⟨4, _⟩ => ⟨S512x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S4096x2048 : Shape := ⟨2, ![4096, 2048]⟩
abbrev S4096x512 : Shape := ⟨2, ![4096, 512]⟩
abbrev S_ : Shape := ⟨0, ![]⟩
abbrev S512x2048 : Shape := ⟨2, ![512, 2048]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S_, .f32⟩
  | .hbm, ⟨3, _⟩ => ⟨S512x2048, .f32⟩
  | .hbm, ⟨4, _⟩ => ⟨S4096x2048, .f32⟩
  | .hbm, ⟨5, _⟩ => ⟨S2048x512, .f32⟩
  | .hbm, ⟨6, _⟩ => ⟨S512x2048, .f32⟩
  | .hbm, ⟨7, _⟩ => ⟨S2048x512, .f32⟩
  | .hbm, ⟨8, _⟩ => ⟨S2048x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel18.lean ====
abbrev S4096x2048 : Shape := ⟨2, ![4096, 2048]⟩
abbrev S2048x512 : Shape := ⟨2, ![2048, 512]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x512, .f32⟩
  | .hbm, ⟨2, _⟩ => ⟨S4096x2048, .bf16⟩
  | .hbm, ⟨3, _⟩ => ⟨S2048x512, .bf16⟩
  | .hbm, ⟨4, _⟩ => ⟨S4096x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S4096x2048 : Shape := ⟨2, ![4096, 2048]⟩
abbrev S2048x512 : Shape := ⟨2, ![2048, 512]⟩
abbrev S4096x512 : Shape := ⟨2, ![4096, 512]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x512, .f32⟩
  | .hbm, ⟨2, _⟩ => ⟨S4096x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel19.lean ====
abbrev S4096x512 : Shape := ⟨2, ![4096, 512]⟩
abbrev S2048x512 : Shape := ⟨2, ![2048, 512]⟩
abbrev S4096x2048 : Shape := ⟨2, ![4096, 2048]⟩
abbrev S1024x512 : Shape := ⟨2, ![1024, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S2048x512, .f32⟩
  | .hbm, ⟨2, _⟩ => ⟨S2048x512, .bf16⟩
  | .hbm, ⟨3, _⟩ => ⟨S4096x2048, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S4096x512 : Shape := ⟨2, ![4096, 512]⟩
abbrev S2048x512 : Shape := ⟨2, ![2048, 512]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S2048x512, .f32⟩
  | .hbm, ⟨2, _⟩ => ⟨S_, .f32⟩
  | .hbm, ⟨3, _⟩ => ⟨S4096x2048, .f32⟩
  | .hbm, ⟨4, _⟩ => ⟨S4096x512, .f32⟩
  | .hbm, ⟨5, _⟩ => ⟨S4096x2048, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel20.lean ====
abbrev S4096x2048 : Shape := ⟨2, ![4096, 2048]⟩
abbrev S4096x512 : Shape := ⟨2, ![4096, 512]⟩
abbrev S2048x512 : Shape := ⟨2, ![2048, 512]⟩
abbrev S4096x1024 : Shape := ⟨2, ![4096, 1024]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x2048, .bf16⟩
  | .hbm, ⟨3, _⟩ => ⟨S2048x512, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .f32⟩
  | .local _ .vmem, ⟨3, _⟩ => ⟨S1024x512, .bf16⟩
  | .local _ .vmem, ⟨4, _⟩ => ⟨S1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S4096x2048 : Shape := ⟨2, ![4096, 2048]⟩
abbrev S4096x512 : Shape := ⟨2, ![4096, 512]⟩
abbrev S_ : Shape := ⟨0, ![]⟩
abbrev S2048x512 : Shape := ⟨2, ![2048, 512]⟩
abbrev S512x2048 : Shape := ⟨2, ![512, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S_, .f32⟩
  | .hbm, ⟨3, _⟩ => ⟨S2048x512, .f32⟩
  | .hbm, ⟨4, _⟩ => ⟨S4096x512, .f32⟩
  | .hbm, ⟨5, _⟩ => ⟨S512x2048, .f32⟩
  | .hbm, ⟨6, _⟩ => ⟨S2048x512, .f32⟩
  | .hbm, ⟨7, _⟩ => ⟨S2048x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S4096x512 : Shape := ⟨2, ![4096, 512]⟩
abbrev S512x2048 : Shape := ⟨2, ![512, 2048]⟩
abbrev S4096x2048 : Shape := ⟨2, ![4096, 2048]⟩
abbrev S2048x512 : Shape := ⟨2, ![2048, 512]⟩
abbrev S1024x512 : Shape := ⟨2, ![1024, 512]⟩
abbrev S512x512 : Shape := ⟨2, ![512, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x2048, .f32⟩
  | .hbm, ⟨3, _⟩ => ⟨S2048x512, .f32⟩
  | .hbm, ⟨4, _⟩ => ⟨S2048x512, .bf16⟩
  | .hbm, ⟨5, _⟩ => ⟨S4096x2048, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference21Ideal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel22.lean ====
abbrev S4096x2048 : Shape := ⟨2, ![4096, 2048]⟩
abbrev S4096x512 : Shape := ⟨2, ![4096, 512]⟩
abbrev S2048x512 : Shape := ⟨2, ![2048, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S2048x512, .bf16⟩
  | .local _ .vmem, ⟨0, _⟩ => ⟨S4096x512, .f32⟩
  | .local _ .vmem, ⟨1, _⟩ => ⟨S4096x512, .f32⟩
  | .local _ .vmem, ⟨2, _⟩ => ⟨S4096x512, .f32⟩
  | .local _ .vmem, ⟨3, _⟩ => ⟨S512x512, .bf16⟩
  | .local _ .vmem, ⟨4, _⟩ => ⟨S512x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference22Ideal.lean ====
abbrev S4096x2048 : Shape := ⟨2, ![4096, 2048]⟩
abbrev S4096x512 : Shape := ⟨2, ![4096, 512]⟩
abbrev S_ : Shape := ⟨0, ![]⟩
abbrev S512x2048 : Shape := ⟨2, ![512, 2048]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S_, .f32⟩
  | .hbm, ⟨3, _⟩ => ⟨S512x2048, .f32⟩
  | .hbm, ⟨4, _⟩ => ⟨S4096x2048, .f32⟩
  | .hbm, ⟨5, _⟩ => ⟨S2048x512, .f32⟩
  | .hbm, ⟨6, _⟩ => ⟨S512x2048, .f32⟩
  | .hbm, ⟨7, _⟩ => ⟨S2048x512, .f32⟩
  | .hbm, ⟨8, _⟩ => ⟨S2048x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S4096x1024 : Shape := ⟨2, ![4096, 1024]⟩
abbrev S4096x3840 : Shape := ⟨2, ![4096, 3840]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x3840, .f32⟩
  | .hbm, ⟨3, _⟩ => ⟨S4096x1024, .f32⟩
  | .hbm, ⟨4, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference23Ideal.lean ====
abbrev S4096x1024 : Shape := ⟨2, ![4096, 1024]⟩
abbrev S4096x3840 : Shape := ⟨2, ![4096, 3840]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x3840, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v1_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v1_1 : Ref sig .tc := ⟨.hbm, 15, rfl⟩
abbrev main_v1_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v5 : Ref sig .tc := ⟨.hbm, 23, rfl⟩

abbrev nD : Nat := 1
abbrev τ : Topo := Topo.v7x

variable {F : FTy → Type} [FloatOps F]
-- ==== Kernel24.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference24Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel25.lean ====
abbrev S2x2048x3840 : Shape := ⟨3, ![2, 2048, 3840]⟩
abbrev S4x1536 : Shape := ⟨2, ![4, 1536]⟩
abbrev S1536 : Shape := ⟨1, ![1536]⟩
abbrev S2x2048x1536 : Shape := ⟨3, ![2, 2048, 1536]⟩
abbrev S1x1536 : Shape := ⟨2, ![1, 1536]⟩
abbrev S_ : Shape := ⟨0, ![]⟩
abbrev S3x1536 : Shape := ⟨2, ![3, 1536]⟩
abbrev S8x1536 : Shape := ⟨2, ![8, 1536]⟩
abbrev S1x2048x512 : Shape := ⟨3, ![1, 2048, 512]⟩
abbrev S8x512 : Shape := ⟨2, ![8, 512]⟩
abbrev S2048x512 : Shape := ⟨2, ![2048, 512]⟩
abbrev S1x512 : Shape := ⟨2, ![1, 512]⟩
abbrev S512 : Shape := ⟨1, ![512]⟩

abbrev nBuf : Space → Nat
  | .hbm => 10
  | .vmem => 10
  | .smem => 0
  | _ => 0

abbrev bufTy : (tb : Table) → Fin (tcTables nBuf tb) → BufTy
  | .hbm, ⟨0, _⟩ => ⟨S2x2048x3840, .f32⟩
  | .hbm, ⟨1, _⟩ => ⟨S4x1536, .f32⟩
  | .hbm, ⟨2, _⟩ => ⟨S1536, .f32⟩
  | .hbm, ⟨3, _⟩ => ⟨S2x2048x1536, .f32⟩
  | .hbm, ⟨4, _⟩ => ⟨S1x1536, .f32⟩
  | .hbm, ⟨5, _⟩ => ⟨S_, .f32⟩
  | .hbm, ⟨6, _⟩ => ⟨S3x1536, .f32⟩
  | .hbm, ⟨7, _⟩ => ⟨S8x1536, .f32⟩
  | .hbm, ⟨8, _⟩ => ⟨S2x2048x1536, .f32⟩
  | .hbm, ⟨9, _⟩ => ⟨S8x1536, .f32⟩
  | .local _ .vmem, ⟨0, _⟩ => ⟨S1x2048x512, .f32⟩
  | .local _ .vmem, ⟨1, _⟩ => ⟨S1x2048x512, .f32⟩
  | .local _ .vmem, ⟨2, _⟩ => ⟨S8x512, .f32⟩
  | .local _ .vmem, ⟨3, _⟩ => ⟨S8x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S8x512, .f32⟩
  | .local _ .vmem, ⟨9, _⟩ => ⟨S8x512, .f32⟩
  | _, _ => ⟨S2x2048x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 2], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![arg1.toNat, c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference25Ideal.lean ====
abbrev S2x2048x3840 : Shape := ⟨3, ![2, 2048, 3840]⟩
abbrev S4x1536 : Shape := ⟨2, ![4, 1536]⟩
abbrev S1536 : Shape := ⟨1, ![1536]⟩
abbrev S2x2048x1536 : Shape := ⟨3, ![2, 2048, 1536]⟩
abbrev S_ : Shape := ⟨0, ![]⟩
abbrev S2x3x1536 : Shape := ⟨3, ![2, 3, 1536]⟩
abbrev S2x2051x1536 : Shape := ⟨3, ![2, 2051, 1536]⟩
abbrev S1x1536 : Shape := ⟨2, ![1, 1536]⟩
abbrev S1x1x1536 : Shape := ⟨3, ![1, 1, 1536]⟩
abbrev S3x1536 : Shape := ⟨2, ![3, 1536]⟩
abbrev S8x1536 : Shape := ⟨2, ![8, 1536]⟩

abbrev nBuf : Space → Nat
  | .hbm => 129
  | .vmem => 0
  | .smem => 0
  | _ => 0

abbrev hbmTy0_0 (i : Nat) : BufTy := match i % 128 with
  | 0 => ⟨S2x2048x3840, .f32⟩
  | 1 => ⟨S4x1536, .f32⟩
  | 2 => ⟨S1536, .f32⟩
  | 3 => ⟨S2x2048x1536, .f32⟩
  | 4 => ⟨S2x2048x1536, .f32⟩
  | 5 => ⟨S_, .f32⟩
  | 6 => ⟨S2x3x1536, .f32⟩
  | 7 => ⟨S2x2051x1536, .f32⟩
  | 8 => ⟨S_, .f32⟩
  | 9 => ⟨S2x3x1536, .f32⟩
  | 10 => ⟨S2x2048x1536, .f32⟩
  | 11 => ⟨S1x1536, .f32⟩
  | 12 => ⟨S1536, .f32⟩
  | 13 => ⟨S1x1x1536, .f32⟩
  | 14 => ⟨S2x2048x1536, .f32⟩
  | 15 => ⟨S2x2048x1536, .f32⟩
  | 16 => ⟨S_, .f32⟩
  | 17 => ⟨S2x2048x1536, .f32⟩
  | 18 => ⟨S2x2048x1536, .f32⟩
  | 19 => ⟨S2x2048x1536, .f32⟩
  | 20 => ⟨S1x1536, .f32⟩
  | 21 => ⟨S1536, .f32⟩
  | 22 => ⟨S1x1x1536, .f32⟩
  | 23 => ⟨S2x2048x1536, .f32⟩
  | 24 => ⟨S2x2048x1536, .f32⟩
  | 25 => ⟨S2x2048x1536, .f32⟩
  | 26 => ⟨S2x2048x1536, .f32⟩
  | 27 => ⟨S1x1536, .f32⟩
  | 28 => ⟨S1536, .f32⟩
  | 29 => ⟨S1x1x1536, .f32⟩
  | 30 => ⟨S2x2048x1536, .f32⟩
  | 31 => ⟨S2x2048x1536, .f32⟩
  | 32 => ⟨S2x2048x1536, .f32⟩
  | 33 => ⟨S2x2048x1536, .f32⟩
  | 34 => ⟨S1x1536, .f32⟩
  | 35 => ⟨S1536, .f32⟩
  | 36 => ⟨S1x1x1536, .f32⟩
  | 37 => ⟨S2x2048x1536, .f32⟩
  | 38 => ⟨S2x2048x1536, .f32⟩
  | 39 => ⟨S2x2048x1536, .f32⟩
  | 40 => ⟨S1x1x1536, .f32⟩
  | 41 => ⟨S2x2048x1536, .f32⟩
  | 42 => ⟨S2x2048x1536, .f32⟩
  | 43 => ⟨S2x2048x1536, .f32⟩
  | 44 => ⟨S2x2048x1536, .f32⟩
  | 45 => ⟨S_, .f32⟩
  | 46 => ⟨S2x2048x1536, .f32⟩
  | 47 => ⟨S2x2048x1536, .f32⟩
  | 48 => ⟨S_, .f32⟩
  | 49 => ⟨S2x2048x1536, .f32⟩
  | 50 => ⟨S2x2048x1536, .f32⟩
  | 51 => ⟨S_, .f32⟩
  | 52 => ⟨S2x2048x1536, .f32⟩
  | 53 => ⟨S2x2048x1536, .f32⟩
  | 54 => ⟨S2x2048x1536, .f32⟩
  | 55 => ⟨S2x2048x1536, .f32⟩
  | 56 => ⟨S2x2048x1536, .f32⟩
  | 57 => ⟨S2x2048x1536, .f32⟩
  | 58 => ⟨S2x2048x1536, .f32⟩
  | 59 => ⟨S2x2048x1536, .f32⟩
  | 60 => ⟨S_, .f32⟩
  | 61 => ⟨S1536, .f32⟩
  | 62 => ⟨S1x1x1536, .f32⟩
  | 63 => ⟨S_, .f32⟩
  | 64 => ⟨S1536, .f32⟩
  | 65 => ⟨S2x2048x1536, .f32⟩
  | 66 => ⟨S_, .f32⟩
  | 67 => ⟨S1536, .f32⟩
  | 68 => ⟨S1x1x1536, .f32⟩
  | 69 => ⟨S2x2048x1536, .f32⟩
  | 70 => ⟨S2x2048x1536, .f32⟩
  | 71 => ⟨S_, .f32⟩
  | 72 => ⟨S1536, .f32⟩
  | 73 => ⟨S1x1536, .f32⟩
  | 74 => ⟨S_, .f32⟩
  | 75 => ⟨S4x1536, .f32⟩
  | 76 => ⟨S_, .f32⟩
  | 77 => ⟨S2x2051x1536, .f32⟩
  | 78 => ⟨S2x2048x1536, .f32⟩
  | 79 => ⟨S_, .f32⟩
  | 80 => ⟨S1536, .f32⟩
  | 81 => ⟨S1x1x1536, .f32⟩
  | 82 => ⟨S2x2048x1536, .f32⟩
  | 83 => ⟨S2x2048x1536, .f32⟩
  | 84 => ⟨S_, .f32⟩
  | 85 => ⟨S1536, .f32⟩
  | 86 => ⟨S1x1536, .f32⟩
  | 87 => ⟨S_, .f32⟩
  | 88 => ⟨S4x1536, .f32⟩
  | 89 => ⟨S4x1536, .f32⟩
  | 90 => ⟨S_, .f32⟩
  | 91 => ⟨S2x2051x1536, .f32⟩
  | 92 => ⟨S2x2051x1536, .f32⟩
  | 93 => ⟨S2x2048x1536, .f32⟩
  | 94 => ⟨S_, .f32⟩
  | 95 => ⟨S1536, .f32⟩
  | 96 => ⟨S1x1x1536, .f32⟩
  | 97 => ⟨S2x2048x1536, .f32⟩
  | 98 => ⟨S2x2048x1536, .f32⟩
  | 99 => ⟨S_, .f32⟩
  | 100 => ⟨S1536, .f32⟩
  | 101 => ⟨S1x1536, .f32⟩
  | 102 => ⟨S_, .f32⟩
  | 103 => ⟨S4x1536, .f32⟩
  | 104 => ⟨S4x1536, .f32⟩
  | 105 => ⟨S_, .f32⟩
  | 106 => ⟨S2x2051x1536, .f32⟩
  | 107 => ⟨S2x2051x1536, .f32⟩
  | 108 => ⟨S2x2048x1536, .f32⟩
  | 109 => ⟨S_, .f32⟩
  | 110 => ⟨S1536, .f32⟩
  | 111 => ⟨S1x1x1536, .f32⟩
  | 112 => ⟨S2x2048x1536, .f32⟩
  | 113 => ⟨S2x2048x1536, .f32⟩
  | 114 => ⟨S_, .f32⟩
  | 115 => ⟨S1536, .f32⟩
  | 116 => ⟨S1x1536, .f32⟩
  | 117 => ⟨S_, .f32⟩
  | 118 => ⟨S4x1536, .f32⟩
  | 119 => ⟨S4x1536, .f32⟩
  | 120 => ⟨S_, .f32⟩
  | 121 => ⟨S2x2051x1536, .f32⟩
  | 122 => ⟨S2x2051x1536, .f32⟩
  | 123 => ⟨S2x3x1536, .f32⟩
  | 124 => ⟨S2x2048x1536, .f32⟩
  | 125 => ⟨S1x1536, .f32⟩
  | 126 => ⟨S_, .f32⟩
  | 127 => ⟨S3x1536, .f32⟩
  | _ => ⟨S2x2048x3840, .f32⟩

abbrev hbmTy0_1 (i : Nat) : BufTy := match i % 128 with
  | 0 => ⟨S8x1536, .f32⟩
  | _ => ⟨S2x2048x3840, .f32⟩

abbrev hbmTy (i : Nat) : BufTy := match i / 128 with
  | 0 => hbmTy0_0 i
  | 1 => hbmTy0_1 i
  | _ => ⟨S2x2048x3840, .f32⟩

abbrev bufTy : (tb : Table) → Fin (tcTables nBuf tb) → BufTy
  | .hbm, ⟨i, _⟩ => hbmTy i
  | _, _ => ⟨S2x2048x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v36_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v36_1 : Ref sig .tc := ⟨.hbm, 54, rfl⟩
abbrev main_v36_0 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_v67 : Ref sig .tc := ⟨.hbm, 101, rfl⟩
abbrev main_cst_14 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_16 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_17 : Ref sig .tc := ⟨.hbm, 114, rfl⟩
abbrev main_v77 : Ref sig .tc := ⟨.hbm, 115, rfl⟩
abbrev main_v78 : Ref sig .tc := ⟨.hbm, 116, rfl⟩
abbrev main_cst_18 : Ref sig .tc := ⟨.hbm, 117, rfl⟩
abbrev main_v79 : Ref sig .tc := ⟨.hbm, 118, rfl⟩
abbrev main_v80 : Ref sig .tc := ⟨.hbm, 119, rfl⟩
abbrev main_cst_19 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_20 : Ref sig .tc := ⟨.hbm, 126, rfl⟩
abbrev main_v86 : Ref sig .tc := ⟨.hbm, 127, rfl⟩
abbrev main_v87 : Ref sig .tc := ⟨.hbm, 128, rfl⟩

abbrev nD : Nat := 1
abbrev τ : Topo := Topo.v7x

variable {F : FTy → Type} [FloatOps F]
-- ==== Kernel26.lean ====
abbrev S2x2048x8x192 : Shape := ⟨4, ![2, 2048, 8, 192]⟩
abbrev S2x2048x8x256 : Shape := ⟨4, ![2, 2048, 8, 256]⟩
abbrev S_ : Shape := ⟨0, ![]⟩
abbrev S2x2048x2048 : Shape := ⟨3, ![2, 2048, 2048]⟩
abbrev S2x2048x1024 : Shape := ⟨3, ![2, 2048, 1024]⟩
abbrev S2x8x2048x1 : Shape := ⟨4, ![2, 8, 2048, 1]⟩
abbrev S1x512x256 : Shape := ⟨3, ![1, 512, 256]⟩
abbrev S1x512x128 : Shape := ⟨3, ![1, 512, 128]⟩
abbrev S1x1x512x1 : Shape := ⟨4, ![1, 1, 512, 1]⟩
abbrev S512x1 : Shape := ⟨2, ![512, 1]⟩
abbrev S512x128 : Shape := ⟨2, ![512, 128]⟩
abbrev S512x256 : Shape := ⟨2, ![512, 256]⟩
abbrev S512x512 : Shape := ⟨2, ![512, 512]⟩
abbrev S512 : Shape := ⟨1, ![512]⟩

abbrev nBuf : Space → Nat
  | .hbm => 16
  | .vmem => 13
  | .smem => 0
  | _ => 0

abbrev bufTy : (tb : Table) → Fin (tcTables nBuf tb) → BufTy
  | .hbm, ⟨0, _⟩ => ⟨S2x2048x8x192, .f32⟩
  | .hbm, ⟨1, _⟩ => ⟨S2x2048x8x192, .f32⟩
  | .hbm, ⟨2, _⟩ => ⟨S2x2048x8x256, .f32⟩
  | .hbm, ⟨3, _⟩ => ⟨S_, .i32⟩
  | .hbm, ⟨4, _⟩ => ⟨S_, .f32⟩
  | .hbm, ⟨5, _⟩ => ⟨S2x2048x8x256, .f32⟩
  | .hbm, ⟨6, _⟩ => ⟨S2x2048x8x256, .bf16⟩
  | .hbm, ⟨7, _⟩ => ⟨S2x2048x2048, .bf16⟩
  | .hbm, ⟨8, _⟩ => ⟨S_, .i32⟩
  | .hbm, ⟨9, _⟩ => ⟨S_, .f32⟩
  | .hbm, ⟨10, _⟩ => ⟨S2x2048x8x256, .f32⟩
  | .hbm, ⟨11, _⟩ => ⟨S2x2048x8x256, .bf16⟩
  | .hbm, ⟨12, _⟩ => ⟨S2x2048x2048, .bf16⟩
  | .hbm, ⟨13, _⟩ => ⟨S2x2048x2048, .f32⟩
  | .hbm, ⟨14, _⟩ => ⟨S2x2048x1024, .f32⟩
  | .hbm, ⟨15, _⟩ => ⟨S2x8x2048x1, .f32⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x1x512x1, .f32⟩
  | .local _ .vmem, ⟨9, _⟩ => ⟨S1x1x512x1, .f32⟩
  | .local _ .vmem, ⟨10, _⟩ => ⟨S512x1, .f32⟩
  | .local _ .vmem, ⟨11, _⟩ => ⟨S512x1, .f32⟩
  | .local _ .vmem, ⟨12, _⟩ => ⟨S512x128, .f32⟩
  | _, _ => ⟨S2x2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![2, 8, 4, 4], ![false, false, false, false]⟩

def k0_cond4 (i : grid0.Coords) : BitVec 1 :=
  let arg3 : BitVec 32 := BitVec.ofNat 32 (i 3).val
  let c3_i32 : BitVec 32 := 3#32
  let v9 : BitVec 1 := Scalar.cmpi .eq arg3 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg2 arg3
  let c0_i32 : BitVec 32 := 0#32
  ![arg0.toNat, v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg2 arg3
  let c2_i32 : BitVec 32 := 2#32
  let v1 : BitVec 32 := Scalar.muli c2_i32 arg1
  let c1_i32 : BitVec 32 := 1#32
  let v2 : BitVec 32 := Scalar.addi v1 c1_i32
  let c0_i32 : BitVec 32 := 0#32
  ![arg0.toNat, v0.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]

abbrev stage0_4 : Fin 2 → Memref sig .tc .vmem S1x1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]
-- ==== Kernel26Ideal.lean ====
variable {F : FTy → Type} [FloatOps F] [Named F]
def κ : String → Option EReal := fun
  | "mask" => some ⊥
  | _ => none
-- ==== Reference26Ideal.lean ====
abbrev S2x2048x8x192 : Shape := ⟨4, ![2, 2048, 8, 192]⟩
abbrev S2x2048x8x256 : Shape := ⟨4, ![2, 2048, 8, 256]⟩
abbrev S2x8x2048x2048 : Shape := ⟨4, ![2, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x2048x8x128 : Shape := ⟨4, ![2, 2048, 8, 128]⟩
abbrev S2x8x128x2048 : Shape := ⟨4, ![2, 8, 128, 2048]⟩
abbrev S2x2048x1024 : Shape := ⟨3, ![2, 2048, 1024]⟩

abbrev nBuf : Space → Nat
  | .hbm => 48
  | .vmem => 0
  | .smem => 0
  | _ => 0

abbrev bufTy : (tb : Table) → Fin (tcTables nBuf tb) → BufTy
  | .hbm, ⟨0, _⟩ => ⟨S2x2048x8x192, .f32⟩
  | .hbm, ⟨1, _⟩ => ⟨S2x2048x8x192, .f32⟩
  | .hbm, ⟨2, _⟩ => ⟨S2x2048x8x256, .f32⟩
  | .hbm, ⟨3, _⟩ => ⟨S2x8x2048x2048, .f32⟩
  | .hbm, ⟨4, _⟩ => ⟨S_, .f32⟩
  | .hbm, ⟨5, _⟩ => ⟨S2x8x2048x2048, .f32⟩
  | .hbm, ⟨6, _⟩ => ⟨S2x8x2048x2048, .f32⟩
  | .hbm, ⟨7, _⟩ => ⟨S2048, .i32⟩
  | .hbm, ⟨8, _⟩ => ⟨S2048x1, .i32⟩
  | .hbm, ⟨9, _⟩ => ⟨S2048, .i32⟩
  | .hbm, ⟨10, _⟩ => ⟨S1x2048, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S2x8x2048x2048, .i1⟩
  | .hbm, ⟨17, _⟩ => ⟨S2x8x2048x2048, .f32⟩
  | .hbm, ⟨18, _⟩ => ⟨S2x8x2048x2048, .f32⟩
  | .hbm, ⟨19, _⟩ => ⟨S_, .f32⟩
  | .hbm, ⟨20, _⟩ => ⟨S2x8x2048, .f32⟩
  | .hbm, ⟨21, _⟩ => ⟨S_, .f32⟩
  | .hbm, ⟨22, _⟩ => ⟨S2x8x2048, .f32⟩
  | .hbm, ⟨23, _⟩ => ⟨S2x8x2048, .f32⟩
  | .hbm, ⟨24, _⟩ => ⟨S2x8x2048x1, .f32⟩
  | .hbm, ⟨25, _⟩ => ⟨S2x8x2048x2048, .f32⟩
  | .hbm, ⟨26, _⟩ => ⟨S2x8x2048x2048, .f32⟩
  | .hbm, ⟨27, _⟩ => ⟨S2x8x2048x2048, .f32⟩
  | .hbm, ⟨28, _⟩ => ⟨S_, .f32⟩
  | .hbm, ⟨29, _⟩ => ⟨S2x8x2048, .f32⟩
  | .hbm, ⟨30, _⟩ => ⟨S2x8x2048x1, .f32⟩
  | .hbm, ⟨31, _⟩ => ⟨S2x8x2048x2048, .f32⟩
  | .hbm, ⟨32, _⟩ => ⟨S2x8x2048x2048, .f32⟩
  | .hbm, ⟨33, _⟩ => ⟨S2x2048x8x128, .f32⟩
  | .hbm, ⟨34, _⟩ => ⟨S2x8x128x2048, .f32⟩
  | .hbm, ⟨35, _⟩ => ⟨S2x2048x8x128, .f32⟩
  | .hbm, ⟨36, _⟩ => ⟨S_, .f32⟩
  | .hbm, ⟨37, _⟩ => ⟨S2x8x2048, .f32⟩
  | .hbm, ⟨38, _⟩ => ⟨S2x8x2048x1, .f32⟩
  | .hbm, ⟨39, _⟩ => ⟨S2x2048x1024, .f32⟩
  | .hbm, ⟨40, _⟩ => ⟨S2x8x2048x2048, .f32⟩
  | .hbm, ⟨41, _⟩ => ⟨S2x8x2048x2048, .f32⟩
  | .hbm, ⟨42, _⟩ => ⟨S2x8x2048x2048, .f32⟩
  | .hbm, ⟨43, _⟩ => ⟨S_, .f32⟩
  | .hbm, ⟨44, _⟩ => ⟨S2x8x2048, .f32⟩
  | .hbm, ⟨45, _⟩ => ⟨S2x8x2048x1, .f32⟩
  | .hbm, ⟨46, _⟩ => ⟨S2x8x2048x1, .f32⟩
  | .hbm, ⟨47, _⟩ => ⟨S2x8x2048x1, .f32⟩
  | _, _ => ⟨S2x2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel27.lean ====
abbrev S2x2048x4x128 : Shape := ⟨4, ![2, 2048, 4, 128]⟩
abbrev S2x256x4x128 : Shape := ⟨4, ![2, 256, 4, 128]⟩
abbrev S2x2048x512 : Shape := ⟨3, ![2, 2048, 512]⟩
abbrev S2x256x512 : Shape := ⟨3, ![2, 256, 512]⟩
abbrev S2x4x2048x1 : Shape := ⟨4, ![2, 4, 2048, 1]⟩
abbrev S1x512x128 : Shape := ⟨3, ![1, 512, 128]⟩
abbrev S1x256x128 : Shape := ⟨3, ![1, 256, 128]⟩
abbrev S1x1x512x1 : Shape := ⟨4, ![1, 1, 512, 1]⟩
abbrev S512x1 : Shape := ⟨2, ![512, 1]⟩
abbrev S512x128 : Shape := ⟨2, ![512, 128]⟩
abbrev S256x128 : Shape := ⟨2, ![256, 128]⟩
abbrev S512x256 : Shape := ⟨2, ![512, 256]⟩
abbrev S512 : Shape := ⟨1, ![512]⟩

abbrev nBuf : Space → Nat
  | .hbm => 10
  | .vmem => 13
  | .smem => 0
  | _ => 0

abbrev bufTy : (tb : Table) → Fin (tcTables nBuf tb) → BufTy
  | .hbm, ⟨0, _⟩ => ⟨S2x2048x4x128, .f32⟩
  | .hbm, ⟨1, _⟩ => ⟨S2x256x4x128, .f32⟩
  | .hbm, ⟨2, _⟩ => ⟨S2x256x4x128, .f32⟩
  | .hbm, ⟨3, _⟩ => ⟨S2x2048x4x128, .bf16⟩
  | .hbm, ⟨4, _⟩ => ⟨S2x2048x512, .bf16⟩
  | .hbm, ⟨5, _⟩ => ⟨S2x256x4x128, .bf16⟩
  | .hbm, ⟨6, _⟩ => ⟨S2x256x512, .bf16⟩
  | .hbm, ⟨7, _⟩ => ⟨S2x256x512, .f32⟩
  | .hbm, ⟨8, _⟩ => ⟨S2x2048x512, .f32⟩
  | .hbm, ⟨9, _⟩ => ⟨S2x4x2048x1, .f32⟩
  | .local _ .vmem, ⟨0, _⟩ => ⟨S1x512x128, .bf16⟩
  | .local _ .vmem, ⟨1, _⟩ => ⟨S1x512x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .f32⟩
  | .local _ .vmem, ⟨5, _⟩ => ⟨S1x256x128, .f32⟩
  | .local _ .vmem, ⟨6, _⟩ => ⟨S1x512x128, .f32⟩
  | .local _ .vmem, ⟨7, _⟩ => ⟨S1x512x128, .f32⟩
  | .local _ .vmem, ⟨8, _⟩ => ⟨S1x1x512x1, .f32⟩
  | .local _ .vmem, ⟨9, _⟩ => ⟨S1x1x512x1, .f32⟩
  | .local _ .vmem, ⟨10, _⟩ => ⟨S512x1, .f32⟩
  | .local _ .vmem, ⟨11, _⟩ => ⟨S512x1, .f32⟩
  | .local _ .vmem, ⟨12, _⟩ => ⟨S512x128, .f32⟩
  | _, _ => ⟨S2x2048x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![2, 4, 4, 1], ![false, false, false, false]⟩

def k0_cond2 (i : grid0.Coords) : BitVec 1 :=
  let arg3 : BitVec 32 := BitVec.ofNat 32 (i 3).val
  let c0_i32_25 : BitVec 32 := 0#32
  let v42 : BitVec 1 := Scalar.cmpi .eq arg3 c0_i32_25
  let v43 : BitVec 32 := Scalar.extui v42
  let c0_i32_26 : BitVec 32 := 0#32
  let v44 : BitVec 1 := Scalar.cmpi .ne v43 c0_i32_26
  v44

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli c1_i32 arg1
  let c0_i32 : BitVec 32 := 0#32
  let v1 : BitVec 32 := Scalar.addi v0 c0_i32
  let c0_i32_0 : BitVec 32 := 0#32
  ![arg0.toNat, arg3.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]

abbrev stage0_4 : Fin 2 → Memref sig .tc .vmem S1x1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]
-- ==== Kernel27Ideal.lean ====
variable {F : FTy → Type} [FloatOps F] [Named F]
def κ : String → Option EReal := fun
  | "mask" => some ⊥
  | _ => none
-- ==== Reference27Ideal.lean ====
abbrev S2x2048x4x128 : Shape := ⟨4, ![2, 2048, 4, 128]⟩
abbrev S2x256x4x128 : Shape := ⟨4, ![2, 256, 4, 128]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S2x2048x512 : Shape := ⟨3, ![2, 2048, 512]⟩

abbrev nBuf : Space → Nat
  | .hbm => 35
  | .vmem => 0
  | .smem => 0
  | _ => 0

abbrev bufTy : (tb : Table) → Fin (tcTables nBuf tb) → BufTy
  | .hbm, ⟨0, _⟩ => ⟨S2x2048x4x128, .f32⟩
  | .hbm, ⟨1, _⟩ => ⟨S2x256x4x128, .f32⟩
  | .hbm, ⟨2, _⟩ => ⟨S2x256x4x128, .f32⟩
  | .hbm, ⟨3, _⟩ => ⟨S2x4x2048x256, .f32⟩
  | .hbm, ⟨4, _⟩ => ⟨S_, .f32⟩
  | .hbm, ⟨5, _⟩ => ⟨S2x4x2048x256, .f32⟩
  | .hbm, ⟨6, _⟩ => ⟨S2x4x2048x256, .f32⟩
  | .hbm, ⟨7, _⟩ => ⟨S_, .f32⟩
  | .hbm, ⟨8, _⟩ => ⟨S2x4x2048, .f32⟩
  | .hbm, ⟨9, _⟩ => ⟨S_, .f32⟩
  | .hbm, ⟨10, _⟩ => ⟨S2x4x2048, .f32⟩
  | .hbm, ⟨11, _⟩ => ⟨S2x4x2048, .f32⟩
  | .hbm, ⟨12, _⟩ => ⟨S2x4x2048x1, .f32⟩
  | .hbm, ⟨13, _⟩ => ⟨S2x4x2048x256, .f32⟩
  | .hbm, ⟨14, _⟩ => ⟨S2x4x2048x256, .f32⟩
  | .hbm, ⟨15, _⟩ => ⟨S2x4x2048x256, .f32⟩
  | .hbm, ⟨16, _⟩ => ⟨S_, .f32⟩
  | .hbm, ⟨17, _⟩ => ⟨S2x4x2048, .f32⟩
  | .hbm, ⟨18, _⟩ => ⟨S2x4x2048x1, .f32⟩
  | .hbm, ⟨19, _⟩ => ⟨S2x4x2048x256, .f32⟩
  | .hbm, ⟨20, _⟩ => ⟨S2x4x2048x256, .f32⟩
  | .hbm, ⟨21, _⟩ => ⟨S2x4x128x2048, .f32⟩
  | .hbm, ⟨22, _⟩ => ⟨S2x2048x4x128, .f32⟩
  | .hbm, ⟨23, _⟩ => ⟨S_, .f32⟩
  | .hbm, ⟨24, _⟩ => ⟨S2x4x2048, .f32⟩
  | .hbm, ⟨25, _⟩ => ⟨S2x4x2048x1, .f32⟩
  | .hbm, ⟨26, _⟩ => ⟨S2x2048x512, .f32⟩
  | .hbm, ⟨27, _⟩ => ⟨S2x4x2048x256, .f32⟩
  | .hbm, ⟨28, _⟩ => ⟨S2x4x2048x256, .f32⟩
  | .hbm, ⟨29, _⟩ => ⟨S2x4x2048x256, .f32⟩
  | .hbm, ⟨30, _⟩ => ⟨S_, .f32⟩
  | .hbm, ⟨31, _⟩ => ⟨S2x4x2048, .f32⟩
  | .hbm, ⟨32, _⟩ => ⟨S2x4x2048x1, .f32⟩
  | .hbm, ⟨33, _⟩ => ⟨S2x4x2048x1, .f32⟩
  | .hbm, ⟨34, _⟩ => ⟨S2x4x2048x1, .f32⟩
  | _, _ => ⟨S2x2048x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel28.lean ====
abbrev S512x2048 : Shape := ⟨2, ![512, 2048]⟩
abbrev S2048x512 : Shape := ⟨2, ![2048, 512]⟩
abbrev S512x512 : Shape := ⟨2, ![512, 512]⟩

abbrev nBuf : Space → Nat
  | .hbm => 5
  | .vmem => 3
  | .smem => 0
  | _ => 0

abbrev bufTy : (tb : Table) → Fin (tcTables nBuf tb) → BufTy
  | .hbm, ⟨0, _⟩ => ⟨S512x2048, .f32⟩
  | .hbm, ⟨1, _⟩ => ⟨S2048x512, .f32⟩
  | .hbm, ⟨2, _⟩ => ⟨S512x2048, .bf16⟩
  | .hbm, ⟨3, _⟩ => ⟨S2048x512, .bf16⟩
  | .hbm, ⟨4, _⟩ => ⟨S512x512, .f32⟩
  | .local _ .vmem, ⟨0, _⟩ => ⟨S512x2048, .bf16⟩
  | .local _ .vmem, ⟨1, _⟩ => ⟨S2048x512, .bf16⟩
  | .local _ .vmem, ⟨2, _⟩ => ⟨S512x512, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference28Ideal.lean ====
abbrev S512x2048 : Shape := ⟨2, ![512, 2048]⟩
abbrev S2048x512 : Shape := ⟨2, ![2048, 512]⟩
abbrev S512x512 : Shape := ⟨2, ![512, 512]⟩

abbrev nBuf : Space → Nat
  | .hbm => 3
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048x512, .f32⟩
  | .hbm, ⟨2, _⟩ => ⟨S512x512, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel29.lean ====
abbrev S512x2048 : Shape := ⟨2, ![512, 2048]⟩
abbrev S512x512 : Shape := ⟨2, ![512, 512]⟩
abbrev S2048x512 : Shape := ⟨2, ![2048, 512]⟩
abbrev S512x1024 : Shape := ⟨2, ![512, 1024]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S512x2048, .f32⟩
  | .hbm, ⟨1, _⟩ => ⟨S512x512, .f32⟩
  | .hbm, ⟨2, _⟩ => ⟨S512x2048, .bf16⟩
  | .hbm, ⟨3, _⟩ => ⟨S2048x512, .bf16⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S1024x512, .bf16⟩
  | .local _ .vmem, ⟨4, _⟩ => ⟨S1024x512, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference29Ideal.lean ====
abbrev S512x2048 : Shape := ⟨2, ![512, 2048]⟩
abbrev S512x512 : Shape := ⟨2, ![512, 512]⟩
abbrev S_ : Shape := ⟨0, ![]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x512, .f32⟩
  | .hbm, ⟨2, _⟩ => ⟨S_, .f32⟩
  | .hbm, ⟨3, _⟩ => ⟨S2048x512, .f32⟩
  | .hbm, ⟨4, _⟩ => ⟨S512x512, .f32⟩
  | .hbm, ⟨5, _⟩ => ⟨S512x2048, .f32⟩
  | .hbm, ⟨6, _⟩ => ⟨S2048x512, .f32⟩
  | .hbm, ⟨7, _⟩ => ⟨S2048x512, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel30.lean ====
abbrev S512x512 : Shape := ⟨2, ![512, 512]⟩
abbrev S2048x512 : Shape := ⟨2, ![2048, 512]⟩
abbrev S512x2048 : Shape := ⟨2, ![512, 2048]⟩

abbrev nBuf : Space → Nat
  | .hbm => 7
  | .vmem => 8
  | .smem => 0
  | _ => 0

abbrev bufTy : (tb : Table) → Fin (tcTables nBuf tb) → BufTy
  | .hbm, ⟨0, _⟩ => ⟨S512x512, .f32⟩
  | .hbm, ⟨1, _⟩ => ⟨S2048x512, .f32⟩
  | .hbm, ⟨2, _⟩ => ⟨S512x512, .f32⟩
  | .hbm, ⟨3, _⟩ => ⟨S2048x512, .f32⟩
  | .hbm, ⟨4, _⟩ => ⟨S2048x512, .bf16⟩
  | .hbm, ⟨5, _⟩ => ⟨S2048x512, .bf16⟩
  | .hbm, ⟨6, _⟩ => ⟨S512x2048, .f32⟩
  | .local _ .vmem, ⟨0, _⟩ => ⟨S512x512, .f32⟩
  | .local _ .vmem, ⟨1, _⟩ => ⟨S512x512, .bf16⟩
  | .local _ .vmem, ⟨2, _⟩ => ⟨S512x512, .bf16⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference30Ideal.lean ====
abbrev S512x512 : Shape := ⟨2, ![512, 512]⟩
abbrev S2048x512 : Shape := ⟨2, ![2048, 512]⟩
abbrev S_ : Shape := ⟨0, ![]⟩
abbrev S512x2048 : Shape := ⟨2, ![512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S2048x512, .f32⟩
  | .hbm, ⟨2, _⟩ => ⟨S512x512, .f32⟩
  | .hbm, ⟨3, _⟩ => ⟨S2048x512, .f32⟩
  | .hbm, ⟨4, _⟩ => ⟨S_, .f32⟩
  | .hbm, ⟨5, _⟩ => ⟨S512x2048, .f32⟩
  | .hbm, ⟨6, _⟩ => ⟨S512x512, .f32⟩
  | .hbm, ⟨7, _⟩ => ⟨S512x512, .f32⟩
  | .hbm, ⟨8, _⟩ => ⟨S512x2048, .f32⟩
  | .hbm, ⟨9, _⟩ => ⟨S512x2048, .f32⟩
  | .hbm, ⟨10, _⟩ => ⟨S512x2048, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel31.lean ====
abbrev S4096x512 : Shape := ⟨2, ![4096, 512]⟩
abbrev S512x1536 : Shape := ⟨2, ![512, 1536]⟩
abbrev S1536x512 : Shape := ⟨2, ![1536, 512]⟩
abbrev S8x192x512 : Shape := ⟨3, ![8, 192, 512]⟩
abbrev S_ : Shape := ⟨0, ![]⟩
abbrev S8x256x512 : Shape := ⟨3, ![8, 256, 512]⟩
abbrev S2048x512 : Shape := ⟨2, ![2048, 512]⟩
abbrev S4096x2048 : Shape := ⟨2, ![4096, 2048]⟩
abbrev S1024x512 : Shape := ⟨2, ![1024, 512]⟩
abbrev S512x512 : Shape := ⟨2, ![512, 512]⟩

abbrev nBuf : Space → Nat
  | .hbm => 11
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1536, .f32⟩
  | .hbm, ⟨2, _⟩ => ⟨S4096x512, .bf16⟩
  | .hbm, ⟨3, _⟩ => ⟨S1536x512, .f32⟩
  | .hbm, ⟨4, _⟩ => ⟨S1536x512, .bf16⟩
  | .hbm, ⟨5, _⟩ => ⟨S8x192x512, .bf16⟩
  | .hbm, ⟨6, _⟩ => ⟨S_, .i32⟩
  | .hbm, ⟨7, _⟩ => ⟨S_, .bf16⟩
  | .hbm, ⟨8, _⟩ => ⟨S8x256x512, .bf16⟩
  | .hbm, ⟨9, _⟩ => ⟨S2048x512, .bf16⟩
  | .hbm, ⟨10, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference31Ideal.lean ====
abbrev S4096x512 : Shape := ⟨2, ![4096, 512]⟩
abbrev S512x1536 : Shape := ⟨2, ![512, 1536]⟩
abbrev S4096x1536 : Shape := ⟨2, ![4096, 1536]⟩
abbrev S4096x8x192 : Shape := ⟨3, ![4096, 8, 192]⟩
abbrev S_ : Shape := ⟨0, ![]⟩
abbrev S4096x8x256 : Shape := ⟨3, ![4096, 8, 256]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1536, .f32⟩
  | .hbm, ⟨2, _⟩ => ⟨S4096x1536, .f32⟩
  | .hbm, ⟨3, _⟩ => ⟨S4096x8x192, .f32⟩
  | .hbm, ⟨4, _⟩ => ⟨S_, .i32⟩
  | .hbm, ⟨5, _⟩ => ⟨S_, .f32⟩
  | .hbm, ⟨6, _⟩ => ⟨S4096x8x256, .f32⟩
  | .hbm, ⟨7, _⟩ => ⟨S4096x2048, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel32.lean ====
abbrev S4096x2048 : Shape := ⟨2, ![4096, 2048]⟩
abbrev S512x1536 : Shape := ⟨2, ![512, 1536]⟩
abbrev S1536x512 : Shape := ⟨2, ![1536, 512]⟩
abbrev S8x192x512 : Shape := ⟨3, ![8, 192, 512]⟩
abbrev S_ : Shape := ⟨0, ![]⟩
abbrev S8x256x512 : Shape := ⟨3, ![8, 256, 512]⟩
abbrev S2048x512 : Shape := ⟨2, ![2048, 512]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 10
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S512x1536, .f32⟩
  | .hbm, ⟨2, _⟩ => ⟨S1536x512, .f32⟩
  | .hbm, ⟨3, _⟩ => ⟨S1536x512, .bf16⟩
  | .hbm, ⟨4, _⟩ => ⟨S8x192x512, .bf16⟩
  | .hbm, ⟨5, _⟩ => ⟨S_, .i32⟩
  | .hbm, ⟨6, _⟩ => ⟨S_, .bf16⟩
  | .hbm, ⟨7, _⟩ => ⟨S8x256x512, .bf16⟩
  | .hbm, ⟨8, _⟩ => ⟨S2048x512, .bf16⟩
  | .hbm, ⟨9, _⟩ => ⟨S4096x512, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference32Ideal.lean ====
abbrev S4096x2048 : Shape := ⟨2, ![4096, 2048]⟩
abbrev S512x1536 : Shape := ⟨2, ![512, 1536]⟩
abbrev S4096x8x256 : Shape := ⟨3, ![4096, 8, 256]⟩
abbrev S4096x8x192 : Shape := ⟨3, ![4096, 8, 192]⟩
abbrev S4096x1536 : Shape := ⟨2, ![4096, 1536]⟩
abbrev S_ : Shape := ⟨0, ![]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S512x1536, .f32⟩
  | .hbm, ⟨2, _⟩ => ⟨S4096x8x256, .f32⟩
  | .hbm, ⟨3, _⟩ => ⟨S4096x8x192, .f32⟩
  | .hbm, ⟨4, _⟩ => ⟨S4096x1536, .f32⟩
  | .hbm, ⟨5, _⟩ => ⟨S_, .f32⟩
  | .hbm, ⟨6, _⟩ => ⟨S4096x512, .f32⟩
  | .hbm, ⟨7, _⟩ => ⟨S4096x1536, .f32⟩
  | .hbm, ⟨8, _⟩ => ⟨S4096x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel33.lean ====
abbrev S2x2048x4x128 : Shape := ⟨4, ![2, 2048, 4, 128]⟩
abbrev S2x256x4x128 : Shape := ⟨4, ![2, 256, 4, 128]⟩
abbrev S2x2048x512 : Shape := ⟨3, ![2, 2048, 512]⟩
abbrev S2x256x512 : Shape := ⟨3, ![2, 256, 512]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S1x512x128 : Shape := ⟨3, ![1, 512, 128]⟩
abbrev S1x256x128 : Shape := ⟨3, ![1, 256, 128]⟩
abbrev S1x1x512x1 : Shape := ⟨4, ![1, 1, 512, 1]⟩
abbrev S1x2048x128 : Shape := ⟨3, ![1, 2048, 128]⟩
abbrev S256x128 : Shape := ⟨2, ![256, 128]⟩
abbrev S512x128 : Shape := ⟨2, ![512, 128]⟩
abbrev S512x256 : Shape := ⟨2, ![512, 256]⟩
abbrev S512x1 : Shape := ⟨2, ![512, 1]⟩
abbrev S512 : Shape := ⟨1, ![512]⟩

abbrev nBuf : Space → Nat
  | .hbm => 44
  | .vmem => 20
  | .smem => 0
  | _ => 0

abbrev bufTy : (tb : Table) → Fin (tcTables nBuf tb) → BufTy
  | .hbm, ⟨0, _⟩ => ⟨S2x2048x4x128, .f32⟩
  | .hbm, ⟨1, _⟩ => ⟨S2x256x4x128, .f32⟩
  | .hbm, ⟨2, _⟩ => ⟨S2x256x4x128, .f32⟩
  | .hbm, ⟨3, _⟩ => ⟨S2x2048x512, .f32⟩
  | .hbm, ⟨4, _⟩ => ⟨S2x2048x4x128, .bf16⟩
  | .hbm, ⟨5, _⟩ => ⟨S2x2048x512, .bf16⟩
  | .hbm, ⟨6, _⟩ => ⟨S2x256x4x128, .bf16⟩
  | .hbm, ⟨7, _⟩ => ⟨S2x256x512, .bf16⟩
  | .hbm, ⟨8, _⟩ => ⟨S2x256x512, .f32⟩
  | .hbm, ⟨9, _⟩ => ⟨S2x4x2048x256, .f32⟩
  | .hbm, ⟨10, _⟩ => ⟨S_, .f32⟩
  | .hbm, ⟨11, _⟩ => ⟨S2x4x2048x256, .f32⟩
  | .hbm, ⟨12, _⟩ => ⟨S2x4x2048x256, .f32⟩
  | .hbm, ⟨13, _⟩ => ⟨S_, .f32⟩
  | .hbm, ⟨14, _⟩ => ⟨S2x4x2048, .f32⟩
  | .hbm, ⟨15, _⟩ => ⟨S_, .f32⟩
  | .hbm, ⟨16, _⟩ => ⟨S2x4x2048, .f32⟩
  | .hbm, ⟨17, _⟩ => ⟨S2x4x2048, .f32⟩
  | .hbm, ⟨18, _⟩ => ⟨S2x4x2048x1, .f32⟩
  | .hbm, ⟨19, _⟩ => ⟨S2x4x2048x256, .f32⟩
  | .hbm, ⟨20, _⟩ => ⟨S2x4x2048x256, .f32⟩
  | .hbm, ⟨21, _⟩ => ⟨S2x4x2048x256, .f32⟩
  | .hbm, ⟨22, _⟩ => ⟨S_, .f32⟩
  | .hbm, ⟨23, _⟩ => ⟨S2x4x2048, .f32⟩
  | .hbm, ⟨24, _⟩ => ⟨S2x4x2048x1, .f32⟩
  | .hbm, ⟨25, _⟩ => ⟨S2x4x2048x256, .f32⟩
  | .hbm, ⟨26, _⟩ => ⟨S2x4x2048x256, .f32⟩
  | .hbm, ⟨27, _⟩ => ⟨S2x4x128x2048, .f32⟩
  | .hbm, ⟨28, _⟩ => ⟨S2x2048x4x128, .f32⟩
  | .hbm, ⟨29, _⟩ => ⟨S2x2048x512, .f32⟩
  | .hbm, ⟨30, _⟩ => ⟨S_, .f32⟩
  | .hbm, ⟨31, _⟩ => ⟨S2x4x2048, .f32⟩
  | .hbm, ⟨32, _⟩ => ⟨S2x4x2048x1, .f32⟩
  | .hbm, ⟨33, _⟩ => ⟨S2x4x2048x256, .f32⟩
  | .hbm, ⟨34, _⟩ => ⟨S2x4x2048x256, .f32⟩
  | .hbm, ⟨35, _⟩ => ⟨S2x4x2048x256, .f32⟩
  | .hbm, ⟨36, _⟩ => ⟨S_, .f32⟩
  | .hbm, ⟨37, _⟩ => ⟨S2x4x2048, .f32⟩
  | .hbm, ⟨38, _⟩ => ⟨S2x4x2048x1, .f32⟩
  | .hbm, ⟨39, _⟩ => ⟨S2x4x2048x1, .f32⟩
  | .hbm, ⟨40, _⟩ => ⟨S2x4x2048x1, .f32⟩
  | .hbm, ⟨41, _⟩ => ⟨S2x2048x512, .f32⟩
  | .hbm, ⟨42, _⟩ => ⟨S2x256x512, .f32⟩
  | .hbm, ⟨43, _⟩ => ⟨S2x256x512, .f32⟩
  | .local _ .vmem, ⟨0, _⟩ => ⟨S1x512x128, .bf16⟩
  | .local _ .vmem, ⟨1, _⟩ => ⟨S1x512x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .f32⟩
  | .local _ .vmem, ⟨5, _⟩ => ⟨S1x256x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x1x512x1, .f32⟩
  | .local _ .vmem, ⟨11, _⟩ => ⟨S1x1x512x1, .f32⟩
  | .local _ .vmem, ⟨12, _⟩ => ⟨S1x2048x128, .f32⟩
  | .local _ .vmem, ⟨13, _⟩ => ⟨S1x2048x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | .local _ .vmem, ⟨18, _⟩ => ⟨S256x128, .f32⟩
  | .local _ .vmem, ⟨19, _⟩ => ⟨S256x128, .f32⟩
  | _, _ => ⟨S2x2048x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31_0 : Ref sig .tc := ⟨.hbm, 41, rfl⟩
abbrev main_v31_1 : Ref sig .tc := ⟨.hbm, 42, rfl⟩
abbrev main_v31_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨4, ![2, 4, 1, 4], ![false, false, false, false]⟩

def k0_mult1 (i : grid0.Coords) : BitVec 32 :=
  let arg3 : BitVec 32 := BitVec.ofNat 32 (i 3).val
  let c512_i32 : BitVec 32 := 512#32
  let v56 : BitVec 32 := Scalar.muli arg3 c512_i32
  v56
def k0_off1 (i : grid0.Coords) : Fin 3 → Nat :=
  let c0_42 : Index := 0#32
  let arg3 : BitVec 32 := BitVec.ofNat 32 (i 3).val
  let c512_i32 : BitVec 32 := 512#32
  let v56 : BitVec 32 := Scalar.muli arg3 c512_i32
  let v57 : BitVec 32 := v56
  let v58 : Index := Scalar.indexCast v57
  let c0_43 : Index := 0#32
  ![0, v58.toNat, 0]
def k0_cond3 (i : grid0.Coords) : BitVec 1 :=
  let arg3 : BitVec 32 := BitVec.ofNat 32 (i 3).val
  let c3_i32 : BitVec 32 := 3#32
  let v69 : BitVec 1 := Scalar.cmpi .eq arg3 c3_i32
  let v70 : BitVec 32 := Scalar.extui v69
  let c0_i32_50 : BitVec 32 := 0#32
  let v71 : BitVec 1 := Scalar.cmpi .ne v70 c0_i32_50
  v71

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli c1_i32 arg1
  let c0_i32 : BitVec 32 := 0#32
  let v1 : BitVec 32 := Scalar.addi v0 c0_i32
  let c0_i32_0 : BitVec 32 := 0#32
  ![arg0.toNat, arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi arg1 c0_i32
  let c0_i32_0 : BitVec 32 := 0#32
  ![arg0.toNat, arg3.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg3.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, false]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, true]

abbrev stage0_5 : Fin 2 → Memref sig .tc .vmem S1x1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false, false]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true, false]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true, false]
-- ==== Reference33Ideal.lean ====
abbrev S2x2048x4x128 : Shape := ⟨4, ![2, 2048, 4, 128]⟩
abbrev S2x256x4x128 : Shape := ⟨4, ![2, 256, 4, 128]⟩
abbrev S2x2048x512 : Shape := ⟨3, ![2, 2048, 512]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S2x4x128x256 : Shape := ⟨4, ![2, 4, 128, 256]⟩
abbrev S2x4x256x128 : Shape := ⟨4, ![2, 4, 256, 128]⟩
abbrev S2x4x2048x128 : Shape := ⟨4, ![2, 4, 2048, 128]⟩
abbrev S2x256x512 : Shape := ⟨3, ![2, 256, 512]⟩

abbrev nBuf : Space → Nat
  | .hbm => 77
  | .vmem => 0
  | .smem => 0
  | _ => 0

abbrev bufTy : (tb : Table) → Fin (tcTables nBuf tb) → BufTy
  | .hbm, ⟨0, _⟩ => ⟨S2x2048x4x128, .f32⟩
  | .hbm, ⟨1, _⟩ => ⟨S2x256x4x128, .f32⟩
  | .hbm, ⟨2, _⟩ => ⟨S2x256x4x128, .f32⟩
  | .hbm, ⟨3, _⟩ => ⟨S2x2048x512, .f32⟩
  | .hbm, ⟨4, _⟩ => ⟨S2x4x2048x256, .f32⟩
  | .hbm, ⟨5, _⟩ => ⟨S_, .f32⟩
  | .hbm, ⟨6, _⟩ => ⟨S2x4x2048x256, .f32⟩
  | .hbm, ⟨7, _⟩ => ⟨S2x4x2048x256, .f32⟩
  | .hbm, ⟨8, _⟩ => ⟨S_, .f32⟩
  | .hbm, ⟨9, _⟩ => ⟨S2x4x2048, .f32⟩
  | .hbm, ⟨10, _⟩ => ⟨S2x4x2048x1, .f32⟩
  | .hbm, ⟨11, _⟩ => ⟨S2x4x2048x256, .f32⟩
  | .hbm, ⟨12, _⟩ => ⟨S2x4x2048x256, .i1⟩
  | .hbm, ⟨13, _⟩ => ⟨S2x4x2048x256, .f32⟩
  | .hbm, ⟨14, _⟩ => ⟨S_, .f32⟩
  | .hbm, ⟨15, _⟩ => ⟨S2x4x2048, .f32⟩
  | .hbm, ⟨16, _⟩ => ⟨S_, .f32⟩
  | .hbm, ⟨17, _⟩ => ⟨S2x4x2048, .f32⟩
  | .hbm, ⟨18, _⟩ => ⟨S2x4x2048, .f32⟩
  | .hbm, ⟨19, _⟩ => ⟨S_, .f32⟩
  | .hbm, ⟨20, _⟩ => ⟨S2x4x2048, .f32⟩
  | .hbm, ⟨21, _⟩ => ⟨S2x4x2048, .i1⟩
  | .hbm, ⟨22, _⟩ => ⟨S_, .f32⟩
  | .hbm, ⟨23, _⟩ => ⟨S2x4x2048, .f32⟩
  | .hbm, ⟨24, _⟩ => ⟨S2x4x2048, .i1⟩
  | .hbm, ⟨25, _⟩ => ⟨S_, .f32⟩
  | .hbm, ⟨26, _⟩ => ⟨S2x4x2048, .f32⟩
  | .hbm, ⟨27, _⟩ => ⟨S_, .f32⟩
  | .hbm, ⟨28, _⟩ => ⟨S2x4x2048, .f32⟩
  | .hbm, ⟨29, _⟩ => ⟨S_, .f32⟩
  | .hbm, ⟨30, _⟩ => ⟨S2x4x2048, .f32⟩
  | .hbm, ⟨31, _⟩ => ⟨S2x4x2048, .f32⟩
  | .hbm, ⟨32, _⟩ => ⟨S2x4x2048, .f32⟩
  | .hbm, ⟨33, _⟩ => ⟨S2x4x2048x1, .f32⟩
  | .hbm, ⟨34, _⟩ => ⟨S2x4x2048x256, .f32⟩
  | .hbm, ⟨35, _⟩ => ⟨S2x4x2048x256, .f32⟩
  | .hbm, ⟨36, _⟩ => ⟨S2x4x2048x256, .f32⟩
  | .hbm, ⟨37, _⟩ => ⟨S_, .f32⟩
  | .hbm, ⟨38, _⟩ => ⟨S2x4x2048, .f32⟩
  | .hbm, ⟨39, _⟩ => ⟨S2x4x2048x1, .f32⟩
  | .hbm, ⟨40, _⟩ => ⟨S2x4x2048x256, .f32⟩
  | .hbm, ⟨41, _⟩ => ⟨S2x4x2048x256, .f32⟩
  | .hbm, ⟨42, _⟩ => ⟨S2x4x2048x1, .f32⟩
  | .hbm, ⟨43, _⟩ => ⟨S_, .f32⟩
  | .hbm, ⟨44, _⟩ => ⟨S2x4x2048x1, .f32⟩
  | .hbm, ⟨45, _⟩ => ⟨S2x4x2048x1, .f32⟩
  | .hbm, ⟨46, _⟩ => ⟨S2x4x128x2048, .f32⟩
  | .hbm, ⟨47, _⟩ => ⟨S2x2048x4x128, .f32⟩
  | .hbm, ⟨48, _⟩ => ⟨S2x2048x4x128, .f32⟩
  | .hbm, ⟨49, _⟩ => ⟨S2x4x128x2048, .f32⟩
  | .hbm, ⟨50, _⟩ => ⟨S2x4x2048x256, .f32⟩
  | .hbm, ⟨51, _⟩ => ⟨S2x4x128x256, .f32⟩
  | .hbm, ⟨52, _⟩ => ⟨S2x256x4x128, .f32⟩
  | .hbm, ⟨53, _⟩ => ⟨S2x4x2048x256, .f32⟩
  | .hbm, ⟨54, _⟩ => ⟨S2x4x2048x256, .f32⟩
  | .hbm, ⟨55, _⟩ => ⟨S2x4x2048x256, .f32⟩
  | .hbm, ⟨56, _⟩ => ⟨S_, .f32⟩
  | .hbm, ⟨57, _⟩ => ⟨S2x4x2048, .f32⟩
  | .hbm, ⟨58, _⟩ => ⟨S2x4x2048x1, .f32⟩
  | .hbm, ⟨59, _⟩ => ⟨S2x4x2048x1, .f32⟩
  | .hbm, ⟨60, _⟩ => ⟨S2x4x2048x256, .f32⟩
  | .hbm, ⟨61, _⟩ => ⟨S2x4x2048x256, .f32⟩
  | .hbm, ⟨62, _⟩ => ⟨S_, .f32⟩
  | .hbm, ⟨63, _⟩ => ⟨S2x4x2048, .f32⟩
  | .hbm, ⟨64, _⟩ => ⟨S2x4x2048x256, .f32⟩
  | .hbm, ⟨65, _⟩ => ⟨S2x4x2048x256, .f32⟩
  | .hbm, ⟨66, _⟩ => ⟨S2x4x2048x256, .f32⟩
  | .hbm, ⟨67, _⟩ => ⟨S_, .f32⟩
  | .hbm, ⟨68, _⟩ => ⟨S2x4x2048x256, .f32⟩
  | .hbm, ⟨69, _⟩ => ⟨S2x4x2048x256, .f32⟩
  | .hbm, ⟨70, _⟩ => ⟨S2x4x256x128, .f32⟩
  | .hbm, ⟨71, _⟩ => ⟨S2x256x4x128, .f32⟩
  | .hbm, ⟨72, _⟩ => ⟨S2x4x2048x128, .f32⟩
  | .hbm, ⟨73, _⟩ => ⟨S2x2048x4x128, .f32⟩
  | .hbm, ⟨74, _⟩ => ⟨S2x2048x512, .f32⟩
  | .hbm, ⟨75, _⟩ => ⟨S2x256x512, .f32⟩
  | .hbm, ⟨76, _⟩ => ⟨S2x256x512, .f32⟩
  | _, _ => ⟨S2x2048x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== Kernel34.lean ====
abbrev S4096x2048 : Shape := ⟨2, ![4096, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x1, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference34Ideal.lean ====
abbrev S4096x2048 : Shape := ⟨2, ![4096, 2048]⟩
abbrev S_ : Shape := ⟨0, ![]⟩
abbrev S4096 : Shape := ⟨1, ![4096]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S1x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel35.lean ====
abbrev S8x392x128 : Shape := ⟨3, ![8, 392, 128]⟩
abbrev S392x128 : Shape := ⟨2, ![392, 128]⟩
abbrev S1x392x128 : Shape := ⟨3, ![1, 392, 128]⟩

abbrev nBuf : Space → Nat
  | .hbm => 11
  | .vmem => 8
  | .smem => 0
  | _ => 0

abbrev bufTy : (tb : Table) → Fin (tcTables nBuf tb) → BufTy
  | .hbm, ⟨0, _⟩ => ⟨S8x392x128, .f32⟩
  | .hbm, ⟨1, _⟩ => ⟨S392x128, .f32⟩
  | .hbm, ⟨2, _⟩ => ⟨S392x128, .f32⟩
  | .hbm, ⟨3, _⟩ => ⟨S392x128, .f32⟩
  | .hbm, ⟨4, _⟩ => ⟨S1x392x128, .f32⟩
  | .hbm, ⟨5, _⟩ => ⟨S1x392x128, .f32⟩
  | .hbm, ⟨6, _⟩ => ⟨S1x392x128, .f32⟩
  | .hbm, ⟨7, _⟩ => ⟨S1x392x128, .f32⟩
  | .hbm, ⟨8, _⟩ => ⟨S1x392x128, .f32⟩
  | .hbm, ⟨9, _⟩ => ⟨S1x392x128, .f32⟩
  | .hbm, ⟨10, _⟩ => ⟨S1x392x128, .f32⟩
  | .local _ .vmem, ⟨0, _⟩ => ⟨S8x392x128, .f32⟩
  | .local _ .vmem, ⟨1, _⟩ => ⟨S1x392x128, .f32⟩
  | .local _ .vmem, ⟨2, _⟩ => ⟨S1x392x128, .f32⟩
  | .local _ .vmem, ⟨3, _⟩ => ⟨S1x392x128, .f32⟩
  | .local _ .vmem, ⟨4, _⟩ => ⟨S1x392x128, .f32⟩
  | .local _ .vmem, ⟨5, _⟩ => ⟨S1x392x128, .f32⟩
  | .local _ .vmem, ⟨6, _⟩ => ⟨S1x392x128, .f32⟩
  | .local _ .vmem, ⟨7, _⟩ => ⟨S1x392x128, .f32⟩
  | _, _ => ⟨S8x392x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x392x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x392x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x392x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x392x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x392x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x392x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x392x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x392x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference35Ideal.lean ====
abbrev S8x392x128 : Shape := ⟨3, ![8, 392, 128]⟩
abbrev S392x128 : Shape := ⟨2, ![392, 128]⟩
abbrev S_ : Shape := ⟨0, ![]⟩
abbrev S1x392x128 : Shape := ⟨3, ![1, 392, 128]⟩

abbrev nBuf : Space → Nat
  | .hbm => 43
  | .vmem => 0
  | .smem => 0
  | _ => 0

abbrev bufTy : (tb : Table) → Fin (tcTables nBuf tb) → BufTy
  | .hbm, ⟨0, _⟩ => ⟨S8x392x128, .f32⟩
  | .hbm, ⟨1, _⟩ => ⟨S392x128, .f32⟩
  | .hbm, ⟨2, _⟩ => ⟨S392x128, .f32⟩
  | .hbm, ⟨3, _⟩ => ⟨S392x128, .f32⟩
  | .hbm, ⟨4, _⟩ => ⟨S_, .f32⟩
  | .hbm, ⟨5, _⟩ => ⟨S392x128, .f32⟩
  | .hbm, ⟨6, _⟩ => ⟨S_, .f32⟩
  | .hbm, ⟨7, _⟩ => ⟨S392x128, .f32⟩
  | .hbm, ⟨8, _⟩ => ⟨S392x128, .f32⟩
  | .hbm, ⟨9, _⟩ => ⟨S_, .f32⟩
  | .hbm, ⟨10, _⟩ => ⟨S392x128, .f32⟩
  | .hbm, ⟨11, _⟩ => ⟨S392x128, .f32⟩
  | .hbm, ⟨12, _⟩ => ⟨S392x128, .f32⟩
  | .hbm, ⟨13, _⟩ => ⟨S_, .f32⟩
  | .hbm, ⟨14, _⟩ => ⟨S392x128, .f32⟩
  | .hbm, ⟨15, _⟩ => ⟨S392x128, .f32⟩
  | .hbm, ⟨16, _⟩ => ⟨S392x128, .f32⟩
  | .hbm, ⟨17, _⟩ => ⟨S_, .f32⟩
  | .hbm, ⟨18, _⟩ => ⟨S392x128, .f32⟩
  | .hbm, ⟨19, _⟩ => ⟨S392x128, .f32⟩
  | .hbm, ⟨20, _⟩ => ⟨S392x128, .f32⟩
  | .hbm, ⟨21, _⟩ => ⟨S_, .f32⟩
  | .hbm, ⟨22, _⟩ => ⟨S392x128, .f32⟩
  | .hbm, ⟨23, _⟩ => ⟨S392x128, .f32⟩
  | .hbm, ⟨24, _⟩ => ⟨S_, .f32⟩
  | .hbm, ⟨25, _⟩ => ⟨S392x128, .f32⟩
  | .hbm, ⟨26, _⟩ => ⟨S392x128, .f32⟩
  | .hbm, ⟨27, _⟩ => ⟨S392x128, .f32⟩
  | .hbm, ⟨28, _⟩ => ⟨S_, .f32⟩
  | .hbm, ⟨29, _⟩ => ⟨S392x128, .f32⟩
  | .hbm, ⟨30, _⟩ => ⟨S392x128, .f32⟩
  | .hbm, ⟨31, _⟩ => ⟨S392x128, .f32⟩
  | .hbm, ⟨32, _⟩ => ⟨S_, .f32⟩
  | .hbm, ⟨33, _⟩ => ⟨S392x128, .f32⟩
  | .hbm, ⟨34, _⟩ => ⟨S392x128, .f32⟩
  | .hbm, ⟨35, _⟩ => ⟨S392x128, .f32⟩
  | .hbm, ⟨36, _⟩ => ⟨S_, .f32⟩
  | .hbm, ⟨37, _⟩ => ⟨S392x128, .f32⟩
  | .hbm, ⟨38, _⟩ => ⟨S392x128, .f32⟩
  | .hbm, ⟨39, _⟩ => ⟨S1x392x128, .f32⟩
  | .hbm, ⟨40, _⟩ => ⟨S1x392x128, .f32⟩
  | .hbm, ⟨41, _⟩ => ⟨S1x392x128, .f32⟩
  | .hbm, ⟨42, _⟩ => ⟨S1x392x128, .f32⟩
  | _, _ => ⟨S8x392x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel36.lean ====
abbrev S4096x1024 : Shape := ⟨2, ![4096, 1024]⟩
abbrev S4096x3840 : Shape := ⟨2, ![4096, 3840]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x3840, .f32⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference36Ideal.lean ====
abbrev S4096x1024 : Shape := ⟨2, ![4096, 1024]⟩
abbrev S4096x3840 : Shape := ⟨2, ![4096, 3840]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3840, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== Kernel37.lean ====
abbrev S2x2048x3840 : Shape := ⟨3, ![2, 2048, 3840]⟩
abbrev S4x1536 : Shape := ⟨2, ![4, 1536]⟩
abbrev S1536 : Shape := ⟨1, ![1536]⟩
abbrev S1x1536 : Shape := ⟨2, ![1, 1536]⟩
abbrev S_ : Shape := ⟨0, ![]⟩
abbrev S3x1536 : Shape := ⟨2, ![3, 1536]⟩
abbrev S8x1536 : Shape := ⟨2, ![8, 1536]⟩
abbrev S2x2048x1536 : Shape := ⟨3, ![2, 2048, 1536]⟩
abbrev S1x2048x512 : Shape := ⟨3, ![1, 2048, 512]⟩
abbrev S8x512 : Shape := ⟨2, ![8, 512]⟩
abbrev S2048x512 : Shape := ⟨2, ![2048, 512]⟩
abbrev S1x512 : Shape := ⟨2, ![1, 512]⟩

abbrev nBuf : Space → Nat
  | .hbm => 8
  | .vmem => 6
  | .smem => 0
  | _ => 0

abbrev bufTy : (tb : Table) → Fin (tcTables nBuf tb) → BufTy
  | .hbm, ⟨0, _⟩ => ⟨S2x2048x3840, .f32⟩
  | .hbm, ⟨1, _⟩ => ⟨S4x1536, .f32⟩
  | .hbm, ⟨2, _⟩ => ⟨S1536, .f32⟩
  | .hbm, ⟨3, _⟩ => ⟨S1x1536, .f32⟩
  | .hbm, ⟨4, _⟩ => ⟨S_, .f32⟩
  | .hbm, ⟨5, _⟩ => ⟨S3x1536, .f32⟩
  | .hbm, ⟨6, _⟩ => ⟨S8x1536, .f32⟩
  | .hbm, ⟨7, _⟩ => ⟨S2x2048x1536, .f32⟩
  | .local _ .vmem, ⟨0, _⟩ => ⟨S1x2048x512, .f32⟩
  | .local _ .vmem, ⟨1, _⟩ => ⟨S1x2048x512, .f32⟩
  | .local _ .vmem, ⟨2, _⟩ => ⟨S8x512, .f32⟩
  | .local _ .vmem, ⟨3, _⟩ => ⟨S8x512, .f32⟩
  | .local _ .vmem, ⟨4, _⟩ => ⟨S1x2048x512, .f32⟩
  | .local _ .vmem, ⟨5, _⟩ => ⟨S1x2048x512, .f32⟩
  | _, _ => ⟨S2x2048x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![arg0.toNat, c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference37Ideal.lean ====
abbrev S2x2048x3840 : Shape := ⟨3, ![2, 2048, 3840]⟩
abbrev S4x1536 : Shape := ⟨2, ![4, 1536]⟩
abbrev S1536 : Shape := ⟨1, ![1536]⟩
abbrev S2x2048x1536 : Shape := ⟨3, ![2, 2048, 1536]⟩
abbrev S_ : Shape := ⟨0, ![]⟩
abbrev S2x3x1536 : Shape := ⟨3, ![2, 3, 1536]⟩
abbrev S2x2051x1536 : Shape := ⟨3, ![2, 2051, 1536]⟩
abbrev S1x1536 : Shape := ⟨2, ![1, 1536]⟩
abbrev S1x1x1536 : Shape := ⟨3, ![1, 1, 1536]⟩

abbrev nBuf : Space → Nat
  | .hbm => 49
  | .vmem => 0
  | .smem => 0
  | _ => 0

abbrev bufTy : (tb : Table) → Fin (tcTables nBuf tb) → BufTy
  | .hbm, ⟨0, _⟩ => ⟨S2x2048x3840, .f32⟩
  | .hbm, ⟨1, _⟩ => ⟨S4x1536, .f32⟩
  | .hbm, ⟨2, _⟩ => ⟨S1536, .f32⟩
  | .hbm, ⟨3, _⟩ => ⟨S2x2048x1536, .f32⟩
  | .hbm, ⟨4, _⟩ => ⟨S_, .f32⟩
  | .hbm, ⟨5, _⟩ => ⟨S2x3x1536, .f32⟩
  | .hbm, ⟨6, _⟩ => ⟨S2x2051x1536, .f32⟩
  | .hbm, ⟨7, _⟩ => ⟨S2x2048x1536, .f32⟩
  | .hbm, ⟨8, _⟩ => ⟨S1x1536, .f32⟩
  | .hbm, ⟨9, _⟩ => ⟨S1536, .f32⟩
  | .hbm, ⟨10, _⟩ => ⟨S1x1x1536, .f32⟩
  | .hbm, ⟨11, _⟩ => ⟨S2x2048x1536, .f32⟩
  | .hbm, ⟨12, _⟩ => ⟨S2x2048x1536, .f32⟩
  | .hbm, ⟨13, _⟩ => ⟨S_, .f32⟩
  | .hbm, ⟨14, _⟩ => ⟨S2x2048x1536, .f32⟩
  | .hbm, ⟨15, _⟩ => ⟨S2x2048x1536, .f32⟩
  | .hbm, ⟨16, _⟩ => ⟨S2x2048x1536, .f32⟩
  | .hbm, ⟨17, _⟩ => ⟨S1x1536, .f32⟩
  | .hbm, ⟨18, _⟩ => ⟨S1536, .f32⟩
  | .hbm, ⟨19, _⟩ => ⟨S1x1x1536, .f32⟩
  | .hbm, ⟨20, _⟩ => ⟨S2x2048x1536, .f32⟩
  | .hbm, ⟨21, _⟩ => ⟨S2x2048x1536, .f32⟩
  | .hbm, ⟨22, _⟩ => ⟨S2x2048x1536, .f32⟩
  | .hbm, ⟨23, _⟩ => ⟨S2x2048x1536, .f32⟩
  | .hbm, ⟨24, _⟩ => ⟨S1x1536, .f32⟩
  | .hbm, ⟨25, _⟩ => ⟨S1536, .f32⟩
  | .hbm, ⟨26, _⟩ => ⟨S1x1x1536, .f32⟩
  | .hbm, ⟨27, _⟩ => ⟨S2x2048x1536, .f32⟩
  | .hbm, ⟨28, _⟩ => ⟨S2x2048x1536, .f32⟩
  | .hbm, ⟨29, _⟩ => ⟨S2x2048x1536, .f32⟩
  | .hbm, ⟨30, _⟩ => ⟨S2x2048x1536, .f32⟩
  | .hbm, ⟨31, _⟩ => ⟨S1x1536, .f32⟩
  | .hbm, ⟨32, _⟩ => ⟨S1536, .f32⟩
  | .hbm, ⟨33, _⟩ => ⟨S1x1x1536, .f32⟩
  | .hbm, ⟨34, _⟩ => ⟨S2x2048x1536, .f32⟩
  | .hbm, ⟨35, _⟩ => ⟨S2x2048x1536, .f32⟩
  | .hbm, ⟨36, _⟩ => ⟨S2x2048x1536, .f32⟩
  | .hbm, ⟨37, _⟩ => ⟨S1x1x1536, .f32⟩
  | .hbm, ⟨38, _⟩ => ⟨S2x2048x1536, .f32⟩
  | .hbm, ⟨39, _⟩ => ⟨S2x2048x1536, .f32⟩
  | .hbm, ⟨40, _⟩ => ⟨S2x2048x1536, .f32⟩
  | .hbm, ⟨41, _⟩ => ⟨S2x2048x1536, .f32⟩
  | .hbm, ⟨42, _⟩ => ⟨S_, .f32⟩
  | .hbm, ⟨43, _⟩ => ⟨S2x2048x1536, .f32⟩
  | .hbm, ⟨44, _⟩ => ⟨S2x2048x1536, .f32⟩
  | .hbm, ⟨45, _⟩ => ⟨S_, .f32⟩
  | .hbm, ⟨46, _⟩ => ⟨S2x2048x1536, .f32⟩
  | .hbm, ⟨47, _⟩ => ⟨S2x2048x1536, .f32⟩
  | .hbm, ⟨48, _⟩ => ⟨S2x2048x1536, .f32⟩
  | _, _ => ⟨S2x2048x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel38.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference38Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Block.lean ====
/- What one visit of the backward attention kernel computes from its blocks: at a pair of a query row and a key row, the
   probability and the gradient of the score; from those, what is added to the rows of the three gradients. -/
module

public import proofs.«01_k».proof.Proof.Gen.KernelIdeal.Skeleton
public import Idealize.ShloMosaic.Lib.Pointwise
public import Idealize.ShloMosaic.Lib.WordCmp

@[expose] public section
set_option maxRecDepth 16384
noncomputable section
namespace Cert.Attn
open Idealize.ShloMosaic Idealize.ShloMosaic.WordCmp Cert.KernelIdeal Cert.KernelIdeal.Gen

/-- The factor of the scores, as the programs hold it. -/
abbrev scale : EReal := Ideal.ofBits FTy.f32 0x3D93CD3A#32

/-- The probability of key row `c` in query row `r`: the exponential of the scaled score minus the row's log-sum. -/
def prob (q k : Vec Ideal S1x512x256 .bf16) (lse : Vec Ideal S1x1x512x1 .f32) (r c : Fin 512) : EReal :=
  Ideal.exp ((∑ d : Fin 256, q (ix3 0 r d) * k (ix3 0 c d)) * scale - lse (ix4 0 0 r 0))

/-- The gradient of the score of key row `c` in query row `r`. -/
def dscore (q k : Vec Ideal S1x512x256 .bf16) (v g o : Vec Ideal S1x512x128 .f32) (lse : Vec Ideal S1x1x512x1 .f32)
    (r c : Fin 512) : EReal :=
  prob q k lse r c * ((∑ d : Fin 128, g (ix3 0 r d) * v (ix3 0 c d)) - ∑ d : Fin 128, g (ix3 0 r d) * o (ix3 0 r d)) * scale

variable (q k : Vec Ideal S1x512x256 .bf16) (v g o : Vec Ideal S1x512x128 .f32) (lse : Vec Ideal S1x1x512x1 .f32)

/-! ## The blocks below the diagonal -/

theorem pay4_apply (acc : Vec Ideal S512x128 .f32) (r : Fin 512) (c : Fin 128) :
    k0_pay4 (F := Ideal) acc (k0_pay12 q k lse) g (ix2 r c)
      = acc (ix2 r c) + ∑ x : Fin 512, prob q k lse x r * g (ix3 0 x c) := by
  pointwise [k0_pay4, k0_pay12, k0_pay10, prob]

theorem pay5_apply (acc : Vec Ideal S512x256 .f32) (r : Fin 512) (c : Fin 256) :
    k0_pay5 (F := Ideal) (k0_pay11 q k lse g v o) acc q (ix2 r c)
      = acc (ix2 r c) + ∑ x : Fin 512, dscore q k v g o lse x r * q (ix3 0 x c) := by
  pointwise [k0_pay5, k0_pay11, k0_pay10, dscore, prob]

theorem pay6_apply (acc : Vec Ideal S1x512x256 .f32) (r : Fin 512) (c : Fin 256) :
    k0_pay6 (F := Ideal) (k0_pay11 q k lse g v o) acc k (ix3 0 r c)
      = acc (ix3 0 r c) + ∑ x : Fin 512, dscore q k v g o lse r x * k (ix3 0 x c) := by
  pointwise [k0_pay6, k0_pay11, k0_pay10, dscore, prob]

/-! ## The blocks on the diagonal -/

/-- Two positions within 512 of a common multiple of 512 compare as they do without it. -/
theorem mask_eq (n : Nat) (hn : n < 4) (r c : Fin 512) :
    IntOp.cmpi CmpIPredicate.sge (IntOp.addi (Scalar.muli (BitVec.ofNat 32 n) 512#32) (BitVec.ofNat 32 r))
        (IntOp.addi (Scalar.muli (BitVec.ofNat 32 n) 512#32) (BitVec.ofNat 32 c))
      = if c ≤ r then 1#1 else 0#1 := by
  have hr := r.isLt
  have hc := c.isLt
  unfold Scalar.muli
  rw [muli_ofNat, addi_ofNat, addi_ofNat, cmpi_sge_ofNat (by omega) (by omega), ofBool_decide_eq_ite]
  simp only [Nat.add_le_add_iff_left, Fin.val_fin_le]

theorem pay13_apply (a b : BitVec 32) (n : Nat) (hn : n < 4) (ha : a = BitVec.ofNat 32 n) (hb : b = BitVec.ofNat 32 n)
    (r c : Fin 512) :
    k0_pay13 (F := Ideal) a b q k lse (ix2 r c) = if c ≤ r then prob q k lse r c else 0 := by
  subst ha hb
  pointwise [k0_pay13, prob, mask_eq n hn]
  by_cases h : c ≤ r <;> simp [h, Scalar.select]

section
variable (a b : BitVec 32) (n : Nat) (hn : n < 4) (ha : a = BitVec.ofNat 32 n) (hb : b = BitVec.ofNat 32 n)
include hn ha hb

theorem pay17_apply (r c : Fin 512) :
    k0_pay17 (F := Ideal) (k0_pay13 a b q k lse) (k0_pay14 g) (k0_pay15 g v) (k0_pay16 o) (ix2 r c)
      = if c ≤ r then dscore q k v g o lse r c else 0 := by
  pointwise [k0_pay17, k0_pay14, k0_pay15, k0_pay16, pay13_apply q k lse a b n hn ha hb, dscore]
  by_cases h : c ≤ r <;> simp [h]

theorem pay18_apply (acc : Vec Ideal S512x128 .f32) (r : Fin 512) (c : Fin 128) :
    k0_pay18 (F := Ideal) (k0_pay13 a b q k lse) acc g (ix2 r c)
      = acc (ix2 r c) + ∑ x : Fin 512, (if r ≤ x then prob q k lse x r else 0) * g (ix3 0 x c) := by
  pointwise [k0_pay18, pay13_apply q k lse a b n hn ha hb]

theorem pay19_apply (acc : Vec Ideal S512x256 .f32) (r : Fin 512) (c : Fin 256) :
    k0_pay19 (F := Ideal) (k0_pay13 a b q k lse) (k0_pay14 g) (k0_pay15 g v) (k0_pay16 o) acc q (ix2 r c)
      = acc (ix2 r c) + ∑ x : Fin 512, (if r ≤ x then dscore q k v g o lse x r else 0) * q (ix3 0 x c) := by
  pointwise [k0_pay19, pay17_apply q k v g o lse a b n hn ha hb]

theorem pay7_apply (acc : Vec Ideal S1x512x256 .f32) (r : Fin 512) (c : Fin 256) :
    k0_pay7 (F := Ideal) (k0_pay17 (k0_pay13 a b q k lse) (k0_pay14 g) (k0_pay15 g v) (k0_pay16 o)) (k0_pay20 acc) (k0_pay21 k)
        (ix3 0 r c)
      = acc (ix3 0 r c) + ∑ x : Fin 512, (if x ≤ r then dscore q k v g o lse r x else 0) * k (ix3 0 x c) := by
  pointwise [k0_pay7, k0_pay20, k0_pay21, pay17_apply q k v g o lse a b n hn ha hb]

end

theorem pay1_apply (i : S1x2048x256.Idx) : k0_pay1 (F := Ideal) i = 0 := by
  idx_vars i
  pointwise [k0_pay1]

theorem pay2_apply (i : S512x256.Idx) : k0_pay2 (F := Ideal) i = 0 := by
  idx_vars i
  pointwise [k0_pay2]

theorem pay3_apply (i : S512x128.Idx) : k0_pay3 (F := Ideal) i = 0 := by
  idx_vars i
  pointwise [k0_pay3]

theorem pay8_apply (acc : Vec Ideal S512x256 .f32) (r : Fin 512) (c : Fin 256) :
    k0_pay8 (F := Ideal) acc (ix3 0 r c) = acc (ix2 r c) := by
  pointwise [k0_pay8]

theorem pay9_apply (acc : Vec Ideal S512x128 .f32) (r : Fin 512) (c : Fin 128) :
    k0_pay9 (F := Ideal) acc (ix3 0 r c) = acc (ix2 r c) := by
  pointwise [k0_pay9]

end Cert.Attn
end
-- ==== Proof.Step.lean ====
/- What each grid point adds to the rows of the three gradients: the tile of kept scores of its pair of a query block and a
   key block, empty above the diagonal, whatever branch of the body the point takes. -/
module

public import proofs.«01_k».proof.Proof.Block
public import proofs.«01_k».proof.Proof.Gen.KernelIdeal.Frame
public import Idealize.ShloMosaic.Lib.Pipeline.ValueKit
public import Idealize.ShloMosaic.Lib.Pipeline.ReadBack
public import Idealize.ShloMosaic.Lib.WritesUnit

@[expose] public section
set_option maxRecDepth 16384
noncomputable section
namespace Cert.Attn
open Idealize.ShloMosaic Idealize.SL.Sem Cert.KernelIdeal Cert.KernelIdeal.Gen

variable (m : (ℓ : Loc nD τ sig) → Buf (Elt Ideal) ℓ) (c : Dev nD)

/-- Whether key row `y` of the point's key block is at or before query row `x` of its query block. -/
abbrev seen (t : Fin cfg0.N) (x y : Fin 512) : Prop := (t.val / 4 % 4) * 512 + y.val ≤ (t.val % 4) * 512 + x.val

/-- The probabilities of the point's tile, 0 where the key is after the query. -/
def tileP (t : Fin cfg0.N) (x y : Fin 512) : EReal :=
  if seen t x y then prob (iblk m c 0 t) (iblk m c 1 t) (iblk m c 5 t) x y else 0

/-- The gradients of the scores of the point's tile, 0 where the key is after the query. -/
def tileD (t : Fin cfg0.N) (x y : Fin 512) : EReal :=
  if seen t x y then
    dscore (iblk m c 0 t) (iblk m c 1 t) (iblk m c 2 t) (iblk m c 3 t) (iblk m c 4 t) (iblk m c 5 t) x y
  else 0

/-- What the point adds to the keys' gradient. -/
def addK (t : Fin cfg0.N) (y : Fin 512) (d : Fin 256) : EReal :=
  ∑ x : Fin 512, tileD m c t x y * (iblk m c 0 t : Vec Ideal S1x512x256 .bf16) (ix3 0 x d)

/-- What the point adds to the values' gradient. -/
def addV (t : Fin cfg0.N) (y : Fin 512) (d : Fin 128) : EReal :=
  ∑ x : Fin 512, tileP m c t x y * (iblk m c 3 t : Vec Ideal S1x512x128 .f32) (ix3 0 x d)

/-- What the point adds to the row `x` of its query block in the queries' gradient. -/
def addQ (t : Fin cfg0.N) (x : Fin 512) (d : Fin 256) : EReal :=
  ∑ y : Fin 512, tileD m c t x y * (iblk m c 1 t : Vec Ideal S1x512x256 .bf16) (ix3 0 y d)

variable (t : Fin cfg0.N)

/-! ## The tile in each of its three positions -/

theorem seen_below (h2 : t.val / 4 % 4 + 1 ≤ t.val % 4) (x y : Fin 512) : seen t x y := by
  have := y.isLt
  unfold seen
  omega

theorem not_seen_above (h2 : ¬t.val / 4 % 4 + 1 ≤ t.val % 4) (h3 : ¬t.val / 4 % 4 = t.val % 4) (x y : Fin 512) :
    ¬seen t x y := by
  have := x.isLt
  unfold seen
  omega

theorem seen_on (h3 : t.val / 4 % 4 = t.val % 4) (x y : Fin 512) : seen t x y ↔ y ≤ x := by
  unfold seen
  rw [h3, Nat.add_le_add_iff_left]
  rfl

theorem addK_above (h2 : ¬t.val / 4 % 4 + 1 ≤ t.val % 4) (h3 : ¬t.val / 4 % 4 = t.val % 4) (y d) : addK m c t y d = 0 := by
  simp [addK, tileD, not_seen_above t h2 h3]

theorem addV_above (h2 : ¬t.val / 4 % 4 + 1 ≤ t.val % 4) (h3 : ¬t.val / 4 % 4 = t.val % 4) (y d) : addV m c t y d = 0 := by
  simp [addV, tileP, not_seen_above t h2 h3]

theorem addQ_above (h2 : ¬t.val / 4 % 4 + 1 ≤ t.val % 4) (h3 : ¬t.val / 4 % 4 = t.val % 4) (x d) : addQ m c t x d = 0 := by
  simp [addQ, tileD, not_seen_above t h2 h3]

/-! ## What is added, on and below the diagonal -/

theorem addK_on (h3 : t.val / 4 % 4 = t.val % 4) (y : Fin 512) (d : Fin 256) :
    addK m c t y d = ∑ x : Fin 512, (if y ≤ x then
      dscore (iblk m c 0 t) (iblk m c 1 t) (iblk m c 2 t) (iblk m c 3 t) (iblk m c 4 t) (iblk m c 5 t) x y else 0)
        * (iblk m c 0 t : Vec Ideal S1x512x256 .bf16) (ix3 0 x d) := by
  simp only [addK, tileD, seen_on t h3]

theorem addK_below (h2 : t.val / 4 % 4 + 1 ≤ t.val % 4) (y : Fin 512) (d : Fin 256) :
    addK m c t y d = ∑ x : Fin 512,
      dscore (iblk m c 0 t) (iblk m c 1 t) (iblk m c 2 t) (iblk m c 3 t) (iblk m c 4 t) (iblk m c 5 t) x y
        * (iblk m c 0 t : Vec Ideal S1x512x256 .bf16) (ix3 0 x d) := by
  simp only [addK, tileD, seen_below t h2, if_true]

theorem addV_on (h3 : t.val / 4 % 4 = t.val % 4) (y : Fin 512) (d : Fin 128) :
    addV m c t y d = ∑ x : Fin 512, (if y ≤ x then prob (iblk m c 0 t) (iblk m c 1 t) (iblk m c 5 t) x y else 0)
        * (iblk m c 3 t : Vec Ideal S1x512x128 .f32) (ix3 0 x d) := by
  simp only [addV, tileP, seen_on t h3]

theorem addV_below (h2 : t.val / 4 % 4 + 1 ≤ t.val % 4) (y : Fin 512) (d : Fin 128) :
    addV m c t y d = ∑ x : Fin 512, prob (iblk m c 0 t) (iblk m c 1 t) (iblk m c 5 t) x y
        * (iblk m c 3 t : Vec Ideal S1x512x128 .f32) (ix3 0 x d) := by
  simp only [addV, tileP, seen_below t h2, if_true]

theorem addQ_on (h3 : t.val / 4 % 4 = t.val % 4) (x : Fin 512) (d : Fin 256) :
    addQ m c t x d = ∑ y : Fin 512, (if y ≤ x then
      dscore (iblk m c 0 t) (iblk m c 1 t) (iblk m c 2 t) (iblk m c 3 t) (iblk m c 4 t) (iblk m c 5 t) x y else 0)
        * (iblk m c 1 t : Vec Ideal S1x512x256 .bf16) (ix3 0 y d) := by
  simp only [addQ, tileD, seen_on t h3]

theorem addQ_below (h2 : t.val / 4 % 4 + 1 ≤ t.val % 4) (x : Fin 512) (d : Fin 256) :
    addQ m c t x d = ∑ y : Fin 512,
      dscore (iblk m c 0 t) (iblk m c 1 t) (iblk m c 2 t) (iblk m c 3 t) (iblk m c 4 t) (iblk m c 5 t) x y
        * (iblk m c 1 t : Vec Ideal S1x512x256 .bf16) (ix3 0 y d) := by
  simp only [addQ, tileD, seen_below t h2, if_true]

theorem coords2 : (grid0.coords t 2).val = t.val / 4 % 4 := Pipeline.Grid.coords_val t 2 (by decide) rfl
theorem coords3 : (grid0.coords t 3).val = t.val % 4 := by
  have e : (grid0.coords t 3).val = t.val / 1 % 4 := Pipeline.Grid.coords_val t 3 (by decide) rfl
  rw [e, Nat.div_one]

theorem word2 (h3 : t.val / 4 % 4 = t.val % 4) : BitVec.ofNat 32 (grid0.coords t 2).val = BitVec.ofNat 32 (t.val % 4) := by
  rw [coords2 t, h3]

theorem word3 : BitVec.ofNat 32 (grid0.coords t 3).val = BitVec.ofNat 32 (t.val % 4) := by
  rw [coords3 t]

theorem lt4 : t.val % 4 < 4 := Nat.mod_lt _ (by omega)

/-! ## The keys' and the values' gradients: reset at the first query block, added to at every one -/

theorem k_reset (h : t.val % 4 = 0) (y : Fin 512) (d : Fin 256) :
    (outsAt0 m c t.val t.isLt).2.2.2.1 (ix2 y d) = 0 + addK m c t y d := by
  by_cases h0 : t.val % 16 = 0
  · have h3 : t.val / 4 % 4 = t.val % 4 := by omega
    rw [outsAt0_A m c t h0 h (by omega) h3 (by omega)]
    frame_out
    rw [pay19_apply _ _ _ _ _ _ _ _ (t.val % 4) (lt4 t) (word2 t h3) (word3 t)]
    rw [pay2_apply, addK_on m c t h3]
  · rw [outsAt0_D m c t h0 h (by omega) (by omega) (by omega), addK_above m c t (by omega) (by omega)]
    frame_out
    simp only [pay2_apply, add_zero]

theorem k_step (h1 : ¬t.val % 4 = 0) (y : Fin 512) (d : Fin 256) :
    (outsAt0 m c t.val t.isLt).2.2.2.1 (ix2 y d)
      = (outsAt0 m c (t.val - 1) (Nat.lt_of_le_of_lt (Nat.sub_le _ _) t.isLt)).2.2.2.1 (ix2 y d) + addK m c t y d := by
  have h0 : ¬t.val % 16 = 0 := by omega
  by_cases h3 : t.val / 4 % 4 = t.val % 4
  · have e := addK_on m c t h3 y d
    by_cases h4 : t.val % 4 = 3
    · rw [outsAt0_G m c t h0 h1 (by omega) h3 h4]
      frame_out
      rw [pay19_apply _ _ _ _ _ _ _ _ (t.val % 4) (lt4 t) (word2 t h3) (word3 t)]
      rw [read_unread_whole, e]
    · rw [outsAt0_E m c t h0 h1 (by omega) h3 h4]
      frame_out
      rw [pay19_apply _ _ _ _ _ _ _ _ (t.val % 4) (lt4 t) (word2 t h3) (word3 t)]
      rw [read_unread_whole, e]
  · by_cases h2 : t.val / 4 % 4 + 1 ≤ t.val % 4
    · have e := addK_below m c t h2 y d
      by_cases h4 : t.val % 4 = 3
      · rw [outsAt0_C m c t h0 h1 h2 h3 h4]
        frame_out
        rw [pay5_apply, read_unread_whole, e]
      · rw [outsAt0_B m c t h0 h1 h2 h3 h4]
        frame_out
        rw [pay5_apply, read_unread_whole, e]
    · rw [outsAt0_F m c t h0 h1 h2 h3 (by omega), addK_above m c t h2 h3, add_zero]
      rfl

theorem v_reset (h : t.val % 4 = 0) (y : Fin 512) (d : Fin 128) :
    (outsAt0 m c t.val t.isLt).2.2.2.2 (ix2 y d) = 0 + addV m c t y d := by
  by_cases h0 : t.val % 16 = 0
  · have h3 : t.val / 4 % 4 = t.val % 4 := by omega
    rw [outsAt0_A m c t h0 h (by omega) h3 (by omega)]
    frame_out
    rw [pay18_apply _ _ _ _ _ _ (t.val % 4) (lt4 t) (word2 t h3) (word3 t)]
    rw [pay3_apply, addV_on m c t h3]
  · rw [outsAt0_D m c t h0 h (by omega) (by omega) (by omega), addV_above m c t (by omega) (by omega)]
    frame_out
    simp only [pay3_apply, add_zero]

theorem v_step (h1 : ¬t.val % 4 = 0) (y : Fin 512) (d : Fin 128) :
    (outsAt0 m c t.val t.isLt).2.2.2.2 (ix2 y d)
      = (outsAt0 m c (t.val - 1) (Nat.lt_of_le_of_lt (Nat.sub_le _ _) t.isLt)).2.2.2.2 (ix2 y d) + addV m c t y d := by
  have h0 : ¬t.val % 16 = 0 := by omega
  by_cases h3 : t.val / 4 % 4 = t.val % 4
  · have e := addV_on m c t h3 y d
    by_cases h4 : t.val % 4 = 3
    · rw [outsAt0_G m c t h0 h1 (by omega) h3 h4]
      frame_out
      rw [pay18_apply _ _ _ _ _ _ (t.val % 4) (lt4 t) (word2 t h3) (word3 t)]
      rw [read_unread_whole, e]
    · rw [outsAt0_E m c t h0 h1 (by omega) h3 h4]
      frame_out
      rw [pay18_apply _ _ _ _ _ _ (t.val % 4) (lt4 t) (word2 t h3) (word3 t)]
      rw [read_unread_whole, e]
  · by_cases h2 : t.val / 4 % 4 + 1 ≤ t.val % 4
    · have e := addV_below m c t h2 y d
      by_cases h4 : t.val % 4 = 3
      · rw [outsAt0_C m c t h0 h1 h2 h3 h4]
        frame_out
        rw [pay4_apply, read_unread_whole, e]
      · rw [outsAt0_B m c t h0 h1 h2 h3 h4]
        frame_out
        rw [pay4_apply, read_unread_whole, e]
    · rw [outsAt0_F m c t h0 h1 h2 h3 (by omega), addV_above m c t h2 h3, add_zero]
      rfl

/-! ## The queries' gradient: the rows of the point's query block are added to, the others stay -/

/-- What the point adds to the row `R` of the queries' gradient, which spans all four query blocks. -/
def addRow (t : Fin cfg0.N) (R : Fin 2048) (d : Fin 256) : EReal :=
  if R.val / 512 = t.val % 4 then addQ m c t ⟨R.val % 512, Nat.mod_lt _ (by omega)⟩ d else 0

theorem addRow_above (h2 : ¬t.val / 4 % 4 + 1 ≤ t.val % 4) (h3 : ¬t.val / 4 % 4 = t.val % 4) (R d) :
    addRow m c t R d = 0 := by
  simp [addRow, addQ_above m c t h2 h3]

/-- A store of 512 rows over the contents `X`, read back: the stored rows at their place, `X` elsewhere. -/
theorem rows_stored (v : View sig .tc .vmem S1x2048x256 .f32) (f : v.ty.Contents (Elt Ideal))
    (off : Fin 3 → Nat) (inb : ∀ a, off a + (![1, 512, 256] : Fin 3 → Nat) a ≤ S1x2048x256.size a)
    (L : List (View.Piece (Elt Ideal) S1x2048x256 .f32))
    (w : (Rect.unit (s := S1x2048x256) off ![1, 512, 256] inb).shape.Idx → EReal) (n : Nat) (ho : off = ![0, 512 * n, 0])
    (R : Fin 2048) (d : Fin 256) :
    v.read (Elt Ideal) (v.writes (Elt Ideal) f
        ((⟨Rect.unit (s := S1x2048x256) off ![1, 512, 256] inb, w⟩ : View.Piece (Elt Ideal) S1x2048x256 .f32) :: L)) (ix3 0 R d)
      = if R.val / 512 = n then
          w (ix3 (n0 := 1) (n1 := 512) (n2 := 256) 0 ⟨R.val % 512, Nat.mod_lt _ (by omega)⟩ d)
        else v.read (Elt Ideal) (v.writes (Elt Ideal) f L) (ix3 0 R d) := by
  split
  · rename_i h
    refine View.read_writes_cons_unit_of_mem v f inb w L _ _ ho fun a => ?_
    fin_cases a
    · rfl
    · show R.val = 512 * n + R.val % 512
      omega
    · show d.val = 0 + d.val
      omega
  · rename_i h
    refine View.read_writes_cons_unit_of_not_mem v f inb w L _ ho (1 : Fin 3) ?_
    show R.val < 512 * n ∨ 512 * n + 512 ≤ R.val
    omega

theorem off1 : k0_off1 (grid0.coords t) = ![0, 512 * (t.val % 4), 0] := by
  rw [k0_off1_eq, coords3]

theorem off2 : k0_off2 (grid0.coords t) = ![0, 512 * (t.val % 4), 0] := by
  rw [k0_off2_eq, coords3]

/-- A load of the 512 rows of the query block reads the contents at the row placed. -/
theorem rows_loaded (X : Vec Ideal S1x2048x256 .f32) (off : Fin 3 → Nat) (inb) (n : Nat) (ho : off = ![0, 512 * n, 0])
    (R : Fin 2048) (hR : R.val / 512 = n) (d : Fin 256) :
    (View.ld X (Rect.unit (s := S1x2048x256) off ![1, 512, 256] inb) : Vec Ideal S1x512x256 .f32)
        (ix3 0 ⟨R.val % 512, Nat.mod_lt _ (by omega)⟩ d)
      = X (ix3 0 R d) := by
  subst ho
  refine View.ld_unit_apply_of X _ _ inb _ _ fun a => ?_
  fin_cases a
  · rfl
  · show R.val = 512 * n + R.val % 512
    omega
  · show d.val = 0 + d.val
    omega

theorem q_first (h0 : t.val % 16 = 0) (R : Fin 2048) (d : Fin 256) :
    (outsAt0 m c t.val t.isLt).1 (ix3 0 R d) = 0 + addRow m c t R d := by
  have h3 : t.val / 4 % 4 = t.val % 4 := by omega
  rw [outsAt0_A m c t h0 (by omega) (by omega) h3 (by omega)]
  frame_out
  rw [← View.read_writes_junk_eq_canon (ms0_6 t).view]
  refine (rows_stored _ _ _ _ _ _ (t.val % 4) (off2 t) R d).trans ?_
  unfold addRow
  split
  · rename_i hR
    rw [pay7_apply _ _ _ _ _ _ _ _ (t.val % 4) (lt4 t) (word2 t h3) (word3 t), addQ_on m c t h3]
    exact congrArg (· + _) ((rows_loaded _ _ _ _ (off2 t) R hR d).trans (pay1_apply _))
  · rw [add_zero]
    refine (View.read_writes_cons_unit_of_mem _ _ _ _ _ _ (ix3 0 R d) rfl fun a => ?_).trans (pay1_apply _)
    fin_cases a <;> exact (Nat.zero_add _).symm

theorem q_step (h0 : ¬t.val % 16 = 0) (R : Fin 2048) (d : Fin 256) :
    (outsAt0 m c t.val t.isLt).1 (ix3 0 R d)
      = (outsAt0 m c (t.val - 1) (Nat.lt_of_le_of_lt (Nat.sub_le _ _) t.isLt)).1 (ix3 0 R d) + addRow m c t R d := by
  by_cases h1 : t.val % 4 = 0
  · rw [outsAt0_D m c t h0 h1 (by omega) (by omega) (by omega), addRow_above m c t (by omega) (by omega), add_zero]
    rfl
  by_cases h3 : t.val / 4 % 4 = t.val % 4
  · have e : ∀ x, addQ m c t x d = _ := fun x => addQ_on m c t h3 x d
    by_cases h4 : t.val % 4 = 3
    · rw [outsAt0_G m c t h0 h1 (by omega) h3 h4]
      frame_out
      refine (rows_stored _ _ _ _ _ _ (t.val % 4) (off2 t) R d).trans ?_
      unfold addRow
      split
      · rename_i hR
        rw [pay7_apply _ _ _ _ _ _ _ _ (t.val % 4) (lt4 t) (word2 t h3) (word3 t), e]
        exact congrArg (· + _) (rows_loaded _ _ _ _ (off2 t) R hR d)
      · rw [add_zero]
        exact congrFun (Memref.IsWhole.read_unread _ _) _
    · rw [outsAt0_E m c t h0 h1 (by omega) h3 h4]
      frame_out
      refine (rows_stored _ _ _ _ _ _ (t.val % 4) (off2 t) R d).trans ?_
      unfold addRow
      split
      · rename_i hR
        rw [pay7_apply _ _ _ _ _ _ _ _ (t.val % 4) (lt4 t) (word2 t h3) (word3 t), e]
        exact congrArg (· + _) (rows_loaded _ _ _ _ (off2 t) R hR d)
      · rw [add_zero]
        exact congrFun (Memref.IsWhole.read_unread _ _) _
  · by_cases h2 : t.val / 4 % 4 + 1 ≤ t.val % 4
    · have e : ∀ x, addQ m c t x d = _ := fun x => addQ_below m c t h2 x d
      by_cases h4 : t.val % 4 = 3
      · rw [outsAt0_C m c t h0 h1 h2 h3 h4]
        frame_out
        refine (rows_stored _ _ _ _ _ _ (t.val % 4) (off1 t) R d).trans ?_
        unfold addRow
        split
        · rename_i hR
          rw [pay6_apply, e]
          exact congrArg (· + _) (rows_loaded _ _ _ _ (off1 t) R hR d)
        · rw [add_zero]
          exact congrFun (Memref.IsWhole.read_unread _ _) _
      · rw [outsAt0_B m c t h0 h1 h2 h3 h4]
        frame_out
        refine (rows_stored _ _ _ _ _ _ (t.val % 4) (off1 t) R d).trans ?_
        unfold addRow
        split
        · rename_i hR
          rw [pay6_apply, e]
          exact congrArg (· + _) (rows_loaded _ _ _ _ (off1 t) R hR d)
        · rw [add_zero]
          exact congrFun (Memref.IsWhole.read_unread _ _) _
    · rw [outsAt0_F m c t h0 h1 h2 h3 (by omega), addRow_above m c t h2 h3, add_zero]
      rfl

/-! ## The keys' and the values' gradients as they are written back -/

theorem k_out (h4 : t.val % 4 = 3) (y : Fin 512) (d : Fin 256) :
    (outsAt0 m c t.val t.isLt).2.1 (ix3 0 y d) = (outsAt0 m c t.val t.isLt).2.2.2.1 (ix2 y d) := by
  by_cases h3 : t.val / 4 % 4 = t.val % 4
  · rw [outsAt0_G m c t (by omega) (by omega) (by omega) h3 h4]
    frame_out
    rw [pay8_apply]
  · rw [outsAt0_C m c t (by omega) (by omega) (by omega) h3 h4]
    frame_out
    rw [pay8_apply]

theorem v_out (h4 : t.val % 4 = 3) (y : Fin 512) (d : Fin 128) :
    (outsAt0 m c t.val t.isLt).2.2.1 (ix3 0 y d) = (outsAt0 m c t.val t.isLt).2.2.2.2 (ix2 y d) := by
  by_cases h3 : t.val / 4 % 4 = t.val % 4
  · rw [outsAt0_G m c t (by omega) (by omega) (by omega) h3 h4]
    frame_out
    rw [pay9_apply]
  · rw [outsAt0_C m c t (by omega) (by omega) (by omega) h3 h4]
    frame_out
    rw [pay9_apply]

end Cert.Attn
end
-- ==== Proof.Arrays.lean ====
/- The three gradient arrays as the kernel leaves them, in terms of the arrays that it is given. -/
module

public import proofs.«01_k».proof.Proof.Step
public import proofs.«01_k».proof.Proof.Gen.KernelIdeal.Value

@[expose] public section
set_option maxRecDepth 16384
noncomputable section
namespace Cert.Attn
open Idealize.ShloMosaic Idealize.SL.Sem Cert.KernelIdeal Cert.KernelIdeal.Gen

/-! ## The gradients of one head, over whole arrays -/

section
variable (Q K : Vec Ideal S2x2048x2048 .bf16) (KV G : Vec Ideal S2x2048x2048 .f32) (O : Vec Ideal S2x2048x1024 .f32)
  (L : Vec Ideal S2x8x2048x1 .f32)

/-- Column `d` of head `h` among the queries' or keys' columns. -/
abbrev colQ (h : Fin 8) (d : Fin 256) : Fin 2048 := ⟨h.val * 256 + d.val, by omega⟩
/-- Column `d` of head `h`'s values among the columns of the keys and values. -/
abbrev colV (h : Fin 8) (d : Fin 128) : Fin 2048 := ⟨h.val * 256 + 128 + d.val, by omega⟩
/-- Column `d` of head `h` among the columns of the cotangent, whose second half belongs to the attention. -/
abbrev colG (h : Fin 8) (d : Fin 128) : Fin 2048 := ⟨1024 + h.val * 128 + d.val, by omega⟩
/-- Column `d` of head `h` among the output's columns. -/
abbrev colO (h : Fin 8) (d : Fin 128) : Fin 1024 := ⟨h.val * 128 + d.val, by omega⟩

/-- The probability of key row `C` in query row `R`. -/
def probA (b : Fin 2) (h : Fin 8) (R C : Fin 2048) : EReal :=
  Ideal.exp ((∑ d : Fin 256, Q (ix3 b R (colQ h d)) * K (ix3 b C (colQ h d))) * scale - L (ix4 b h R 0))

/-- The gradient of the score of key row `C` in query row `R`. -/
def dscoreA (b : Fin 2) (h : Fin 8) (R C : Fin 2048) : EReal :=
  probA Q K L b h R C * ((∑ d : Fin 128, G (ix3 b R (colG h d)) * KV (ix3 b C (colV h d)))
    - ∑ d : Fin 128, G (ix3 b R (colG h d)) * O (ix3 b R (colO h d))) * scale

/-- The probability where the key is at or before the query, 0 elsewhere. -/
def maskP (b : Fin 2) (h : Fin 8) (R C : Fin 2048) : EReal := if C.val ≤ R.val then probA Q K L b h R C else 0

/-- The gradient of the score where the key is at or before the query, 0 elsewhere. -/
def maskD (b : Fin 2) (h : Fin 8) (R C : Fin 2048) : EReal := if C.val ≤ R.val then dscoreA Q K KV G O L b h R C else 0

/-- The queries' gradient: over the keys at or before the row. -/
def gradQ (b : Fin 2) (h : Fin 8) (R : Fin 2048) (d : Fin 256) : EReal :=
  ∑ C : Fin 2048, maskD Q K KV G O L b h R C * K (ix3 b C (colQ h d))

/-- The keys' gradient: over the queries at or after the row. -/
def gradK (b : Fin 2) (h : Fin 8) (C : Fin 2048) (d : Fin 256) : EReal :=
  ∑ R : Fin 2048, maskD Q K KV G O L b h R C * Q (ix3 b R (colQ h d))

/-- The values' gradient: over the queries at or after the row. -/
def gradV (b : Fin 2) (h : Fin 8) (C : Fin 2048) (d : Fin 128) : EReal :=
  ∑ R : Fin 2048, maskP Q K L b h R C * G (ix3 b R (colG h d))
end

variable (m : (ℓ : Loc nD τ sig) → Buf (Elt Ideal) ℓ) (c : Dev nD)

/-- The arrays that the kernel is given. -/
def Qm : Vec Ideal S2x2048x2048 .bf16 := V m c main_v3
def Km : Vec Ideal S2x2048x2048 .bf16 := V m c main_v6
def KVm : Vec Ideal S2x2048x2048 .f32 := V m c main_v0
def Gm : Vec Ideal S2x2048x2048 .f32 := V m c main_arg3
def Om : Vec Ideal S2x2048x1024 .f32 := V m c main_v41
def Lm : Vec Ideal S2x8x2048x1 .f32 := V m c main_v40

/-! ## The blocks of a point, in the arrays -/

variable (t : Fin cfg0.N)

theorem N_lt : t.val < 256 := lt_of_lt_of_eq t.isLt N_0

/-- The batch, the head, and the places of a row of the point's query and key blocks. -/
abbrev bOf : Fin 2 := ⟨t.val / 128, by have := N_lt t; omega⟩
abbrev hOf : Fin 8 := ⟨t.val / 16 % 8, by omega⟩
abbrev rowQ (x : Fin 512) : Fin 2048 := ⟨(t.val % 4) * 512 + x.val, by omega⟩
abbrev rowK (y : Fin 512) : Fin 2048 := ⟨(t.val / 4 % 4) * 512 + y.val, by omega⟩

theorem idx0 : ∀ t : Fin cfg0.N, win0_0.index t = ![t.val / 128, max (t.val % 4) (t.val / 4 % 4), t.val / 16 % 8] := by
  decide +kernel
theorem idx1 : ∀ t : Fin cfg0.N, win0_1.index t = ![t.val / 128, t.val / 4 % 4, t.val / 16 % 8] := by decide +kernel
theorem idx2 : ∀ t : Fin cfg0.N, win0_2.index t = ![t.val / 128, t.val / 4 % 4, t.val / 16 % 8 * 2 + 1] := by decide +kernel
theorem idx3 : ∀ t : Fin cfg0.N, win0_3.index t = ![t.val / 128, max (t.val % 4) (t.val / 4 % 4), 8 + t.val / 16 % 8] := by
  decide +kernel
theorem idx4 : ∀ t : Fin cfg0.N, win0_4.index t = ![t.val / 128, max (t.val % 4) (t.val / 4 % 4), t.val / 16 % 8] := by
  decide +kernel
theorem idx5 : ∀ t : Fin cfg0.N, win0_5.index t = ![t.val / 128, t.val / 16 % 8, max (t.val % 4) (t.val / 4 % 4), 0] := by
  decide +kernel
theorem idx6 : ∀ t : Fin cfg0.N, win0_6.index t = ![t.val / 128, 0, t.val / 16 % 8] := by decide +kernel
theorem idx7 : ∀ t : Fin cfg0.N, win0_7.index t = ![t.val / 128, t.val / 4 % 4, t.val / 16 % 8] := by decide +kernel
theorem idx8 : ∀ t : Fin cfg0.N, win0_8.index t = ![t.val / 128, t.val / 4 % 4, t.val / 16 % 8] := by decide +kernel

theorem read1 (X : Vec Ideal S2x2048x2048 .bf16) (y : Fin 512) (d : Fin 256) :
    (((cfg0.win 1).blk t).view.read (Elt Ideal) X : Vec Ideal S1x512x256 .bf16) (ix3 0 y d) = X (ix3 (bOf t) (rowK t y) (colQ (hOf t) d)) := by
  blk_ext [idx1 t]

theorem blk1 (y : Fin 512) (d : Fin 256) : (iblk m c 1 t : Vec Ideal S1x512x256 .bf16) (ix3 0 y d) = Km m c (ix3 (bOf t) (rowK t y) (colQ (hOf t) d)) :=
  read1 t (Km m c) y d

theorem read2 (X : Vec Ideal S2x2048x2048 .f32) (y : Fin 512) (d : Fin 128) :
    (((cfg0.win 2).blk t).view.read (Elt Ideal) X : Vec Ideal S1x512x128 .f32) (ix3 0 y d) = X (ix3 (bOf t) (rowK t y) (colV (hOf t) d)) := by
  blk_ext [idx2 t]

theorem blk2 (y : Fin 512) (d : Fin 128) : (iblk m c 2 t : Vec Ideal S1x512x128 .f32) (ix3 0 y d) = KVm m c (ix3 (bOf t) (rowK t y) (colV (hOf t) d)) :=
  read2 t (KVm m c) y d

theorem read0 (X : Vec Ideal S2x2048x2048 .bf16) (h : t.val / 4 % 4 ≤ t.val % 4) (x : Fin 512) (d : Fin 256) :
    (((cfg0.win 0).blk t).view.read (Elt Ideal) X : Vec Ideal S1x512x256 .bf16) (ix3 0 x d) = X (ix3 (bOf t) (rowQ t x) (colQ (hOf t) d)) := by
  blk_ext [idx0 t, max_eq_left h]

theorem blk0 (h : t.val / 4 % 4 ≤ t.val % 4) (x : Fin 512) (d : Fin 256) : (iblk m c 0 t : Vec Ideal S1x512x256 .bf16) (ix3 0 x d) = Qm m c (ix3 (bOf t) (rowQ t x) (colQ (hOf t) d)) :=
  read0 t (Qm m c) h x d

theorem read3 (X : Vec Ideal S2x2048x2048 .f32) (h : t.val / 4 % 4 ≤ t.val % 4) (x : Fin 512) (d : Fin 128) :
    (((cfg0.win 3).blk t).view.read (Elt Ideal) X : Vec Ideal S1x512x128 .f32) (ix3 0 x d) = X (ix3 (bOf t) (rowQ t x) (colG (hOf t) d)) := by
  blk_ext [idx3 t, max_eq_left h]

theorem blk3 (h : t.val / 4 % 4 ≤ t.val % 4) (x : Fin 512) (d : Fin 128) : (iblk m c 3 t : Vec Ideal S1x512x128 .f32) (ix3 0 x d) = Gm m c (ix3 (bOf t) (rowQ t x) (colG (hOf t) d)) :=
  read3 t (Gm m c) h x d

theorem read4 (X : Vec Ideal S2x2048x1024 .f32) (h : t.val / 4 % 4 ≤ t.val % 4) (x : Fin 512) (d : Fin 128) :
    (((cfg0.win 4).blk t).view.read (Elt Ideal) X : Vec Ideal S1x512x128 .f32) (ix3 0 x d) = X (ix3 (bOf t) (rowQ t x) (colO (hOf t) d)) := by
  blk_ext [idx4 t, max_eq_left h]

theorem blk4 (h : t.val / 4 % 4 ≤ t.val % 4) (x : Fin 512) (d : Fin 128) : (iblk m c 4 t : Vec Ideal S1x512x128 .f32) (ix3 0 x d) = Om m c (ix3 (bOf t) (rowQ t x) (colO (hOf t) d)) :=
  read4 t (Om m c) h x d

theorem read5 (X : Vec Ideal S2x8x2048x1 .f32) (h : t.val / 4 % 4 ≤ t.val % 4) (x : Fin 512) :
    (((cfg0.win 5).blk t).view.read (Elt Ideal) X : Vec Ideal S1x1x512x1 .f32) (ix4 0 0 x 0) = X (ix4 (bOf t) (hOf t) (rowQ t x) 0) := by
  blk_ext [idx5 t, max_eq_left h]

theorem blk5 (h : t.val / 4 % 4 ≤ t.val % 4) (x : Fin 512) : (iblk m c 5 t : Vec Ideal S1x1x512x1 .f32) (ix4 0 0 x 0) = Lm m c (ix4 (bOf t) (hOf t) (rowQ t x) 0) :=
  read5 t (Lm m c) h x

/-! ## A point's tile and what it adds, in the arrays -/

theorem tileP_eq (x y : Fin 512) :
    tileP m c t x y
      = maskP (Qm m c) (Km m c) (Lm m c) (bOf t) (hOf t) (rowQ t x) (rowK t y) := by
  unfold tileP seen maskP
  split
  · rename_i hs
    have h : t.val / 4 % 4 ≤ t.val % 4 := by omega
    simp only [prob, probA, blk0 m c t h, blk1 m c t, blk5 m c t h]
  · rfl

theorem tileD_eq (x y : Fin 512) :
    tileD m c t x y
      = maskD (Qm m c) (Km m c) (KVm m c) (Gm m c) (Om m c) (Lm m c) (bOf t) (hOf t) (rowQ t x) (rowK t y) := by
  unfold tileD seen maskD
  split
  · rename_i hs
    have h : t.val / 4 % 4 ≤ t.val % 4 := by omega
    simp only [prob, probA, dscore, dscoreA, blk0 m c t h, blk1 m c t, blk2 m c t, blk3 m c t h, blk4 m c t h, blk5 m c t h]
  · rfl

theorem addK_eq (y : Fin 512) (d : Fin 256) :
    addK m c t y d
      = ∑ x : Fin 512, maskD (Qm m c) (Km m c) (KVm m c) (Gm m c) (Om m c) (Lm m c) (bOf t) (hOf t) (rowQ t x) (rowK t y)
            * Qm m c (ix3 (bOf t) (rowQ t x) (colQ (hOf t) d)) := by
  unfold addK
  refine Finset.sum_congr rfl fun x _ => ?_
  rw [tileD_eq]
  unfold maskD
  split
  · rename_i hs
    have hs : (t.val / 4 % 4) * 512 + y.val ≤ (t.val % 4) * 512 + x.val := hs
    rw [blk0 m c t (by omega)]
  · rw [zero_mul, zero_mul]

theorem addV_eq (y : Fin 512) (d : Fin 128) :
    addV m c t y d
      = ∑ x : Fin 512, maskP (Qm m c) (Km m c) (Lm m c) (bOf t) (hOf t) (rowQ t x) (rowK t y)
            * Gm m c (ix3 (bOf t) (rowQ t x) (colG (hOf t) d)) := by
  unfold addV
  refine Finset.sum_congr rfl fun x _ => ?_
  rw [tileP_eq]
  unfold maskP
  split
  · rename_i hs
    have hs : (t.val / 4 % 4) * 512 + y.val ≤ (t.val % 4) * 512 + x.val := hs
    rw [blk3 m c t (by omega)]
  · rw [zero_mul, zero_mul]

theorem addQ_eq (x : Fin 512) (d : Fin 256) :
    addQ m c t x d
      = ∑ y : Fin 512, maskD (Qm m c) (Km m c) (KVm m c) (Gm m c) (Om m c) (Lm m c) (bOf t) (hOf t) (rowQ t x) (rowK t y)
            * Km m c (ix3 (bOf t) (rowK t y) (colQ (hOf t) d)) := by
  unfold addQ
  refine Finset.sum_congr rfl fun y _ => ?_
  rw [tileD_eq, blk1]

/-! ## The sums over the points of a run -/

/-- The keys' gradient at the run's last point. -/
theorem k_total (h4 : t.val % 4 = 3) (y : Fin 512) (d : Fin 256) :
    (outsAt0 m c t.val t.isLt).2.1 (ix3 0 y d)
      = gradK (Qm m c) (Km m c) (KVm m c) (Gm m c) (Om m c) (Lm m c) (bOf t) (hOf t) (rowK t y) d := by
  rw [k_out m c t h4]
  have key := Pipeline.eq_sum_fin_of_reset_step_apply_of_flush
    (fun n h (i : Fin 512 × Fin 256) => (outsAt0 m c n h).2.2.2.1 (ix2 i.1 i.2)) 4 (fun _ => 0)
    (fun p i => addK m c p i.1 i.2) (fun p hp i => k_reset m c p hp i.1 i.2) (fun p hp i => k_step m c p hp i.1 i.2)
    t h4 (y, d)
  refine key.trans ?_
  rw [zero_add]
  unfold gradK
  simp only [addK_eq]
  refine Fin.sum_mul_add_congr (fun s x hl => ?_)
  have hs := s.isLt
  have ht := N_lt t
  have e1 : bOf ⟨4 * (t.val / 4) + s.val, Pipeline.run_point_lt_of_flush t h4 s⟩ = bOf t := Fin.ext (by show _ = _; dsimp only; omega)
  have e2 : hOf ⟨4 * (t.val / 4) + s.val, Pipeline.run_point_lt_of_flush t h4 s⟩ = hOf t := Fin.ext (by show _ = _; dsimp only; omega)
  have e3 : rowK ⟨4 * (t.val / 4) + s.val, Pipeline.run_point_lt_of_flush t h4 s⟩ y = rowK t y := Fin.ext (by show _ = _; dsimp only; omega)
  have e4 : rowQ ⟨4 * (t.val / 4) + s.val, Pipeline.run_point_lt_of_flush t h4 s⟩ x = ⟨s.val * 512 + x.val, hl⟩ :=
    Fin.ext (by show _ = _; dsimp only; omega)
  rw [e1, e2, e3, e4]

/-- The values' gradient at the run's last point. -/
theorem v_total (h4 : t.val % 4 = 3) (y : Fin 512) (d : Fin 128) :
    (outsAt0 m c t.val t.isLt).2.2.1 (ix3 0 y d)
      = gradV (Qm m c) (Km m c) (Gm m c) (Lm m c) (bOf t) (hOf t) (rowK t y) d := by
  rw [v_out m c t h4]
  have key := Pipeline.eq_sum_fin_of_reset_step_apply_of_flush
    (fun n h (i : Fin 512 × Fin 128) => (outsAt0 m c n h).2.2.2.2 (ix2 i.1 i.2)) 4 (fun _ => 0)
    (fun p i => addV m c p i.1 i.2) (fun p hp i => v_reset m c p hp i.1 i.2) (fun p hp i => v_step m c p hp i.1 i.2)
    t h4 (y, d)
  refine key.trans ?_
  rw [zero_add]
  unfold gradV
  simp only [addV_eq]
  refine Fin.sum_mul_add_congr (fun s x hl => ?_)
  have hs := s.isLt
  have ht := N_lt t
  have e1 : bOf ⟨4 * (t.val / 4) + s.val, Pipeline.run_point_lt_of_flush t h4 s⟩ = bOf t := Fin.ext (by show _ = _; dsimp only; omega)
  have e2 : hOf ⟨4 * (t.val / 4) + s.val, Pipeline.run_point_lt_of_flush t h4 s⟩ = hOf t := Fin.ext (by show _ = _; dsimp only; omega)
  have e3 : rowK ⟨4 * (t.val / 4) + s.val, Pipeline.run_point_lt_of_flush t h4 s⟩ y = rowK t y := Fin.ext (by show _ = _; dsimp only; omega)
  have e4 : rowQ ⟨4 * (t.val / 4) + s.val, Pipeline.run_point_lt_of_flush t h4 s⟩ x = ⟨s.val * 512 + x.val, hl⟩ :=
    Fin.ext (by show _ = _; dsimp only; omega)
  rw [e1, e2, e3, e4]

/-- The queries' gradient at the head's last point: of the sixteen points, the four of the row's query block add to it. -/
theorem q_total (h4 : t.val % 16 = 15) (R : Fin 2048) (d : Fin 256) :
    (outsAt0 m c t.val t.isLt).1 (ix3 0 R d)
      = gradQ (Qm m c) (Km m c) (KVm m c) (Gm m c) (Om m c) (Lm m c) (bOf t) (hOf t) R d := by
  have key := Pipeline.eq_sum_fin_of_reset_step_apply_of_flush
    (fun n h (i : Fin 2048 × Fin 256) => (outsAt0 m c n h).1 (ix3 0 i.1 i.2)) 16 (fun _ => 0)
    (fun p i => addRow m c p i.1 i.2) (fun p hp i => q_first m c p hp i.1 i.2) (fun p hp i => q_step m c p hp i.1 i.2)
    t h4 (R, d)
  refine key.trans ?_
  rw [zero_add]
  unfold gradQ
  have hR := R.isLt
  have ht := N_lt t
  refine (Fin.sum_divmod_congr (A := 4) (S := 4) (f := fun j i => if i.val = R.val / 512 then
    ∑ y : Fin 512, (fun C : Fin 2048 => maskD (Qm m c) (Km m c) (KVm m c) (Gm m c) (Om m c) (Lm m c) (bOf t) (hOf t) R C
      * Km m c (ix3 (bOf t) C (colQ (hOf t) d))) ⟨j.val * 512 + y.val, by omega⟩ else 0) fun s hj hi => ?_).trans ?_
  · have hs := s.isLt
    unfold addRow
    have e0 : (4 * 4 * (t.val / 16) + s.val) % 4 = s.val % 4 := by omega
    simp only [addQ_eq]
    by_cases hc : s.val % 4 = R.val / 512
    · rw [if_pos hc, if_pos (by omega)]
      refine Finset.sum_congr rfl fun y _ => ?_
      have e1 : bOf ⟨16 * (t.val / 16) + s.val, Pipeline.run_point_lt_of_flush t h4 s⟩ = bOf t := Fin.ext (by show _ = _; dsimp only; omega)
      have e2 : hOf ⟨16 * (t.val / 16) + s.val, Pipeline.run_point_lt_of_flush t h4 s⟩ = hOf t := Fin.ext (by show _ = _; dsimp only; omega)
      have e3 : rowK ⟨16 * (t.val / 16) + s.val, Pipeline.run_point_lt_of_flush t h4 s⟩ y
          = ⟨s.val / 4 * 512 + y.val, by omega⟩ := Fin.ext (by show _ = _; dsimp only; omega)
      have e4 : rowQ ⟨16 * (t.val / 16) + s.val, Pipeline.run_point_lt_of_flush t h4 s⟩ ⟨R.val % 512, Nat.mod_lt _ (by omega)⟩ = R :=
        Fin.ext (by show _ = _; dsimp only; omega)
      rw [e1, e2, e3, e4]
    · rw [if_neg hc, if_neg (by omega)]
  · have hi : R.val / 512 < 4 := by omega
    refine Eq.trans ?_ (Fin.sum_mul_add_fin 4 512 fun C : Fin 2048 => maskD (Qm m c) (Km m c) (KVm m c) (Gm m c) (Om m c) (Lm m c) (bOf t) (hOf t) R C
      * Km m c (ix3 (bOf t) C (colQ (hOf t) d)))
    refine Finset.sum_congr rfl fun j _ => ?_
    rw [Finset.sum_eq_single (⟨R.val / 512, hi⟩ : Fin 4) (fun i _ hne => if_neg fun e => hne (Fin.ext e))
      (fun hn => absurd (Finset.mem_univ _) hn), if_pos rfl]

/-! ## The arrays -/

theorem at_place {n : ℕ} (f : Fin 2 → Fin 8 → Fin 2048 → Fin n → Ideal .f32) {b b' : Fin 2} {h h' : Fin 8} {R R' : Fin 2048}
    {d d' : Fin n} (eb : b.val = b'.val) (eh : h.val = h'.val) (eR : R.val = R'.val) (ed : d.val = d'.val) :
    f b h R d = f b' h' R' d' := by
  rw [Fin.ext eb, Fin.ext eh, Fin.ext eR, Fin.ext ed]

theorem arr6 : (dats m 0 c).arrAt 6 cfg0.N = (fun i : S2x2048x2048.Idx =>
    gradQ (Qm m c) (Km m c) (KVm m c) (Gm m c) (Om m c) (Lm m c) (i 0) ⟨(i 2).val / 256, by idx_bounds i; omega⟩ (i 1) ⟨(i 2).val % 256, Nat.mod_lt _ (by omega)⟩) := by
  refine (dats m 0 c).arrAt_eq_of_covers 6 _ (by decide +kernel) fun t hf y => ?_
  have hf := (flush0_6 t).mp hf
  blk_simp
  rw [after0_6]
  idx_vars y
  obtain rfl : y0 = 0 := Subsingleton.elim _ _
  have h2 : y2.val < 256 := y2.isLt
  refine (q_total m c t hf y1 y2).trans ?_
  refine at_place (gradQ (Qm m c) (Km m c) (KVm m c) (Gm m c) (Om m c) (Lm m c)) ?_ ?_ ?_ ?_ <;> blk_simp [idx6 t] <;> (try dsimp only [bOf, hOf, rowK]) <;> omega

theorem arr7 : (dats m 0 c).arrAt 7 cfg0.N = (fun i : S2x2048x2048.Idx =>
    gradK (Qm m c) (Km m c) (KVm m c) (Gm m c) (Om m c) (Lm m c) (i 0) ⟨(i 2).val / 256, by idx_bounds i; omega⟩ (i 1) ⟨(i 2).val % 256, Nat.mod_lt _ (by omega)⟩) := by
  refine (dats m 0 c).arrAt_eq_of_covers 7 _ (by decide +kernel) fun t hf y => ?_
  have hf := (flush0_7 t).mp hf
  blk_simp
  rw [after0_7]
  idx_vars y
  obtain rfl : y0 = 0 := Subsingleton.elim _ _
  have h2 : y2.val < 256 := y2.isLt
  refine (k_total m c t hf y1 y2).trans ?_
  refine at_place (gradK (Qm m c) (Km m c) (KVm m c) (Gm m c) (Om m c) (Lm m c)) ?_ ?_ ?_ ?_ <;> blk_simp [idx7 t] <;> (try dsimp only [bOf, hOf, rowK]) <;> omega

theorem arr8 : (dats m 0 c).arrAt 8 cfg0.N = (fun i : S2x2048x1024.Idx =>
    gradV (Qm m c) (Km m c) (Gm m c) (Lm m c) (i 0) ⟨(i 2).val / 128, by idx_bounds i; omega⟩ (i 1) ⟨(i 2).val % 128, Nat.mod_lt _ (by omega)⟩) := by
  refine (dats m 0 c).arrAt_eq_of_covers 8 _ (by decide +kernel) fun t hf y => ?_
  have hf := (flush0_8 t).mp hf
  blk_simp
  rw [after0_8]
  idx_vars y
  obtain rfl : y0 = 0 := Subsingleton.elim _ _
  have h2 : y2.val < 128 := y2.isLt
  refine (v_total m c t hf y1 y2).trans ?_
  refine at_place (gradV (Qm m c) (Km m c) (Gm m c) (Lm m c)) ?_ ?_ ?_ ?_ <;> blk_simp [idx8 t] <;> (try dsimp only [bOf, hOf, rowK]) <;> omega

end Cert.Attn
end
-- ==== Proof.Saved.lean ====
/- The arrays that the kernel is given, in terms of the program's arguments: the queries and keys padded to 256 columns
   a head, and what the forward pass saved, the attention's output and each row's log-sum. -/
module

public import proofs.«01_k».proof.Proof.Arrays
public import Idealize.ShloMosaic.Lib.Pointwise
public import Idealize.ShloMosaic.Lib.Tactic.CleanTypes

@[expose] public section
set_option maxRecDepth 16384
noncomputable section
namespace Cert.Attn
open Idealize.ShloMosaic Idealize.ShloMosaic.WordCmp Idealize.SL.Sem Cert.KernelIdeal Cert.KernelIdeal.Gen

/-! ## The host's stages -/

/-- An array of heads with each head's columns padded from 192 to 256 by zeros, the heads' columns side by side. -/
def padArr (x : FVec Ideal S2x2048x8x192 .f32) : FVec Ideal S2x2048x2048 .bf16 :=
  truncf FTy.bf16 (shapeCast S2x2048x2048 (pad S2x2048x8x256 ![0, 0, 0, 0] ![0, 0, 0, 64] ![0, 0, 0, 0] x
      (sitofp (F := Ideal) FTy.f32 (constantI S_ 32 0#32)) pads_S2x2048x8x192_S2x2048x8x256_000_000_000_0640 h_S_)
    shapeCasts_S2x2048x8x256_S2x2048x2048) bitsLt_bf16_f32

/-- The masked scores. -/
def scoreArr (q k : FVec Ideal S2x2048x8x192 .f32) : FVec Ideal S2x8x2048x2048 .f32 :=
  select
    (broadcastInDim S2x8x2048x2048 ![2, 3] bcast_S2048x2048_S2x8x2048x2048_2_3
      (cmpi CmpIPredicate.sge
        (broadcastInDim S2048x2048 ![0, 1] bcast_S2048x1_S2048x2048_0_1
          (broadcastInDim S2048x1 ![0] bcast_S2048_S2048x1_0 (iotaInDim S2048 32 0)))
        (broadcastInDim S2048x2048 ![0, 1] bcast_S1x2048_S2048x2048_0_1
          (broadcastInDim S1x2048 ![1] bcast_S2048_S1x2048_1 (iotaInDim S2048 32 0)))))
    (mulf
      (Host.dotGeneral dot_S2x2048x8x192_S2x2048x8x192_S2x8x2048x2048_3_3_1_1_02_02 none q k)
      (broadcastInDim S2x8x2048x2048 ![] bcast_S_S2x8x2048x2048 (constant S_ FTy.f32 0x3D93CD3A#32)))
    (broadcastInDim S2x8x2048x2048 ![] bcast_S_S2x8x2048x2048 (constant S_ FTy.f32 0xFF800000#32))

/-- The greatest score of each row. -/
def topArr (s : FVec Ideal S2x8x2048x2048 .f32) : FVec Ideal S2x8x2048 .f32 :=
  Host.reduce FloatOps.maximumf s (constant S_ FTy.f32 0xFF800000#32) reducesTo_S2x8x2048x2048_S2x8x2048_d3 h_S_

/-- The greatest score of each row, no less than −∞. -/
def topArr' (t : FVec Ideal S2x8x2048 .f32) : FVec Ideal S2x8x2048 .f32 :=
  maximumf (broadcastInDim S2x8x2048 ![] bcast_S_S2x8x2048 (constant S_ FTy.f32 0xFF800000#32)) t

/-- Each score less its row's greatest, exponentiated. -/
def expArr (s : FVec Ideal S2x8x2048x2048 .f32) (t : FVec Ideal S2x8x2048 .f32) : FVec Ideal S2x8x2048x2048 .f32 :=
  Host.exp (subf s (broadcastInDim S2x8x2048x2048 ![0, 1, 2, 3] bcast_S2x8x2048x1_S2x8x2048x2048_0_1_2_3
    (broadcastInDim S2x8x2048x1 ![0, 1, 2] bcast_S2x8x2048_S2x8x2048x1_0_1_2 t)))

/-- Each row's sum. -/
def sumArr (e : FVec Ideal S2x8x2048x2048 .f32) : FVec Ideal S2x8x2048 .f32 :=
  Host.reduceAdd e (constant S_ FTy.f32 0x00000000#32) reducesTo_S2x8x2048x2048_S2x8x2048_d3 h_S_

/-- Each row's log-sum: its greatest score and the logarithm of its sum. -/
def lseArr (t l : FVec Ideal S2x8x2048 .f32) : FVec Ideal S2x8x2048x1 .f32 :=
  addf (broadcastInDim S2x8x2048x1 ![0, 1, 2] bcast_S2x8x2048_S2x8x2048x1_0_1_2 t)
    (Host.log (broadcastInDim S2x8x2048x1 ![0, 1, 2] bcast_S2x8x2048_S2x8x2048x1_0_1_2 l))

/-- Each entry over its row's sum. -/
def probArr (e : FVec Ideal S2x8x2048x2048 .f32) (l : FVec Ideal S2x8x2048 .f32) : FVec Ideal S2x8x2048x2048 .f32 :=
  Host.divf e (broadcastInDim S2x8x2048x2048 ![0, 1, 2, 3] bcast_S2x8x2048x1_S2x8x2048x2048_0_1_2_3
    (broadcastInDim S2x8x2048x1 ![0, 1, 2] bcast_S2x8x2048_S2x8x2048x1_0_1_2 l))

/-- The attention's output. -/
def outArr (kv : FVec Ideal S2x2048x8x256 .f32) (p : FVec Ideal S2x8x2048x2048 .f32) : FVec Ideal S2x2048x1024 .f32 :=
  shapeCast S2x2048x1024 (transpose S2x2048x8x128 [0, 3, 1, 2]
    (Host.dotGeneral dot_S2x2048x8x128_S2x8x2048x2048_S2x8x128x2048_1_3_3_2_02_01 none
      (extractStridedSlice S2x2048x8x128 ![0, 0, 0, 128] kv slices_S2x2048x8x256_S2x2048x8x128_0_0_0_128) p)
    transposes_S2x8x128x2048_S2x2048x8x128_0_3_1_2) shapeCasts_S2x2048x8x128_S2x2048x1024

/-! ## The stages at an index -/

theorem ofBits_bot : Ideal.ofBits FTy.f32 0xFF800000#32 = ⊥ := by
  simp [Ideal.ofBits, Ideal.ieee]

theorem padArr_apply (x : FVec Ideal S2x2048x8x192 .f32) (b : Fin 2) (R : Fin 2048) (h : Fin 8) (d : Fin 256) :
    padArr x (ix3 b R (colQ h d)) = if hd : d.val < 192 then x (ix4 b R h ⟨d.val, hd⟩) else 0 := by
  have e1 : (h.val * 256 + d.val) / 256 = h.val := by omega
  have e2 : (h.val * 256 + d.val) % 256 = d.val := by omega
  unfold padArr
  pointwise
  simp only [e1, e2, h.isLt, true_and, Fin.eta]
  by_cases hd : d.val < 192
  · rw [dif_pos hd, dif_pos hd]
  · rw [dif_neg hd, dif_neg hd]
    show (((0#32 : BitVec 32).toInt : ℝ) : EReal) = 0
    simp

theorem scoreArr_apply (q k : FVec Ideal S2x2048x8x192 .f32) (b : Fin 2) (h : Fin 8) (R C : Fin 2048) :
    scoreArr q k (ix4 b h R C)
      = if C.val ≤ R.val then (∑ x, q (ix4 b R h x) * k (ix4 b C h x)) * scale else ⊥ := by
  unfold scoreArr
  pointwise
  rw [ofBits_bot, cmpi_sge_ofNat (by omega) (by omega)]
  by_cases e : C.val ≤ R.val <;> simp [e, Scalar.select, scale]

theorem topArr_apply (s : FVec Ideal S2x8x2048x2048 .f32) (b : Fin 2) (h : Fin 8) (R : Fin 2048) :
    topArr s (ix3 b h R) = Finset.univ.fold max ⊥ fun C => s (ix4 b h R C) := by
  unfold topArr
  pointwise
  rw [ofBits_bot]

theorem topArr'_apply (t : FVec Ideal S2x8x2048 .f32) (b : Fin 2) (h : Fin 8) (R : Fin 2048) :
    topArr' t (ix3 b h R) = t (ix3 b h R) := by
  unfold topArr'
  pointwise
  rw [ofBits_bot]
  simp

theorem expArr_apply (s : FVec Ideal S2x8x2048x2048 .f32) (t : FVec Ideal S2x8x2048 .f32) (b : Fin 2) (h : Fin 8)
    (R C : Fin 2048) : expArr s t (ix4 b h R C) = Ideal.exp (s (ix4 b h R C) - t (ix3 b h R)) := by
  unfold expArr
  pointwise

theorem sumArr_apply (e : FVec Ideal S2x8x2048x2048 .f32) (b : Fin 2) (h : Fin 8) (R : Fin 2048) :
    sumArr e (ix3 b h R) = ∑ C, e (ix4 b h R C) := by
  unfold sumArr
  pointwise

theorem lseArr_apply (t l : FVec Ideal S2x8x2048 .f32) (b : Fin 2) (h : Fin 8) (R : Fin 2048) :
    lseArr t l (ix4 b h R 0) = t (ix3 b h R) + Ideal.log (l (ix3 b h R)) := by
  unfold lseArr
  pointwise

theorem probArr_apply (e : FVec Ideal S2x8x2048x2048 .f32) (l : FVec Ideal S2x8x2048 .f32) (b : Fin 2) (h : Fin 8)
    (R C : Fin 2048) : probArr e l (ix4 b h R C) = Ideal.div (e (ix4 b h R C)) (l (ix3 b h R)) := by
  unfold probArr
  pointwise

theorem outArr_apply (kv : FVec Ideal S2x2048x8x256 .f32) (p : FVec Ideal S2x8x2048x2048 .f32) (b : Fin 2) (R : Fin 2048)
    (h : Fin 8) (d : Fin 128) :
    outArr kv p (ix3 b R (colO h d)) = ∑ C, kv (ix4 b C h ⟨128 + d.val, by omega⟩) * p (ix4 b h R C) := by
  have e1 : (h.val * 128 + d.val) / 128 = h.val := by omega
  have e2 : (h.val * 128 + d.val) % 128 = d.val := by omega
  unfold outArr
  pointwise
  simp only [e1, e2, Fin.eta]

/-! ## The kernel's arrays -/

variable (m : (ℓ : Loc nD τ sig) → Buf (Elt Ideal) ℓ) (c : Dev nD)

/-- The program's arguments: queries, keys, keys and values, cotangent. -/
abbrev q0 : FVec Ideal S2x2048x8x192 .f32 := m (c, Proc.tc.devRef main_arg0)
abbrev k0 : FVec Ideal S2x2048x8x192 .f32 := m (c, Proc.tc.devRef main_arg1)
abbrev kv0 : FVec Ideal S2x2048x8x256 .f32 := m (c, Proc.tc.devRef main_arg2)
abbrev g0 : FVec Ideal S2x2048x2048 .f32 := m (c, Proc.tc.devRef main_arg3)

open StableHlo in
theorem Qm_eq : Qm m c = padArr (q0 m c) := by
  unfold Qm V
  simp only [hostOps0, hostOps0_1, hostOps0_2, hostOps0_3, hostOps0_4, hostOps0_5, hostOps0_6, List.flatten_cons,
    List.flatten_nil, List.append_nil, List.cons_append, List.nil_append, TRef.binary, TRef.nullary, TRef.ternary,
    TRef.unary, TRef.toBuf, TRef.ofBuf, cast_eq]
  after_results_simp
  rfl

open StableHlo in
theorem Km_eq : Km m c = padArr (k0 m c) := by
  unfold Km V
  simp only [hostOps0, hostOps0_1, hostOps0_2, hostOps0_3, hostOps0_4, hostOps0_5, hostOps0_6, List.flatten_cons,
    List.flatten_nil, List.append_nil, List.cons_append, List.nil_append, TRef.binary, TRef.nullary, TRef.ternary,
    TRef.unary, TRef.toBuf, TRef.ofBuf, cast_eq]
  after_results_simp
  rfl

open StableHlo in
theorem KVm_eq : KVm m c = shapeCast S2x2048x2048 (kv0 m c) shapeCasts_S2x2048x8x256_S2x2048x2048 := by
  unfold KVm V
  simp only [hostOps0, hostOps0_1, hostOps0_2, hostOps0_3, hostOps0_4, hostOps0_5, hostOps0_6, List.flatten_cons,
    List.flatten_nil, List.append_nil, List.cons_append, List.nil_append, TRef.binary, TRef.nullary, TRef.ternary,
    TRef.unary, TRef.toBuf, TRef.ofBuf, cast_eq]
  after_results_simp
  rfl

open StableHlo in
theorem Gm_eq : Gm m c = g0 m c := by
  unfold Gm V
  simp only [hostOps0, hostOps0_1, hostOps0_2, hostOps0_3, hostOps0_4, hostOps0_5, hostOps0_6, List.flatten_cons,
    List.flatten_nil, List.append_nil, List.cons_append, List.nil_append, TRef.binary, TRef.nullary, TRef.ternary,
    TRef.unary, TRef.toBuf, TRef.ofBuf, cast_eq]
  after_results_simp

open StableHlo in
theorem Lm_eq : Lm m c = lseArr (topArr (scoreArr (q0 m c) (k0 m c)))
    (sumArr (expArr (scoreArr (q0 m c) (k0 m c)) (topArr (scoreArr (q0 m c) (k0 m c))))) := by
  unfold Lm V
  simp only [hostOps0, hostOps0_1, hostOps0_2, hostOps0_3, hostOps0_4, hostOps0_5, hostOps0_6, List.flatten_cons,
    List.flatten_nil, List.append_nil, List.cons_append, List.nil_append, TRef.binary, TRef.nullary, TRef.ternary,
    TRef.unary, TRef.toBuf, TRef.ofBuf, cast_eq]
  after_results_simp
  simp only [id_eq]
  unfold lseArr sumArr expArr topArr scoreArr
  rfl

open StableHlo in
theorem Om_eq : Om m c = outArr (kv0 m c) (probArr (expArr (scoreArr (q0 m c) (k0 m c)) (topArr' (topArr (scoreArr (q0 m c) (k0 m c)))))
    (sumArr (expArr (scoreArr (q0 m c) (k0 m c)) (topArr' (topArr (scoreArr (q0 m c) (k0 m c))))))) := by
  unfold Om V
  simp only [hostOps0, hostOps0_1, hostOps0_2, hostOps0_3, hostOps0_4, hostOps0_5, hostOps0_6, List.flatten_cons,
    List.flatten_nil, List.append_nil, List.cons_append, List.nil_append, TRef.binary, TRef.nullary, TRef.ternary,
    TRef.unary, TRef.toBuf, TRef.ofBuf, cast_eq]
  after_results_simp
  simp only [id_eq]
  unfold outArr probArr sumArr expArr topArr' topArr scoreArr
  rfl
-- ==== Proof.Reference.lean ====
/- The reference's gradients at an index: the masked scores, each row's greatest score and sum, the gradient of the
   scores, and its products with the keys, the queries and the cotangent. -/
module

public import proofs.«01_k».proof.Proof.Gen.ReferenceIdeal.Read
public import Idealize.ShloMosaic.Lib.Pointwise
public import Idealize.ShloMosaic.Lib.WordCmp
public import Idealize.ShloMosaic.Lib.Tactic.CleanTypes

@[expose] public section
set_option maxRecDepth 16384
noncomputable section
namespace Cert.Attn.Ref
open Idealize.ShloMosaic Idealize.ShloMosaic.WordCmp Idealize.SL.Sem Cert.ReferenceIdeal Cert.ReferenceIdeal.Gen Cert.ReferenceIdeal.Read

variable (q k : FVec Ideal S2x2048x8x192 .f32) (kv : FVec Ideal S2x2048x8x256 .f32) (g : FVec Ideal S2x2048x2048 .f32)

theorem bits_bot : Ideal.ofBits FTy.f32 0xFF800000#32 = ⊥ := by
  simp [Ideal.ofBits, Ideal.ieee]

theorem bits_one : Ideal.ofBits FTy.f32 0x3F800000#32 = 1 := by
  simp [Ideal.ofBits, Ideal.ieee, -EReal.coe_mul]; norm_num

/-- The masked scores. -/
def scores : FVec Ideal S2x8x2048x2048 .f32 := val_main_v13_0 (F := Ideal) q k
/-- The greatest score of each row. -/
def tops : FVec Ideal S2x8x2048 .f32 := val_main_v14 (F := Ideal) q k
/-- The exponential of each score less its row's greatest. -/
def expos : FVec Ideal S2x8x2048x2048 .f32 := val_main_v34 (F := Ideal) q k
/-- The sum of each row's exponentials. -/
def totals : FVec Ideal S2x8x2048 .f32 := val_main_v35 (F := Ideal) q k
/-- The probabilities. -/
def probs : FVec Ideal S2x8x2048x2048 .f32 := val_main_v38 (F := Ideal) q k
/-- The inverse of the square of each row's sum. -/
def invs : FVec Ideal S2x8x2048x1 .f32 := val_main_v41 (F := Ideal) q k
/-- The cotangent of the attention's output. -/
def cts : FVec Ideal S2x8x128x2048 .f32 := val_main_v44 (F := Ideal) g
/-- The values. -/
def vals : FVec Ideal S2x2048x8x128 .f32 := val_main_v0 (F := Ideal) kv
/-- The gradient of the probabilities. -/
def dprobs : FVec Ideal S2x8x2048x2048 .f32 := val_main_v45 (F := Ideal) kv g
/-- The mean of each row's gradient of the probabilities. -/
def means : FVec Ideal S2x8x2048 .f32 := val_main_v51 (F := Ideal) q k kv g
/-- The gradient of the scores. -/
def dscores : FVec Ideal S2x8x2048x2048 .f32 := val_main_v62 (F := Ideal) q k kv g
/-- The gradient of the queries. -/
def gradQs : FVec Ideal S2x2048x2048 .f32 := val_main_v68 (F := Ideal) q k kv g
/-- The gradient of the keys. -/
def gradKs : FVec Ideal S2x2048x2048 .f32 := val_main_v70 (F := Ideal) q k kv g
/-- The gradient of the values. -/
def gradVs : FVec Ideal S2x2048x1024 .f32 := val_main_v71 (F := Ideal) q k g

theorem mask_apply (b : Fin 2) (h : Fin 8) (R C : Fin 2048) :
    val_main_v13_1 (F := Ideal) (ix4 b h R C) = if C.val ≤ R.val then 1#1 else 0#1 := by
  unfold val_main_v13_1 val_main_v12 val_main_v11 val_main_v10 val_main_v9 val_main_v8 val_main_v7 val_main_v6
  pointwise
  rw [cmpi_sge_ofNat (by omega) (by omega), ofBool_decide_eq_ite]

theorem score_apply (b : Fin 2) (h : Fin 8) (R C : Fin 2048) :
    scores q k (ix4 b h R C)
      = if C.val ≤ R.val then (∑ x, q (ix4 b R h x) * k (ix4 b C h x)) * Ideal.ofBits FTy.f32 0x3D93CD3A#32 else ⊥ := by
  unfold scores val_main_v13_0 val_main_v5 val_main_v4 val_main_v3 val_main_cst val_main_call0_v2 val_main_call0_v0 val_main_cst_0
  simp only [id_eq]
  pointwise [mask_apply, id_eq]
  rw [bits_bot]
  by_cases e : C.val ≤ R.val <;> simp [e, Scalar.select]

theorem top_apply (b : Fin 2) (h : Fin 8) (R : Fin 2048) :
    tops q k (ix3 b h R) = Finset.univ.fold max ⊥ fun C => scores q k (ix4 b h R C) := by
  unfold scores tops val_main_v14 val_main_cst_1
  generalize val_main_v13_0 (F := Ideal) q k = x0
  pointwise
  rw [bits_bot]

/-- The exponentials of scores less their rows' greatest, for any scores and any greatest scores. -/
theorem exp_stage (s : FVec Ideal S2x8x2048x2048 .f32) (t : FVec Ideal S2x8x2048 .f32) (b : Fin 2) (h : Fin 8) (R C : Fin 2048) :
    Host.exp (subf s (broadcastInDim S2x8x2048x2048 ![0, 1, 2, 3] bcast_S2x8x2048x1_S2x8x2048x2048_0_1_2_3
      (broadcastInDim S2x8x2048x1 ![0, 1, 2] bcast_S2x8x2048_S2x8x2048x1_0_1_2
        (maximumf (broadcastInDim S2x8x2048 ![] bcast_S_S2x8x2048 (constant S_ FTy.f32 0xFF800000#32)) t)))) (ix4 b h R C)
      = Ideal.exp (s (ix4 b h R C) - t (ix3 b h R)) := by
  pointwise
  rw [bits_bot]
  simp

theorem exp_apply (b : Fin 2) (h : Fin 8) (R C : Fin 2048) :
    expos q k (ix4 b h R C) = Ideal.exp (scores q k (ix4 b h R C) - tops q k (ix3 b h R)) :=
  exp_stage (scores q k) (tops q k) b h R C

theorem sum_apply (b : Fin 2) (h : Fin 8) (R : Fin 2048) :
    totals q k (ix3 b h R) = ∑ C, expos q k (ix4 b h R C) := by
  unfold expos totals val_main_v35 val_main_cst_9
  generalize val_main_v34 (F := Ideal) q k = x0
  pointwise

theorem prob_apply (b : Fin 2) (h : Fin 8) (R C : Fin 2048) :
    probs q k (ix4 b h R C) = Ideal.div (expos q k (ix4 b h R C)) (totals q k (ix3 b h R)) := by
  unfold expos totals probs val_main_v38 val_main_v37 val_main_v36
  generalize val_main_v34 (F := Ideal) q k = x0
  generalize val_main_v35 (F := Ideal) q k = x1
  pointwise

theorem inv_apply (b : Fin 2) (h : Fin 8) (R : Fin 2048) :
    invs q k (ix4 b h R 0) = Ideal.div 1 (totals q k (ix3 b h R) * totals q k (ix3 b h R)) := by
  unfold totals invs val_main_v41 val_main_v40 val_main_v39 val_main_v36 val_main_cst_10
  generalize val_main_v35 (F := Ideal) q k = x0
  pointwise

theorem ct_apply (b : Fin 2) (h : Fin 8) (d : Fin 128) (R : Fin 2048) :
    cts g (ix4 b h d R) = g (ix3 b R ⟨1024 + h.val * 128 + d.val, by omega⟩) := by
  unfold cts val_main_v44 val_main_v2 val_main_v1
  pointwise
  simp only [Nat.add_assoc]

theorem v_apply (b : Fin 2) (h : Fin 8) (d : Fin 128) (C : Fin 2048) :
    vals kv (ix4 b C h d) = kv (ix4 b C h ⟨128 + d.val, by omega⟩) := by
  unfold vals val_main_v0
  pointwise

theorem dprob_apply (b : Fin 2) (h : Fin 8) (R C : Fin 2048) :
    dprobs kv g (ix4 b h R C) = ∑ d : Fin 128, g (ix3 b R ⟨1024 + h.val * 128 + d.val, by omega⟩)
      * kv (ix4 b C h ⟨128 + d.val, by omega⟩) := by
  have key : dprobs kv g (ix4 b h R C) = ∑ d : Fin 128, cts g (ix4 b h d R) * vals kv (ix4 b C h d) := by
    unfold dprobs cts vals val_main_v45
    generalize val_main_v44 (F := Ideal) g = x0
    generalize val_main_v0 (F := Ideal) kv = x1
    pointwise
  rw [key]
  exact Finset.sum_congr rfl fun d _ => by rw [ct_apply, v_apply]

theorem mean_apply (b : Fin 2) (h : Fin 8) (R : Fin 2048) :
    means q k kv g (ix3 b h R) = ∑ C, dprobs kv g (ix4 b h R C) * invs q k (ix4 b h R 0)
      * expos q k (ix4 b h R C) := by
  unfold dprobs invs expos means val_main_v51 val_main_v50 val_main_v49 val_main_v48 val_main_cst_11
  generalize val_main_v45 (F := Ideal) kv g = x0
  generalize val_main_v41 (F := Ideal) q k = x1
  generalize val_main_v34 (F := Ideal) q k = x2
  pointwise

theorem dscore_apply (b : Fin 2) (h : Fin 8) (R C : Fin 2048) :
    dscores q k kv g (ix4 b h R C)
      = (if C.val ≤ R.val then (Ideal.div (dprobs kv g (ix4 b h R C)) (totals q k (ix3 b h R))
          + -means q k kv g (ix3 b h R)) * expos q k (ix4 b h R C) else 0)
        * Ideal.ofBits FTy.f32 0x3D93CD3A#32 := by
  unfold dprobs totals means expos dscores val_main_v62 val_main_v61 val_main_v60 val_main_v59 val_main_v58 val_main_v57 val_main_v56 val_main_v55
    val_main_v54 val_main_v53 val_main_v52 val_main_v36 val_main_cst_12 val_main_cst_13 val_main_call1_v0 val_main_call1_cst
  generalize val_main_v45 (F := Ideal) kv g = x0
  generalize val_main_v35 (F := Ideal) q k = x1
  generalize val_main_v51 (F := Ideal) q k kv g = x2
  generalize val_main_v34 (F := Ideal) q k = x3
  pointwise [mask_apply]
  by_cases e : C.val ≤ R.val <;> simp [e, Scalar.select]

theorem zero_apply (i : S_.Idx) : val_main_call2_v0 (F := Ideal) i = 0 := by
  show (((0#32 : BitVec 32).toInt : ℝ) : EReal) = 0
  simp

theorem zero_apply' (i : S_.Idx) : val_main_call3_v0 (F := Ideal) i = 0 := by
  show (((0#32 : BitVec 32).toInt : ℝ) : EReal) = 0
  simp

theorem gradQ_apply (b : Fin 2) (R : Fin 2048) (h : Fin 8) (d : Fin 256) :
    gradQs q k kv g (ix3 b R ⟨h.val * 256 + d.val, by omega⟩)
      = if hd : d.val < 192 then ∑ C, dscores q k kv g (ix4 b h R C) * k (ix4 b C h ⟨d.val, hd⟩) else 0 := by
  have e1 : (h.val * 256 + d.val) / 256 = h.val := by omega
  have e2 : (h.val * 256 + d.val) % 256 = d.val := by omega
  unfold dscores gradQs val_main_v68 val_main_v67 val_main_v66 val_main_v65
  generalize val_main_v62 (F := Ideal) q k kv g = x0
  pointwise [zero_apply]

theorem gradK_apply (b : Fin 2) (C : Fin 2048) (h : Fin 8) (d : Fin 256) :
    gradKs q k kv g (ix3 b C ⟨h.val * 256 + d.val, by omega⟩)
      = if hd : d.val < 192 then ∑ R, dscores q k kv g (ix4 b h R C) * q (ix4 b R h ⟨d.val, hd⟩) else 0 := by
  have e1 : (h.val * 256 + d.val) / 256 = h.val := by omega
  have e2 : (h.val * 256 + d.val) % 256 = d.val := by omega
  unfold dscores gradKs val_main_v70 val_main_v69 val_main_v64 val_main_v63
  generalize val_main_v62 (F := Ideal) q k kv g = x0
  pointwise [zero_apply']

theorem gradV_apply (b : Fin 2) (C : Fin 2048) (h : Fin 8) (d : Fin 128) :
    gradVs q k g (ix3 b C ⟨h.val * 128 + d.val, by omega⟩)
      = ∑ R, g (ix3 b R ⟨1024 + h.val * 128 + d.val, by omega⟩) * probs q k (ix4 b h R C) := by
  have e1 : (h.val * 128 + d.val) / 128 = h.val := by omega
  have e2 : (h.val * 128 + d.val) % 128 = d.val := by omega
  have key : gradVs q k g (ix3 b C ⟨h.val * 128 + d.val, by omega⟩)
      = ∑ R, cts g (ix4 b h d R) * probs q k (ix4 b h R C) := by
    unfold gradVs cts probs val_main_v71 val_main_v47 val_main_v46
    generalize val_main_v44 (F := Ideal) g = x0
    generalize val_main_v38 (F := Ideal) q k = x1
    pointwise
  rw [key]
  exact Finset.sum_congr rfl fun R _ => by rw [ct_apply]
end Cert.Attn.Ref
end
-- ==== Proof.Softmax.lean ====
/- One row of a causally masked softmax over the extended reals, its scores real numbers: the greatest score is a
   real number, the exponentials and their sum are real, and the sum is positive. Then the two ways of writing the
   gradient of a score agree. -/
module

public import Idealize.ShloMosaic.PureOps.Ideal.Laws
public import Mathlib.Data.EReal.Operations
public import Mathlib.Data.EReal.Inv
public import Mathlib.Analysis.SpecialFunctions.Log.Basic

@[expose] public section
noncomputable section
namespace Cert.Attn
open Idealize.ShloMosaic

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

section
variable {n : ℕ} (R : Fin n) (σ : Fin n → ℝ)

/-- A row's masked scores. -/
def row (C : Fin n) : EReal := if C.val ≤ R.val then (σ C : EReal) else ⊥

/-- The exponentials of a row's scores less `M`, as real numbers. -/
def expR (M : ℝ) (C : Fin n) : ℝ := if C.val ≤ R.val then Real.exp (σ C - M) else 0

theorem top_real : ∃ M : ℝ, Finset.univ.fold max ⊥ (row R σ) = (M : EReal) := by
  have hn : (Finset.univ : Finset (Fin n)).Nonempty := ⟨R, Finset.mem_univ _⟩
  have e : Finset.univ.fold max ⊥ (row R σ) = Finset.univ.sup (row R σ) := rfl
  obtain ⟨C, _, hC⟩ := Finset.exists_mem_eq_sup _ hn (row R σ)
  have hR : row R σ R ≤ Finset.univ.sup (row R σ) := Finset.le_sup (Finset.mem_univ _)
  rw [e, hC]
  rw [hC] at hR
  unfold row at hR ⊢
  rw [if_pos (le_refl _)] at hR
  by_cases h : C.val ≤ R.val
  · exact ⟨σ C, by rw [if_pos h]⟩
  · rw [if_neg h] at hR
    exact absurd (le_bot_iff.mp hR) (EReal.coe_ne_bot _)

theorem exp_row (M : ℝ) (C : Fin n) : Ideal.exp (row R σ C - (M : EReal)) = (expR R σ M C : EReal) := by
  unfold row expR
  by_cases h : C.val ≤ R.val
  · rw [if_pos h, if_pos h, ← EReal.coe_sub]; rfl
  · rw [if_neg h, if_neg h, EReal.bot_sub]; rfl

theorem expR_nonneg (M : ℝ) (C : Fin n) : 0 ≤ expR R σ M C := by
  unfold expR
  split
  · exact (Real.exp_pos _).le
  · exact le_refl _

theorem sum_pos (M : ℝ) : 0 < ∑ C, expR R σ M C :=
  Finset.sum_pos' (fun C _ => expR_nonneg R σ M C)
    ⟨R, Finset.mem_univ _, by unfold expR; rw [if_pos (le_refl _)]; exact Real.exp_pos _⟩

theorem div_real (x : ℝ) {l : ℝ} (hl : 0 < l) : Ideal.div (x : EReal) (l : EReal) = ((x / l : ℝ) : EReal) := by
  rw [Ideal.div_coe hl.ne', ← EReal.coe_mul, mul_one_div]

/-- A score less the row's log-sum, exponentiated, is the exponential over the row's sum. -/
theorem exp_lse (s M : ℝ) {l : ℝ} (hl : 0 < l) :
    Ideal.exp ((s : EReal) - ((M : EReal) + Ideal.log (l : EReal))) = ((Real.exp (s - M) / l : ℝ) : EReal) := by
  rw [Ideal.log_coe, if_neg (not_le.mpr hl), ← EReal.coe_add, ← EReal.coe_sub, Ideal.exp_coe, ← sub_sub, Real.exp_sub,
    Real.exp_log hl]

/-- The mean of a row's gradient, read through the output: each row's product of the cotangent with the output is the
    sum over the keys of the gradient of the probability times the probability. -/
theorem mean_out {D : ℕ} (g : Fin D → ℝ) (v : Fin n → Fin D → ℝ) (p : Fin n → ℝ) :
    ∑ d, g d * ∑ C, v C d * p C = ∑ C, (∑ d, g d * v C d) * p C := by
  simp only [Finset.mul_sum, Finset.sum_mul]
  rw [Finset.sum_comm]
  exact Finset.sum_congr rfl fun C _ => Finset.sum_congr rfl fun d _ => by ring

/-- The two ways of writing a score's gradient. -/
theorem dscore_two_ways (E dp : Fin n → ℝ) {l : ℝ} (hl : 0 < l) (sc : ℝ) (C : Fin n) :
    E C / l * (dp C - ∑ C', dp C' * (E C' / l)) * sc
      = (dp C / l + -∑ C', dp C' * (1 / (l * l)) * E C') * E C * sc := by
  have hl' := hl.ne'
  have e : ∑ C', dp C' * (1 / (l * l)) * E C' = (∑ C', dp C' * (E C' / l)) / l := by
    rw [Finset.sum_div]
    exact Finset.sum_congr rfl fun C' _ => by field_simp
  rw [e]
  field_simp
  ring
end
end Cert.Attn
end
-- ==== Proof.Tie.lean ====
/- The kernel's probabilities and score gradients are the reference's, where the arguments hold real numbers. -/
module

public import proofs.«01_k».proof.Proof.Saved
public import proofs.«01_k».proof.Proof.Reference
public import proofs.«01_k».proof.Proof.Softmax

@[expose] public section
set_option maxRecDepth 16384
noncomputable section
namespace Cert.Attn
open Idealize.ShloMosaic Cert.KernelIdeal Cert.KernelIdeal.Gen

/-- The scores' scale as a real number. -/
theorem scale_real : ∃ r : ℝ, scale = (r : EReal) := by
  unfold scale
  simp only [Ideal.ofBits, Ideal.ieee]
  exact ⟨_, rfl⟩

/-- A sum over a head's 256 columns of an entry that is 0 from column 192 on. -/
theorem sum_pad (f : Fin 192 → EReal) : ∑ d : Fin 256, (if hd : d.val < 192 then f ⟨d.val, hd⟩ else 0) = ∑ x, f x := by
  rw [Fin.sum_univ_add (a := 192) (b := 64)]
  simp

theorem kv_apply (kv : FVec Ideal S2x2048x8x256 .f32) (b : Fin 2) (C : Fin 2048) (h : Fin 8) (d : Fin 128) :
    (shapeCast S2x2048x2048 kv shapeCasts_S2x2048x8x256_S2x2048x2048) (ix3 b C (colV h d))
      = kv (ix4 b C h ⟨128 + d.val, by omega⟩) := by
  have e1 : (h.val * 256 + 128 + d.val) / 256 = h.val := by omega
  have e2 : (h.val * 256 + 128 + d.val) % 256 = 128 + d.val := by omega
  pointwise
  simp only [e1, e2, Fin.eta]

variable (q k : FVec Ideal S2x2048x8x192 .f32) (kv : FVec Ideal S2x2048x8x256 .f32) (g : FVec Ideal S2x2048x2048 .f32)

/-- The saved log-sums. -/
def lse : FVec Ideal S2x8x2048x1 .f32 :=
  lseArr (topArr (scoreArr q k)) (sumArr (expArr (scoreArr q k) (topArr (scoreArr q k))))

/-- The saved output. -/
def out : FVec Ideal S2x2048x1024 .f32 :=
  outArr kv (probArr (expArr (scoreArr q k) (topArr' (topArr (scoreArr q k))))
    (sumArr (expArr (scoreArr q k) (topArr' (topArr (scoreArr q k))))))

/-- The arguments' entries that the attention reads are real numbers. -/
structure Real4 : Prop where
  hq : ∀ b R h x, ∃ r : ℝ, q (ix4 b R h x) = (r : EReal)
  hk : ∀ b C h x, ∃ r : ℝ, k (ix4 b C h x) = (r : EReal)
  hv : ∀ b C h (d : Fin 128), ∃ r : ℝ, kv (ix4 b C h ⟨128 + d.val, by omega⟩) = (r : EReal)
  hg : ∀ b R h d, ∃ r : ℝ, g (ix3 b R (colG h d)) = (r : EReal)

variable {q k kv g}

/-- What one row of one head comes to: the score, the exponential and the sum as real numbers, on both sides. -/
theorem row_facts (H : Real4 q k kv g) (b : Fin 2) (h : Fin 8) (R : Fin 2048) :
    ∃ (σ : Fin 2048 → ℝ) (M : ℝ),
      (∀ C, (∑ x, q (ix4 b R h x) * k (ix4 b C h x)) * scale = (σ C : EReal)) ∧
      lse q k (ix4 b h R 0) = (M : EReal) + Ideal.log ((∑ C, expR R σ M C : ℝ) : EReal) ∧
      (∀ d, out q k kv (ix3 b R (colO h d)) = ∑ C, kv (ix4 b C h ⟨128 + d.val, by omega⟩)
        * ((expR R σ M C / ∑ C, expR R σ M C : ℝ) : EReal)) ∧
      (∀ C, Ref.expos q k (ix4 b h R C) = (expR R σ M C : EReal)) ∧
      Ref.totals q k (ix3 b h R) = ((∑ C, expR R σ M C : ℝ) : EReal) := by
  obtain ⟨sc, hsc⟩ := scale_real
  have hσ : ∀ C, ∃ r : ℝ, (∑ x, q (ix4 b R h x) * k (ix4 b C h x)) * scale = (r : EReal) := fun C => by
    choose qr hqr using H.hq b R h
    choose kr hkr using H.hk b C h
    refine ⟨(∑ x, qr x * kr x) * sc, ?_⟩
    simp only [hqr, hkr, hsc, ← EReal.coe_mul, sum_coe]
  choose σ hσ using hσ
  obtain ⟨M, hM⟩ := top_real R σ
  have hs : ∀ C, scoreArr q k (ix4 b h R C) = row R σ C := fun C => by
    rw [scoreArr_apply, hσ]; rfl
  have ht : topArr (scoreArr q k) (ix3 b h R) = (M : EReal) := by
    rw [topArr_apply, ← hM]
    exact congrArg (fun f => Finset.univ.fold max ⊥ f) (funext hs)
  have ht' : topArr' (topArr (scoreArr q k)) (ix3 b h R) = (M : EReal) := by rw [topArr'_apply, ht]
  have hl := sum_pos R σ M
  have hs' : ∀ C, Ref.scores q k (ix4 b h R C) = row R σ C := fun C => by
    rw [Ref.score_apply]
    show (if C.val ≤ R.val then (∑ x, q (ix4 b R h x) * k (ix4 b C h x)) * scale else ⊥) = _
    rw [hσ]; rfl
  have hT : Ref.tops q k (ix3 b h R) = (M : EReal) := by
    rw [Ref.top_apply, ← hM]
    exact congrArg (fun f => Finset.univ.fold max ⊥ f) (funext hs')
  have hE : ∀ C, Ref.expos q k (ix4 b h R C) = (expR R σ M C : EReal) := fun C => by
    rw [Ref.exp_apply, hs', hT, exp_row]
  have he : ∀ C, expArr (scoreArr q k) (topArr (scoreArr q k)) (ix4 b h R C) = (expR R σ M C : EReal) := fun C => by
    rw [expArr_apply, hs, ht, exp_row]
  have he' : ∀ C, expArr (scoreArr q k) (topArr' (topArr (scoreArr q k))) (ix4 b h R C) = (expR R σ M C : EReal) := fun C => by
    rw [expArr_apply, hs, ht', exp_row]
  refine ⟨σ, M, hσ, ?_, fun d => ?_, hE, ?_⟩
  · unfold lse
    rw [lseArr_apply, ht, sumArr_apply]
    simp only [he, sum_coe]
  · unfold out
    rw [outArr_apply]
    refine Finset.sum_congr rfl fun C _ => ?_
    rw [probArr_apply, sumArr_apply]
    simp only [he', sum_coe]
    rw [div_real _ hl]
  · rw [Ref.sum_apply]
    simp only [hE, sum_coe]

theorem score_pad (q k : FVec Ideal S2x2048x8x192 .f32) (b : Fin 2) (h : Fin 8) (R C : Fin 2048) :
    ∑ d : Fin 256, padArr q (ix3 b R (colQ h d)) * padArr k (ix3 b C (colQ h d))
      = ∑ x, q (ix4 b R h x) * k (ix4 b C h x) := by
  rw [← sum_pad]
  refine Finset.sum_congr rfl fun d _ => ?_
  rw [padArr_apply, padArr_apply]
  by_cases hd : d.val < 192
  · rw [dif_pos hd, dif_pos hd, dif_pos hd]
  · rw [dif_neg hd, dif_neg hd, dif_neg hd, mul_zero]

/-- The kernel's masked probabilities are the reference's. -/
theorem maskP_eq (H : Real4 q k kv g) (b : Fin 2) (h : Fin 8) (R C : Fin 2048) :
    maskP (padArr q) (padArr k) (lse q k) b h R C = Ref.probs q k (ix4 b h R C) := by
  obtain ⟨σ, M, hσ, hL, -, hE, hT⟩ := row_facts H b h R
  have hl := sum_pos R σ M
  rw [Ref.prob_apply, hE, hT, div_real _ hl]
  unfold maskP probA
  rw [score_pad, hσ, hL, exp_lse _ _ hl]
  unfold expR
  split
  · rfl
  · rw [zero_div]; rfl

/-- The kernel's masked gradients of the scores are the reference's. -/
theorem maskD_eq (H : Real4 q k kv g) (b : Fin 2) (h : Fin 8) (R C : Fin 2048) :
    maskD (padArr q) (padArr k) (shapeCast S2x2048x2048 kv shapeCasts_S2x2048x8x256_S2x2048x2048) g (out q k kv) (lse q k) b h R C
      = Ref.dscores q k kv g (ix4 b h R C) := by
  obtain ⟨σ, M, hσ, hL, hO, hE, hT⟩ := row_facts H b h R
  obtain ⟨sc, hsc⟩ := scale_real
  have hl := sum_pos R σ M
  choose gr hgr using H.hg b R h
  have hv : ∀ C (d : Fin 128), ∃ r : ℝ, kv (ix4 b C h ⟨128 + d.val, by omega⟩) = (r : EReal) := fun C d => H.hv b C h d
  choose vr hvr using hv
  have hdp : ∀ C, Ref.dprobs kv g (ix4 b h R C) = ((∑ d, gr d * vr C d : ℝ) : EReal) := fun C => by
    rw [Ref.dprob_apply, ← sum_coe]
    refine Finset.sum_congr rfl fun d _ => ?_
    rw [EReal.coe_mul, ← hgr, ← hvr]
  have hinv : Ref.invs q k (ix4 b h R 0)
      = ((1 / ((∑ C, expR R σ M C) * ∑ C, expR R σ M C) : ℝ) : EReal) := by
    rw [Ref.inv_apply, hT, ← EReal.coe_mul, ← EReal.coe_one, div_real _ (mul_pos hl hl)]
  have hmean : Ref.means q k kv g (ix3 b h R) = ((∑ C, (∑ d, gr d * vr C d)
      * (1 / ((∑ C, expR R σ M C) * ∑ C, expR R σ M C)) * expR R σ M C : ℝ) : EReal) := by
    rw [Ref.mean_apply]
    simp only [hdp, hinv, hE, ← EReal.coe_mul, sum_coe]
  have hdelta : ∑ d : Fin 128, g (ix3 b R (colG h d)) * out q k kv (ix3 b R (colO h d))
      = ((∑ C, (∑ d, gr d * vr C d) * (expR R σ M C / ∑ C, expR R σ M C) : ℝ) : EReal) := by
    rw [← mean_out]
    simp only [hO, hgr, hvr, ← EReal.coe_mul, sum_coe]
  have hdp' : ∑ d : Fin 128, g (ix3 b R (colG h d))
      * (shapeCast S2x2048x2048 kv shapeCasts_S2x2048x8x256_S2x2048x2048) (ix3 b C (colV h d))
        = ((∑ d, gr d * vr C d : ℝ) : EReal) := by
    simp only [kv_apply, hgr, hvr, ← EReal.coe_mul, sum_coe]
  rw [Ref.dscore_apply]
  unfold maskD dscoreA probA
  rw [score_pad, hσ, hL, exp_lse _ _ hl, hdp', hdelta, hdp, hT, hmean, hE]
  show _ = _ * scale
  rw [hsc, div_real _ hl]
  by_cases hc : C.val ≤ R.val
  · rw [if_pos hc, if_pos hc]
    have key := dscore_two_ways (expR R σ M) (fun C => ∑ d, gr d * vr C d) hl sc C
    have e : expR R σ M C = Real.exp (σ C - M) := if_pos hc
    rw [← e, ← EReal.coe_sub, ← EReal.coe_neg, ← EReal.coe_add, ← EReal.coe_mul, ← EReal.coe_mul, ← EReal.coe_mul,
      ← EReal.coe_mul, key]
  · rw [if_neg hc, if_neg hc, zero_mul]

/-- The kernel's gradients are the reference's. -/
theorem gradQ_eq (H : Real4 q k kv g) (b : Fin 2) (h : Fin 8) (R : Fin 2048) (d : Fin 256) :
    gradQ (padArr q) (padArr k) (shapeCast S2x2048x2048 kv shapeCasts_S2x2048x8x256_S2x2048x2048) g (out q k kv) (lse q k) b h R d
      = Ref.gradQs q k kv g (ix3 b R (colQ h d)) := by
  rw [Ref.gradQ_apply]
  unfold gradQ
  simp only [maskD_eq H, padArr_apply]
  by_cases hd : d.val < 192
  · simp only [dif_pos hd]
  · simp only [dif_neg hd, mul_zero, Finset.sum_const_zero]

theorem gradK_eq (H : Real4 q k kv g) (b : Fin 2) (h : Fin 8) (C : Fin 2048) (d : Fin 256) :
    gradK (padArr q) (padArr k) (shapeCast S2x2048x2048 kv shapeCasts_S2x2048x8x256_S2x2048x2048) g (out q k kv) (lse q k) b h C d
      = Ref.gradKs q k kv g (ix3 b C (colQ h d)) := by
  rw [Ref.gradK_apply]
  unfold gradK
  simp only [maskD_eq H, padArr_apply]
  by_cases hd : d.val < 192
  · simp only [dif_pos hd]
  · simp only [dif_neg hd, mul_zero, Finset.sum_const_zero]

theorem gradV_eq (H : Real4 q k kv g) (b : Fin 2) (h : Fin 8) (C : Fin 2048) (d : Fin 128) :
    gradV (padArr q) (padArr k) g (lse q k) b h C d = Ref.gradVs q k g (ix3 b C (colO h d)) := by
  rw [Ref.gradV_apply]
  unfold gradV
  simp only [maskP_eq H]
  exact Finset.sum_congr rfl fun R _ => mul_comm _ _
end Cert.Attn
end
-- ==== Proof.Precondition.lean ====
/- What the precondition says: the entries of the queries, the keys, the values and the attention's cotangent are
   real numbers. -/
module

public import proofs.«01_k».proof.Proof.Tie
public import proofs.«01_k».proof.Proof.Gen.Pre_finite
public import Idealize.ShloMosaic.Lib.ReduceAll

@[expose] public section
set_option maxRecDepth 16384
noncomputable section
namespace Cert.Attn
open Idealize.ShloMosaic

theorem ofBits_top : Ideal.ofBits FTy.f32 0x7F800000#32 = ⊤ := by
  simp [Ideal.ofBits, Ideal.ieee]

theorem andi_one {x y : BitVec 1} (h : IntOp.andi x y = 1#1) : x = 1#1 ∧ y = 1#1 := by
  revert x y; decide

/-- An entry whose absolute value is below +∞ is a real number. -/
theorem real_of_abs_lt {x : Ideal .f32}
    (h : BitVec.ofBool (decide (FloatOps.absf x < Ideal.ofBits FTy.f32 0x7F800000#32)) = 1#1) :
    ∃ r : ℝ, x = (r : EReal) := by
  rw [ofBits_top] at h
  have h : FloatOps.absf x < (⊤ : EReal) := by
    by_contra n
    simp [n] at h
  change max (x : EReal) (-(x : EReal)) < ⊤ at h
  rw [max_lt_iff] at h
  refine ⟨(x : EReal).toReal, (EReal.coe_toReal h.1.ne fun e => ?_).symm⟩
  rw [e] at h
  simp at h

theorem real4 (q k : FVec Ideal Pre_finite.S2x2048x8x192 .f32) (kv : FVec Ideal Pre_finite.S2x2048x8x256 .f32)
    (g : FVec Ideal Pre_finite.S2x2048x2048 .f32) (h : Pre_finite.fn (F := Ideal) q k kv g = fun _ => 1#1) :
    Real4 q k kv g := by
  have h := congrFun h ix0
  dsimp only [Pre_finite.fn, Pre_finite.fn_part1] at h
  obtain ⟨h, hg⟩ := andi_one h
  obtain ⟨h, hv⟩ := andi_one h
  obtain ⟨hq, hk⟩ := andi_one h
  have hq := Host.reduce_andi_all _ _ _ _ _ hq
  have hk := Host.reduce_andi_all _ _ _ _ _ hk
  have hv := Host.reduce_andi_all _ _ _ _ _ hv
  have hg := Host.reduce_andi_all _ _ _ _ _ hg
  refine ⟨fun b R h x => ?_, fun b C h x => ?_, fun b C h d => ?_, fun b R h d => ?_⟩
  · have e := hq (ix4 b R h x)
    pointwise at e
    exact real_of_abs_lt e
  · have e := hk (ix4 b C h x)
    pointwise at e
    exact real_of_abs_lt e
  · have e := hv (ix4 b C h d)
    pointwise at e
    exact real_of_abs_lt e
  · have e := hg (ix3 b R ⟨h.val * 128 + d.val, by omega⟩)
    pointwise at e
    obtain ⟨r, e⟩ := real_of_abs_lt e
    exact ⟨r, (congrArg g (congrArg (ix3 b R) (Fin.ext (by simp only [colG]; omega)))).trans e⟩

end Cert.Attn
end
-- ==== Proof.Gradients.lean ====
/- The three arrays that the call writes are the reference's three gradients. -/
module

public import proofs.«01_k».proof.Proof.Precondition
public import proofs.«01_k».proof.Proof.Arrays
public import proofs.«01_k».proof.Proof.Saved

@[expose] public section
set_option maxRecDepth 16384
noncomputable section
namespace Cert.Attn
open Idealize.ShloMosaic Cert.KernelIdeal Cert.KernelIdeal.Value Cert.KernelIdeal.Gen

/-- An array's place, its last coordinate taken apart into a head and a column of 256. -/
theorem place256 (i : S2x2048x2048.Idx) : ix3 (i 0) (i 1)
    (colQ ⟨(i 2).val / 256, by have h : (i 2).val < 2048 := (i 2).isLt; omega⟩ ⟨(i 2).val % 256, Nat.mod_lt _ (by decide)⟩) = i := by
  funext a
  fin_cases a
  · rfl
  · rfl
  · exact Fin.ext (by show (i 2).val / 256 * 256 + (i 2).val % 256 = (i 2).val; omega)

/-- The same with columns of 128. -/
theorem place128 (i : S2x2048x1024.Idx) : ix3 (i 0) (i 1)
    (colO ⟨(i 2).val / 128, by have h : (i 2).val < 1024 := (i 2).isLt; omega⟩ ⟨(i 2).val % 128, Nat.mod_lt _ (by decide)⟩) = i := by
  funext a
  fin_cases a
  · rfl
  · rfl
  · exact Fin.ext (by show (i 2).val / 128 * 128 + (i 2).val % 128 = (i 2).val; omega)

variable (m : (ℓ : Loc nD τ sig) → Buf (Elt Ideal) ℓ) (c : Dev nD)

theorem O_eq : Om m c = out (q0 m c) (k0 m c) (kv0 m c) := Om_eq m c
theorem L_eq : Lm m c = lse (q0 m c) (k0 m c) := Lm_eq m c

theorem arr6_ref (H : Real4 (q0 m c) (k0 m c) (kv0 m c) (g0 m c)) :
    (dats m 0 c).arrAt 6 cfg0.N = Ref.gradQs (q0 m c) (k0 m c) (kv0 m c) (g0 m c) := by
  refine (arr6 m c).trans (funext fun i => ?_)
  dsimp only
  rw [Qm_eq, Km_eq, KVm_eq, Gm_eq, O_eq, L_eq]
  exact (gradQ_eq H _ _ _ _).trans (congrArg _ (place256 i))

theorem arr7_ref (H : Real4 (q0 m c) (k0 m c) (kv0 m c) (g0 m c)) :
    (dats m 0 c).arrAt 7 cfg0.N = Ref.gradKs (q0 m c) (k0 m c) (kv0 m c) (g0 m c) := by
  refine (arr7 m c).trans (funext fun i => ?_)
  dsimp only
  rw [Qm_eq, Km_eq, KVm_eq, Gm_eq, O_eq, L_eq]
  exact (gradK_eq H _ _ _ _).trans (congrArg _ (place256 i))

theorem arr8_ref (H : Real4 (q0 m c) (k0 m c) (kv0 m c) (g0 m c)) :
    (dats m 0 c).arrAt 8 cfg0.N = Ref.gradVs (q0 m c) (k0 m c) (g0 m c) := by
  refine (arr8 m c).trans (funext fun i => ?_)
  dsimp only
  rw [Qm_eq, Km_eq, Gm_eq, L_eq]
  exact (gradV_eq H _ _ _ _).trans (congrArg _ (place128 i))

end Cert.Attn
end
-- ==== Proof.Ffn.GateUp.lean ====
/- The feed-forward block's two first products and their gated activation, tile by tile, are those over the whole arrays. -/
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.Pipeline.ValueKit
public import Idealize.ShloMosaic.Lib.Tactic.CleanTypes

@[expose] public section
set_option maxRecDepth 16384
noncomputable section
namespace Cert.GateUp
open Idealize.ShloMosaic Idealize.SL.Sem Cert.Kernel2Ideal Cert.Kernel2Ideal.Gen

/-- The gated activation: the gate times its logistic, times the other factor. -/
def act (g u : EReal) : EReal := g * Ideal.div 1 (1 + Ideal.exp (0 - g)) * u

/-- A tile of the gate, from the blocks. -/
theorem tile4 (x0 : Vec Ideal S1024x2048 .bf16) (x1 : Vec Ideal S512x2048 .bf16) (x2 : Vec Ideal S1024x2048 .bf16) (x3 : Vec Ideal S512x2048 .bf16) (r : Fin 1024) (s : Fin 512) :
    out0_4 (F := Ideal) x0 x1 x2 x3 (ix2 r s) = (∑ k : Fin 2048, x0 (ix2 r k) * x1 (ix2 s k)) := by
  unfold out0_4
  frame_out
  pointwise [k0_pay3, k0_pay1]

/-- A tile of the second product, from the blocks. -/
theorem tile5 (x0 : Vec Ideal S1024x2048 .bf16) (x1 : Vec Ideal S512x2048 .bf16) (x2 : Vec Ideal S1024x2048 .bf16) (x3 : Vec Ideal S512x2048 .bf16) (r : Fin 1024) (s : Fin 512) :
    out0_5 (F := Ideal) x0 x1 x2 x3 (ix2 r s) = (∑ k : Fin 2048, x2 (ix2 r k) * x3 (ix2 s k)) := by
  unfold out0_5
  frame_out
  pointwise [k0_pay4, k0_pay2]

/-- A tile of the activation, from the blocks. -/
theorem tile6 (x0 : Vec Ideal S1024x2048 .bf16) (x1 : Vec Ideal S512x2048 .bf16) (x2 : Vec Ideal S1024x2048 .bf16) (x3 : Vec Ideal S512x2048 .bf16) (r : Fin 1024) (s : Fin 512) :
    out0_6 (F := Ideal) x0 x1 x2 x3 (ix2 r s) = act (∑ k : Fin 2048, x0 (ix2 r k) * x1 (ix2 s k)) (∑ k : Fin 2048, x2 (ix2 r k) * x3 (ix2 s k)) := by
  unfold out0_6
  frame_out
  pointwise [k0_pay5, k0_pay1, k0_pay2, k0_pay3, k0_pay4, act]

variable (m : (ℓ : Loc nD τ sig) → Buf (Elt Ideal) ℓ) (c : Dev nD)

/-- The arrays that the program is given. -/
def H : FVec Ideal S4096x2048 .f32 := m (c, Proc.tc.devRef main_arg0)
def Wg : FVec Ideal S2048x5632 .f32 := m (c, Proc.tc.devRef main_arg1)
def Wu : FVec Ideal S2048x5632 .f32 := m (c, Proc.tc.devRef main_arg2)

/-- The two products over the whole arrays. -/
def gate (a : Fin 4096) (b : Fin 5632) : EReal := ∑ k : Fin 2048, H m c (ix2 a k) * Wg m c (ix2 k b)
def up (a : Fin 4096) (b : Fin 5632) : EReal := ∑ k : Fin 2048, H m c (ix2 a k) * Wu m c (ix2 k b)

theorem idx0 : ∀ t : Fin cfg0.N, win0_0.index t = ![t.val / 11, 0] := by decide +kernel
theorem idx1 : ∀ t : Fin cfg0.N, win0_1.index t = ![t.val % 11, 0] := by decide +kernel
theorem idx2 : ∀ t : Fin cfg0.N, win0_2.index t = ![t.val / 11, 0] := by decide +kernel
theorem idx3 : ∀ t : Fin cfg0.N, win0_3.index t = ![t.val % 11, 0] := by decide +kernel
theorem idx4 : ∀ t : Fin cfg0.N, win0_4.index t = ![t.val / 11, t.val % 11] := by decide +kernel
theorem idx5 : ∀ t : Fin cfg0.N, win0_5.index t = ![t.val / 11, t.val % 11] := by decide +kernel
theorem idx6 : ∀ t : Fin cfg0.N, win0_6.index t = ![t.val / 11, t.val % 11] := by decide +kernel

variable (t : Fin cfg0.N)

theorem N_lt : t.val < 44 := lt_of_lt_of_eq t.isLt N_0

/-- The row and the column of the arrays at a row and a column of the point's tile. -/
abbrev row (r : Fin 1024) : Fin 4096 := ⟨t.val / 11 * 1024 + r.val, by have := N_lt t; omega⟩
abbrev col (s : Fin 512) : Fin 5632 := ⟨t.val % 11 * 512 + s.val, by omega⟩

theorem V_v0 : (V m c main_v0 : Vec Ideal S4096x2048 .bf16) = H m c := by
  unfold V H
  open StableHlo in
  simp only [hostOps0, TRef.binary, TRef.nullary, TRef.ternary, TRef.unary, TRef.toBuf, TRef.ofBuf, cast_eq]
  after_results_simp
  rfl

theorem read0 (x : Vec Ideal S4096x2048 .bf16) (r : Fin 1024) (k : Fin 2048) :
    (((cfg0.win 0).blk t).view.read (Elt Ideal) x : Vec Ideal S1024x2048 .bf16) (ix2 r k) = x (ix2 (row t r) k) := by
  blk_ext [idx0 t]

theorem blk0 (r : Fin 1024) (k : Fin 2048) :
    (iblk m c 0 t : Vec Ideal S1024x2048 .bf16) (ix2 r k) = H m c (ix2 (row t r) k) :=
  (read0 t _ r k).trans (congrFun (V_v0 m c) _)

theorem V_v2 : (V m c main_v2 : Vec Ideal S5632x2048 .bf16) = transpose S5632x2048 [1, 0] (Wg m c) transposes_S2048x5632_S5632x2048_1_0 := by
  unfold V Wg
  open StableHlo in
  simp only [hostOps0, TRef.binary, TRef.nullary, TRef.ternary, TRef.unary, TRef.toBuf, TRef.ofBuf, cast_eq]
  after_results_simp
  rfl

theorem read1 (x : Vec Ideal S5632x2048 .bf16) (s : Fin 512) (k : Fin 2048) :
    (((cfg0.win 1).blk t).view.read (Elt Ideal) x : Vec Ideal S512x2048 .bf16) (ix2 s k) = x (ix2 (col t s) k) := by
  blk_ext [idx1 t]

theorem blk1 (s : Fin 512) (k : Fin 2048) :
    (iblk m c 1 t : Vec Ideal S512x2048 .bf16) (ix2 s k) = Wg m c (ix2 k (col t s)) :=
  (read1 t _ s k).trans ((congrFun (V_v2 m c) _).trans (by pointwise))

theorem read2 (x : Vec Ideal S4096x2048 .bf16) (r : Fin 1024) (k : Fin 2048) :
    (((cfg0.win 2).blk t).view.read (Elt Ideal) x : Vec Ideal S1024x2048 .bf16) (ix2 r k) = x (ix2 (row t r) k) := by
  blk_ext [idx2 t]

theorem blk2 (r : Fin 1024) (k : Fin 2048) :
    (iblk m c 2 t : Vec Ideal S1024x2048 .bf16) (ix2 r k) = H m c (ix2 (row t r) k) :=
  (read2 t _ r k).trans (congrFun (V_v0 m c) _)

theorem V_v4 : (V m c main_v4 : Vec Ideal S5632x2048 .bf16) = transpose S5632x2048 [1, 0] (Wu m c) transposes_S2048x5632_S5632x2048_1_0 := by
  unfold V Wu
  open StableHlo in
  simp only [hostOps0, TRef.binary, TRef.nullary, TRef.ternary, TRef.unary, TRef.toBuf, TRef.ofBuf, cast_eq]
  after_results_simp
  rfl

theorem read3 (x : Vec Ideal S5632x2048 .bf16) (s : Fin 512) (k : Fin 2048) :
    (((cfg0.win 3).blk t).view.read (Elt Ideal) x : Vec Ideal S512x2048 .bf16) (ix2 s k) = x (ix2 (col t s) k) := by
  blk_ext [idx3 t]

theorem blk3 (s : Fin 512) (k : Fin 2048) :
    (iblk m c 3 t : Vec Ideal S512x2048 .bf16) (ix2 s k) = Wu m c (ix2 k (col t s)) :=
  (read3 t _ s k).trans ((congrFun (V_v4 m c) _).trans (by pointwise))

/-- The whole of the gate. -/
def res4 : FVec Ideal S4096x5632 .bf16 := fun i => gate m c (i 0) (i 1)

theorem total4 : (dats m 0 c).arrAt 4 cfg0.N = res4 m c := by
  refine (dats m 0 c).arrAt_eq_of_covers 4 _ (by decide +kernel) fun t hf y => ?_
  blk_simp
  rw [after0_4]
  idx_vars y
  refine (tile4 _ _ _ _ _ _).trans ?_
  have e : ((View.whole main_v5_0).slice (win0_4.rect t)).emb (ix2 y0 y1) = ix2 (row t y0) (col t y1) := by
    blk_ext [idx4 t]
  rw [e]
  simp only [blk0, blk1, blk2, blk3, res4]
  rfl

/-- The whole of the second product. -/
def res5 : FVec Ideal S4096x5632 .bf16 := fun i => up m c (i 0) (i 1)

theorem total5 : (dats m 0 c).arrAt 5 cfg0.N = res5 m c := by
  refine (dats m 0 c).arrAt_eq_of_covers 5 _ (by decide +kernel) fun t hf y => ?_
  blk_simp
  rw [after0_5]
  idx_vars y
  refine (tile5 _ _ _ _ _ _).trans ?_
  have e : ((View.whole main_v5_1).slice (win0_5.rect t)).emb (ix2 y0 y1) = ix2 (row t y0) (col t y1) := by
    blk_ext [idx5 t]
  rw [e]
  simp only [blk0, blk1, blk2, blk3, res5]
  rfl

/-- The whole of the activation. -/
def res6 : FVec Ideal S4096x5632 .bf16 := fun i => act (gate m c (i 0) (i 1)) (up m c (i 0) (i 1))

theorem total6 : (dats m 0 c).arrAt 6 cfg0.N = res6 m c := by
  refine (dats m 0 c).arrAt_eq_of_covers 6 _ (by decide +kernel) fun t hf y => ?_
  blk_simp
  rw [after0_6]
  idx_vars y
  refine (tile6 _ _ _ _ _ _).trans ?_
  have e : ((View.whole main_v5_2).slice (win0_6.rect t)).emb (ix2 y0 y1) = ix2 (row t y0) (col t y1) := by
    blk_ext [idx6 t]
  rw [e]
  simp only [blk0, blk1, blk2, blk3, res6]
  rfl

/-- The reference's products and activation. -/
theorem ref_gate (a : Fin 4096) (b : Fin 5632) :
    Reference2Ideal.Read.val_main_v0 (F := Ideal) (H m c) (Wg m c) (ix2 a b) = gate m c a b := by
  rw [Reference2Ideal.Read.val_main_v0_apply]
  refine Finset.sum_congr rfl fun k _ => congrArg₂ (· * ·) (congrArg _ ?_) (congrArg _ ?_)
  all_goals funext a; fin_cases a <;> rfl

theorem ref_up (a : Fin 4096) (b : Fin 5632) :
    Reference2Ideal.Read.val_main_v1 (F := Ideal) (H m c) (Wu m c) (ix2 a b) = up m c a b := by
  rw [Reference2Ideal.Read.val_main_v1_apply]
  refine Finset.sum_congr rfl fun k _ => congrArg₂ (· * ·) (congrArg _ ?_) (congrArg _ ?_)
  all_goals funext a; fin_cases a <;> rfl

theorem ref4 : Reference2Ideal.Read.val_main_v2 (F := Ideal) (H m c) (Wg m c) = res4 m c := by
  funext i
  idx_vars i
  exact (Reference2Ideal.Read.val_main_v2_apply _ _ _).trans (ref_gate m c i0 i1)

theorem ref5 : Reference2Ideal.Read.val_main_v3 (F := Ideal) (H m c) (Wu m c) = res5 m c := by
  funext i
  idx_vars i
  exact (Reference2Ideal.Read.val_main_v3_apply _ _ _).trans (ref_up m c i0 i1)

open Reference2Ideal.Read in
theorem ref6 : Reference2Ideal.Read.val_main_v6 (F := Ideal) (H m c) (Wg m c) (Wu m c) = res6 m c := by
  funext i
  idx_vars i
  rw [val_main_v6_apply, val_main_v5_apply, val_main_v4_apply, val_main_call0_v5_apply, val_main_call0_v4_apply, val_main_call0_v3_apply,
    val_main_call0_v2_apply, val_main_call0_v1_apply, val_main_call0_v0_apply, val_main_call0_cst_apply, val_main_call0_cst_0_apply, ref_gate, ref_up]
  pointwise [res6, act]
  rw [zero_sub]

end Cert.GateUp
end
-- ==== Proof.Ffn.Down.lean ====
/- The feed-forward block's last product with the residual, tile by tile, is the product over the whole arrays. -/
module

public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Pipeline.ValueKit
public import Idealize.ShloMosaic.Lib.Tactic.CleanTypes

@[expose] public section
set_option maxRecDepth 16384
noncomputable section
namespace Cert.Down
open Idealize.ShloMosaic Idealize.SL.Sem Cert.Kernel3Ideal Cert.Kernel3Ideal.Gen

/-- A tile of the result, from the blocks. -/
theorem tile3 (x0 : Vec Ideal S512x5632 .bf16) (x1 : Vec Ideal S5632x512 .bf16) (x2 : Vec Ideal S512x512 .f32) (r : Fin 512) (s : Fin 512) :
    out0_3 (F := Ideal) x0 x1 x2 (ix2 r s) = (∑ k : Fin 5632, x0 (ix2 r k) * x1 (ix2 k s)) + x2 (ix2 r s) := by
  unfold out0_3
  frame_out
  pointwise [k0_pay1]

variable (m : (ℓ : Loc nD τ sig) → Buf (Elt Ideal) ℓ) (c : Dev nD)

/-- The arrays that the program is given. -/
def A : FVec Ideal S4096x5632 .f32 := m (c, Proc.tc.devRef main_arg0)
def B : FVec Ideal S5632x2048 .f32 := m (c, Proc.tc.devRef main_arg1)
def X : FVec Ideal S4096x2048 .f32 := m (c, Proc.tc.devRef main_arg2)

theorem idx0 : ∀ t : Fin cfg0.N, win0_0.index t = ![t.val / 4, 0] := by decide +kernel
theorem idx1 : ∀ t : Fin cfg0.N, win0_1.index t = ![0, t.val % 4] := by decide +kernel
theorem idx2 : ∀ t : Fin cfg0.N, win0_2.index t = ![t.val / 4, t.val % 4] := by decide +kernel
theorem idx3 : ∀ t : Fin cfg0.N, win0_3.index t = ![t.val / 4, t.val % 4] := by decide +kernel

variable (t : Fin cfg0.N)

theorem N_lt : t.val < 32 := lt_of_lt_of_eq t.isLt N_0

/-- The row and the column of the arrays at a row and a column of the point's tile. -/
abbrev row (r : Fin 512) : Fin 4096 := ⟨t.val / 4 * 512 + r.val, by have := N_lt t; omega⟩
abbrev col (s : Fin 512) : Fin 2048 := ⟨t.val % 4 * 512 + s.val, by omega⟩

theorem V_v0 : (V m c main_v0 : Vec Ideal S4096x5632 .bf16) = A m c := by
  unfold V A
  open StableHlo in
  simp only [hostOps0, TRef.binary, TRef.nullary, TRef.ternary, TRef.unary, TRef.toBuf, TRef.ofBuf, cast_eq]
  after_results_simp
  rfl

theorem read0 (x : Vec Ideal S4096x5632 .bf16) (r : Fin 512) (k : Fin 5632) :
    (((cfg0.win 0).blk t).view.read (Elt Ideal) x : Vec Ideal S512x5632 .bf16) (ix2 r k) = x (ix2 (row t r) k) := by
  blk_ext [idx0 t]

theorem blk0 (r : Fin 512) (k : Fin 5632) :
    (iblk m c 0 t : Vec Ideal S512x5632 .bf16) (ix2 r k) = A m c (ix2 (row t r) k) :=
  (read0 t _ r k).trans (congrFun (V_v0 m c) _)

theorem V_v1 : (V m c main_v1 : Vec Ideal S5632x2048 .bf16) = B m c := by
  unfold V B
  open StableHlo in
  simp only [hostOps0, TRef.binary, TRef.nullary, TRef.ternary, TRef.unary, TRef.toBuf, TRef.ofBuf, cast_eq]
  after_results_simp
  rfl

theorem read1 (x : Vec Ideal S5632x2048 .bf16) (k : Fin 5632) (s : Fin 512) :
    (((cfg0.win 1).blk t).view.read (Elt Ideal) x : Vec Ideal S5632x512 .bf16) (ix2 k s) = x (ix2 k (col t s)) := by
  blk_ext [idx1 t]

theorem blk1 (k : Fin 5632) (s : Fin 512) :
    (iblk m c 1 t : Vec Ideal S5632x512 .bf16) (ix2 k s) = B m c (ix2 k (col t s)) :=
  (read1 t _ k s).trans (congrFun (V_v1 m c) _)

theorem V_arg2 : (V m c main_arg2 : Vec Ideal S4096x2048 .f32) = X m c := V_main_arg2 m c

theorem read2 (x : Vec Ideal S4096x2048 .f32) (r : Fin 512) (s : Fin 512) :
    (((cfg0.win 2).blk t).view.read (Elt Ideal) x : Vec Ideal S512x512 .f32) (ix2 r s) = x (ix2 (row t r) (col t s)) := by
  blk_ext [idx2 t]

theorem blk2 (r : Fin 512) (s : Fin 512) :
    (iblk m c 2 t : Vec Ideal S512x512 .f32) (ix2 r s) = X m c (ix2 (row t r) (col t s)) :=
  (read2 t _ r s).trans (congrFun (V_arg2 m c) _)

/-- The whole of the result. -/
def res3 : FVec Ideal S4096x2048 .f32 := fun i => (∑ k : Fin 5632, A m c (ix2 (i 0) k) * B m c (ix2 k (i 1))) + X m c i

theorem total3 : (dats m 0 c).arrAt 3 cfg0.N = res3 m c := by
  refine (dats m 0 c).arrAt_eq_of_covers 3 _ (by decide +kernel) fun t hf y => ?_
  blk_simp
  rw [after0_3]
  idx_vars y
  refine (tile3 _ _ _ _ _).trans ?_
  have e : ((View.whole main_v2).slice (win0_3.rect t)).emb (ix2 y0 y1) = ix2 (row t y0) (col t y1) := by
    blk_ext [idx3 t]
  rw [e]
  simp only [blk0, blk1, blk2, res3]
  rfl

/-- The reference's sum. -/
theorem ref3 : Reference3Ideal.Read.val_main_v1 (F := Ideal) (A m c) (B m c) (X m c) = res3 m c := by
  funext i
  rw [Reference3Ideal.Read.val_main_v1_apply, Reference3Ideal.Read.val_main_v0_apply]
  refine (add_comm (X m c i) _).trans (congrArg (· + X m c i) (Finset.sum_congr rfl fun k _ => congrArg₂ (· * ·) (congrArg _ ?_) (congrArg _ ?_)))
  · funext a; fin_cases a <;> rfl
  · funext a; fin_cases a <;> rfl

end Cert.Down
end
-- ==== Proof.Ffn.DownBwd.lean ====
/- The gradients of the gated activation's two factors, tile by tile, are those over the whole arrays. -/
module

public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Pipeline.ValueKit
public import Idealize.ShloMosaic.Lib.Tactic.CleanTypes
public import proofs.«01_k».proof.Proof.Precondition
public import proofs.«01_k».proof.Proof.Gen.Pre_down_bwd_finite

@[expose] public section
set_option maxRecDepth 16384
noncomputable section
namespace Cert.DownBwd
open Idealize.ShloMosaic Idealize.SL.Sem Cert.Kernel4Ideal Cert.Kernel4Ideal.Gen

/-- The logistic function. -/
def lg (g : EReal) : EReal := Ideal.div 1 (1 + Ideal.exp (0 - g))

/-- The gradients of the gate and of the other factor, from the activation's. -/
def dgate (d g u : EReal) : EReal := d * u * (lg g * (1 + g * (1 - lg g)))
def dup (d g : EReal) : EReal := d * (g * lg g)

/-- A tile of the gate's gradient, from the blocks. -/
theorem tile4 (x0 : Vec Ideal S1024x2048 .f32) (x1 : Vec Ideal S512x2048 .bf16) (x2 : Vec Ideal S1024x512 .bf16) (x3 : Vec Ideal S1024x512 .bf16) (r : Fin 1024) (s : Fin 512) :
    out0_4 (F := Ideal) x0 x1 x2 x3 (ix2 r s) = dgate (∑ k : Fin 2048, x0 (ix2 r k) * x1 (ix2 s k)) (x2 (ix2 r s)) (x3 (ix2 r s)) := by
  unfold out0_4
  frame_out
  pointwise [k0_pay4, k0_pay3, k0_pay2, k0_pay1, dgate, lg]

/-- A tile of the other factor's gradient, from the blocks. -/
theorem tile5 (x0 : Vec Ideal S1024x2048 .f32) (x1 : Vec Ideal S512x2048 .bf16) (x2 : Vec Ideal S1024x512 .bf16) (x3 : Vec Ideal S1024x512 .bf16) (r : Fin 1024) (s : Fin 512) :
    out0_5 (F := Ideal) x0 x1 x2 x3 (ix2 r s) = dup (∑ k : Fin 2048, x0 (ix2 r k) * x1 (ix2 s k)) (x2 (ix2 r s)) := by
  unfold out0_5
  frame_out
  pointwise [k0_pay5, k0_pay3, k0_pay2, k0_pay1, dup, lg]

variable (m : (ℓ : Loc nD τ sig) → Buf (Elt Ideal) ℓ) (c : Dev nD)

/-- The arrays that the program is given. -/
def Ga : FVec Ideal S4096x5632 .f32 := m (c, Proc.tc.devRef main_arg0)
def Up : FVec Ideal S4096x5632 .f32 := m (c, Proc.tc.devRef main_arg1)
def W : FVec Ideal S5632x2048 .f32 := m (c, Proc.tc.devRef main_arg2)
def G : FVec Ideal S4096x2048 .f32 := m (c, Proc.tc.devRef main_arg3)

/-- The activation's gradient over the whole arrays. -/
def dact (a : Fin 4096) (b : Fin 5632) : EReal := ∑ k : Fin 2048, G m c (ix2 a k) * W m c (ix2 b k)

theorem idx0 : ∀ t : Fin cfg0.N, win0_0.index t = ![t.val / 11, 0] := by decide +kernel
theorem idx1 : ∀ t : Fin cfg0.N, win0_1.index t = ![t.val % 11, 0] := by decide +kernel
theorem idx2 : ∀ t : Fin cfg0.N, win0_2.index t = ![t.val / 11, t.val % 11] := by decide +kernel
theorem idx3 : ∀ t : Fin cfg0.N, win0_3.index t = ![t.val / 11, t.val % 11] := by decide +kernel
theorem idx4 : ∀ t : Fin cfg0.N, win0_4.index t = ![t.val / 11, t.val % 11] := by decide +kernel
theorem idx5 : ∀ t : Fin cfg0.N, win0_5.index t = ![t.val / 11, t.val % 11] := by decide +kernel

variable (t : Fin cfg0.N)

theorem N_lt : t.val < 44 := lt_of_lt_of_eq t.isLt N_0

/-- The row and the column of the arrays at a row and a column of the point's tile. -/
abbrev row (r : Fin 1024) : Fin 4096 := ⟨t.val / 11 * 1024 + r.val, by have := N_lt t; omega⟩
abbrev col (s : Fin 512) : Fin 5632 := ⟨t.val % 11 * 512 + s.val, by omega⟩

theorem V_arg3 : (V m c main_arg3 : Vec Ideal S4096x2048 .f32) = G m c := V_main_arg3 m c

theorem read0 (x : Vec Ideal S4096x2048 .f32) (r : Fin 1024) (k : Fin 2048) :
    (((cfg0.win 0).blk t).view.read (Elt Ideal) x : Vec Ideal S1024x2048 .f32) (ix2 r k) = x (ix2 (row t r) k) := by
  blk_ext [idx0 t]

theorem blk0 (r : Fin 1024) (k : Fin 2048) :
    (iblk m c 0 t : Vec Ideal S1024x2048 .f32) (ix2 r k) = G m c (ix2 (row t r) k) :=
  (read0 t _ r k).trans (congrFun (V_arg3 m c) _)

theorem V_v0 : (V m c main_v0 : Vec Ideal S5632x2048 .bf16) = W m c := by
  unfold V W
  open StableHlo in
  simp only [hostOps0, TRef.binary, TRef.nullary, TRef.ternary, TRef.unary, TRef.toBuf, TRef.ofBuf, cast_eq]
  after_results_simp
  rfl

theorem read1 (x : Vec Ideal S5632x2048 .bf16) (s : Fin 512) (k : Fin 2048) :
    (((cfg0.win 1).blk t).view.read (Elt Ideal) x : Vec Ideal S512x2048 .bf16) (ix2 s k) = x (ix2 (col t s) k) := by
  blk_ext [idx1 t]

theorem blk1 (s : Fin 512) (k : Fin 2048) :
    (iblk m c 1 t : Vec Ideal S512x2048 .bf16) (ix2 s k) = W m c (ix2 (col t s) k) :=
  (read1 t _ s k).trans (congrFun (V_v0 m c) _)

theorem V_v1 : (V m c main_v1 : Vec Ideal S4096x5632 .bf16) = Ga m c := by
  unfold V Ga
  open StableHlo in
  simp only [hostOps0, TRef.binary, TRef.nullary, TRef.ternary, TRef.unary, TRef.toBuf, TRef.ofBuf, cast_eq]
  after_results_simp
  rfl

theorem read2 (x : Vec Ideal S4096x5632 .bf16) (r : Fin 1024) (s : Fin 512) :
    (((cfg0.win 2).blk t).view.read (Elt Ideal) x : Vec Ideal S1024x512 .bf16) (ix2 r s) = x (ix2 (row t r) (col t s)) := by
  blk_ext [idx2 t]

theorem blk2 (r : Fin 1024) (s : Fin 512) :
    (iblk m c 2 t : Vec Ideal S1024x512 .bf16) (ix2 r s) = Ga m c (ix2 (row t r) (col t s)) :=
  (read2 t _ r s).trans (congrFun (V_v1 m c) _)

theorem V_v2 : (V m c main_v2 : Vec Ideal S4096x5632 .bf16) = Up m c := by
  unfold V Up
  open StableHlo in
  simp only [hostOps0, TRef.binary, TRef.nullary, TRef.ternary, TRef.unary, TRef.toBuf, TRef.ofBuf, cast_eq]
  after_results_simp
  rfl

theorem read3 (x : Vec Ideal S4096x5632 .bf16) (r : Fin 1024) (s : Fin 512) :
    (((cfg0.win 3).blk t).view.read (Elt Ideal) x : Vec Ideal S1024x512 .bf16) (ix2 r s) = x (ix2 (row t r) (col t s)) := by
  blk_ext [idx3 t]

theorem blk3 (r : Fin 1024) (s : Fin 512) :
    (iblk m c 3 t : Vec Ideal S1024x512 .bf16) (ix2 r s) = Up m c (ix2 (row t r) (col t s)) :=
  (read3 t _ r s).trans (congrFun (V_v2 m c) _)

/-- The whole of the gate's gradient. -/
def res4 : FVec Ideal S4096x5632 .bf16 := fun i => dgate (dact m c (i 0) (i 1)) (Ga m c i) (Up m c i)

theorem total4 : (dats m 0 c).arrAt 4 cfg0.N = res4 m c := by
  refine (dats m 0 c).arrAt_eq_of_covers 4 _ (by decide +kernel) fun t hf y => ?_
  blk_simp
  rw [after0_4]
  idx_vars y
  refine (tile4 _ _ _ _ _ _).trans ?_
  have e : ((View.whole main_v3_0).slice (win0_4.rect t)).emb (ix2 y0 y1) = ix2 (row t y0) (col t y1) := by
    blk_ext [idx4 t]
  rw [e]
  simp only [blk0, blk1, blk2, blk3, res4]
  rfl

/-- The whole of the other factor's gradient. -/
def res5 : FVec Ideal S4096x5632 .bf16 := fun i => dup (dact m c (i 0) (i 1)) (Ga m c i)

theorem total5 : (dats m 0 c).arrAt 5 cfg0.N = res5 m c := by
  refine (dats m 0 c).arrAt_eq_of_covers 5 _ (by decide +kernel) fun t hf y => ?_
  blk_simp
  rw [after0_5]
  idx_vars y
  refine (tile5 _ _ _ _ _ _).trans ?_
  have e : ((View.whole main_v3_1).slice (win0_5.rect t)).emb (ix2 y0 y1) = ix2 (row t y0) (col t y1) := by
    blk_ext [idx5 t]
  rw [e]
  simp only [blk0, blk1, blk2, blk3, res5]
  rfl

/-- A finite sum of products of real numbers is a real number. -/
theorem real_sum {n : ℕ} {f g : Fin n → EReal} (hf : ∀ k, ∃ r : ℝ, f k = r) (hg : ∀ k, ∃ r : ℝ, g k = r) :
    ∃ r : ℝ, ∑ k, f k * g k = (r : EReal) := by
  choose a ha using hf
  choose b hb using hg
  refine ⟨∑ k, a k * b k, ?_⟩
  simp only [ha, hb, ← EReal.coe_mul]
  exact Attn.sum_coe _ _

/-- The derivative of `x · logistic x`, factored as the kernel has it and expanded as the reference has it: one value at
    every gate, an infinite one included, when what it is multiplied by is a real number. -/
theorem factored (e : ℝ) (g : EReal) :
    (e : EReal) * (lg g * (1 + g * (1 - lg g))) = (e : EReal) * lg g + g * e * (lg g * (1 - lg g)) := by
  induction g using EReal.rec with
  | bot =>
    have x : Ideal.exp (0 - (⊥ : EReal)) = ⊤ := by rw [zero_sub, EReal.neg_bot]; rfl
    have y : (1 : EReal) + ⊤ = ⊤ := EReal.add_top_of_ne_bot (by rw [← EReal.coe_one]; exact EReal.coe_ne_bot 1)
    have h : lg ⊥ = 0 := by simp [lg, x, y, Ideal.div]
    rw [h]; simp
  | top =>
    have x : Ideal.exp (0 - (⊤ : EReal)) = 0 := by rw [zero_sub, EReal.neg_top]; rfl
    have h : lg ⊤ = 1 := by simp [lg, x, Ideal.div]
    have z : (1 : EReal) - 1 = 0 := by rw [← EReal.coe_one, ← EReal.coe_sub, sub_self, EReal.coe_zero]
    rw [h, z]; simp
  | coe g =>
    have h : lg (g : EReal) = ((1 / (1 + Real.exp (-g)) : ℝ) : EReal) := by
      have p : (1 + Real.exp (-g)) ≠ 0 := by positivity
      rw [lg, zero_sub, ← EReal.coe_neg, Ideal.exp_coe, ← EReal.coe_one, ← EReal.coe_add, Ideal.div_coe p, ← EReal.coe_mul, one_mul]
    rw [h]
    generalize 1 / (1 + Real.exp (-g)) = s
    norm_cast
    ring

/-- The precondition says that the other factor, the weights and the cotangent are real numbers. -/
theorem reals (h : Pre_down_bwd_finite.fn (F := Ideal) (Ga m c) (Up m c) (W m c) (G m c) = fun _ => 1#1) :
    (∀ i, ∃ r : ℝ, Up m c i = (r : EReal)) ∧ (∀ i, ∃ r : ℝ, W m c i = (r : EReal)) ∧ ∀ i, ∃ r : ℝ, G m c i = (r : EReal) := by
  have h := congrFun h ix0
  dsimp only [Pre_down_bwd_finite.fn] at h
  obtain ⟨h, hg⟩ := Attn.andi_one h
  obtain ⟨hu, hw⟩ := Attn.andi_one h
  have hu := Host.reduce_andi_all _ _ _ _ _ hu
  have hw := Host.reduce_andi_all _ _ _ _ _ hw
  have hg := Host.reduce_andi_all _ _ _ _ _ hg
  refine ⟨fun i => ?_, fun i => ?_, fun i => ?_⟩
  · have e := hu i
    pointwise at e
    exact Attn.real_of_abs_lt e
  · have e := hw i
    pointwise at e
    exact Attn.real_of_abs_lt e
  · have e := hg i
    pointwise at e
    exact Attn.real_of_abs_lt e

open Reference4Ideal.Read

/-- The reference's gradient of the activation. -/
theorem ref_dact (a : Fin 4096) (b : Fin 5632) :
    val_main_v3 (F := Ideal) (W m c) (G m c) (ix2 a b) = dact m c a b := by
  rw [val_main_v3_apply]
  refine Finset.sum_congr rfl fun k _ => congrArg₂ (· * ·) (congrArg _ ?_) (congrArg _ ?_)
  all_goals funext a; fin_cases a <;> rfl

/-- The reference's logistic of the gate. -/
theorem ref_lg (a : Fin 4096) (b : Fin 5632) : val_main_v0_2 (F := Ideal) (Ga m c) (ix2 a b) = lg (Ga m c (ix2 a b)) := by
  rw [val_main_v0_2_apply, val_main_call0_v4_apply, val_main_call0_v3_apply, val_main_call0_v2_apply,
    val_main_call0_v1_apply, val_main_call0_v0_apply, val_main_call0_cst_apply, val_main_call0_cst_0_apply]
  pointwise [lg]
  rw [zero_sub]

theorem ref4 (h : Pre_down_bwd_finite.fn (F := Ideal) (Ga m c) (Up m c) (W m c) (G m c) = fun _ => 1#1) :
    val_main_v7 (F := Ideal) (Ga m c) (Up m c) (W m c) (G m c) = res4 m c := by
  obtain ⟨hu, hw, hg⟩ := reals m c h
  funext i
  idx_vars i
  obtain ⟨d, hd⟩ : ∃ r : ℝ, dact m c i0 i1 = (r : EReal) := real_sum (fun _ => hg _) fun _ => hw _
  obtain ⟨u, hu⟩ := hu (ix2 i0 i1)
  rw [val_main_v7_apply, val_main_v6_apply, val_main_call1_v2_apply, val_main_call1_v1_apply, val_main_call1_v0_apply,
    val_main_v5_apply, val_main_v0_1_apply, val_main_call0_v7_apply, val_main_call0_v6_apply, val_main_call0_cst_1_apply, ref_dact, ref_lg]
  pointwise [res4, dgate]
  rw [hd, hu, ← EReal.coe_mul]
  exact (factored _ _).symm

theorem ref5 : val_main_v8 (F := Ideal) (Ga m c) (W m c) (G m c) = res5 m c := by
  funext i
  idx_vars i
  rw [val_main_v8_apply, val_main_v4_apply, val_main_v0_0_apply, ref_dact, ref_lg]
  pointwise [res5, dup]
  exact mul_comm _ _

end Cert.DownBwd
end
-- ==== Proof.Ffn.DownWgrad.lean ====
/- The gradient of the feed-forward block's last weights, tile by tile, is the product over the whole arrays. -/
module

public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import Idealize.ShloMosaic.Lib.Pipeline.ValueKit
public import Idealize.ShloMosaic.Lib.Tactic.CleanTypes

@[expose] public section
set_option maxRecDepth 16384
noncomputable section
namespace Cert.DownWgrad
open Idealize.ShloMosaic Idealize.SL.Sem Cert.Kernel5Ideal Cert.Kernel5Ideal.Gen

/-- A tile of the gradient, from the blocks. -/
theorem tile2 (x0 : Vec Ideal S4096x512 .bf16) (x1 : Vec Ideal S4096x512 .f32) (r : Fin 512) (s : Fin 512) :
    out0_2 (F := Ideal) x0 x1 (ix2 r s) = ∑ k : Fin 4096, x0 (ix2 k r) * x1 (ix2 k s) := by
  unfold out0_2
  frame_out
  pointwise [k0_pay1]

variable (m : (ℓ : Loc nD τ sig) → Buf (Elt Ideal) ℓ) (c : Dev nD)

/-- The arrays that the program is given. -/
def A : FVec Ideal S4096x5632 .f32 := m (c, Proc.tc.devRef main_arg0)
def G : FVec Ideal S4096x2048 .f32 := m (c, Proc.tc.devRef main_arg1)

theorem idx0 : ∀ t : Fin cfg0.N, win0_0.index t = ![0, t.val / 4] := by decide +kernel
theorem idx1 : ∀ t : Fin cfg0.N, win0_1.index t = ![0, t.val % 4] := by decide +kernel
theorem idx2 : ∀ t : Fin cfg0.N, win0_2.index t = ![t.val / 4, t.val % 4] := by decide +kernel

variable (t : Fin cfg0.N)

theorem N_lt : t.val < 44 := lt_of_lt_of_eq t.isLt N_0

/-- The row and the column of the arrays at a row and a column of the point's tile. -/
abbrev row (r : Fin 512) : Fin 5632 := ⟨t.val / 4 * 512 + r.val, by have := N_lt t; omega⟩
abbrev col (s : Fin 512) : Fin 2048 := ⟨t.val % 4 * 512 + s.val, by omega⟩

theorem V_v0 : (V m c main_v0 : Vec Ideal S4096x5632 .bf16) = A m c := by
  unfold V A
  open StableHlo in
  simp only [hostOps0, TRef.binary, TRef.nullary, TRef.ternary, TRef.unary, TRef.toBuf, TRef.ofBuf, cast_eq]
  after_results_simp
  rfl

theorem read0 (x : Vec Ideal S4096x5632 .bf16) (k : Fin 4096) (r : Fin 512) :
    (((cfg0.win 0).blk t).view.read (Elt Ideal) x : Vec Ideal S4096x512 .bf16) (ix2 k r) = x (ix2 k (row t r)) := by
  blk_ext [idx0 t]

theorem blk0 (k : Fin 4096) (r : Fin 512) :
    (iblk m c 0 t : Vec Ideal S4096x512 .bf16) (ix2 k r) = A m c (ix2 k (row t r)) :=
  (read0 t _ k r).trans (congrFun (V_v0 m c) _)

theorem V_arg1 : (V m c main_arg1 : Vec Ideal S4096x2048 .f32) = G m c := V_main_arg1 m c

theorem read1 (x : Vec Ideal S4096x2048 .f32) (k : Fin 4096) (s : Fin 512) :
    (((cfg0.win 1).blk t).view.read (Elt Ideal) x : Vec Ideal S4096x512 .f32) (ix2 k s) = x (ix2 k (col t s)) := by
  blk_ext [idx1 t]

theorem blk1 (k : Fin 4096) (s : Fin 512) :
    (iblk m c 1 t : Vec Ideal S4096x512 .f32) (ix2 k s) = G m c (ix2 k (col t s)) :=
  (read1 t _ k s).trans (congrFun (V_arg1 m c) _)

/-- The whole of the gradient. -/
def res2 : FVec Ideal S5632x2048 .bf16 := fun i => ∑ k : Fin 4096, A m c (ix2 k (i 0)) * G m c (ix2 k (i 1))

theorem total2 : (dats m 0 c).arrAt 2 cfg0.N = res2 m c := by
  refine (dats m 0 c).arrAt_eq_of_covers 2 _ (by decide +kernel) fun t hf y => ?_
  blk_simp
  rw [after0_2]
  idx_vars y
  refine (tile2 _ _ _ _).trans ?_
  have e : ((View.whole main_v1).slice (win0_2.rect t)).emb (ix2 y0 y1) = ix2 (row t y0) (col t y1) := by
    blk_ext [idx2 t]
  rw [e]
  simp only [blk0, blk1, res2]
  rfl

/-- The reference's sum. -/
theorem ref2 : Reference5Ideal.Read.val_main_v4 (F := Ideal) (A m c) (G m c) = res2 m c := by
  funext i
  rw [Reference5Ideal.Read.val_main_v4_apply, Reference5Ideal.Read.val_main_v3_apply, Reference5Ideal.Read.val_main_v2_apply]
  refine Finset.sum_congr rfl fun k _ => (mul_comm _ _).trans (congrArg₂ (· * ·) (congrArg _ ?_) (congrArg _ ?_))
  · funext a; fin_cases a <;> rfl
  · funext a; fin_cases a <;> rfl

end Cert.DownWgrad
end
-- ==== Proof.Ffn.GateWgrad.lean ====
/- The gradient of the feed-forward block's first weights, tile by tile, is the product over the whole arrays. -/
module

public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.Pipeline.ValueKit
public import Idealize.ShloMosaic.Lib.Tactic.CleanTypes

@[expose] public section
set_option maxRecDepth 16384
noncomputable section
namespace Cert.GateWgrad
open Idealize.ShloMosaic Idealize.SL.Sem Cert.Kernel6Ideal Cert.Kernel6Ideal.Gen

/-- A tile of the gradient, from the blocks. -/
theorem tile2 (x0 : Vec Ideal S4096x512 .bf16) (x1 : Vec Ideal S4096x1024 .bf16) (r : Fin 512) (s : Fin 1024) :
    out0_2 (F := Ideal) x0 x1 (ix2 r s) = ∑ k : Fin 4096, x0 (ix2 k r) * x1 (ix2 k s) := by
  unfold out0_2
  frame_out
  pointwise [k0_pay1]

variable (m : (ℓ : Loc nD τ sig) → Buf (Elt Ideal) ℓ) (c : Dev nD)

/-- The arrays that the program is given. -/
def H : FVec Ideal S4096x2048 .f32 := m (c, Proc.tc.devRef main_arg0)
def G : FVec Ideal S4096x5632 .f32 := m (c, Proc.tc.devRef main_arg1)

theorem idx0 : ∀ t : Fin cfg0.N, win0_0.index t = ![0, t.val / 2] := by decide +kernel
theorem idx1 : ∀ t : Fin cfg0.N, win0_1.index t = ![0, t.val % 2] := by decide +kernel
theorem idx2 : ∀ t : Fin cfg0.N, win0_2.index t = ![t.val / 2, t.val % 2] := by decide +kernel

variable (t : Fin cfg0.N)

theorem N_lt : t.val < 22 := lt_of_lt_of_eq t.isLt N_0

/-- The row and the column of the arrays at a row and a column of the point's tile. -/
abbrev row (r : Fin 512) : Fin 5632 := ⟨t.val / 2 * 512 + r.val, by have := N_lt t; omega⟩
abbrev col (s : Fin 1024) : Fin 2048 := ⟨t.val % 2 * 1024 + s.val, by omega⟩

theorem V_v0 : (V m c main_v0 : Vec Ideal S4096x5632 .bf16) = G m c := by
  unfold V G
  open StableHlo in
  simp only [hostOps0, TRef.binary, TRef.nullary, TRef.ternary, TRef.unary, TRef.toBuf, TRef.ofBuf, cast_eq]
  after_results_simp
  rfl

theorem read0 (x : Vec Ideal S4096x5632 .bf16) (k : Fin 4096) (r : Fin 512) :
    (((cfg0.win 0).blk t).view.read (Elt Ideal) x : Vec Ideal S4096x512 .bf16) (ix2 k r) = x (ix2 k (row t r)) := by
  blk_ext [idx0 t]

theorem blk0 (k : Fin 4096) (r : Fin 512) :
    (iblk m c 0 t : Vec Ideal S4096x512 .bf16) (ix2 k r) = G m c (ix2 k (row t r)) :=
  (read0 t _ k r).trans (congrFun (V_v0 m c) _)

theorem V_v1 : (V m c main_v1 : Vec Ideal S4096x2048 .bf16) = H m c := by
  unfold V H
  open StableHlo in
  simp only [hostOps0, TRef.binary, TRef.nullary, TRef.ternary, TRef.unary, TRef.toBuf, TRef.ofBuf, cast_eq]
  after_results_simp
  rfl

theorem read1 (x : Vec Ideal S4096x2048 .bf16) (k : Fin 4096) (s : Fin 1024) :
    (((cfg0.win 1).blk t).view.read (Elt Ideal) x : Vec Ideal S4096x1024 .bf16) (ix2 k s) = x (ix2 k (col t s)) := by
  blk_ext [idx1 t]

theorem blk1 (k : Fin 4096) (s : Fin 1024) :
    (iblk m c 1 t : Vec Ideal S4096x1024 .bf16) (ix2 k s) = H m c (ix2 k (col t s)) :=
  (read1 t _ k s).trans (congrFun (V_v1 m c) _)

/-- The whole of the gradient. -/
def res2 : FVec Ideal S5632x2048 .bf16 := fun i => ∑ k : Fin 4096, G m c (ix2 k (i 0)) * H m c (ix2 k (i 1))

theorem total2 : (dats m 0 c).arrAt 2 cfg0.N = res2 m c := by
  refine (dats m 0 c).arrAt_eq_of_covers 2 _ (by decide +kernel) fun t hf y => ?_
  blk_simp
  rw [after0_2]
  idx_vars y
  refine (tile2 _ _ _ _).trans ?_
  have e : ((View.whole main_v2).slice (win0_2.rect t)).emb (ix2 y0 y1) = ix2 (row t y0) (col t y1) := by
    blk_ext [idx2 t]
  rw [e]
  simp only [blk0, blk1, res2]
  rfl

/-- The reference's sum. -/
theorem ref2 : Reference6Ideal.Read.val_main_v5 (F := Ideal) (H m c) (G m c) = res2 m c := by
  funext i
  rw [Reference6Ideal.Read.val_main_v5_apply, Reference6Ideal.Read.val_main_v4_apply, Reference6Ideal.Read.val_main_v3_apply, Reference6Ideal.Read.val_main_v2_apply]
  refine Finset.sum_congr rfl fun k _ => congrArg₂ (· * ·) (congrArg _ ?_) (congrArg _ ?_)
  · funext a; fin_cases a <;> rfl
  · funext a; fin_cases a <;> rfl

end Cert.GateWgrad
end
-- ==== Proof.Ffn.GateUpBwd.lean ====
/- The gradient of the feed-forward block's input, tile by tile, is the sum of two products over the whole arrays. -/
module

public import proofs.«01_k».proof.Proof.Gen.Kernel7Ideal.Value
public import proofs.«01_k».proof.Proof.Gen.Reference7Ideal.Run
public import proofs.«01_k».proof.Proof.Gen.Reference7Ideal.Read
public import Idealize.ShloMosaic.Lib.Pointwise
public import Idealize.ShloMosaic.Lib.Pipeline.ValueKit
public import Idealize.ShloMosaic.Lib.Tactic.CleanTypes

@[expose] public section
set_option maxRecDepth 16384
noncomputable section
namespace Cert.GateUpBwd
open Idealize.ShloMosaic Idealize.SL.Sem Cert.Kernel7Ideal Cert.Kernel7Ideal.Gen

/-- A tile of the gradient, from the blocks. -/
theorem tile4 (x0 : Vec Ideal S512x5632 .bf16) (x1 : Vec Ideal S5632x256 .bf16) (x2 : Vec Ideal S512x5632 .bf16) (x3 : Vec Ideal S5632x256 .bf16) (r : Fin 512) (s : Fin 256) :
    out0_4 (F := Ideal) x0 x1 x2 x3 (ix2 r s) = (∑ k : Fin 5632, x0 (ix2 r k) * x1 (ix2 k s)) + ∑ k : Fin 5632, x2 (ix2 r k) * x3 (ix2 k s) := by
  unfold out0_4
  frame_out
  pointwise [k0_pay1]

variable (m : (ℓ : Loc nD τ sig) → Buf (Elt Ideal) ℓ) (c : Dev nD)

/-- The arrays that the program is given. -/
def Gg : FVec Ideal S4096x5632 .f32 := m (c, Proc.tc.devRef main_arg0)
def Gu : FVec Ideal S4096x5632 .f32 := m (c, Proc.tc.devRef main_arg1)
def Wg : FVec Ideal S2048x5632 .f32 := m (c, Proc.tc.devRef main_arg2)
def Wu : FVec Ideal S2048x5632 .f32 := m (c, Proc.tc.devRef main_arg3)

theorem idx0 : ∀ t : Fin cfg0.N, win0_0.index t = ![t.val / 8, 0] := by decide +kernel
theorem idx1 : ∀ t : Fin cfg0.N, win0_1.index t = ![0, t.val % 8] := by decide +kernel
theorem idx2 : ∀ t : Fin cfg0.N, win0_2.index t = ![t.val / 8, 0] := by decide +kernel
theorem idx3 : ∀ t : Fin cfg0.N, win0_3.index t = ![0, t.val % 8] := by decide +kernel
theorem idx4 : ∀ t : Fin cfg0.N, win0_4.index t = ![t.val / 8, t.val % 8] := by decide +kernel

variable (t : Fin cfg0.N)

theorem N_lt : t.val < 64 := lt_of_lt_of_eq t.isLt N_0

/-- The row and the column of the arrays at a row and a column of the point's tile. -/
abbrev row (r : Fin 512) : Fin 4096 := ⟨t.val / 8 * 512 + r.val, by have := N_lt t; omega⟩
abbrev col (s : Fin 256) : Fin 2048 := ⟨t.val % 8 * 256 + s.val, by omega⟩

theorem V_v4 : (V m c main_v4 : Vec Ideal S4096x5632 .bf16) = Gg m c := by
  unfold V Gg
  open StableHlo in
  simp only [hostOps0, TRef.binary, TRef.nullary, TRef.ternary, TRef.unary, TRef.toBuf, TRef.ofBuf, cast_eq]
  after_results_simp
  rfl

theorem read0 (x : Vec Ideal S4096x5632 .bf16) (r : Fin 512) (k : Fin 5632) :
    (((cfg0.win 0).blk t).view.read (Elt Ideal) x : Vec Ideal S512x5632 .bf16) (ix2 r k) = x (ix2 (row t r) k) := by
  blk_ext [idx0 t]

theorem blk0 (r : Fin 512) (k : Fin 5632) :
    (iblk m c 0 t : Vec Ideal S512x5632 .bf16) (ix2 r k) = Gg m c (ix2 (row t r) k) :=
  (read0 t _ r k).trans (congrFun (V_v4 m c) _)

theorem V_v1 : (V m c main_v1 : Vec Ideal S5632x2048 .bf16) = transpose S5632x2048 [1, 0] (Wg m c) transposes_S2048x5632_S5632x2048_1_0 := by
  unfold V Wg
  open StableHlo in
  simp only [hostOps0, TRef.binary, TRef.nullary, TRef.ternary, TRef.unary, TRef.toBuf, TRef.ofBuf, cast_eq]
  after_results_simp
  rfl

theorem read1 (x : Vec Ideal S5632x2048 .bf16) (k : Fin 5632) (s : Fin 256) :
    (((cfg0.win 1).blk t).view.read (Elt Ideal) x : Vec Ideal S5632x256 .bf16) (ix2 k s) = x (ix2 k (col t s)) := by
  blk_ext [idx1 t]

theorem blk1 (k : Fin 5632) (s : Fin 256) :
    (iblk m c 1 t : Vec Ideal S5632x256 .bf16) (ix2 k s) = Wg m c (ix2 (col t s) k) :=
  (read1 t _ k s).trans ((congrFun (V_v1 m c) _).trans (by pointwise))

theorem V_v5 : (V m c main_v5 : Vec Ideal S4096x5632 .bf16) = Gu m c := by
  unfold V Gu
  open StableHlo in
  simp only [hostOps0, TRef.binary, TRef.nullary, TRef.ternary, TRef.unary, TRef.toBuf, TRef.ofBuf, cast_eq]
  after_results_simp
  rfl

theorem read2 (x : Vec Ideal S4096x5632 .bf16) (r : Fin 512) (k : Fin 5632) :
    (((cfg0.win 2).blk t).view.read (Elt Ideal) x : Vec Ideal S512x5632 .bf16) (ix2 r k) = x (ix2 (row t r) k) := by
  blk_ext [idx2 t]

theorem blk2 (r : Fin 512) (k : Fin 5632) :
    (iblk m c 2 t : Vec Ideal S512x5632 .bf16) (ix2 r k) = Gu m c (ix2 (row t r) k) :=
  (read2 t _ r k).trans (congrFun (V_v5 m c) _)

theorem V_v3 : (V m c main_v3 : Vec Ideal S5632x2048 .bf16) = transpose S5632x2048 [1, 0] (Wu m c) transposes_S2048x5632_S5632x2048_1_0 := by
  unfold V Wu
  open StableHlo in
  simp only [hostOps0, TRef.binary, TRef.nullary, TRef.ternary, TRef.unary, TRef.toBuf, TRef.ofBuf, cast_eq]
  after_results_simp
  rfl

theorem read3 (x : Vec Ideal S5632x2048 .bf16) (k : Fin 5632) (s : Fin 256) :
    (((cfg0.win 3).blk t).view.read (Elt Ideal) x : Vec Ideal S5632x256 .bf16) (ix2 k s) = x (ix2 k (col t s)) := by
  blk_ext [idx3 t]

theorem blk3 (k : Fin 5632) (s : Fin 256) :
    (iblk m c 3 t : Vec Ideal S5632x256 .bf16) (ix2 k s) = Wu m c (ix2 (col t s) k) :=
  (read3 t _ k s).trans ((congrFun (V_v3 m c) _).trans (by pointwise))

/-- The whole of the gradient. -/
def res4 : FVec Ideal S4096x2048 .f32 := fun i => (∑ k : Fin 5632, Gg m c (ix2 (i 0) k) * Wg m c (ix2 (i 1) k)) + ∑ k : Fin 5632, Gu m c (ix2 (i 0) k) * Wu m c (ix2 (i 1) k)

theorem total4 : (dats m 0 c).arrAt 4 cfg0.N = res4 m c := by
  refine (dats m 0 c).arrAt_eq_of_covers 4 _ (by decide +kernel) fun t hf y => ?_
  blk_simp
  rw [after0_4]
  idx_vars y
  refine (tile4 _ _ _ _ _ _).trans ?_
  have e : ((View.whole main_v6).slice (win0_4.rect t)).emb (ix2 y0 y1) = ix2 (row t y0) (col t y1) := by
    blk_ext [idx4 t]
  rw [e]
  simp only [blk0, blk1, blk2, blk3, res4]
  rfl

/-- The reference's sum. -/
theorem ref4 : Reference7Ideal.Read.val_main_v5 (F := Ideal) (Gg m c) (Gu m c) (Wg m c) (Wu m c) = res4 m c := by
  funext i
  rw [Reference7Ideal.Read.val_main_v5_apply, Reference7Ideal.Read.val_main_v4_apply, Reference7Ideal.Read.val_main_v3_apply]
  refine (add_comm _ _).trans (congrArg₂ (· + ·) ?_ ?_) <;>
    refine Finset.sum_congr rfl fun k _ => congrArg₂ (· * ·) (congrArg _ ?_) (congrArg _ ?_)
  all_goals funext a; fin_cases a <;> rfl

end Cert.GateUpBwd
end
-- ==== Proof.Proj.Packed.lean ====
/- The packed order of the input projection's columns. -/
module

public import Idealize.ShloMosaic.PureOps.Ideal.Laws

@[expose] public section
noncomputable section
namespace Cert.Packed

/-- A product over packed places, each holding an entry or a zero, is one over the entries. -/
theorem sum_packed {a b : Nat} (pos : Fin a → Fin b) (inj : Function.Injective pos) (f : Fin a → EReal) (p g : Fin b → EReal)
    (h : ∀ n, (∃ k, n = pos k ∧ p n = f k) ∨ p n = 0) (hpos : ∀ n, p (pos n) = f n) :
    ∑ n : Fin b, g n * p n = ∑ n : Fin a, g (pos n) * f n := by
  refine (Finset.sum_of_injOn pos inj.injOn (fun _ _ => Finset.mem_coe.mpr (Finset.mem_univ _)) ?_ ?_).symm
  · intro n _ hn
    rcases h n with ⟨k, e, _⟩ | e
    · exact absurd ⟨k, Finset.mem_coe.mpr (Finset.mem_univ _), e.symm⟩ hn
    · rw [e, mul_zero]
  · intro n _
    rw [hpos]

/-- A function of the projection's columns, read in the packed order: the gate and the convolution's columns, those of the
    attention, the steps, and zeros. -/
def pk (f : Fin 3664 → EReal) (n : Fin 3840) : EReal :=
  if h : n.val < 2560 then f ⟨n.val, by omega⟩
  else if h' : n.val - 2560 < 1088 then f ⟨2576 + (n.val - 2560), by omega⟩
  else if h'' : n.val - 2560 - 1088 < 16 then f ⟨2560 + (n.val - 2560 - 1088), by omega⟩
  else 0

/-- The packed column at which a column of the projection lies. -/
def pos (n : Fin 3664) : Fin 3840 :=
  ⟨if n.val < 2560 then n.val else if n.val < 2576 then n.val + 1088 else n.val - 16, by have := n.isLt; split_ifs <;> omega⟩

theorem pos_val (n : Fin 3664) :
    n.val < 2560 ∧ (pos n).val = n.val ∨ 2560 ≤ n.val ∧ n.val < 2576 ∧ (pos n).val = n.val + 1088 ∨
      2576 ≤ n.val ∧ (pos n).val = n.val - 16 := by
  have e : (pos n).val = if n.val < 2560 then n.val else if n.val < 2576 then n.val + 1088 else n.val - 16 := rfl
  rw [e]
  split_ifs <;> omega

theorem pos_inj : Function.Injective pos := by
  intro a b h
  have h := congrArg Fin.val h
  have ha := pos_val a
  have hb := pos_val b
  exact Fin.ext (by omega)

/-- A packed column holds a column of the projection or a zero. -/
theorem pk_cases (f : Fin 3664 → EReal) (n : Fin 3840) :
    (∃ k, n = pos k ∧ pk f n = f k) ∨ (∀ k, n ≠ pos k) ∧ pk f n = 0 := by
  have e (k : Fin 3664) (hk : n.val = (pos k).val) : n = pos k := Fin.ext hk
  unfold pk
  rcases Nat.lt_or_ge n.val 2560 with h | h
  · rw [dif_pos h]
    exact Or.inl ⟨_, e _ (by have := pos_val ⟨n.val, by omega⟩; dsimp only at this; omega), rfl⟩
  rw [dif_neg (Nat.not_lt.mpr h)]
  rcases Nat.lt_or_ge (n.val - 2560) 1088 with h' | h'
  · rw [dif_pos h']
    exact Or.inl ⟨_, e _ (by have := pos_val ⟨2576 + (n.val - 2560), by omega⟩; dsimp only at this; omega), rfl⟩
  rw [dif_neg (Nat.not_lt.mpr h')]
  rcases Nat.lt_or_ge (n.val - 2560 - 1088) 16 with h'' | h''
  · rw [dif_pos h'']
    exact Or.inl ⟨_, e _ (by have := pos_val ⟨2560 + (n.val - 2560 - 1088), by omega⟩; dsimp only at this; omega), rfl⟩
  rw [dif_neg (Nat.not_lt.mpr h'')]
  refine Or.inr ⟨fun k hk => ?_, rfl⟩
  have := pos_val k
  have := congrArg Fin.val hk
  omega

theorem pk_pos (f : Fin 3664 → EReal) (n : Fin 3664) : pk f (pos n) = f n := by
  rcases pk_cases f (pos n) with ⟨k, h, e⟩ | ⟨h, _⟩
  · rw [e, pos_inj h]
  · exact absurd rfl (h n)

/-- A product over the packed columns is one over the projection's columns. -/
theorem sum_pk (g : Fin 3840 → EReal) (f : Fin 3664 → EReal) :
    ∑ n : Fin 3840, g n * pk f n = ∑ n : Fin 3664, g (pos n) * f n :=
  sum_packed pos pos_inj f (pk f) g (fun n => (pk_cases f n).imp_right And.right) (pk_pos f)

end Cert.Packed
end
-- ==== Proof.Proj.InProj.lean ====
/- The input projection on the packed columns, tile by tile, is the product over the whole arrays. -/
module

public import proofs.«01_k».proof.Proof.Gen.Kernel8Ideal.Value
public import proofs.«01_k».proof.Proof.Gen.Reference8Ideal.Run
public import proofs.«01_k».proof.Proof.Gen.Reference8Ideal.Read
public import Idealize.ShloMosaic.Lib.Pointwise
public import Idealize.ShloMosaic.Lib.Pipeline.ValueKit
public import Idealize.ShloMosaic.Lib.Tactic.CleanTypes
public import proofs.«01_k».proof.Proof.Proj.Packed

@[expose] public section
set_option maxRecDepth 16384
noncomputable section
namespace Cert.InProj
open Idealize.ShloMosaic Idealize.SL.Sem Cert.Kernel8Ideal Cert.Kernel8Ideal.Gen
open Cert.Packed

/-- A tile of the result, from the blocks. -/
theorem tile2 (x0 : Vec Ideal S1024x2048 .bf16) (x1 : Vec Ideal S768x2048 .bf16) (r : Fin 1024) (s : Fin 768) :
    out0_2 (F := Ideal) x0 x1 (ix2 r s) = ∑ k : Fin 2048, x0 (ix2 r k) * x1 (ix2 s k) := by
  unfold out0_2
  frame_out
  pointwise [k0_pay1]

variable (m : (ℓ : Loc nD τ sig) → Buf (Elt Ideal) ℓ) (c : Dev nD)

/-- The arrays that the program is given. -/
def A : FVec Ideal S4096x2048 .f32 := m (c, Proc.tc.devRef main_arg0)
def W : FVec Ideal S2048x3664 .f32 := m (c, Proc.tc.devRef main_arg1)

/-- The packed weights, a row for each packed column. -/
def wp : FVec Ideal S3840x2048 .bf16 :=
  concatenate S3840x2048 0 [⟨S2560x2048, extractStridedSlice S2560x2048 ![0, 0] (transpose S3664x2048 [1, 0] (W m c) transposes_S2048x3664_S3664x2048_1_0) slices_S3664x2048_S2560x2048_0_0⟩,
    ⟨S1088x2048, extractStridedSlice S1088x2048 ![2576, 0] (transpose S3664x2048 [1, 0] (W m c) transposes_S2048x3664_S3664x2048_1_0) slices_S3664x2048_S1088x2048_2576_0⟩,
    ⟨S16x2048, extractStridedSlice S16x2048 ![2560, 0] (transpose S3664x2048 [1, 0] (W m c) transposes_S2048x3664_S3664x2048_1_0) slices_S3664x2048_S16x2048_2560_0⟩,
    ⟨S176x2048, broadcastInDim S176x2048 ![] bcast_S_S176x2048 (constant (F := Ideal) S_ .bf16 0x0000#16)⟩]
    concatenates_S2560x2048_S1088x2048_S16x2048_S176x2048_S3840x2048_d0

theorem wp_apply (n : Fin 3840) (k : Fin 2048) : wp m c (ix2 n k) = pk (fun j => W m c (ix2 k j)) n := by
  unfold wp
  pointwise [pk]

theorem idx0 : ∀ t : Fin cfg0.N, win0_0.index t = ![t.val / 5, 0] := by decide +kernel
theorem idx1 : ∀ t : Fin cfg0.N, win0_1.index t = ![t.val % 5, 0] := by decide +kernel
theorem idx2 : ∀ t : Fin cfg0.N, win0_2.index t = ![t.val / 5, t.val % 5] := by decide +kernel

variable (t : Fin cfg0.N)

theorem N_lt : t.val < 20 := lt_of_lt_of_eq t.isLt N_0

/-- The row and the column of the arrays at a row and a column of the point's tile. -/
abbrev row (r : Fin 1024) : Fin 4096 := ⟨t.val / 5 * 1024 + r.val, by have := N_lt t; omega⟩
abbrev col (s : Fin 768) : Fin 3840 := ⟨t.val % 5 * 768 + s.val, by omega⟩

theorem V_v0 : (V m c main_v0 : Vec Ideal S4096x2048 .bf16) = A m c := by
  unfold V A
  open StableHlo in
  simp only [hostOps0, TRef.binary, TRef.nullary, TRef.ternary, TRef.unary, TRef.toBuf, TRef.ofBuf, cast_eq]
  after_results_simp
  rfl

theorem read0 (x : Vec Ideal S4096x2048 .bf16) (r : Fin 1024) (k : Fin 2048) :
    (((cfg0.win 0).blk t).view.read (Elt Ideal) x : Vec Ideal S1024x2048 .bf16) (ix2 r k) = x (ix2 (row t r) k) := by
  blk_ext [idx0 t]

theorem blk0 (r : Fin 1024) (k : Fin 2048) :
    (iblk m c 0 t : Vec Ideal S1024x2048 .bf16) (ix2 r k) = A m c (ix2 (row t r) k) :=
  (read0 t _ r k).trans (congrFun (V_v0 m c) _)

theorem V_v7 : (V m c main_v7 : Vec Ideal S3840x2048 .bf16) = wp m c := by
  unfold V wp W
  open StableHlo in
  simp only [hostOps0, TRef.binary, TRef.nullary, TRef.ternary, TRef.unary, TRef.toBuf, TRef.ofBuf, cast_eq]
  after_results_simp
  rfl

theorem V_v7_apply (a : Fin 3840) (b : Fin 2048) : (V m c main_v7 : Vec Ideal S3840x2048 .bf16) (ix2 a b) = pk (fun j => W m c (ix2 b j)) (a) :=
  (congrFun (V_v7 m c) _).trans (wp_apply m c _ _)

theorem read1 (x : Vec Ideal S3840x2048 .bf16) (s : Fin 768) (k : Fin 2048) :
    (((cfg0.win 1).blk t).view.read (Elt Ideal) x : Vec Ideal S768x2048 .bf16) (ix2 s k) = x (ix2 (col t s) k) := by
  blk_ext [idx1 t]

theorem blk1 (s : Fin 768) (k : Fin 2048) :
    (iblk m c 1 t : Vec Ideal S768x2048 .bf16) (ix2 s k) = pk (fun j => W m c (ix2 k j)) ((col t s)) :=
  (read1 t _ s k).trans (V_v7_apply m c _ _)

/-- The whole of the result. -/
def res2 : FVec Ideal S4096x3840 .f32 := fun i => ∑ k : Fin 2048, A m c (ix2 (i 0) k) * pk (fun j => W m c (ix2 k j)) (i 1)

theorem total2 : (dats m 0 c).arrAt 2 cfg0.N = res2 m c := by
  refine (dats m 0 c).arrAt_eq_of_covers 2 _ (by decide +kernel) fun t hf y => ?_
  blk_simp
  rw [after0_2]
  idx_vars y
  refine (tile2 _ _ _ _).trans ?_
  have e : ((View.whole main_v8).slice (win0_2.rect t)).emb (ix2 y0 y1) = ix2 (row t y0) (col t y1) := by
    blk_ext [idx2 t]
  rw [e]
  simp only [blk0, blk1, res2]
  rfl

/-- The reference's product, cut into its parts and joined in the packed order. -/
theorem ref2 : Reference8Ideal.Read.val_main_v5 (F := Ideal) (A m c) (W m c) = res2 m c := by
  funext i
  idx_vars i
  unfold Reference8Ideal.Read.val_main_v5
  pointwise [res2]
  unfold pk
  by_cases h : i1.val < 2560
  · simp only [dif_pos h]
    rw [Reference8Ideal.Read.val_main_v1_apply, Reference8Ideal.Read.val_main_v0_apply]
    refine Finset.sum_congr rfl fun k _ => congrArg₂ (· * ·) (congrArg _ ?_) (congrArg _ ?_) <;>
      · funext a; fin_cases a <;> rfl
  simp only [dif_neg h]
  by_cases h' : i1.val - 2560 < 1088
  · simp only [dif_pos h']
    rw [Reference8Ideal.Read.val_main_v2_apply, Reference8Ideal.Read.val_main_v0_apply]
    refine Finset.sum_congr rfl fun k _ => congrArg₂ (· * ·) (congrArg _ ?_) (congrArg _ ?_) <;>
      · funext a; fin_cases a <;> rfl
  simp only [dif_neg h']
  by_cases h'' : i1.val - 2560 - 1088 < 16
  · simp only [dif_pos h'']
    rw [Reference8Ideal.Read.val_main_v3_apply, Reference8Ideal.Read.val_main_v0_apply]
    refine Finset.sum_congr rfl fun k _ => congrArg₂ (· * ·) (congrArg _ ?_) (congrArg _ ?_) <;>
      · funext a; fin_cases a <;> rfl
  simp only [dif_neg h'', mul_zero, Finset.sum_const_zero]
  pointwise [Reference8Ideal.Read.val_main_v4, Reference8Ideal.Read.val_main_cst]

end Cert.InProj
end
-- ==== Proof.Proj.InBwd.lean ====
/- The gradient of the input projection's input, tile by tile, is the product over the whole arrays. -/
module

public import proofs.«01_k».proof.Proof.Gen.Kernel9Ideal.Value
public import proofs.«01_k».proof.Proof.Gen.Reference9Ideal.Run
public import proofs.«01_k».proof.Proof.Gen.Reference9Ideal.Read
public import Idealize.ShloMosaic.Lib.Pointwise
public import Idealize.ShloMosaic.Lib.Pipeline.ValueKit
public import Idealize.ShloMosaic.Lib.Tactic.CleanTypes
public import proofs.«01_k».proof.Proof.Proj.Packed

@[expose] public section
set_option maxRecDepth 16384
noncomputable section
namespace Cert.InBwd
open Idealize.ShloMosaic Idealize.SL.Sem Cert.Kernel9Ideal Cert.Kernel9Ideal.Gen
open Cert.Packed

/-- A tile of the result, from the blocks. -/
theorem tile2 (x0 : Vec Ideal S1024x3840 .bf16) (x1 : Vec Ideal S3840x512 .bf16) (r : Fin 1024) (s : Fin 512) :
    out0_2 (F := Ideal) x0 x1 (ix2 r s) = ∑ k : Fin 3840, x0 (ix2 r k) * x1 (ix2 k s) := by
  unfold out0_2
  frame_out
  pointwise [k0_pay1]

variable (m : (ℓ : Loc nD τ sig) → Buf (Elt Ideal) ℓ) (c : Dev nD)

/-- The arrays that the program is given. -/
def A : FVec Ideal S4096x3840 .f32 := m (c, Proc.tc.devRef main_arg0)
def W : FVec Ideal S2048x3664 .f32 := m (c, Proc.tc.devRef main_arg1)

/-- The packed weights, a row for each packed column. -/
def wp : FVec Ideal S3840x2048 .bf16 :=
  concatenate S3840x2048 0 [⟨S2560x2048, extractStridedSlice S2560x2048 ![0, 0] (transpose S3664x2048 [1, 0] (W m c) transposes_S2048x3664_S3664x2048_1_0) slices_S3664x2048_S2560x2048_0_0⟩,
    ⟨S1088x2048, extractStridedSlice S1088x2048 ![2576, 0] (transpose S3664x2048 [1, 0] (W m c) transposes_S2048x3664_S3664x2048_1_0) slices_S3664x2048_S1088x2048_2576_0⟩,
    ⟨S16x2048, extractStridedSlice S16x2048 ![2560, 0] (transpose S3664x2048 [1, 0] (W m c) transposes_S2048x3664_S3664x2048_1_0) slices_S3664x2048_S16x2048_2560_0⟩,
    ⟨S176x2048, broadcastInDim S176x2048 ![] bcast_S_S176x2048 (constant (F := Ideal) S_ .bf16 0x0000#16)⟩]
    concatenates_S2560x2048_S1088x2048_S16x2048_S176x2048_S3840x2048_d0

theorem wp_apply (n : Fin 3840) (k : Fin 2048) : wp m c (ix2 n k) = pk (fun j => W m c (ix2 k j)) n := by
  unfold wp
  pointwise [pk]

theorem idx0 : ∀ t : Fin cfg0.N, win0_0.index t = ![t.val / 4, 0] := by decide +kernel
theorem idx1 : ∀ t : Fin cfg0.N, win0_1.index t = ![0, t.val % 4] := by decide +kernel
theorem idx2 : ∀ t : Fin cfg0.N, win0_2.index t = ![t.val / 4, t.val % 4] := by decide +kernel

variable (t : Fin cfg0.N)

theorem N_lt : t.val < 16 := lt_of_lt_of_eq t.isLt N_0

/-- The row and the column of the arrays at a row and a column of the point's tile. -/
abbrev row (r : Fin 1024) : Fin 4096 := ⟨t.val / 4 * 1024 + r.val, by have := N_lt t; omega⟩
abbrev col (s : Fin 512) : Fin 2048 := ⟨t.val % 4 * 512 + s.val, by omega⟩

theorem V_v0 : (V m c main_v0 : Vec Ideal S4096x3840 .bf16) = A m c := by
  unfold V A
  open StableHlo in
  simp only [hostOps0, TRef.binary, TRef.nullary, TRef.ternary, TRef.unary, TRef.toBuf, TRef.ofBuf, cast_eq]
  after_results_simp
  rfl

theorem read0 (x : Vec Ideal S4096x3840 .bf16) (r : Fin 1024) (k : Fin 3840) :
    (((cfg0.win 0).blk t).view.read (Elt Ideal) x : Vec Ideal S1024x3840 .bf16) (ix2 r k) = x (ix2 (row t r) k) := by
  blk_ext [idx0 t]

theorem blk0 (r : Fin 1024) (k : Fin 3840) :
    (iblk m c 0 t : Vec Ideal S1024x3840 .bf16) (ix2 r k) = A m c (ix2 (row t r) k) :=
  (read0 t _ r k).trans (congrFun (V_v0 m c) _)

theorem V_v7 : (V m c main_v7 : Vec Ideal S3840x2048 .bf16) = wp m c := by
  unfold V wp W
  open StableHlo in
  simp only [hostOps0, TRef.binary, TRef.nullary, TRef.ternary, TRef.unary, TRef.toBuf, TRef.ofBuf, cast_eq]
  after_results_simp
  rfl

theorem V_v7_apply (a : Fin 3840) (b : Fin 2048) : (V m c main_v7 : Vec Ideal S3840x2048 .bf16) (ix2 a b) = pk (fun j => W m c (ix2 b j)) (a) :=
  (congrFun (V_v7 m c) _).trans (wp_apply m c _ _)

theorem read1 (x : Vec Ideal S3840x2048 .bf16) (k : Fin 3840) (s : Fin 512) :
    (((cfg0.win 1).blk t).view.read (Elt Ideal) x : Vec Ideal S3840x512 .bf16) (ix2 k s) = x (ix2 k (col t s)) := by
  blk_ext [idx1 t]

theorem blk1 (k : Fin 3840) (s : Fin 512) :
    (iblk m c 1 t : Vec Ideal S3840x512 .bf16) (ix2 k s) = pk (fun j => W m c (ix2 (col t s) j)) (k) :=
  (read1 t _ k s).trans (V_v7_apply m c _ _)

/-- The whole of the result. -/
def res2 : FVec Ideal S4096x2048 .f32 := fun i => ∑ k : Fin 3840, A m c (ix2 (i 0) k) * pk (fun j => W m c (ix2 (i 1) j)) k

theorem total2 : (dats m 0 c).arrAt 2 cfg0.N = res2 m c := by
  refine (dats m 0 c).arrAt_eq_of_covers 2 _ (by decide +kernel) fun t hf y => ?_
  blk_simp
  rw [after0_2]
  idx_vars y
  refine (tile2 _ _ _ _).trans ?_
  have e : ((View.whole main_v8).slice (win0_2.rect t)).emb (ix2 y0 y1) = ix2 (row t y0) (col t y1) := by
    blk_ext [idx2 t]
  rw [e]
  simp only [blk0, blk1, res2]
  rfl

/-- The reference's gradient of the joined parts, read in the packed order. -/
theorem ct_apply (a : Fin 4096) (n : Fin 3664) : Reference9Ideal.Read.val_main_v16 (F := Ideal) (A m c) (ix2 a n) = A m c (ix2 a (pos n)) := by
  rw [Reference9Ideal.Read.val_main_v16_apply, Reference9Ideal.Read.val_main_v14_apply]
  unfold Reference9Ideal.Read.val_main_v12 Reference9Ideal.Read.val_main_v13 Reference9Ideal.Read.val_main_v15
  pointwise [Reference9Ideal.Read.val_main_v8, Reference9Ideal.Read.val_main_v9, Reference9Ideal.Read.val_main_v10,
    Reference9Ideal.Read.val_main_cst_2, Reference9Ideal.Read.val_main_cst_3, Reference9Ideal.Read.val_main_cst_4]
  have e (b b' : Fin 3840) (h : b.val = b'.val) : A m c (ix2 a b) = A m c (ix2 a b') := by rw [Fin.ext h]
  rcases pos_val n with ⟨h, hp⟩ | ⟨h, h', hp⟩ | ⟨h, hp⟩
  · rw [dif_neg (by omega), dif_neg (by omega), dif_pos h, zero_add, zero_add]
    exact e _ _ hp.symm
  · rw [dif_pos (by omega), dif_neg (by omega), dif_neg (by omega), add_zero, add_zero]
    exact e _ _ (by dsimp only; omega)
  · rw [dif_neg (by omega), dif_pos (by omega), dif_neg (by omega), add_zero, zero_add]
    exact e _ _ (by dsimp only; omega)

theorem ref2 : Reference9Ideal.Read.val_main_v17 (F := Ideal) (A m c) (W m c) = res2 m c := by
  funext i
  idx_vars i
  rw [Reference9Ideal.Read.val_main_v17_apply]
  refine Eq.trans ?_ (sum_pk (fun n => A m c (ix2 i0 n)) fun n => W m c (ix2 i1 n)).symm
  refine Finset.sum_congr rfl fun n _ => congrArg₂ (· * ·) ((congrArg _ ?_).trans (ct_apply m c i0 n)) (congrArg _ ?_)
  · funext a; fin_cases a <;> rfl
  · funext a; fin_cases a <;> rfl

end Cert.InBwd
end
-- ==== Proof.Proj.InWgrad.lean ====
/- The gradient of the input projection's weights, tile by tile, is the product over the whole arrays. -/
module

public import proofs.«01_k».proof.Proof.Gen.Kernel10Ideal.Value
public import proofs.«01_k».proof.Proof.Gen.Reference10Ideal.Run
public import proofs.«01_k».proof.Proof.Gen.Reference10Ideal.Read
public import Idealize.ShloMosaic.Lib.Pointwise
public import Idealize.ShloMosaic.Lib.Pipeline.ValueKit
public import Idealize.ShloMosaic.Lib.Tactic.CleanTypes

@[expose] public section
set_option maxRecDepth 16384
noncomputable section
namespace Cert.InWgrad
open Idealize.ShloMosaic Idealize.SL.Sem Cert.Kernel10Ideal Cert.Kernel10Ideal.Gen

/-- A tile of the gradient, from the blocks. -/
theorem tile2 (x0 : Vec Ideal S4096x768 .bf16) (x1 : Vec Ideal S4096x1024 .bf16) (r : Fin 768) (s : Fin 1024) :
    out0_2 (F := Ideal) x0 x1 (ix2 r s) = ∑ k : Fin 4096, x0 (ix2 k r) * x1 (ix2 k s) := by
  unfold out0_2
  frame_out
  pointwise [k0_pay1]

variable (m : (ℓ : Loc nD τ sig) → Buf (Elt Ideal) ℓ) (c : Dev nD)

/-- The arrays that the program is given. -/
def A : FVec Ideal S4096x3840 .f32 := m (c, Proc.tc.devRef main_arg0)
def B : FVec Ideal S4096x2048 .f32 := m (c, Proc.tc.devRef main_arg1)

theorem idx0 : ∀ t : Fin cfg0.N, win0_0.index t = ![0, t.val / 2] := by decide +kernel
theorem idx1 : ∀ t : Fin cfg0.N, win0_1.index t = ![0, t.val % 2] := by decide +kernel
theorem idx2 : ∀ t : Fin cfg0.N, win0_2.index t = ![t.val / 2, t.val % 2] := by decide +kernel

variable (t : Fin cfg0.N)

theorem N_lt : t.val < 10 := lt_of_lt_of_eq t.isLt N_0

/-- The row and the column of the arrays at a row and a column of the point's tile. -/
abbrev row (r : Fin 768) : Fin 3840 := ⟨t.val / 2 * 768 + r.val, by have := N_lt t; omega⟩
abbrev col (s : Fin 1024) : Fin 2048 := ⟨t.val % 2 * 1024 + s.val, by omega⟩

theorem V_v0 : (V m c main_v0 : Vec Ideal S4096x3840 .bf16) = A m c := by
  unfold V A
  open StableHlo in
  simp only [hostOps0, TRef.binary, TRef.nullary, TRef.ternary, TRef.unary, TRef.toBuf, TRef.ofBuf, cast_eq]
  after_results_simp
  rfl

theorem read0 (x : Vec Ideal S4096x3840 .bf16) (k : Fin 4096) (r : Fin 768) :
    (((cfg0.win 0).blk t).view.read (Elt Ideal) x : Vec Ideal S4096x768 .bf16) (ix2 k r) = x (ix2 k (row t r)) := by
  blk_ext [idx0 t]

theorem blk0 (k : Fin 4096) (r : Fin 768) :
    (iblk m c 0 t : Vec Ideal S4096x768 .bf16) (ix2 k r) = A m c (ix2 k (row t r)) :=
  (read0 t _ k r).trans (congrFun (V_v0 m c) _)

theorem V_v1 : (V m c main_v1 : Vec Ideal S4096x2048 .bf16) = B m c := by
  unfold V B
  open StableHlo in
  simp only [hostOps0, TRef.binary, TRef.nullary, TRef.ternary, TRef.unary, TRef.toBuf, TRef.ofBuf, cast_eq]
  after_results_simp
  rfl

theorem read1 (x : Vec Ideal S4096x2048 .bf16) (k : Fin 4096) (s : Fin 1024) :
    (((cfg0.win 1).blk t).view.read (Elt Ideal) x : Vec Ideal S4096x1024 .bf16) (ix2 k s) = x (ix2 k (col t s)) := by
  blk_ext [idx1 t]

theorem blk1 (k : Fin 4096) (s : Fin 1024) :
    (iblk m c 1 t : Vec Ideal S4096x1024 .bf16) (ix2 k s) = B m c (ix2 k (col t s)) :=
  (read1 t _ k s).trans (congrFun (V_v1 m c) _)

/-- The whole of the gradient. -/
def res2 : FVec Ideal S3840x2048 .bf16 := fun i => ∑ k : Fin 4096, A m c (ix2 k (i 0)) * B m c (ix2 k (i 1))

theorem total2 : (dats m 0 c).arrAt 2 cfg0.N = res2 m c := by
  refine (dats m 0 c).arrAt_eq_of_covers 2 _ (by decide +kernel) fun t hf y => ?_
  blk_simp
  rw [after0_2]
  idx_vars y
  refine (tile2 _ _ _ _).trans ?_
  have e : ((View.whole main_v2).slice (win0_2.rect t)).emb (ix2 y0 y1) = ix2 (row t y0) (col t y1) := by
    blk_ext [idx2 t]
  rw [e]
  simp only [blk0, blk1, res2]
  rfl

/-- The reference's sum. -/
theorem ref2 : Reference10Ideal.Read.val_main_v5 (F := Ideal) (A m c) (B m c) = res2 m c := by
  funext i
  rw [Reference10Ideal.Read.val_main_v5_apply, Reference10Ideal.Read.val_main_v4_apply, Reference10Ideal.Read.val_main_v3_apply, Reference10Ideal.Read.val_main_v2_apply]
  refine Finset.sum_congr rfl fun k _ => congrArg₂ (· * ·) (congrArg _ ?_) (congrArg _ ?_)
  · funext a; fin_cases a <;> rfl
  · funext a; fin_cases a <;> rfl

end Cert.InWgrad
end
-- ==== Proof.Proj.OutProj.lean ====
/- The output projection of the two mixers with the residual, tile by tile, is the product over the whole arrays. -/
module

public import proofs.«01_k».proof.Proof.Gen.Kernel11Ideal.Value
public import proofs.«01_k».proof.Proof.Gen.Reference11Ideal.Run
public import proofs.«01_k».proof.Proof.Gen.Reference11Ideal.Read
public import Idealize.ShloMosaic.Lib.Pointwise
public import Idealize.ShloMosaic.Lib.Pipeline.ValueKit
public import Idealize.ShloMosaic.Lib.Tactic.CleanTypes

@[expose] public section
set_option maxRecDepth 16384
noncomputable section
namespace Cert.OutProj
open Idealize.ShloMosaic Idealize.SL.Sem Cert.Kernel11Ideal Cert.Kernel11Ideal.Gen

/-- The rows of the upper and of the lower half of the weights. -/
abbrev up (k : Fin 1024) : Fin 2048 := ⟨k.val, by omega⟩
abbrev low (k : Fin 1024) : Fin 2048 := ⟨1024 + k.val, by omega⟩

/-- A tile of the result, from the blocks. -/
theorem tile5 (x0 : Vec Ideal S1024x1024 .bf16) (x1 : Vec Ideal S1024x512 .bf16) (x2 : Vec Ideal S1024x1024 .f32) (x3 : Vec Ideal S1024x512 .bf16) (x4 : Vec Ideal S1024x512 .f32) (r : Fin 1024) (s : Fin 512) :
    out0_5 (F := Ideal) x0 x1 x2 x3 x4 (ix2 r s) = ((∑ k : Fin 1024, x0 (ix2 r k) * x1 (ix2 k s)) + ∑ k : Fin 1024, x2 (ix2 r k) * x3 (ix2 k s)) + x4 (ix2 r s) := by
  unfold out0_5
  frame_out
  pointwise [k0_pay1]

variable (m : (ℓ : Loc nD τ sig) → Buf (Elt Ideal) ℓ) (c : Dev nD)

/-- The arrays that the program is given. -/
def Y : FVec Ideal S4096x1024 .f32 := m (c, Proc.tc.devRef main_arg0)
def O : FVec Ideal S4096x1024 .f32 := m (c, Proc.tc.devRef main_arg1)
def W : FVec Ideal S2048x2048 .f32 := m (c, Proc.tc.devRef main_arg2)
def X : FVec Ideal S4096x2048 .f32 := m (c, Proc.tc.devRef main_arg3)

theorem idx0 : ∀ t : Fin cfg0.N, win0_0.index t = ![t.val / 4, 0] := by decide +kernel
theorem idx1 : ∀ t : Fin cfg0.N, win0_1.index t = ![0, t.val % 4] := by decide +kernel
theorem idx2 : ∀ t : Fin cfg0.N, win0_2.index t = ![t.val / 4, 0] := by decide +kernel
theorem idx3 : ∀ t : Fin cfg0.N, win0_3.index t = ![0, t.val % 4] := by decide +kernel
theorem idx4 : ∀ t : Fin cfg0.N, win0_4.index t = ![t.val / 4, t.val % 4] := by decide +kernel
theorem idx5 : ∀ t : Fin cfg0.N, win0_5.index t = ![t.val / 4, t.val % 4] := by decide +kernel

variable (t : Fin cfg0.N)

theorem N_lt : t.val < 16 := lt_of_lt_of_eq t.isLt N_0

/-- The row and the column of the arrays at a row and a column of the point's tile. -/
abbrev row (r : Fin 1024) : Fin 4096 := ⟨t.val / 4 * 1024 + r.val, by have := N_lt t; omega⟩
abbrev col (s : Fin 512) : Fin 2048 := ⟨t.val % 4 * 512 + s.val, by omega⟩

theorem V_v1 : (V m c main_v1 : Vec Ideal S4096x1024 .bf16) = Y m c := by
  unfold V Y
  open StableHlo in
  simp only [hostOps0, TRef.binary, TRef.nullary, TRef.ternary, TRef.unary, TRef.toBuf, TRef.ofBuf, cast_eq]
  after_results_simp
  rfl

theorem read0 (x : Vec Ideal S4096x1024 .bf16) (r : Fin 1024) (k : Fin 1024) :
    (((cfg0.win 0).blk t).view.read (Elt Ideal) x : Vec Ideal S1024x1024 .bf16) (ix2 r k) = x (ix2 (row t r) k) := by
  blk_ext [idx0 t]

theorem blk0 (r : Fin 1024) (k : Fin 1024) :
    (iblk m c 0 t : Vec Ideal S1024x1024 .bf16) (ix2 r k) = Y m c (ix2 (row t r) k) :=
  (read0 t _ r k).trans (congrFun (V_v1 m c) _)

theorem V_v2 : (V m c main_v2 : Vec Ideal S1024x2048 .bf16) = extractStridedSlice S1024x2048 ![0, 0] (W m c) slices_S2048x2048_S1024x2048_0_0 := by
  unfold V W
  open StableHlo in
  simp only [hostOps0, TRef.binary, TRef.nullary, TRef.ternary, TRef.unary, TRef.toBuf, TRef.ofBuf, cast_eq]
  after_results_simp
  rfl

theorem V_v2_apply (a : Fin 1024) (b : Fin 2048) : (V m c main_v2 : Vec Ideal S1024x2048 .bf16) (ix2 a b) = W m c (ix2 (up a) b) :=
  (congrFun (V_v2 m c) _).trans (by pointwise)

theorem read1 (x : Vec Ideal S1024x2048 .bf16) (k : Fin 1024) (s : Fin 512) :
    (((cfg0.win 1).blk t).view.read (Elt Ideal) x : Vec Ideal S1024x512 .bf16) (ix2 k s) = x (ix2 k (col t s)) := by
  blk_ext [idx1 t]

theorem blk1 (k : Fin 1024) (s : Fin 512) :
    (iblk m c 1 t : Vec Ideal S1024x512 .bf16) (ix2 k s) = W m c (ix2 (up k) (col t s)) :=
  (read1 t _ k s).trans (V_v2_apply m c _ _)

theorem V_arg1 : (V m c main_arg1 : Vec Ideal S4096x1024 .f32) = O m c := V_main_arg1 m c

theorem read2 (x : Vec Ideal S4096x1024 .f32) (r : Fin 1024) (k : Fin 1024) :
    (((cfg0.win 2).blk t).view.read (Elt Ideal) x : Vec Ideal S1024x1024 .f32) (ix2 r k) = x (ix2 (row t r) k) := by
  blk_ext [idx2 t]

theorem blk2 (r : Fin 1024) (k : Fin 1024) :
    (iblk m c 2 t : Vec Ideal S1024x1024 .f32) (ix2 r k) = O m c (ix2 (row t r) k) :=
  (read2 t _ r k).trans (congrFun (V_arg1 m c) _)

theorem V_v3 : (V m c main_v3 : Vec Ideal S1024x2048 .bf16) = extractStridedSlice S1024x2048 ![1024, 0] (W m c) slices_S2048x2048_S1024x2048_1024_0 := by
  unfold V W
  open StableHlo in
  simp only [hostOps0, TRef.binary, TRef.nullary, TRef.ternary, TRef.unary, TRef.toBuf, TRef.ofBuf, cast_eq]
  after_results_simp
  rfl

theorem V_v3_apply (a : Fin 1024) (b : Fin 2048) : (V m c main_v3 : Vec Ideal S1024x2048 .bf16) (ix2 a b) = W m c (ix2 (low a) b) :=
  (congrFun (V_v3 m c) _).trans (by pointwise)

theorem read3 (x : Vec Ideal S1024x2048 .bf16) (k : Fin 1024) (s : Fin 512) :
    (((cfg0.win 3).blk t).view.read (Elt Ideal) x : Vec Ideal S1024x512 .bf16) (ix2 k s) = x (ix2 k (col t s)) := by
  blk_ext [idx3 t]

theorem blk3 (k : Fin 1024) (s : Fin 512) :
    (iblk m c 3 t : Vec Ideal S1024x512 .bf16) (ix2 k s) = W m c (ix2 (low k) (col t s)) :=
  (read3 t _ k s).trans (V_v3_apply m c _ _)

theorem V_arg3 : (V m c main_arg3 : Vec Ideal S4096x2048 .f32) = X m c := V_main_arg3 m c

theorem read4 (x : Vec Ideal S4096x2048 .f32) (r : Fin 1024) (s : Fin 512) :
    (((cfg0.win 4).blk t).view.read (Elt Ideal) x : Vec Ideal S1024x512 .f32) (ix2 r s) = x (ix2 (row t r) (col t s)) := by
  blk_ext [idx4 t]

theorem blk4 (r : Fin 1024) (s : Fin 512) :
    (iblk m c 4 t : Vec Ideal S1024x512 .f32) (ix2 r s) = X m c (ix2 (row t r) (col t s)) :=
  (read4 t _ r s).trans (congrFun (V_arg3 m c) _)

/-- The whole of the result. -/
def res5 : FVec Ideal S4096x2048 .f32 := fun i => ((∑ k : Fin 1024, Y m c (ix2 (i 0) k) * W m c (ix2 (up k) (i 1))) + ∑ k : Fin 1024, O m c (ix2 (i 0) k) * W m c (ix2 (low k) (i 1))) + X m c i

theorem total5 : (dats m 0 c).arrAt 5 cfg0.N = res5 m c := by
  refine (dats m 0 c).arrAt_eq_of_covers 5 _ (by decide +kernel) fun t hf y => ?_
  blk_simp
  rw [after0_5]
  idx_vars y
  refine (tile5 _ _ _ _ _ _ _).trans ?_
  have e : ((View.whole main_v4).slice (win0_5.rect t)).emb (ix2 y0 y1) = ix2 (row t y0) (col t y1) := by
    blk_ext [idx5 t]
  rw [e]
  simp only [blk0, blk1, blk2, blk3, blk4, res5]
  rfl

/-- The reference's product over the joined axis splits where the mixers join. -/
theorem ref5 : Reference11Ideal.Read.val_main_v2 (F := Ideal) (Y m c) (O m c) (W m c) (X m c) = res5 m c := by
  funext i
  idx_vars i
  rw [Reference11Ideal.Read.val_main_v2_apply, Reference11Ideal.Read.val_main_v1_apply]
  unfold Reference11Ideal.Read.val_main_v0
  pointwise [res5]
  rw [add_comm (X m c _)]
  refine congrArg (· + _) (congrArg₂ _ (Finset.sum_congr rfl fun s _ => congrArg (_ * W m c ·) ?_)
    (Finset.sum_congr rfl fun s _ => congrArg (_ * W m c ·) ?_)) <;>
    · funext a
      match a with
      | ⟨0, _⟩ => rfl
      | ⟨1, _⟩ => rfl

end Cert.OutProj
end
-- ==== Proof.Proj.OutBwd.lean ====
/- The gradient of the mixers' outputs, tile by tile, is the product over the whole arrays. -/
module

public import proofs.«01_k».proof.Proof.Gen.Kernel12Ideal.Value
public import proofs.«01_k».proof.Proof.Gen.Reference12Ideal.Run
public import proofs.«01_k».proof.Proof.Gen.Reference12Ideal.Read
public import Idealize.ShloMosaic.Lib.Pointwise
public import Idealize.ShloMosaic.Lib.Pipeline.ValueKit
public import Idealize.ShloMosaic.Lib.Tactic.CleanTypes

@[expose] public section
set_option maxRecDepth 16384
noncomputable section
namespace Cert.OutBwd
open Idealize.ShloMosaic Idealize.SL.Sem Cert.Kernel12Ideal Cert.Kernel12Ideal.Gen

/-- A tile of the gradient, from the blocks. -/
theorem tile2 (x0 : Vec Ideal S1024x2048 .f32) (x1 : Vec Ideal S512x2048 .bf16) (r : Fin 1024) (s : Fin 512) :
    out0_2 (F := Ideal) x0 x1 (ix2 r s) = ∑ k : Fin 2048, x0 (ix2 r k) * x1 (ix2 s k) := by
  unfold out0_2
  frame_out
  pointwise [k0_pay1]

variable (m : (ℓ : Loc nD τ sig) → Buf (Elt Ideal) ℓ) (c : Dev nD)

/-- The arrays that the program is given. -/
def A : FVec Ideal S4096x2048 .f32 := m (c, Proc.tc.devRef main_arg0)
def B : FVec Ideal S2048x2048 .f32 := m (c, Proc.tc.devRef main_arg1)

theorem idx0 : ∀ t : Fin cfg0.N, win0_0.index t = ![t.val / 4, 0] := by decide +kernel
theorem idx1 : ∀ t : Fin cfg0.N, win0_1.index t = ![t.val % 4, 0] := by decide +kernel
theorem idx2 : ∀ t : Fin cfg0.N, win0_2.index t = ![t.val / 4, t.val % 4] := by decide +kernel

variable (t : Fin cfg0.N)

theorem N_lt : t.val < 16 := lt_of_lt_of_eq t.isLt N_0

/-- The row and the column of the arrays at a row and a column of the point's tile. -/
abbrev row (r : Fin 1024) : Fin 4096 := ⟨t.val / 4 * 1024 + r.val, by have := N_lt t; omega⟩
abbrev col (s : Fin 512) : Fin 2048 := ⟨t.val % 4 * 512 + s.val, by omega⟩

theorem V_arg0 : (V m c main_arg0 : Vec Ideal S4096x2048 .f32) = A m c := V_main_arg0 m c

theorem read0 (x : Vec Ideal S4096x2048 .f32) (r : Fin 1024) (k : Fin 2048) :
    (((cfg0.win 0).blk t).view.read (Elt Ideal) x : Vec Ideal S1024x2048 .f32) (ix2 r k) = x (ix2 (row t r) k) := by
  blk_ext [idx0 t]

theorem blk0 (r : Fin 1024) (k : Fin 2048) :
    (iblk m c 0 t : Vec Ideal S1024x2048 .f32) (ix2 r k) = A m c (ix2 (row t r) k) :=
  (read0 t _ r k).trans (congrFun (V_arg0 m c) _)

theorem V_v0 : (V m c main_v0 : Vec Ideal S2048x2048 .bf16) = B m c := by
  unfold V B
  open StableHlo in
  simp only [hostOps0, TRef.binary, TRef.nullary, TRef.ternary, TRef.unary, TRef.toBuf, TRef.ofBuf, cast_eq]
  after_results_simp
  rfl

theorem read1 (x : Vec Ideal S2048x2048 .bf16) (s : Fin 512) (k : Fin 2048) :
    (((cfg0.win 1).blk t).view.read (Elt Ideal) x : Vec Ideal S512x2048 .bf16) (ix2 s k) = x (ix2 (col t s) k) := by
  blk_ext [idx1 t]

theorem blk1 (s : Fin 512) (k : Fin 2048) :
    (iblk m c 1 t : Vec Ideal S512x2048 .bf16) (ix2 s k) = B m c (ix2 (col t s) k) :=
  (read1 t _ s k).trans (congrFun (V_v0 m c) _)

/-- The whole of the gradient. -/
def res2 : FVec Ideal S4096x2048 .f32 := fun i => ∑ k : Fin 2048, A m c (ix2 (i 0) k) * B m c (ix2 (i 1) k)

theorem total2 : (dats m 0 c).arrAt 2 cfg0.N = res2 m c := by
  refine (dats m 0 c).arrAt_eq_of_covers 2 _ (by decide +kernel) fun t hf y => ?_
  blk_simp
  rw [after0_2]
  idx_vars y
  refine (tile2 _ _ _ _).trans ?_
  have e : ((View.whole main_v1).slice (win0_2.rect t)).emb (ix2 y0 y1) = ix2 (row t y0) (col t y1) := by
    blk_ext [idx2 t]
  rw [e]
  simp only [blk0, blk1, res2]
  rfl

/-- The reference's sum. -/
theorem ref2 : Reference12Ideal.Read.val_main_v2 (F := Ideal) (A m c) (B m c) = res2 m c := by
  funext i
  rw [Reference12Ideal.Read.val_main_v2_apply]
  refine Finset.sum_congr rfl fun k _ => congrArg₂ (· * ·) (congrArg _ ?_) (congrArg _ ?_)
  · funext a; fin_cases a <;> rfl
  · funext a; fin_cases a <;> rfl

end Cert.OutBwd
end
-- ==== Proof.Proj.OutWgradSsd.lean ====
/- The gradient of the output projection's upper weights, tile by tile, is the product over the whole arrays. -/
module

public import proofs.«01_k».proof.Proof.Gen.Kernel13Ideal.Value
public import proofs.«01_k».proof.Proof.Gen.Reference13Ideal.Run
public import proofs.«01_k».proof.Proof.Gen.Reference13Ideal.Read
public import Idealize.ShloMosaic.Lib.Pointwise
public import Idealize.ShloMosaic.Lib.Pipeline.ValueKit
public import Idealize.ShloMosaic.Lib.Tactic.CleanTypes

@[expose] public section
set_option maxRecDepth 16384
noncomputable section
namespace Cert.OutWgradSsd
open Idealize.ShloMosaic Idealize.SL.Sem Cert.Kernel13Ideal Cert.Kernel13Ideal.Gen

/-- A tile of the gradient, from the blocks. -/
theorem tile2 (x0 : Vec Ideal S4096x512 .bf16) (x1 : Vec Ideal S4096x512 .f32) (r : Fin 512) (s : Fin 512) :
    out0_2 (F := Ideal) x0 x1 (ix2 r s) = ∑ k : Fin 4096, x0 (ix2 k r) * x1 (ix2 k s) := by
  unfold out0_2
  frame_out
  pointwise [k0_pay1]

variable (m : (ℓ : Loc nD τ sig) → Buf (Elt Ideal) ℓ) (c : Dev nD)

/-- The arrays that the program is given. -/
def A : FVec Ideal S4096x1024 .f32 := m (c, Proc.tc.devRef main_arg0)
def B : FVec Ideal S4096x2048 .f32 := m (c, Proc.tc.devRef main_arg1)

theorem idx0 : ∀ t : Fin cfg0.N, win0_0.index t = ![0, t.val / 4] := by decide +kernel
theorem idx1 : ∀ t : Fin cfg0.N, win0_1.index t = ![0, t.val % 4] := by decide +kernel
theorem idx2 : ∀ t : Fin cfg0.N, win0_2.index t = ![t.val / 4, t.val % 4] := by decide +kernel

variable (t : Fin cfg0.N)

theorem N_lt : t.val < 8 := lt_of_lt_of_eq t.isLt N_0

/-- The row and the column of the arrays at a row and a column of the point's tile. -/
abbrev row (r : Fin 512) : Fin 1024 := ⟨t.val / 4 * 512 + r.val, by have := N_lt t; omega⟩
abbrev col (s : Fin 512) : Fin 2048 := ⟨t.val % 4 * 512 + s.val, by omega⟩

theorem V_v0 : (V m c main_v0 : Vec Ideal S4096x1024 .bf16) = A m c := by
  unfold V A
  open StableHlo in
  simp only [hostOps0, TRef.binary, TRef.nullary, TRef.ternary, TRef.unary, TRef.toBuf, TRef.ofBuf, cast_eq]
  after_results_simp
  rfl

theorem read0 (x : Vec Ideal S4096x1024 .bf16) (k : Fin 4096) (r : Fin 512) :
    (((cfg0.win 0).blk t).view.read (Elt Ideal) x : Vec Ideal S4096x512 .bf16) (ix2 k r) = x (ix2 k (row t r)) := by
  blk_ext [idx0 t]

theorem blk0 (k : Fin 4096) (r : Fin 512) :
    (iblk m c 0 t : Vec Ideal S4096x512 .bf16) (ix2 k r) = A m c (ix2 k (row t r)) :=
  (read0 t _ k r).trans (congrFun (V_v0 m c) _)

theorem V_arg1 : (V m c main_arg1 : Vec Ideal S4096x2048 .f32) = B m c := V_main_arg1 m c

theorem read1 (x : Vec Ideal S4096x2048 .f32) (k : Fin 4096) (s : Fin 512) :
    (((cfg0.win 1).blk t).view.read (Elt Ideal) x : Vec Ideal S4096x512 .f32) (ix2 k s) = x (ix2 k (col t s)) := by
  blk_ext [idx1 t]

theorem blk1 (k : Fin 4096) (s : Fin 512) :
    (iblk m c 1 t : Vec Ideal S4096x512 .f32) (ix2 k s) = B m c (ix2 k (col t s)) :=
  (read1 t _ k s).trans (congrFun (V_arg1 m c) _)

/-- The whole of the gradient. -/
def res2 : FVec Ideal S1024x2048 .bf16 := fun i => ∑ k : Fin 4096, A m c (ix2 k (i 0)) * B m c (ix2 k (i 1))

theorem total2 : (dats m 0 c).arrAt 2 cfg0.N = res2 m c := by
  refine (dats m 0 c).arrAt_eq_of_covers 2 _ (by decide +kernel) fun t hf y => ?_
  blk_simp
  rw [after0_2]
  idx_vars y
  refine (tile2 _ _ _ _).trans ?_
  have e : ((View.whole main_v1).slice (win0_2.rect t)).emb (ix2 y0 y1) = ix2 (row t y0) (col t y1) := by
    blk_ext [idx2 t]
  rw [e]
  simp only [blk0, blk1, res2]
  rfl

/-- The reference's sum. -/
theorem ref2 : Reference13Ideal.Read.val_main_v4 (F := Ideal) (A m c) (B m c) = res2 m c := by
  funext i
  rw [Reference13Ideal.Read.val_main_v4_apply, Reference13Ideal.Read.val_main_v3_apply, Reference13Ideal.Read.val_main_v2_apply]
  refine Finset.sum_congr rfl fun k _ => (mul_comm _ _).trans (congrArg₂ (· * ·) (congrArg _ ?_) (congrArg _ ?_))
  · funext a; fin_cases a <;> rfl
  · funext a; fin_cases a <;> rfl

end Cert.OutWgradSsd
end
-- ==== Proof.Proj.OutWgradAttn.lean ====
/- The gradient of the output projection's lower weights, tile by tile, is the product over the whole arrays. -/
module

public import proofs.«01_k».proof.Proof.Gen.Kernel14Ideal.Value
public import proofs.«01_k».proof.Proof.Gen.Reference14Ideal.Run
public import proofs.«01_k».proof.Proof.Gen.Reference14Ideal.Read
public import Idealize.ShloMosaic.Lib.Pointwise
public import Idealize.ShloMosaic.Lib.Pipeline.ValueKit
public import Idealize.ShloMosaic.Lib.Tactic.CleanTypes

@[expose] public section
set_option maxRecDepth 16384
noncomputable section
namespace Cert.OutWgradAttn
open Idealize.ShloMosaic Idealize.SL.Sem Cert.Kernel14Ideal Cert.Kernel14Ideal.Gen

/-- A tile of the gradient, from the blocks. -/
theorem tile2 (x0 : Vec Ideal S4096x512 .f32) (x1 : Vec Ideal S4096x512 .f32) (r : Fin 512) (s : Fin 512) :
    out0_2 (F := Ideal) x0 x1 (ix2 r s) = ∑ k : Fin 4096, x0 (ix2 k r) * x1 (ix2 k s) := by
  unfold out0_2
  frame_out
  pointwise [k0_pay1]

variable (m : (ℓ : Loc nD τ sig) → Buf (Elt Ideal) ℓ) (c : Dev nD)

/-- The arrays that the program is given. -/
def A : FVec Ideal S4096x1024 .f32 := m (c, Proc.tc.devRef main_arg0)
def B : FVec Ideal S4096x2048 .f32 := m (c, Proc.tc.devRef main_arg1)

theorem idx0 : ∀ t : Fin cfg0.N, win0_0.index t = ![0, t.val / 4] := by decide +kernel
theorem idx1 : ∀ t : Fin cfg0.N, win0_1.index t = ![0, t.val % 4] := by decide +kernel
theorem idx2 : ∀ t : Fin cfg0.N, win0_2.index t = ![t.val / 4, t.val % 4] := by decide +kernel

variable (t : Fin cfg0.N)

theorem N_lt : t.val < 8 := lt_of_lt_of_eq t.isLt N_0

/-- The row and the column of the arrays at a row and a column of the point's tile. -/
abbrev row (r : Fin 512) : Fin 1024 := ⟨t.val / 4 * 512 + r.val, by have := N_lt t; omega⟩
abbrev col (s : Fin 512) : Fin 2048 := ⟨t.val % 4 * 512 + s.val, by omega⟩

theorem V_arg0 : (V m c main_arg0 : Vec Ideal S4096x1024 .f32) = A m c := V_main_arg0 m c

theorem read0 (x : Vec Ideal S4096x1024 .f32) (k : Fin 4096) (r : Fin 512) :
    (((cfg0.win 0).blk t).view.read (Elt Ideal) x : Vec Ideal S4096x512 .f32) (ix2 k r) = x (ix2 k (row t r)) := by
  blk_ext [idx0 t]

theorem blk0 (k : Fin 4096) (r : Fin 512) :
    (iblk m c 0 t : Vec Ideal S4096x512 .f32) (ix2 k r) = A m c (ix2 k (row t r)) :=
  (read0 t _ k r).trans (congrFun (V_arg0 m c) _)

theorem V_arg1 : (V m c main_arg1 : Vec Ideal S4096x2048 .f32) = B m c := V_main_arg1 m c

theorem read1 (x : Vec Ideal S4096x2048 .f32) (k : Fin 4096) (s : Fin 512) :
    (((cfg0.win 1).blk t).view.read (Elt Ideal) x : Vec Ideal S4096x512 .f32) (ix2 k s) = x (ix2 k (col t s)) := by
  blk_ext [idx1 t]

theorem blk1 (k : Fin 4096) (s : Fin 512) :
    (iblk m c 1 t : Vec Ideal S4096x512 .f32) (ix2 k s) = B m c (ix2 k (col t s)) :=
  (read1 t _ k s).trans (congrFun (V_arg1 m c) _)

/-- The whole of the gradient. -/
def res2 : FVec Ideal S1024x2048 .bf16 := fun i => ∑ k : Fin 4096, A m c (ix2 k (i 0)) * B m c (ix2 k (i 1))

theorem total2 : (dats m 0 c).arrAt 2 cfg0.N = res2 m c := by
  refine (dats m 0 c).arrAt_eq_of_covers 2 _ (by decide +kernel) fun t hf y => ?_
  blk_simp
  rw [after0_2]
  idx_vars y
  refine (tile2 _ _ _ _).trans ?_
  have e : ((View.whole main_v0).slice (win0_2.rect t)).emb (ix2 y0 y1) = ix2 (row t y0) (col t y1) := by
    blk_ext [idx2 t]
  rw [e]
  simp only [blk0, blk1, res2]
  rfl

/-- The reference's sum. -/
theorem ref2 : Reference14Ideal.Read.val_main_v4 (F := Ideal) (A m c) (B m c) = res2 m c := by
  funext i
  rw [Reference14Ideal.Read.val_main_v4_apply, Reference14Ideal.Read.val_main_v3_apply, Reference14Ideal.Read.val_main_v2_apply]
  refine Finset.sum_congr rfl fun k _ => (mul_comm _ _).trans (congrArg₂ (· * ·) (congrArg _ ?_) (congrArg _ ?_))
  · funext a; fin_cases a <;> rfl
  · funext a; fin_cases a <;> rfl

end Cert.OutWgradAttn
end
-- ==== Proof.Proj.KvProj.lean ====
/- The projection of the latent keys and values, tile by tile, is the product over the whole arrays. -/
module

public import proofs.«01_k».proof.Proof.Gen.Kernel15Ideal.Value
public import proofs.«01_k».proof.Proof.Gen.Reference15Ideal.Run
public import proofs.«01_k».proof.Proof.Gen.Reference15Ideal.Read
public import Idealize.ShloMosaic.Lib.Pointwise
public import Idealize.ShloMosaic.Lib.Pipeline.ValueKit
public import Idealize.ShloMosaic.Lib.Tactic.CleanTypes

@[expose] public section
set_option maxRecDepth 16384
noncomputable section
namespace Cert.KvProj
open Idealize.ShloMosaic Idealize.SL.Sem Cert.Kernel15Ideal Cert.Kernel15Ideal.Gen

/-- A tile of the product, from the blocks. -/
theorem tile2 (x0 : Vec Ideal S1024x512 .bf16) (x1 : Vec Ideal S512x512 .bf16) (r : Fin 1024) (s : Fin 512) :
    out0_2 (F := Ideal) x0 x1 (ix2 r s) = ∑ k : Fin 512, x0 (ix2 r k) * x1 (ix2 s k) := by
  unfold out0_2
  frame_out
  pointwise [k0_pay1]

variable (m : (ℓ : Loc nD τ sig) → Buf (Elt Ideal) ℓ) (c : Dev nD)

/-- The arrays that the program is given. -/
def A : FVec Ideal S4096x512 .f32 := m (c, Proc.tc.devRef main_arg0)
def B : FVec Ideal S512x2048 .f32 := m (c, Proc.tc.devRef main_arg1)

theorem idx0 : ∀ t : Fin cfg0.N, win0_0.index t = ![t.val / 4, 0] := by decide +kernel
theorem idx1 : ∀ t : Fin cfg0.N, win0_1.index t = ![t.val % 4, 0] := by decide +kernel
theorem idx2 : ∀ t : Fin cfg0.N, win0_2.index t = ![t.val / 4, t.val % 4] := by decide +kernel

variable (t : Fin cfg0.N)

theorem N_lt : t.val < 16 := lt_of_lt_of_eq t.isLt N_0

/-- The row and the column of the arrays at a row and a column of the point's tile. -/
abbrev row (r : Fin 1024) : Fin 4096 := ⟨t.val / 4 * 1024 + r.val, by have := N_lt t; omega⟩
abbrev col (s : Fin 512) : Fin 2048 := ⟨t.val % 4 * 512 + s.val, by omega⟩

theorem V_v0 : (V m c main_v0 : Vec Ideal S4096x512 .bf16) = A m c := by
  unfold V A
  open StableHlo in
  simp only [hostOps0, TRef.binary, TRef.nullary, TRef.ternary, TRef.unary, TRef.toBuf, TRef.ofBuf, cast_eq]
  after_results_simp
  rfl

theorem read0 (x : Vec Ideal S4096x512 .bf16) (r : Fin 1024) (k : Fin 512) :
    (((cfg0.win 0).blk t).view.read (Elt Ideal) x : Vec Ideal S1024x512 .bf16) (ix2 r k) = x (ix2 (row t r) k) := by
  blk_ext [idx0 t]

theorem blk0 (r : Fin 1024) (k : Fin 512) :
    (iblk m c 0 t : Vec Ideal S1024x512 .bf16) (ix2 r k) = A m c (ix2 (row t r) k) :=
  (read0 t _ r k).trans (congrFun (V_v0 m c) _)

theorem V_v2 : (V m c main_v2 : Vec Ideal S2048x512 .bf16) = transpose S2048x512 [1, 0] (B m c) transposes_S512x2048_S2048x512_1_0 := by
  unfold V B
  open StableHlo in
  simp only [hostOps0, TRef.binary, TRef.nullary, TRef.ternary, TRef.unary, TRef.toBuf, TRef.ofBuf, cast_eq]
  after_results_simp
  rfl

theorem read1 (x : Vec Ideal S2048x512 .bf16) (s : Fin 512) (k : Fin 512) :
    (((cfg0.win 1).blk t).view.read (Elt Ideal) x : Vec Ideal S512x512 .bf16) (ix2 s k) = x (ix2 (col t s) k) := by
  blk_ext [idx1 t]

theorem blk1 (s : Fin 512) (k : Fin 512) :
    (iblk m c 1 t : Vec Ideal S512x512 .bf16) (ix2 s k) = B m c (ix2 k (col t s)) :=
  (read1 t _ s k).trans ((congrFun (V_v2 m c) _).trans (by pointwise))

/-- The whole of the product. -/
def res2 : FVec Ideal S4096x2048 .f32 := fun i => ∑ k : Fin 512, A m c (ix2 (i 0) k) * B m c (ix2 k (i 1))

theorem total2 : (dats m 0 c).arrAt 2 cfg0.N = res2 m c := by
  refine (dats m 0 c).arrAt_eq_of_covers 2 _ (by decide +kernel) fun t hf y => ?_
  blk_simp
  rw [after0_2]
  idx_vars y
  refine (tile2 _ _ _ _).trans ?_
  have e : ((View.whole main_v3).slice (win0_2.rect t)).emb (ix2 y0 y1) = ix2 (row t y0) (col t y1) := by
    blk_ext [idx2 t]
  rw [e]
  simp only [blk0, blk1, res2]
  rfl

/-- The reference's sum. -/
theorem ref2 : Reference15Ideal.Read.val_main_v0 (F := Ideal) (A m c) (B m c) = res2 m c := by
  funext i
  rw [Reference15Ideal.Read.val_main_v0_apply]
  refine Finset.sum_congr rfl fun k _ => congrArg₂ (· * ·) (congrArg _ ?_) (congrArg _ ?_)
  · funext a; fin_cases a <;> rfl
  · funext a; fin_cases a <;> rfl

end Cert.KvProj
end
-- ==== Proof.Proj.KvBwd.lean ====
/- The gradient of the latent, tile by tile, is the product over the whole arrays. -/
module

public import proofs.«01_k».proof.Proof.Gen.Kernel16Ideal.Value
public import proofs.«01_k».proof.Proof.Gen.Reference16Ideal.Run
public import proofs.«01_k».proof.Proof.Gen.Reference16Ideal.Read
public import Idealize.ShloMosaic.Lib.Pointwise
public import Idealize.ShloMosaic.Lib.Pipeline.ValueKit
public import Idealize.ShloMosaic.Lib.Tactic.CleanTypes

@[expose] public section
set_option maxRecDepth 16384
noncomputable section
namespace Cert.KvBwd
open Idealize.ShloMosaic Idealize.SL.Sem Cert.Kernel16Ideal Cert.Kernel16Ideal.Gen

/-- A tile of the gradient, from the blocks. -/
theorem tile2 (x0 : Vec Ideal S1024x2048 .f32) (x1 : Vec Ideal S2048x512 .bf16) (r : Fin 1024) (s : Fin 512) :
    out0_2 (F := Ideal) x0 x1 (ix2 r s) = ∑ k : Fin 2048, x0 (ix2 r k) * x1 (ix2 k s) := by
  unfold out0_2
  frame_out
  pointwise [k0_pay1]

variable (m : (ℓ : Loc nD τ sig) → Buf (Elt Ideal) ℓ) (c : Dev nD)

/-- The arrays that the program is given. -/
def A : FVec Ideal S4096x2048 .f32 := m (c, Proc.tc.devRef main_arg0)
def B : FVec Ideal S512x2048 .f32 := m (c, Proc.tc.devRef main_arg1)

theorem idx0 : ∀ t : Fin cfg0.N, win0_0.index t = ![t.val / 1, 0] := by decide +kernel
theorem idx1 : ∀ t : Fin cfg0.N, win0_1.index t = ![0, t.val % 1] := by decide +kernel
theorem idx2 : ∀ t : Fin cfg0.N, win0_2.index t = ![t.val / 1, t.val % 1] := by decide +kernel

variable (t : Fin cfg0.N)

theorem N_lt : t.val < 4 := lt_of_lt_of_eq t.isLt N_0

/-- The row and the column of the arrays at a row and a column of the point's tile. -/
abbrev row (r : Fin 1024) : Fin 4096 := ⟨t.val / 1 * 1024 + r.val, by have := N_lt t; omega⟩
abbrev col (s : Fin 512) : Fin 512 := ⟨t.val % 1 * 512 + s.val, by omega⟩

theorem V_arg0 : (V m c main_arg0 : Vec Ideal S4096x2048 .f32) = A m c := V_main_arg0 m c

theorem read0 (x : Vec Ideal S4096x2048 .f32) (r : Fin 1024) (k : Fin 2048) :
    (((cfg0.win 0).blk t).view.read (Elt Ideal) x : Vec Ideal S1024x2048 .f32) (ix2 r k) = x (ix2 (row t r) k) := by
  blk_ext [idx0 t]

theorem blk0 (r : Fin 1024) (k : Fin 2048) :
    (iblk m c 0 t : Vec Ideal S1024x2048 .f32) (ix2 r k) = A m c (ix2 (row t r) k) :=
  (read0 t _ r k).trans (congrFun (V_arg0 m c) _)

theorem V_v1 : (V m c main_v1 : Vec Ideal S2048x512 .bf16) = transpose S2048x512 [1, 0] (B m c) transposes_S512x2048_S2048x512_1_0 := by
  unfold V B
  open StableHlo in
  simp only [hostOps0, TRef.binary, TRef.nullary, TRef.ternary, TRef.unary, TRef.toBuf, TRef.ofBuf, cast_eq]
  after_results_simp
  rfl

theorem V_v1_apply (a : Fin 2048) (b : Fin 512) : (V m c main_v1 : Vec Ideal S2048x512 .bf16) (ix2 a b) = B m c (ix2 b a) :=
  (congrFun (V_v1 m c) _).trans (by pointwise)

theorem read1 (x : Vec Ideal S2048x512 .bf16) (k : Fin 2048) (s : Fin 512) :
    (((cfg0.win 1).blk t).view.read (Elt Ideal) x : Vec Ideal S2048x512 .bf16) (ix2 k s) = x (ix2 k (col t s)) := by
  blk_ext [idx1 t]

theorem blk1 (k : Fin 2048) (s : Fin 512) :
    (iblk m c 1 t : Vec Ideal S2048x512 .bf16) (ix2 k s) = B m c (ix2 (col t s) k) :=
  (read1 t _ k s).trans (V_v1_apply m c _ _)

/-- The whole of the gradient. -/
def res2 : FVec Ideal S4096x512 .f32 := fun i => ∑ k : Fin 2048, A m c (ix2 (i 0) k) * B m c (ix2 (i 1) k)

theorem total2 : (dats m 0 c).arrAt 2 cfg0.N = res2 m c := by
  refine (dats m 0 c).arrAt_eq_of_covers 2 _ (by decide +kernel) fun t hf y => ?_
  blk_simp
  rw [after0_2]
  idx_vars y
  refine (tile2 _ _ _ _).trans ?_
  have e : ((View.whole main_v2).slice (win0_2.rect t)).emb (ix2 y0 y1) = ix2 (row t y0) (col t y1) := by
    blk_ext [idx2 t]
  rw [e]
  simp only [blk0, blk1, res2]
  rfl

/-- The reference's sum. -/
theorem ref2 : Reference16Ideal.Read.val_main_v2 (F := Ideal) (A m c) (B m c) = res2 m c := by
  funext i
  rw [Reference16Ideal.Read.val_main_v2_apply]
  refine Finset.sum_congr rfl fun k _ => congrArg₂ (· * ·) (congrArg _ ?_) (congrArg _ ?_)
  · funext a; fin_cases a <;> rfl
  · funext a; fin_cases a <;> rfl

end Cert.KvBwd
end
-- ==== Proof.Proj.KvWgrad.lean ====
/- The gradient of the latent projection's weights, tile by tile, is the product over the whole arrays. -/
module

public import proofs.«01_k».proof.Proof.Gen.Kernel17Ideal.Value
public import proofs.«01_k».proof.Proof.Gen.Reference17Ideal.Run
public import proofs.«01_k».proof.Proof.Gen.Reference17Ideal.Read
public import Idealize.ShloMosaic.Lib.Pointwise
public import Idealize.ShloMosaic.Lib.Pipeline.ValueKit
public import Idealize.ShloMosaic.Lib.Tactic.CleanTypes

@[expose] public section
set_option maxRecDepth 16384
noncomputable section
namespace Cert.KvWgrad
open Idealize.ShloMosaic Idealize.SL.Sem Cert.Kernel17Ideal Cert.Kernel17Ideal.Gen

/-- A tile of the gradient, from the blocks. -/
theorem tile2 (x0 : Vec Ideal S4096x512 .f32) (x1 : Vec Ideal S4096x512 .bf16) (r : Fin 512) (s : Fin 512) :
    out0_2 (F := Ideal) x0 x1 (ix2 r s) = ∑ k : Fin 4096, x0 (ix2 k r) * x1 (ix2 k s) := by
  unfold out0_2
  frame_out
  pointwise [k0_pay1]

variable (m : (ℓ : Loc nD τ sig) → Buf (Elt Ideal) ℓ) (c : Dev nD)

/-- The arrays that the program is given. -/
def A : FVec Ideal S4096x2048 .f32 := m (c, Proc.tc.devRef main_arg0)
def B : FVec Ideal S4096x512 .f32 := m (c, Proc.tc.devRef main_arg1)

theorem idx0 : ∀ t : Fin cfg0.N, win0_0.index t = ![0, t.val / 1] := by decide +kernel
theorem idx1 : ∀ t : Fin cfg0.N, win0_1.index t = ![0, t.val % 1] := by decide +kernel
theorem idx2 : ∀ t : Fin cfg0.N, win0_2.index t = ![t.val / 1, t.val % 1] := by decide +kernel

variable (t : Fin cfg0.N)

theorem N_lt : t.val < 4 := lt_of_lt_of_eq t.isLt N_0

/-- The row and the column of the arrays at a row and a column of the point's tile. -/
abbrev row (r : Fin 512) : Fin 2048 := ⟨t.val / 1 * 512 + r.val, by have := N_lt t; omega⟩
abbrev col (s : Fin 512) : Fin 512 := ⟨t.val % 1 * 512 + s.val, by omega⟩

theorem V_arg0 : (V m c main_arg0 : Vec Ideal S4096x2048 .f32) = A m c := V_main_arg0 m c

theorem read0 (x : Vec Ideal S4096x2048 .f32) (k : Fin 4096) (r : Fin 512) :
    (((cfg0.win 0).blk t).view.read (Elt Ideal) x : Vec Ideal S4096x512 .f32) (ix2 k r) = x (ix2 k (row t r)) := by
  blk_ext [idx0 t]

theorem blk0 (k : Fin 4096) (r : Fin 512) :
    (iblk m c 0 t : Vec Ideal S4096x512 .f32) (ix2 k r) = A m c (ix2 k (row t r)) :=
  (read0 t _ k r).trans (congrFun (V_arg0 m c) _)

theorem V_v0 : (V m c main_v0 : Vec Ideal S4096x512 .bf16) = B m c := by
  unfold V B
  open StableHlo in
  simp only [hostOps0, TRef.binary, TRef.nullary, TRef.ternary, TRef.unary, TRef.toBuf, TRef.ofBuf, cast_eq]
  after_results_simp
  rfl

theorem read1 (x : Vec Ideal S4096x512 .bf16) (k : Fin 4096) (s : Fin 512) :
    (((cfg0.win 1).blk t).view.read (Elt Ideal) x : Vec Ideal S4096x512 .bf16) (ix2 k s) = x (ix2 k (col t s)) := by
  blk_ext [idx1 t]

theorem blk1 (k : Fin 4096) (s : Fin 512) :
    (iblk m c 1 t : Vec Ideal S4096x512 .bf16) (ix2 k s) = B m c (ix2 k (col t s)) :=
  (read1 t _ k s).trans (congrFun (V_v0 m c) _)

/-- The whole of the gradient. -/
def res2 : FVec Ideal S2048x512 .bf16 := fun i => ∑ k : Fin 4096, A m c (ix2 k (i 0)) * B m c (ix2 k (i 1))

theorem total2 : (dats m 0 c).arrAt 2 cfg0.N = res2 m c := by
  refine (dats m 0 c).arrAt_eq_of_covers 2 _ (by decide +kernel) fun t hf y => ?_
  blk_simp
  rw [after0_2]
  idx_vars y
  refine (tile2 _ _ _ _).trans ?_
  have e : ((View.whole main_v1).slice (win0_2.rect t)).emb (ix2 y0 y1) = ix2 (row t y0) (col t y1) := by
    blk_ext [idx2 t]
  rw [e]
  simp only [blk0, blk1, res2]
  rfl

/-- The reference's sum. -/
theorem ref2 : Reference17Ideal.Read.val_main_v5 (F := Ideal) (A m c) (B m c) = res2 m c := by
  funext i
  rw [Reference17Ideal.Read.val_main_v5_apply, Reference17Ideal.Read.val_main_v4_apply, Reference17Ideal.Read.val_main_v3_apply, Reference17Ideal.Read.val_main_v2_apply]
  refine Finset.sum_congr rfl fun k _ => congrArg₂ (· * ·) (congrArg _ ?_) (congrArg _ ?_)
  · funext a; fin_cases a <;> rfl
  · funext a; fin_cases a <;> rfl

end Cert.KvWgrad
end
-- ==== Proof.Proj.XqProj.lean ====
/- The cross attention's query projection, tile by tile, is the product over the whole arrays. -/
module

public import proofs.«01_k».proof.Proof.Gen.Kernel18Ideal.Value
public import proofs.«01_k».proof.Proof.Gen.Reference18Ideal.Run
public import proofs.«01_k».proof.Proof.Gen.Reference18Ideal.Read
public import Idealize.ShloMosaic.Lib.Pointwise
public import Idealize.ShloMosaic.Lib.Pipeline.ValueKit
public import Idealize.ShloMosaic.Lib.Tactic.CleanTypes

@[expose] public section
set_option maxRecDepth 16384
noncomputable section
namespace Cert.XqProj
open Idealize.ShloMosaic Idealize.SL.Sem Cert.Kernel18Ideal Cert.Kernel18Ideal.Gen

/-- A tile of the product, from the blocks. -/
theorem tile2 (x0 : Vec Ideal S1024x2048 .bf16) (x1 : Vec Ideal S2048x512 .bf16) (r : Fin 1024) (s : Fin 512) :
    out0_2 (F := Ideal) x0 x1 (ix2 r s) = ∑ k : Fin 2048, x0 (ix2 r k) * x1 (ix2 k s) := by
  unfold out0_2
  frame_out
  pointwise [k0_pay1]

variable (m : (ℓ : Loc nD τ sig) → Buf (Elt Ideal) ℓ) (c : Dev nD)

/-- The arrays that the program is given. -/
def A : FVec Ideal S4096x2048 .f32 := m (c, Proc.tc.devRef main_arg0)
def B : FVec Ideal S2048x512 .f32 := m (c, Proc.tc.devRef main_arg1)

theorem idx0 : ∀ t : Fin cfg0.N, win0_0.index t = ![t.val / 1, 0] := by decide +kernel
theorem idx1 : ∀ t : Fin cfg0.N, win0_1.index t = ![0, t.val % 1] := by decide +kernel
theorem idx2 : ∀ t : Fin cfg0.N, win0_2.index t = ![t.val / 1, t.val % 1] := by decide +kernel

variable (t : Fin cfg0.N)

theorem N_lt : t.val < 4 := lt_of_lt_of_eq t.isLt N_0

/-- The row and the column of the arrays at a row and a column of the point's tile. -/
abbrev row (r : Fin 1024) : Fin 4096 := ⟨t.val / 1 * 1024 + r.val, by have := N_lt t; omega⟩
abbrev col (s : Fin 512) : Fin 512 := ⟨t.val % 1 * 512 + s.val, by omega⟩

theorem V_v0 : (V m c main_v0 : Vec Ideal S4096x2048 .bf16) = A m c := by
  unfold V A
  open StableHlo in
  simp only [hostOps0, TRef.binary, TRef.nullary, TRef.ternary, TRef.unary, TRef.toBuf, TRef.ofBuf, cast_eq]
  after_results_simp
  rfl

theorem read0 (x : Vec Ideal S4096x2048 .bf16) (r : Fin 1024) (k : Fin 2048) :
    (((cfg0.win 0).blk t).view.read (Elt Ideal) x : Vec Ideal S1024x2048 .bf16) (ix2 r k) = x (ix2 (row t r) k) := by
  blk_ext [idx0 t]

theorem blk0 (r : Fin 1024) (k : Fin 2048) :
    (iblk m c 0 t : Vec Ideal S1024x2048 .bf16) (ix2 r k) = A m c (ix2 (row t r) k) :=
  (read0 t _ r k).trans (congrFun (V_v0 m c) _)

theorem V_v1 : (V m c main_v1 : Vec Ideal S2048x512 .bf16) = B m c := by
  unfold V B
  open StableHlo in
  simp only [hostOps0, TRef.binary, TRef.nullary, TRef.ternary, TRef.unary, TRef.toBuf, TRef.ofBuf, cast_eq]
  after_results_simp
  rfl

theorem read1 (x : Vec Ideal S2048x512 .bf16) (k : Fin 2048) (s : Fin 512) :
    (((cfg0.win 1).blk t).view.read (Elt Ideal) x : Vec Ideal S2048x512 .bf16) (ix2 k s) = x (ix2 k (col t s)) := by
  blk_ext [idx1 t]

theorem blk1 (k : Fin 2048) (s : Fin 512) :
    (iblk m c 1 t : Vec Ideal S2048x512 .bf16) (ix2 k s) = B m c (ix2 k (col t s)) :=
  (read1 t _ k s).trans (congrFun (V_v1 m c) _)

/-- The whole of the product. -/
def res2 : FVec Ideal S4096x512 .f32 := fun i => ∑ k : Fin 2048, A m c (ix2 (i 0) k) * B m c (ix2 k (i 1))

theorem total2 : (dats m 0 c).arrAt 2 cfg0.N = res2 m c := by
  refine (dats m 0 c).arrAt_eq_of_covers 2 _ (by decide +kernel) fun t hf y => ?_
  blk_simp
  rw [after0_2]
  idx_vars y
  refine (tile2 _ _ _ _).trans ?_
  have e : ((View.whole main_v2).slice (win0_2.rect t)).emb (ix2 y0 y1) = ix2 (row t y0) (col t y1) := by
    blk_ext [idx2 t]
  rw [e]
  simp only [blk0, blk1, res2]
  rfl

/-- The reference's sum. -/
theorem ref2 : Reference18Ideal.Read.val_main_v0 (F := Ideal) (A m c) (B m c) = res2 m c := by
  funext i
  rw [Reference18Ideal.Read.val_main_v0_apply]
  refine Finset.sum_congr rfl fun k _ => congrArg₂ (· * ·) (congrArg _ ?_) (congrArg _ ?_)
  · funext a; fin_cases a <;> rfl
  · funext a; fin_cases a <;> rfl

end Cert.XqProj
end
-- ==== Proof.Proj.XqBwd.lean ====
/- The gradient of the cross attention's input, tile by tile, is the product over the whole arrays. -/
module

public import proofs.«01_k».proof.Proof.Gen.Kernel19Ideal.Value
public import proofs.«01_k».proof.Proof.Gen.Reference19Ideal.Run
public import proofs.«01_k».proof.Proof.Gen.Reference19Ideal.Read
public import Idealize.ShloMosaic.Lib.Pointwise
public import Idealize.ShloMosaic.Lib.Pipeline.ValueKit
public import Idealize.ShloMosaic.Lib.Tactic.CleanTypes

@[expose] public section
set_option maxRecDepth 16384
noncomputable section
namespace Cert.XqBwd
open Idealize.ShloMosaic Idealize.SL.Sem Cert.Kernel19Ideal Cert.Kernel19Ideal.Gen

/-- A tile of the gradient, from the blocks. -/
theorem tile2 (x0 : Vec Ideal S1024x512 .f32) (x1 : Vec Ideal S512x512 .bf16) (r : Fin 1024) (s : Fin 512) :
    out0_2 (F := Ideal) x0 x1 (ix2 r s) = ∑ k : Fin 512, x0 (ix2 r k) * x1 (ix2 s k) := by
  unfold out0_2
  frame_out
  pointwise [k0_pay1]

variable (m : (ℓ : Loc nD τ sig) → Buf (Elt Ideal) ℓ) (c : Dev nD)

/-- The arrays that the program is given. -/
def A : FVec Ideal S4096x512 .f32 := m (c, Proc.tc.devRef main_arg0)
def B : FVec Ideal S2048x512 .f32 := m (c, Proc.tc.devRef main_arg1)

theorem idx0 : ∀ t : Fin cfg0.N, win0_0.index t = ![t.val / 4, 0] := by decide +kernel
theorem idx1 : ∀ t : Fin cfg0.N, win0_1.index t = ![t.val % 4, 0] := by decide +kernel
theorem idx2 : ∀ t : Fin cfg0.N, win0_2.index t = ![t.val / 4, t.val % 4] := by decide +kernel

variable (t : Fin cfg0.N)

theorem N_lt : t.val < 16 := lt_of_lt_of_eq t.isLt N_0

/-- The row and the column of the arrays at a row and a column of the point's tile. -/
abbrev row (r : Fin 1024) : Fin 4096 := ⟨t.val / 4 * 1024 + r.val, by have := N_lt t; omega⟩
abbrev col (s : Fin 512) : Fin 2048 := ⟨t.val % 4 * 512 + s.val, by omega⟩

theorem V_arg0 : (V m c main_arg0 : Vec Ideal S4096x512 .f32) = A m c := V_main_arg0 m c

theorem read0 (x : Vec Ideal S4096x512 .f32) (r : Fin 1024) (k : Fin 512) :
    (((cfg0.win 0).blk t).view.read (Elt Ideal) x : Vec Ideal S1024x512 .f32) (ix2 r k) = x (ix2 (row t r) k) := by
  blk_ext [idx0 t]

theorem blk0 (r : Fin 1024) (k : Fin 512) :
    (iblk m c 0 t : Vec Ideal S1024x512 .f32) (ix2 r k) = A m c (ix2 (row t r) k) :=
  (read0 t _ r k).trans (congrFun (V_arg0 m c) _)

theorem V_v0 : (V m c main_v0 : Vec Ideal S2048x512 .bf16) = B m c := by
  unfold V B
  open StableHlo in
  simp only [hostOps0, TRef.binary, TRef.nullary, TRef.ternary, TRef.unary, TRef.toBuf, TRef.ofBuf, cast_eq]
  after_results_simp
  rfl

theorem read1 (x : Vec Ideal S2048x512 .bf16) (s : Fin 512) (k : Fin 512) :
    (((cfg0.win 1).blk t).view.read (Elt Ideal) x : Vec Ideal S512x512 .bf16) (ix2 s k) = x (ix2 (col t s) k) := by
  blk_ext [idx1 t]

theorem blk1 (s : Fin 512) (k : Fin 512) :
    (iblk m c 1 t : Vec Ideal S512x512 .bf16) (ix2 s k) = B m c (ix2 (col t s) k) :=
  (read1 t _ s k).trans (congrFun (V_v0 m c) _)

/-- The whole of the gradient. -/
def res2 : FVec Ideal S4096x2048 .f32 := fun i => ∑ k : Fin 512, A m c (ix2 (i 0) k) * B m c (ix2 (i 1) k)

theorem total2 : (dats m 0 c).arrAt 2 cfg0.N = res2 m c := by
  refine (dats m 0 c).arrAt_eq_of_covers 2 _ (by decide +kernel) fun t hf y => ?_
  blk_simp
  rw [after0_2]
  idx_vars y
  refine (tile2 _ _ _ _).trans ?_
  have e : ((View.whole main_v1).slice (win0_2.rect t)).emb (ix2 y0 y1) = ix2 (row t y0) (col t y1) := by
    blk_ext [idx2 t]
  rw [e]
  simp only [blk0, blk1, res2]
  rfl

/-- The reference's sum. -/
theorem ref2 : Reference19Ideal.Read.val_main_v2 (F := Ideal) (A m c) (B m c) = res2 m c := by
  funext i
  rw [Reference19Ideal.Read.val_main_v2_apply]
  refine Finset.sum_congr rfl fun k _ => congrArg₂ (· * ·) (congrArg _ ?_) (congrArg _ ?_)
  · funext a; fin_cases a <;> rfl
  · funext a; fin_cases a <;> rfl

end Cert.XqBwd
end
-- ==== Proof.Proj.XqWgrad.lean ====
/- The gradient of the query projection's weights, tile by tile, is the product over the whole arrays. -/
module

public import proofs.«01_k».proof.Proof.Gen.Kernel20Ideal.Value
public import proofs.«01_k».proof.Proof.Gen.Reference20Ideal.Run
public import proofs.«01_k».proof.Proof.Gen.Reference20Ideal.Read
public import Idealize.ShloMosaic.Lib.Pointwise
public import Idealize.ShloMosaic.Lib.Pipeline.ValueKit
public import Idealize.ShloMosaic.Lib.Tactic.CleanTypes

@[expose] public section
set_option maxRecDepth 16384
noncomputable section
namespace Cert.XqWgrad
open Idealize.ShloMosaic Idealize.SL.Sem Cert.Kernel20Ideal Cert.Kernel20Ideal.Gen

/-- A tile of the gradient, from the blocks. -/
theorem tile2 (x0 : Vec Ideal S4096x1024 .bf16) (x1 : Vec Ideal S4096x512 .f32) (r : Fin 1024) (s : Fin 512) :
    out0_2 (F := Ideal) x0 x1 (ix2 r s) = ∑ k : Fin 4096, x0 (ix2 k r) * x1 (ix2 k s) := by
  unfold out0_2
  frame_out
  pointwise [k0_pay1]

variable (m : (ℓ : Loc nD τ sig) → Buf (Elt Ideal) ℓ) (c : Dev nD)

/-- The arrays that the program is given. -/
def A : FVec Ideal S4096x2048 .f32 := m (c, Proc.tc.devRef main_arg0)
def B : FVec Ideal S4096x512 .f32 := m (c, Proc.tc.devRef main_arg1)

theorem idx0 : ∀ t : Fin cfg0.N, win0_0.index t = ![0, t.val / 1] := by decide +kernel
theorem idx1 : ∀ t : Fin cfg0.N, win0_1.index t = ![0, t.val % 1] := by decide +kernel
theorem idx2 : ∀ t : Fin cfg0.N, win0_2.index t = ![t.val / 1, t.val % 1] := by decide +kernel

variable (t : Fin cfg0.N)

theorem N_lt : t.val < 2 := lt_of_lt_of_eq t.isLt N_0

/-- The row and the column of the arrays at a row and a column of the point's tile. -/
abbrev row (r : Fin 1024) : Fin 2048 := ⟨t.val / 1 * 1024 + r.val, by have := N_lt t; omega⟩
abbrev col (s : Fin 512) : Fin 512 := ⟨t.val % 1 * 512 + s.val, by omega⟩

theorem V_v0 : (V m c main_v0 : Vec Ideal S4096x2048 .bf16) = A m c := by
  unfold V A
  open StableHlo in
  simp only [hostOps0, TRef.binary, TRef.nullary, TRef.ternary, TRef.unary, TRef.toBuf, TRef.ofBuf, cast_eq]
  after_results_simp
  rfl

theorem read0 (x : Vec Ideal S4096x2048 .bf16) (k : Fin 4096) (r : Fin 1024) :
    (((cfg0.win 0).blk t).view.read (Elt Ideal) x : Vec Ideal S4096x1024 .bf16) (ix2 k r) = x (ix2 k (row t r)) := by
  blk_ext [idx0 t]

theorem blk0 (k : Fin 4096) (r : Fin 1024) :
    (iblk m c 0 t : Vec Ideal S4096x1024 .bf16) (ix2 k r) = A m c (ix2 k (row t r)) :=
  (read0 t _ k r).trans (congrFun (V_v0 m c) _)

theorem V_arg1 : (V m c main_arg1 : Vec Ideal S4096x512 .f32) = B m c := V_main_arg1 m c

theorem read1 (x : Vec Ideal S4096x512 .f32) (k : Fin 4096) (s : Fin 512) :
    (((cfg0.win 1).blk t).view.read (Elt Ideal) x : Vec Ideal S4096x512 .f32) (ix2 k s) = x (ix2 k (col t s)) := by
  blk_ext [idx1 t]

theorem blk1 (k : Fin 4096) (s : Fin 512) :
    (iblk m c 1 t : Vec Ideal S4096x512 .f32) (ix2 k s) = B m c (ix2 k (col t s)) :=
  (read1 t _ k s).trans (congrFun (V_arg1 m c) _)

/-- The whole of the gradient. -/
def res2 : FVec Ideal S2048x512 .bf16 := fun i => ∑ k : Fin 4096, A m c (ix2 k (i 0)) * B m c (ix2 k (i 1))

theorem total2 : (dats m 0 c).arrAt 2 cfg0.N = res2 m c := by
  refine (dats m 0 c).arrAt_eq_of_covers 2 _ (by decide +kernel) fun t hf y => ?_
  blk_simp
  rw [after0_2]
  idx_vars y
  refine (tile2 _ _ _ _).trans ?_
  have e : ((View.whole main_v1).slice (win0_2.rect t)).emb (ix2 y0 y1) = ix2 (row t y0) (col t y1) := by
    blk_ext [idx2 t]
  rw [e]
  simp only [blk0, blk1, res2]
  rfl

/-- The reference's sum. -/
theorem ref2 : Reference20Ideal.Read.val_main_v4 (F := Ideal) (A m c) (B m c) = res2 m c := by
  funext i
  rw [Reference20Ideal.Read.val_main_v4_apply, Reference20Ideal.Read.val_main_v3_apply, Reference20Ideal.Read.val_main_v2_apply]
  refine Finset.sum_congr rfl fun k _ => (mul_comm _ _).trans (congrArg₂ (· * ·) (congrArg _ ?_) (congrArg _ ?_))
  · funext a; fin_cases a <;> rfl
  · funext a; fin_cases a <;> rfl

end Cert.XqWgrad
end
-- ==== Proof.Proj.XoProj.lean ====
/- The cross attention's output projection with the residual, tile by tile, is the product over the whole arrays. -/
module

public import proofs.«01_k».proof.Proof.Gen.Kernel21Ideal.Value
public import proofs.«01_k».proof.Proof.Gen.Reference21Ideal.Run
public import proofs.«01_k».proof.Proof.Gen.Reference21Ideal.Read
public import Idealize.ShloMosaic.Lib.Pointwise
public import Idealize.ShloMosaic.Lib.Pipeline.ValueKit
public import Idealize.ShloMosaic.Lib.Tactic.CleanTypes

@[expose] public section
set_option maxRecDepth 16384
noncomputable section
namespace Cert.XoProj
open Idealize.ShloMosaic Idealize.SL.Sem Cert.Kernel21Ideal Cert.Kernel21Ideal.Gen

/-- A tile of the result, from the blocks. -/
theorem tile3 (x0 : Vec Ideal S1024x512 .f32) (x1 : Vec Ideal S512x512 .bf16) (x2 : Vec Ideal S1024x512 .f32) (r : Fin 1024) (s : Fin 512) :
    out0_3 (F := Ideal) x0 x1 x2 (ix2 r s) = (∑ k : Fin 512, x0 (ix2 r k) * x1 (ix2 s k)) + x2 (ix2 r s) := by
  unfold out0_3
  frame_out
  pointwise [k0_pay1]

variable (m : (ℓ : Loc nD τ sig) → Buf (Elt Ideal) ℓ) (c : Dev nD)

/-- The arrays that the program is given. -/
def A : FVec Ideal S4096x512 .f32 := m (c, Proc.tc.devRef main_arg0)
def B : FVec Ideal S512x2048 .f32 := m (c, Proc.tc.devRef main_arg1)
def X : FVec Ideal S4096x2048 .f32 := m (c, Proc.tc.devRef main_arg2)

theorem idx0 : ∀ t : Fin cfg0.N, win0_0.index t = ![t.val / 4, 0] := by decide +kernel
theorem idx1 : ∀ t : Fin cfg0.N, win0_1.index t = ![t.val % 4, 0] := by decide +kernel
theorem idx2 : ∀ t : Fin cfg0.N, win0_2.index t = ![t.val / 4, t.val % 4] := by decide +kernel
theorem idx3 : ∀ t : Fin cfg0.N, win0_3.index t = ![t.val / 4, t.val % 4] := by decide +kernel

variable (t : Fin cfg0.N)

theorem N_lt : t.val < 16 := lt_of_lt_of_eq t.isLt N_0

/-- The row and the column of the arrays at a row and a column of the point's tile. -/
abbrev row (r : Fin 1024) : Fin 4096 := ⟨t.val / 4 * 1024 + r.val, by have := N_lt t; omega⟩
abbrev col (s : Fin 512) : Fin 2048 := ⟨t.val % 4 * 512 + s.val, by omega⟩

theorem V_arg0 : (V m c main_arg0 : Vec Ideal S4096x512 .f32) = A m c := V_main_arg0 m c

theorem read0 (x : Vec Ideal S4096x512 .f32) (r : Fin 1024) (k : Fin 512) :
    (((cfg0.win 0).blk t).view.read (Elt Ideal) x : Vec Ideal S1024x512 .f32) (ix2 r k) = x (ix2 (row t r) k) := by
  blk_ext [idx0 t]

theorem blk0 (r : Fin 1024) (k : Fin 512) :
    (iblk m c 0 t : Vec Ideal S1024x512 .f32) (ix2 r k) = A m c (ix2 (row t r) k) :=
  (read0 t _ r k).trans (congrFun (V_arg0 m c) _)

theorem V_v1 : (V m c main_v1 : Vec Ideal S2048x512 .bf16) = transpose S2048x512 [1, 0] (B m c) transposes_S512x2048_S2048x512_1_0 := by
  unfold V B
  open StableHlo in
  simp only [hostOps0, TRef.binary, TRef.nullary, TRef.ternary, TRef.unary, TRef.toBuf, TRef.ofBuf, cast_eq]
  after_results_simp
  rfl

theorem read1 (x : Vec Ideal S2048x512 .bf16) (s : Fin 512) (k : Fin 512) :
    (((cfg0.win 1).blk t).view.read (Elt Ideal) x : Vec Ideal S512x512 .bf16) (ix2 s k) = x (ix2 (col t s) k) := by
  blk_ext [idx1 t]

theorem blk1 (s : Fin 512) (k : Fin 512) :
    (iblk m c 1 t : Vec Ideal S512x512 .bf16) (ix2 s k) = B m c (ix2 k (col t s)) :=
  (read1 t _ s k).trans ((congrFun (V_v1 m c) _).trans (by pointwise))

theorem V_arg2 : (V m c main_arg2 : Vec Ideal S4096x2048 .f32) = X m c := V_main_arg2 m c

theorem read2 (x : Vec Ideal S4096x2048 .f32) (r : Fin 1024) (s : Fin 512) :
    (((cfg0.win 2).blk t).view.read (Elt Ideal) x : Vec Ideal S1024x512 .f32) (ix2 r s) = x (ix2 (row t r) (col t s)) := by
  blk_ext [idx2 t]

theorem blk2 (r : Fin 1024) (s : Fin 512) :
    (iblk m c 2 t : Vec Ideal S1024x512 .f32) (ix2 r s) = X m c (ix2 (row t r) (col t s)) :=
  (read2 t _ r s).trans (congrFun (V_arg2 m c) _)

/-- The whole of the result. -/
def res3 : FVec Ideal S4096x2048 .f32 := fun i => (∑ k : Fin 512, A m c (ix2 (i 0) k) * B m c (ix2 k (i 1))) + X m c i

theorem total3 : (dats m 0 c).arrAt 3 cfg0.N = res3 m c := by
  refine (dats m 0 c).arrAt_eq_of_covers 3 _ (by decide +kernel) fun t hf y => ?_
  blk_simp
  rw [after0_3]
  idx_vars y
  refine (tile3 _ _ _ _ _).trans ?_
  have e : ((View.whole main_v2).slice (win0_3.rect t)).emb (ix2 y0 y1) = ix2 (row t y0) (col t y1) := by
    blk_ext [idx3 t]
  rw [e]
  simp only [blk0, blk1, blk2, res3]
  rfl

/-- The reference's sum. -/
theorem ref3 : Reference21Ideal.Read.val_main_v1 (F := Ideal) (A m c) (B m c) (X m c) = res3 m c := by
  funext i
  rw [Reference21Ideal.Read.val_main_v1_apply, Reference21Ideal.Read.val_main_v0_apply]
  refine (add_comm (X m c i) _).trans (congrArg (· + X m c i) (Finset.sum_congr rfl fun k _ => congrArg₂ (· * ·) (congrArg _ ?_) (congrArg _ ?_)))
  · funext a; fin_cases a <;> rfl
  · funext a; fin_cases a <;> rfl

end Cert.XoProj
end
-- ==== Proof.Proj.XoWgrad.lean ====
/- The gradient of the output projection's weights, tile by tile, is the product over the whole arrays. -/
module

public import proofs.«01_k».proof.Proof.Gen.Kernel22Ideal.Value
public import proofs.«01_k».proof.Proof.Gen.Reference22Ideal.Run
public import proofs.«01_k».proof.Proof.Gen.Reference22Ideal.Read
public import Idealize.ShloMosaic.Lib.Pointwise
public import Idealize.ShloMosaic.Lib.Pipeline.ValueKit
public import Idealize.ShloMosaic.Lib.Tactic.CleanTypes

@[expose] public section
set_option maxRecDepth 16384
noncomputable section
namespace Cert.XoWgrad
open Idealize.ShloMosaic Idealize.SL.Sem Cert.Kernel22Ideal Cert.Kernel22Ideal.Gen

/-- A tile of the gradient, from the blocks. -/
theorem tile2 (x0 : Vec Ideal S4096x512 .f32) (x1 : Vec Ideal S4096x512 .f32) (r : Fin 512) (s : Fin 512) :
    out0_2 (F := Ideal) x0 x1 (ix2 r s) = ∑ k : Fin 4096, x0 (ix2 k r) * x1 (ix2 k s) := by
  unfold out0_2
  frame_out
  pointwise [k0_pay1]

variable (m : (ℓ : Loc nD τ sig) → Buf (Elt Ideal) ℓ) (c : Dev nD)

/-- The arrays that the program is given. -/
def A : FVec Ideal S4096x2048 .f32 := m (c, Proc.tc.devRef main_arg0)
def B : FVec Ideal S4096x512 .f32 := m (c, Proc.tc.devRef main_arg1)

theorem idx0 : ∀ t : Fin cfg0.N, win0_0.index t = ![0, t.val / 1] := by decide +kernel
theorem idx1 : ∀ t : Fin cfg0.N, win0_1.index t = ![0, t.val % 1] := by decide +kernel
theorem idx2 : ∀ t : Fin cfg0.N, win0_2.index t = ![t.val / 1, t.val % 1] := by decide +kernel

variable (t : Fin cfg0.N)

theorem N_lt : t.val < 4 := lt_of_lt_of_eq t.isLt N_0

/-- The row and the column of the arrays at a row and a column of the point's tile. -/
abbrev row (r : Fin 512) : Fin 2048 := ⟨t.val / 1 * 512 + r.val, by have := N_lt t; omega⟩
abbrev col (s : Fin 512) : Fin 512 := ⟨t.val % 1 * 512 + s.val, by omega⟩

theorem V_arg0 : (V m c main_arg0 : Vec Ideal S4096x2048 .f32) = A m c := V_main_arg0 m c

theorem read0 (x : Vec Ideal S4096x2048 .f32) (k : Fin 4096) (r : Fin 512) :
    (((cfg0.win 0).blk t).view.read (Elt Ideal) x : Vec Ideal S4096x512 .f32) (ix2 k r) = x (ix2 k (row t r)) := by
  blk_ext [idx0 t]

theorem blk0 (k : Fin 4096) (r : Fin 512) :
    (iblk m c 0 t : Vec Ideal S4096x512 .f32) (ix2 k r) = A m c (ix2 k (row t r)) :=
  (read0 t _ k r).trans (congrFun (V_arg0 m c) _)

theorem V_arg1 : (V m c main_arg1 : Vec Ideal S4096x512 .f32) = B m c := V_main_arg1 m c

theorem read1 (x : Vec Ideal S4096x512 .f32) (k : Fin 4096) (s : Fin 512) :
    (((cfg0.win 1).blk t).view.read (Elt Ideal) x : Vec Ideal S4096x512 .f32) (ix2 k s) = x (ix2 k (col t s)) := by
  blk_ext [idx1 t]

theorem blk1 (k : Fin 4096) (s : Fin 512) :
    (iblk m c 1 t : Vec Ideal S4096x512 .f32) (ix2 k s) = B m c (ix2 k (col t s)) :=
  (read1 t _ k s).trans (congrFun (V_arg1 m c) _)

/-- The whole of the gradient. -/
def res2 : FVec Ideal S2048x512 .bf16 := fun i => ∑ k : Fin 4096, A m c (ix2 k (i 0)) * B m c (ix2 k (i 1))

theorem total2 : (dats m 0 c).arrAt 2 cfg0.N = res2 m c := by
  refine (dats m 0 c).arrAt_eq_of_covers 2 _ (by decide +kernel) fun t hf y => ?_
  blk_simp
  rw [after0_2]
  idx_vars y
  refine (tile2 _ _ _ _).trans ?_
  have e : ((View.whole main_v0).slice (win0_2.rect t)).emb (ix2 y0 y1) = ix2 (row t y0) (col t y1) := by
    blk_ext [idx2 t]
  rw [e]
  simp only [blk0, blk1, res2]
  rfl

/-- The reference's sum. -/
theorem ref2 : Reference22Ideal.Read.val_main_v5 (F := Ideal) (A m c) (B m c) = res2 m c := by
  funext i
  rw [Reference22Ideal.Read.val_main_v5_apply, Reference22Ideal.Read.val_main_v4_apply, Reference22Ideal.Read.val_main_v3_apply, Reference22Ideal.Read.val_main_v2_apply]
  refine Finset.sum_congr rfl fun k _ => congrArg₂ (· * ·) (congrArg _ ?_) (congrArg _ ?_)
  · funext a; fin_cases a <;> rfl
  · funext a; fin_cases a <;> rfl

end Cert.XoWgrad
end
-- ==== Proof.Small.GateBwd.lean ====
/- The output gate's backward call: the gradients of the gated rows and of the gate, tile by tile, are those over the
   whole arrays. -/
module

public import proofs.«01_k».proof.Proof.Gen.Kernel23Ideal.Value
public import proofs.«01_k».proof.Proof.Gen.Reference23Ideal.Run
public import proofs.«01_k».proof.Proof.Gen.Reference23Ideal.Read
public import proofs.«01_k».proof.Proof.Ffn.DownBwd
public import proofs.«01_k».proof.Proof.Gen.Pre_gate_bwd_finite

@[expose] public section
set_option maxRecDepth 16384
noncomputable section
namespace Cert.GateBwd
open Idealize.ShloMosaic Idealize.SL.Sem Cert.Kernel23Ideal Cert.Kernel23Ideal.Gen
open DownBwd (lg dgate dup factored)

variable (m : (ℓ : Loc nD τ sig) → Buf (Elt Ideal) ℓ) (c : Dev nD)

/-- The arrays that the program is given: the cotangent, the rows, and the projection whose first columns are the gate. -/
def Dy : FVec Ideal S4096x1024 .f32 := m (c, Proc.tc.devRef main_arg0)
def Y : FVec Ideal S4096x1024 .f32 := m (c, Proc.tc.devRef main_arg1)
def Pr : FVec Ideal S4096x3840 .f32 := m (c, Proc.tc.devRef main_arg2)

/-- The gate's column of the projection. -/
abbrev zc (s : Fin 1024) : Fin 3840 := ⟨s.val, by omega⟩

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel

variable (t : Fin cfg0.N)

theorem N_lt : t.val < 8 := lt_of_lt_of_eq t.isLt N_0

/-- The row of the arrays at a row of the point's tile. -/
abbrev row (r : Fin 512) : Fin 4096 := ⟨t.val * 512 + r.val, by have := N_lt t; omega⟩

theorem V_arg0 : (V m c main_arg0 : Vec Ideal S4096x1024 .f32) = Dy m c := V_main_arg0 m c
theorem V_arg1 : (V m c main_arg1 : Vec Ideal S4096x1024 .f32) = Y m c := V_main_arg1 m c
theorem V_arg2 : (V m c main_arg2 : Vec Ideal S4096x3840 .f32) = Pr m c := V_main_arg2 m c

theorem read0 (x : Vec Ideal S4096x1024 .f32) (r : Fin 512) (s : Fin 1024) :
    (((cfg0.win 0).blk t).view.read (Elt Ideal) x : Vec Ideal S512x1024 .f32) (ix2 r s) = x (ix2 (row t r) s) := by
  blk_ext [idx0 t]

theorem blk0 (r : Fin 512) (s : Fin 1024) :
    (iblk m c 0 t : Vec Ideal S512x1024 .f32) (ix2 r s) = Dy m c (ix2 (row t r) s) :=
  (read0 t _ r s).trans (congrFun (V_arg0 m c) _)

theorem read1 (x : Vec Ideal S4096x1024 .f32) (r : Fin 512) (s : Fin 1024) :
    (((cfg0.win 1).blk t).view.read (Elt Ideal) x : Vec Ideal S512x1024 .f32) (ix2 r s) = x (ix2 (row t r) s) := by
  blk_ext [idx1 t]

theorem blk1 (r : Fin 512) (s : Fin 1024) :
    (iblk m c 1 t : Vec Ideal S512x1024 .f32) (ix2 r s) = Y m c (ix2 (row t r) s) :=
  (read1 t _ r s).trans (congrFun (V_arg1 m c) _)

theorem blk2 (r : Fin 512) (s : Fin 1024) :
    (X0_2 m c t : Vec Ideal S512x1024 .f32) (ix2 r s) = Pr m c (ix2 (row t r) (zc s)) := by
  unfold X0_2 Pipeline.Window.fill
  rw [dif_pos (moved0_2 t _)]
  refine Eq.trans ?_ (congrFun (V_arg2 m c) _)
  refine congrArg (V m c main_arg2 : Vec Ideal S4096x3840 .f32) ?_
  funext a
  fin_cases a <;> apply Fin.ext <;> blk_simp [idx2 t] <;> rfl

/-- The whole of the rows' gradient. -/
def res3 : FVec Ideal S4096x1024 .f32 := fun i => dup (Dy m c i) (Pr m c (ix2 (i 0) (zc (i 1))))

/-- The whole of the gate's gradient. -/
def res4 : FVec Ideal S4096x1024 .f32 := fun i => dgate (Dy m c i) (Pr m c (ix2 (i 0) (zc (i 1)))) (Y m c i)

theorem pay2_apply (x0 x2 : Vec Ideal S512x1024 .f32) (r : Fin 512) (s : Fin 1024) :
    k0_pay2 (F := Ideal) x0 x2 (ix2 r s) = dup (x0 (ix2 r s)) (x2 (ix2 r s)) := by
  pointwise [k0_pay2, k0_pay1, dup, lg]

theorem pay3_apply (x0 x1 x2 : Vec Ideal S512x1024 .f32) (r : Fin 512) (s : Fin 1024) :
    k0_pay3 (F := Ideal) x0 x1 x2 (ix2 r s) = dgate (x0 (ix2 r s)) (x2 (ix2 r s)) (x1 (ix2 r s)) := by
  pointwise [k0_pay3, k0_pay1, dgate, lg]

theorem total3 : (dats m 0 c).arrAt 3 cfg0.N = res3 m c := by
  refine (dats m 0 c).arrAt_eq_of_covers 3 _ (by decide +kernel) fun t hf y => ?_
  blk_simp
  rw [after0_3, outsAt0]
  frame_out
  idx_vars y
  refine (pay2_apply _ _ _ _).trans ?_
  have e : ((View.whole main_v0_0).slice (win0_3.rect t)).emb (ix2 y0 y1) = ix2 (row t y0) y1 := by
    blk_ext [idx3 t]
  rw [e, blk0, blk2]
  rfl

theorem total4 : (dats m 0 c).arrAt 4 cfg0.N = res4 m c := by
  refine (dats m 0 c).arrAt_eq_of_covers 4 _ (by decide +kernel) fun t hf y => ?_
  blk_simp
  rw [after0_4, outsAt0]
  frame_out
  idx_vars y
  refine (pay3_apply _ _ _ _ _).trans ?_
  have e : ((View.whole main_v0_1).slice (win0_4.rect t)).emb (ix2 y0 y1) = ix2 (row t y0) y1 := by
    blk_ext [idx4 t]
  rw [e, blk0, blk1, blk2]
  rfl

/-- The precondition says that the cotangent and the rows are real numbers. -/
theorem reals (h : Pre_gate_bwd_finite.fn (F := Ideal) (Dy m c) (Y m c) (Pr m c) = fun _ => 1#1) :
    (∀ i, ∃ r : ℝ, Dy m c i = (r : EReal)) ∧ ∀ i, ∃ r : ℝ, Y m c i = (r : EReal) := by
  have h := congrFun h ix0
  dsimp only [Pre_gate_bwd_finite.fn] at h
  obtain ⟨hd, hy⟩ := Attn.andi_one h
  have hd := Host.reduce_andi_all _ _ _ _ _ hd
  have hy := Host.reduce_andi_all _ _ _ _ _ hy
  refine ⟨fun i => ?_, fun i => ?_⟩
  · have e := hd i
    pointwise at e
    exact Attn.real_of_abs_lt e
  · have e := hy i
    pointwise at e
    exact Attn.real_of_abs_lt e

open Reference23Ideal.Read

/-- The reference's gate and its logistic. -/
theorem ref_gate (a : Fin 4096) (b : Fin 1024) : val_main_v0 (F := Ideal) (Pr m c) (ix2 a b) = Pr m c (ix2 a (zc b)) := by
  pointwise [val_main_v0]

theorem ref_lg (a : Fin 4096) (b : Fin 1024) :
    val_main_v1_2 (F := Ideal) (Pr m c) (ix2 a b) = lg (Pr m c (ix2 a (zc b))) := by
  rw [val_main_v1_2_apply, val_main_call0_v4_apply, val_main_call0_v3_apply, val_main_call0_v2_apply,
    val_main_call0_v1_apply, val_main_call0_v0_apply, val_main_call0_cst_apply, val_main_call0_cst_0_apply, ref_gate]
  pointwise [lg]
  rw [zero_sub]

theorem ref3 : val_main_v4 (F := Ideal) (Dy m c) (Pr m c) = res3 m c := by
  funext i
  idx_vars i
  rw [val_main_v4_apply, val_main_v1_0_apply, ref_gate, ref_lg]
  pointwise [res3, dup]

theorem ref4 (h : Pre_gate_bwd_finite.fn (F := Ideal) (Dy m c) (Y m c) (Pr m c) = fun _ => 1#1) :
    val_main_v5 (F := Ideal) (Dy m c) (Y m c) (Pr m c) = res4 m c := by
  obtain ⟨hd, hy⟩ := reals m c h
  funext i
  idx_vars i
  obtain ⟨d, hd⟩ := hd (ix2 i0 i1)
  obtain ⟨u, hu⟩ := hy (ix2 i0 i1)
  rw [val_main_v5_apply, val_main_call1_v2_apply, val_main_call1_v1_apply, val_main_call1_v0_apply, val_main_v3_apply,
    val_main_v1_1_apply, val_main_call0_v7_apply, val_main_call0_v6_apply, val_main_call0_cst_1_apply, ref_gate, ref_lg]
  pointwise [res4, dgate]
  rw [hd, hu, mul_comm (u : EReal), ← EReal.coe_mul]
  exact (factored _ _).symm

end Cert.GateBwd
end
-- ==== Proof.Small.NormBwd.lean ====
/- The backward call of the last root-mean-square norm, with the residual's gradient added: block by block, the gradients
   are those over the whole arrays. -/
module

public import proofs.«01_k».proof.Proof.Gen.Kernel24Ideal.Value
public import proofs.«01_k».proof.Proof.Gen.Reference24Ideal.Run
public import proofs.«01_k».proof.Proof.Gen.Reference24Ideal.Read
public import Idealize.ShloMosaic.Lib.Pointwise
public import Idealize.ShloMosaic.Lib.Pipeline.ValueKit
public import Idealize.ShloMosaic.Lib.Tactic.CleanTypes
public import proofs.«01_k».proof.Proof.Arrays
public import proofs.«01_k».proof.Proof.Softmax

@[expose] public section
set_option maxRecDepth 16384
noncomputable section
namespace Cert.NormBwd
open Idealize.ShloMosaic Idealize.SL.Sem Cert.Kernel24Ideal Cert.Kernel24Ideal.Gen

/-- One over the row's length, and the small number under the root, as the kernel holds them. -/
abbrev inv : EReal := Ideal.ofBits FTy.f32 0x3A000000#32
abbrev eps : EReal := Ideal.ofBits FTy.f32 0x358637BD#32

/-- One over the root mean square of a row. -/
def rs (x : Fin 2048 → EReal) : EReal := Ideal.rsqrt ((∑ k, x k * x k) * inv + eps)

/-- The gradient at an element of a row of the norm's input, from the row, the weights and the row of the output's gradient. -/
def dx (x g dy : Fin 2048 → EReal) (j : Fin 2048) : EReal :=
  rs x * (dy j * g j - x j * rs x * ((∑ k, dy k * g k * (x k * rs x)) * inv))

theorem pay5_apply (x dy : Vec Ideal S512x2048 .f32) (g : Vec Ideal S1x2048 .f32) (a : Vec Ideal S512x2048 .f32)
    (r : Fin 512) (j : Fin 2048) :
    k0_pay5 (F := Ideal) x dy g a (ix2 r j)
      = dx (fun k => x (ix2 r k)) (fun k => g (ix2 0 k)) (fun k => dy (ix2 r k)) j + a (ix2 r j) := by
  pointwise [k0_pay5, k0_pay4, k0_pay3, dx, rs]

theorem pay1_apply (x dy : Vec Ideal S512x2048 .f32) (g : Vec Ideal S1x2048 .f32) (j : Fin 2048) :
    k0_pay1 (F := Ideal) (k0_pay6 g) (k0_pay7 x dy) (ix2 0 j)
      = g (ix2 0 j) + ∑ r : Fin 512, dy (ix2 r j) * (x (ix2 r j) * rs fun k => x (ix2 r k)) := by
  pointwise [k0_pay1, k0_pay6, k0_pay7, k0_pay4, k0_pay3, rs]

theorem pay2_apply (j : Fin 2048) : k0_pay2 (F := Ideal) (ix2 0 j) = 0 := by
  pointwise [k0_pay2]

variable (m : (ℓ : Loc nD τ sig) → Buf (Elt Ideal) ℓ) (c : Dev nD)

/-- The arrays that the program is given: the norm's input, its weights, the output's gradient, the residual's gradient. -/
def X : FVec Ideal S4096x2048 .f32 := m (c, Proc.tc.devRef main_arg0)
def G : FVec Ideal S2048 .f32 := m (c, Proc.tc.devRef main_arg1)
def Dy : FVec Ideal S4096x2048 .f32 := m (c, Proc.tc.devRef main_arg2)
def Ad : FVec Ideal S4096x2048 .f32 := m (c, Proc.tc.devRef main_arg3)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![0, 0] := by decide +kernel

variable (t : Fin cfg0.N)

theorem N_lt : t.val < 8 := lt_of_lt_of_eq t.isLt N_0

/-- The row of the arrays at a row of the point's block. -/
abbrev row (r : Fin 512) : Fin 4096 := ⟨t.val * 512 + r.val, by have := N_lt t; omega⟩

theorem V_arg0 : (V m c main_arg0 : Vec Ideal S4096x2048 .f32) = X m c := V_main_arg0 m c
theorem V_arg2 : (V m c main_arg2 : Vec Ideal S4096x2048 .f32) = Dy m c := V_main_arg2 m c
theorem V_arg3 : (V m c main_arg3 : Vec Ideal S4096x2048 .f32) = Ad m c := V_main_arg3 m c

theorem V_v0 (j : Fin 2048) : (V m c main_v0 : Vec Ideal S1x2048 .f32) (ix2 0 j) = G m c (ix1 j) := by
  unfold V G
  open StableHlo in
  simp only [hostOps0, TRef.binary, TRef.nullary, TRef.ternary, TRef.unary, TRef.reshape, TRef.toBuf, TRef.ofBuf, cast_eq]
  after_results_simp
  pointwise

theorem read0 (x : Vec Ideal S4096x2048 .f32) (r : Fin 512) (s : Fin 2048) :
    (((cfg0.win 0).blk t).view.read (Elt Ideal) x : Vec Ideal S512x2048 .f32) (ix2 r s) = x (ix2 (row t r) s) := by
  blk_ext [idx0 t]

theorem blk0 (r : Fin 512) (s : Fin 2048) :
    (iblk m c 0 t : Vec Ideal S512x2048 .f32) (ix2 r s) = X m c (ix2 (row t r) s) :=
  (read0 t _ r s).trans (congrFun (V_arg0 m c) _)

theorem read1 (x : Vec Ideal S1x2048 .f32) (s : Fin 2048) :
    (((cfg0.win 1).blk t).view.read (Elt Ideal) x : Vec Ideal S1x2048 .f32) (ix2 0 s) = x (ix2 0 s) := by
  blk_ext [idx1 t]

theorem blk1 (s : Fin 2048) : (iblk m c 1 t : Vec Ideal S1x2048 .f32) (ix2 0 s) = G m c (ix1 s) :=
  (read1 t _ s).trans (V_v0 m c s)

theorem read2 (x : Vec Ideal S4096x2048 .f32) (r : Fin 512) (s : Fin 2048) :
    (((cfg0.win 2).blk t).view.read (Elt Ideal) x : Vec Ideal S512x2048 .f32) (ix2 r s) = x (ix2 (row t r) s) := by
  blk_ext [idx2 t]

theorem blk2 (r : Fin 512) (s : Fin 2048) :
    (iblk m c 2 t : Vec Ideal S512x2048 .f32) (ix2 r s) = Dy m c (ix2 (row t r) s) :=
  (read2 t _ r s).trans (congrFun (V_arg2 m c) _)

theorem read3 (x : Vec Ideal S4096x2048 .f32) (r : Fin 512) (s : Fin 2048) :
    (((cfg0.win 3).blk t).view.read (Elt Ideal) x : Vec Ideal S512x2048 .f32) (ix2 r s) = x (ix2 (row t r) s) := by
  blk_ext [idx3 t]

theorem blk3 (r : Fin 512) (s : Fin 2048) :
    (iblk m c 3 t : Vec Ideal S512x2048 .f32) (ix2 r s) = Ad m c (ix2 (row t r) s) :=
  (read3 t _ r s).trans (congrFun (V_arg3 m c) _)

/-- A row of the norm's input, and of the output's gradient, and the weights. -/
abbrev xr (a : Fin 4096) (k : Fin 2048) : EReal := X m c (ix2 a k)
abbrev dyr (a : Fin 4096) (k : Fin 2048) : EReal := Dy m c (ix2 a k)
abbrev gr (k : Fin 2048) : EReal := G m c (ix1 k)

/-- The whole of the input's gradient. -/
def res4 : FVec Ideal S4096x2048 .f32 := fun i => dx (xr m c (i 0)) (gr m c) (dyr m c (i 0)) (i 1) + Ad m c i

theorem total4 : (dats m 0 c).arrAt 4 cfg0.N = res4 m c := by
  refine (dats m 0 c).arrAt_eq_of_covers 4 _ (by decide +kernel) fun t hf y => ?_
  blk_simp
  rw [after0_4]
  idx_vars y
  have e : ((View.whole main_v1_0).slice (win0_4.rect t)).emb (ix2 y0 y1) = ix2 (row t y0) y1 := by
    blk_ext [idx4 t]
  have f : (outsAt0 m c t.val t.isLt).1 (ix2 y0 y1) = res4 m c (ix2 (row t y0) y1) := by
    by_cases h0 : t.val % 8 = 0
    · rw [outsAt0_A m c t h0]
      frame_out
      rw [pay5_apply]
      simp only [blk0, blk1, blk2, blk3]
      rfl
    · rw [outsAt0_B m c t h0]
      frame_out
      rw [pay5_apply]
      simp only [blk0, blk1, blk2, blk3]
      rfl
  rw [e]
  exact f

/-- What the point adds to the weights' gradient. -/
def add5 (t : Fin cfg0.N) (j : Fin 2048) : EReal :=
  ∑ r : Fin 512, Dy m c (ix2 (row t r) j) * (X m c (ix2 (row t r) j) * rs (xr m c (row t r)))

theorem g_reset (h0 : t.val % 8 = 0) (j : Fin 2048) : (outsAt0 m c t.val t.isLt).2 (ix2 0 j) = 0 + add5 m c t j := by
  rw [outsAt0_A m c t h0]
  frame_out
  rw [pay1_apply]
  simp only [pay2_apply, blk0, blk2]
  rfl

theorem g_step (h0 : ¬t.val % 8 = 0) (j : Fin 2048) :
    (outsAt0 m c t.val t.isLt).2 (ix2 0 j)
      = (outsAt0 m c (t.val - 1) (Nat.lt_of_le_of_lt (Nat.sub_le _ _) t.isLt)).2 (ix2 0 j) + add5 m c t j := by
  rw [outsAt0_B m c t h0]
  frame_out
  rw [pay1_apply]
  simp only [blk0, blk2]
  rfl

/-- The whole of the weights' gradient. -/
def res5 : FVec Ideal S1x2048 .f32 := fun i =>
  ∑ a : Fin 4096, Dy m c (ix2 a (i 1)) * (X m c (ix2 a (i 1)) * rs (xr m c a))

theorem total5 : (dats m 0 c).arrAt 5 cfg0.N = res5 m c := by
  refine (dats m 0 c).arrAt_eq_of_covers 5 _ (by decide +kernel) fun t hf y => ?_
  blk_simp
  rw [after0_5]
  idx_vars y
  have h4 : t.val % 8 = 7 := by revert hf; revert t; decide +kernel
  have key := Pipeline.eq_sum_fin_of_reset_step_apply_of_flush
    (fun n h (i : Fin 2048) => (outsAt0 m c n h).2 (ix2 0 i)) 8 (fun _ => 0)
    (fun p i => add5 m c p i) (fun p hp i => g_reset m c p hp i) (fun p hp i => g_step m c p hp i)
    t h4 y1
  have e : ((View.whole main_v1_1).slice (win0_5.rect t)).emb (ix2 y0 y1) = ix2 0 y1 := by
    blk_ext [idx5 t]
  rw [e]
  obtain rfl : y0 = 0 := Subsingleton.elim _ _
  refine key.trans ?_
  rw [zero_add]
  unfold res5 add5
  refine Fin.sum_mul_add_congr (fun s x hl => ?_)
  have e1 : row ⟨8 * (t.val / 8) + s.val, Pipeline.run_point_lt_of_flush t h4 s⟩ x = ⟨s.val * 512 + x.val, hl⟩ :=
    Fin.ext (by have ht := N_lt t; show _ = _; dsimp only; omega)
  rw [e1]
  rfl

/-! ## The constants -/

theorem inv_eq : inv = ((1 / 2048 : ℝ) : EReal) := by
  simp [inv, Ideal.ofBits, Ideal.ieee, -EReal.coe_mul]; norm_num

theorem len_eq : Ideal.ofBits FTy.f32 0x45000000#32 = ((2048 : ℝ) : EReal) := by
  simp [Ideal.ofBits, Ideal.ieee, -EReal.coe_mul]; norm_num

theorem half_eq : Ideal.ofBits FTy.f32 0xBF000000#32 = ((-(1 / 2) : ℝ) : EReal) := by
  simp [Ideal.ofBits, Ideal.ieee, -EReal.coe_mul]; norm_num

theorem eps_pos : ∃ e : ℝ, 0 < e ∧ eps = (e : EReal) := by
  refine ⟨_, ?_, by simp [eps, Ideal.ofBits, Ideal.ieee, -EReal.coe_mul]; rfl⟩
  norm_num

theorem div_len (x : EReal) : Ideal.div x (Ideal.ofBits FTy.f32 0x45000000#32) = x * inv := by
  rw [len_eq, Ideal.div_coe (by norm_num), inv_eq]

/-! ## The reference -/

open Reference24Ideal.Read

/-- The mean square of a row, the small number added. -/
theorem ref_ms (a : Fin 4096) :
    val_main_v6 (F := Ideal) (X m c) (ix2 a 0) = (∑ k, xr m c a k * xr m c a k) * inv + eps := by
  pointwise [val_main_v6, val_main_v5, val_main_cst_1, val_main_v4, val_main_v3, val_main_cst_0, val_main_v2, val_main_v1,
    val_main_cst, val_main_v0]
  rw [div_len]

theorem ref_rs (a : Fin 4096) : val_main_v7 (F := Ideal) (X m c) (ix2 a 0) = rs (xr m c a) := by
  rw [val_main_v7_apply, ref_ms]
  rfl

theorem ref5 : val_main_v37 (F := Ideal) (X m c) (Dy m c) = res5 m c := by
  funext i
  idx_vars i
  pointwise [val_main_v37, val_main_v21, val_main_cst_4, val_main_v18, val_main_v17, val_main_cst_3, val_main_v16,
    val_main_v12, val_main_v11, res5]
  rw [Fin.sum_univ_one]
  refine Finset.sum_congr rfl fun a _ => ?_
  rw [ref_rs]
  exact mul_comm (X m c (ix2 a i1) * rs (xr m c a)) (Dy m c (ix2 a i1))

theorem square_nonneg (x : EReal) : 0 ≤ x * x := by
  induction x using EReal.rec with
  | bot => simp
  | top => simp
  | coe r => exact_mod_cast mul_self_nonneg r

/-- The mean square of a row with the small number added is a positive real number or infinite. -/
theorem mean_square (x : Fin 2048 → EReal) :
    (∑ k, x k * x k) * inv + eps = ⊤ ∨ ∃ M : ℝ, 0 < M ∧ (∑ k, x k * x k) * inv + eps = (M : EReal) := by
  obtain ⟨e, he, h⟩ := eps_pos
  have p : 0 ≤ ∑ k, x k * x k := Finset.sum_nonneg fun k _ => square_nonneg (x k)
  rw [h, inv_eq]
  generalize ∑ k, x k * x k = s at p
  induction s using EReal.rec with
  | bot => exact absurd p (by simp)
  | top => exact Or.inl (by rw [EReal.top_mul_coe_of_pos (by norm_num), EReal.top_add_coe])
  | coe s =>
    have q : 0 ≤ s := by exact_mod_cast p
    exact Or.inr ⟨s * (1 / 2048) + e, by positivity, by rw [← EReal.coe_mul, ← EReal.coe_add]⟩

/-- A real number that is not negative is multiplied into a sum. -/
theorem sum_mul_real (f : Fin 2048 → EReal) {r : ℝ} (hr : 0 ≤ r) : ∑ k, f k * (r : EReal) = (∑ k, f k) * (r : EReal) := by
  have p : (0 : EReal) ≤ (r : EReal) := by exact_mod_cast hr
  induction (Finset.univ : Finset (Fin 2048)) using Finset.induction_on with
  | empty => simp
  | insert a s ha ih =>
    rw [Finset.sum_insert ha, Finset.sum_insert ha, ih, EReal.right_distrib_of_nonneg_of_ne_top p (EReal.coe_ne_top r)]

/-- The gradient as the reference has it, the derivative of one over the root written out, and as the kernel has it. -/
theorem two_ways (x g dy : Fin 2048 → EReal) (a : EReal) (j : Fin 2048) :
    a + dy j * g j * rs x
        + x j * ((∑ k, x k * (dy k * g k)) * (Ideal.ofBits FTy.f32 0xBF000000#32
            * Ideal.div (rs x) ((∑ k, x k * x k) * inv + eps)) * inv)
        + (∑ k, x k * (dy k * g k)) * (Ideal.ofBits FTy.f32 0xBF000000#32
            * Ideal.div (rs x) ((∑ k, x k * x k) * inv + eps)) * inv * x j
      = dx x g dy j + a := by
  unfold dx
  have q : rs x = Ideal.rsqrt ((∑ k, x k * x k) * inv + eps) := rfl
  rw [q]
  rcases mean_square x with h | ⟨M, hM, h⟩
  · rw [h, Ideal.rsqrt_top]
    simp [Ideal.div]
  · rw [h, Ideal.rsqrt_coe, if_neg (not_lt.mpr hM.le), if_neg hM.ne', Attn.div_real _ hM, half_eq, inv_eq, ← EReal.coe_mul]
    have hr : 0 < (Real.sqrt M)⁻¹ := inv_pos.mpr (Real.sqrt_pos.mpr hM)
    have e : (Real.sqrt M)⁻¹ / M = (Real.sqrt M)⁻¹ * ((Real.sqrt M)⁻¹ * (Real.sqrt M)⁻¹) := by
      rw [← mul_inv, Real.mul_self_sqrt hM.le, div_eq_mul_inv]
    rw [e]
    generalize (Real.sqrt M)⁻¹ = r at hr
    have f : ∑ k, dy k * g k * (x k * (r : EReal)) = (∑ k, x k * (dy k * g k)) * (r : EReal) := by
      rw [← sum_mul_real _ hr.le]
      exact Finset.sum_congr rfl fun k _ => by rw [← mul_assoc, mul_comm (dy k * g k)]
    rw [f]
    generalize ∑ k, x k * (dy k * g k) = S
    have hr' : (0 : EReal) ≤ (r : EReal) := by exact_mod_cast hr.le
    rw [sub_eq_add_neg, EReal.left_distrib_of_nonneg_of_ne_top hr' (EReal.coe_ne_top r), add_assoc, add_assoc, add_comm a]
    refine congrArg (· + a) (congrArg₂ (· + ·) (mul_comm _ _) ?_)
    have hq : (0 : EReal) ≤ ((1 / 2 * (r * (r * r)) * (1 / 2048) : ℝ) : EReal) := by
      have := hr.le
      exact_mod_cast (by positivity : (0 : ℝ) ≤ 1 / 2 * (r * (r * r)) * (1 / 2048))
    have l : x j * (S * ((-(1 / 2) * (r * (r * r)) : ℝ) : EReal) * ((1 / 2048 : ℝ) : EReal))
        = -(x j * S) * ((1 / 2 * (r * (r * r)) * (1 / 2048) : ℝ) : EReal) := by
      rw [mul_assoc S, ← EReal.coe_mul, ← mul_assoc, show (-(1 / 2) * (r * (r * r)) * (1 / 2048) : ℝ) = -(1 / 2 * (r * (r * r)) * (1 / 2048)) by ring,
        EReal.coe_neg, mul_neg, neg_mul]
    rw [mul_comm _ (x j), l, ← EReal.left_distrib_of_nonneg hq hq, ← EReal.coe_add]
    rw [mul_neg, neg_mul]
    refine congrArg (- ·) ?_
    have t : (r : EReal) * (x j * r * (S * r * ((1 / 2048 : ℝ) : EReal))) = x j * S * ((r : EReal) * (r * r) * ((1 / 2048 : ℝ) : EReal)) := by
      ac_rfl
    rw [t, ← EReal.coe_mul, ← EReal.coe_mul, ← EReal.coe_mul]
    exact congrArg (fun z : ℝ => x j * S * (z : EReal)) (by ring)

theorem ref4 : val_main_v36 (F := Ideal) (X m c) (G m c) (Dy m c) (Ad m c) = res4 m c := by
  funext i
  idx_vars i
  pointwise [val_main_v36, val_main_v35, val_main_v34, val_main_v33, val_main_v32, val_main_v31, val_main_cst_7, val_main_v30,
    val_main_v29, val_main_cst_6, val_main_v28, val_main_v24, val_main_v23, val_main_cst_5, val_main_v22, val_main_v20, val_main_v19,
    val_main_v13, val_main_v10, val_main_v9, val_main_cst_2, val_main_v8, val_main_v27, val_main_v26, val_main_v25]
  simp only [Fin.sum_univ_one, ref_rs, ref_ms, div_len]
  exact two_ways (xr m c i0) (gr m c) (dyr m c i0) (Ad m c (ix2 i0 i1)) i1

end Cert.NormBwd
end
-- ==== Proof.Small.ConvBwd.lean ====
/- The short convolution's backward call. -/
module

public import proofs.«01_k».proof.Proof.Gen.Kernel25Ideal.Value
public import proofs.«01_k».proof.Proof.Ffn.DownBwd
public import proofs.«01_k».proof.Proof.Arrays
public import Idealize.ShloMosaic.Lib.Pipeline.ReadBack
public import Idealize.ShloMosaic.Lib.WordCmp
public import proofs.«01_k».proof.Proof.Gen.Reference25Ideal.Run
public import proofs.«01_k».proof.Proof.Gen.Reference25Ideal.Read
public import proofs.«01_k».proof.Proof.Gen.Pre_conv_bwd_finite

@[expose] public section
set_option maxRecDepth 16384
noncomputable section
namespace Cert.ConvBwd
open Idealize.ShloMosaic Idealize.ShloMosaic.WordCmp Idealize.SL.Sem Cert.Kernel25Ideal Cert.Kernel25Ideal.Gen
open DownBwd (lg factored)

/-- A column of the input `j` positions back, and a column of the gradient `j` positions ahead: zero outside the sequence. -/
def back (j : ℕ) (u : Fin 2048 → EReal) (t : Fin 2048) : EReal := if j ≤ t.val then u ⟨t.val - j, by omega⟩ else 0
def ahead (j : ℕ) (u : Fin 2048 → EReal) (t : Fin 2048) : EReal := if h : t.val + j < 2048 then u ⟨t.val + j, h⟩ else 0

/-- The convolution of a column before its activation: the weights' rows 0 to 3, and the bias in row 4. -/
def pre (w : Fin 8 → EReal) (u : Fin 2048 → EReal) (t : Fin 2048) : EReal :=
  u t * w 3 + w 4 + back 1 u t * w 2 + back 2 u t * w 1 + back 3 u t * w 0

/-- The gradient before the activation. -/
def dpre (w : Fin 8 → EReal) (u d : Fin 2048 → EReal) (t : Fin 2048) : EReal :=
  d t * (lg (pre w u t) * (1 + pre w u t * (1 - lg (pre w u t))))

/-- The gradient of the column. -/
def dcol (w : Fin 8 → EReal) (u d : Fin 2048 → EReal) (t : Fin 2048) : EReal :=
  dpre w u d t * w 3 + ahead 1 (fun k => dpre w u d k * w 2) t + ahead 2 (fun k => dpre w u d k * w 1) t
    + ahead 3 (fun k => dpre w u d k * w 0) t

/-- Masked rotations of a column are the column moved back or ahead. -/
theorem back_word (u : Fin 2048 → EReal) (t : Fin 2048) (j : ℕ) (hj : j < 4) (h : (t.val + 2048 - j) % 2048 < 2048) :
    Scalar.select (IntOp.cmpi CmpIPredicate.sge (BitVec.ofNat 32 t.val) (BitVec.ofNat 32 j)) (u ⟨(t.val + 2048 - j) % 2048, h⟩) 0
      = back j u t := by
  rw [cmpi_sge_ofNat (by omega) (by omega), ofBool_decide_eq_ite]
  unfold back
  by_cases e : j ≤ t.val
  · rw [if_pos e, if_pos e]
    exact congrArg u (Fin.ext (by show (t.val + 2048 - j) % 2048 = t.val - j; omega))
  · rw [if_neg e, if_neg e]
    rfl

theorem ahead_word (u : Fin 2048 → EReal) (t : Fin 2048) (j k : ℕ) (hj : j < 4) (hk : k + j = 2048) (h : (t.val + 2048 - k) % 2048 < 2048) :
    Scalar.select (IntOp.cmpi CmpIPredicate.slt (BitVec.ofNat 32 t.val) (BitVec.ofNat 32 k)) (u ⟨(t.val + 2048 - k) % 2048, h⟩) 0
      = ahead j u t := by
  rw [cmpi_slt_ofNat (by omega) (by omega), ofBool_decide_eq_ite]
  unfold ahead
  by_cases e : t.val + j < 2048
  · rw [if_pos (by omega), dif_pos e]
    exact congrArg u (Fin.ext (by show (t.val + 2048 - k) % 2048 = t.val + j; omega))
  · rw [if_neg (by omega), dif_neg e]
    rfl

variable (x : Vec Ideal S1x2048x512 .f32) (d : Vec Ideal S1x2048x512 .f32) (t : Fin 2048) (s : Fin 512)

theorem pay6_apply : k0_pay6 (F := Ideal) x (ix2 t s) = x (ix3 0 t s) := by
  pointwise [k0_pay6]

theorem pay7_apply : k0_pay7 (F := Ideal) x (ix2 t s) = back 1 (fun k => x (ix3 0 k s)) t := by
  pointwise [k0_pay7, k0_pay6]
  exact back_word (fun k => x (ix3 0 k s)) t 1 (by omega) _

theorem pay8_apply : k0_pay8 (F := Ideal) x (ix2 t s) = back 2 (fun k => x (ix3 0 k s)) t := by
  pointwise [k0_pay8, k0_pay6]
  exact back_word (fun k => x (ix3 0 k s)) t 2 (by omega) _

theorem pay11_apply : k0_pay11 (F := Ideal) (k0_pay6 x) k0_pay10 3#32 (ix2 t s) = back 3 (fun k => x (ix3 0 k s)) t := by
  pointwise [k0_pay11, k0_pay10, k0_pay6]
  exact back_word (fun k => x (ix3 0 k s)) t 3 (by omega) _

variable (w : Vec Ideal S8x512 .f32)

/-- The gradient before the activation, as the kernel computes it from the blocks. -/
abbrev D : FVec Ideal S2048x512 .f32 :=
  k0_pay12 (k0_pay6 x)
    (k0_pay9 x (View.ld w (Rect.unit ![3, 0] ![1, 512] inb_S8x512_S1x512_3_0)) (View.ld w (Rect.unit ![4, 0] ![1, 512] inb_S8x512_S1x512_4_0))
      (View.ld w (Rect.unit ![2, 0] ![1, 512] inb_S8x512_S1x512_2_0)) (View.ld w (Rect.unit ![1, 0] ![1, 512] inb_S8x512_S1x512_1_0)))
    k0_pay10 3#32 (View.ld w (Rect.unit ![0, 0] ![1, 512] inb_S8x512_S1x512_0_0)) d

/-- A column of the weights' block, of the input's, of the gradient's. -/
abbrev wc (s : Fin 512) (k : Fin 8) : EReal := w (ix2 k s)
abbrev xc (s : Fin 512) (k : Fin 2048) : EReal := x (ix3 0 k s)

theorem D_apply : D x d w (ix2 t s) = dpre (wc w s) (xc x s) (xc d s) t := by
  pointwise [D, k0_pay12, k0_pay9]
  rw [pay6_apply, pay7_apply, pay8_apply, pay11_apply]
  rfl

/-- The gradient of the columns of the block, as the kernel computes it. -/
theorem pay17_apply :
    k0_pay4 (F := Ideal) (k0_pay17 (iota Kind.tc S2048x512 32 [0] iota_S2048x512_d0_w32) (D x d w)
      (k0_pay13 (k0_pay6 x) (iota Kind.tc S2048x512 32 [0] iota_S2048x512_d0_w32)
        (k0_pay9 x (View.ld w (Rect.unit ![3, 0] ![1, 512] inb_S8x512_S1x512_3_0)) (View.ld w (Rect.unit ![4, 0] ![1, 512] inb_S8x512_S1x512_4_0))
          (View.ld w (Rect.unit ![2, 0] ![1, 512] inb_S8x512_S1x512_2_0)) (View.ld w (Rect.unit ![1, 0] ![1, 512] inb_S8x512_S1x512_1_0)))
        k0_pay10 3#32 (View.ld w (Rect.unit ![0, 0] ![1, 512] inb_S8x512_S1x512_0_0)) d
        (View.ld w (Rect.unit ![3, 0] ![1, 512] inb_S8x512_S1x512_3_0)) (View.ld w (Rect.unit ![2, 0] ![1, 512] inb_S8x512_S1x512_2_0)))
      (View.ld w (Rect.unit ![1, 0] ![1, 512] inb_S8x512_S1x512_1_0)) (View.ld w (Rect.unit ![0, 0] ![1, 512] inb_S8x512_S1x512_0_0)))
      (ix3 0 t s) = dcol (wc w s) (xc x s) (xc d s) t := by
  pointwise [k0_pay4, k0_pay17, k0_pay13]
  simp only [D_apply]
  unfold dcol
  rw [← ahead_word _ t 1 2047 (by omega) rfl (by omega), ← ahead_word _ t 2 2046 (by omega) rfl (by omega),
    ← ahead_word _ t 3 2045 (by omega) rfl (by omega)]

/-- What is added to a row of the weights' gradient. -/
theorem pay15_apply (g : Vec Ideal S1x512 .f32) (v : FVec Ideal S2048x512 .f32) :
    k0_pay15 (F := Ideal) v (D x d w) (k0_pay14 g) (ix2 0 s)
      = g (ix2 0 s) + ∑ t, dpre (wc w s) (xc x s) (xc d s) t * v (ix2 t s) := by
  pointwise [k0_pay15, k0_pay14]
  simp only [D_apply]

theorem pay16_apply (g : Vec Ideal S1x512 .f32) (v : FVec Ideal S2048x512 .f32) :
    k0_pay16 (F := Ideal) v (D x d w) g (ix2 0 s)
      = g (ix2 0 s) + ∑ t, dpre (wc w s) (xc x s) (xc d s) t * v (ix2 t s) := by
  pointwise [k0_pay16]
  simp only [D_apply]

theorem pay1_apply (g : Vec Ideal S1x512 .f32) (v : FVec Ideal S2048x512 .f32) :
    k0_pay1 (F := Ideal) (k0_pay18 g) (k0_pay19 v (D x d w)) (ix2 0 s)
      = g (ix2 0 s) + ∑ t, dpre (wc w s) (xc x s) (xc d s) t * v (ix2 t s) := by
  pointwise [k0_pay1, k0_pay18, k0_pay19]
  simp only [D_apply]

theorem pay2_apply (g : Vec Ideal S1x512 .f32) (v : FVec Ideal S2048x512 .f32) :
    k0_pay2 (F := Ideal) v (D x d w) g (ix2 0 s)
      = g (ix2 0 s) + ∑ t, dpre (wc w s) (xc x s) (xc d s) t * v (ix2 t s) := by
  pointwise [k0_pay2]
  simp only [D_apply]

theorem pay3_apply (g : Vec Ideal S1x512 .f32) :
    k0_pay3 (F := Ideal) (D x d w) g (ix2 0 s) = g (ix2 0 s) + ∑ t, dpre (wc w s) (xc x s) (xc d s) t := by
  pointwise [k0_pay3]
  simp only [D_apply]

theorem pay5_apply (i) : k0_pay5 (F := Ideal) i = 0 := by
  idx_vars i
  pointwise [k0_pay5]

/-- A store of one row over other stores, read back: the stored row at its place, the other stores elsewhere. -/
theorem row_stored (v : View sig .tc .vmem S8x512 .f32) (f : v.ty.Contents (Elt Ideal)) (n : ℕ)
    (inb : ∀ a, (![n, 0] : Fin 2 → Nat) a + (![1, 512] : Fin 2 → Nat) a ≤ S8x512.size a)
    (L : List (View.Piece (Elt Ideal) S8x512 .f32))
    (z : (Rect.unit (s := S8x512) ![n, 0] ![1, 512] inb).shape.Idx → EReal) (r : Fin 8) (s : Fin 512) :
    v.read (Elt Ideal) (v.writes (Elt Ideal) f
        ((⟨Rect.unit (s := S8x512) ![n, 0] ![1, 512] inb, z⟩ : View.Piece (Elt Ideal) S8x512 .f32) :: L)) (ix2 r s)
      = if r.val = n then z (ix2 (n0 := 1) (n1 := 512) 0 s) else v.read (Elt Ideal) (v.writes (Elt Ideal) f L) (ix2 r s) := by
  by_cases h : r.val = n
  · rw [if_pos h]
    refine View.read_writes_cons_unit_of_mem v f inb z L _ _ rfl fun a => ?_
    fin_cases a
    · show r.val = n + 0
      omega
    · show s.val = 0 + s.val
      omega
  · rw [if_neg h]
    refine View.read_writes_cons_unit_of_not_mem v f inb z L _ rfl (0 : Fin 2) ?_
    show r.val < n ∨ n + 1 ≤ r.val
    omega

/-- A row loaded. -/
theorem row_loaded (X : Vec Ideal S8x512 .f32) (n : ℕ) (hn : n < 8) (inb) (s : Fin 512) :
    (View.ld X (Rect.unit (s := S8x512) ![n, 0] ![1, 512] inb) : Vec Ideal S1x512 .f32) (ix2 0 s) = X (ix2 ⟨n, hn⟩ s) := by
  refine View.ld_unit_apply_of X _ _ inb _ _ fun a => ?_
  fin_cases a
  · show n = n + 0
    omega
  · show s.val = 0 + s.val
    omega

/-- What a point adds to the gradients of the weights and the bias, row by row. -/
def drow (w : Fin 8 → EReal) (u d : Fin 2048 → EReal) (r : Fin 8) : EReal :=
  if r.val = 4 then ∑ t, dpre w u d t
  else if r.val = 3 then ∑ t, dpre w u d t * u t
  else if r.val = 0 then ∑ t, dpre w u d t * back 3 u t
  else if r.val = 1 then ∑ t, dpre w u d t * back 2 u t
  else if r.val = 2 then ∑ t, dpre w u d t * back 1 u t
  else 0

/-- The five rows stored over contents. -/
theorem rows_added (v : View sig .tc .vmem S8x512 .f32) (f : v.ty.Contents (Elt Ideal)) (L : List (View.Piece (Elt Ideal) S8x512 .f32))
    (X : Vec Ideal S8x512 .f32) (r : Fin 8) (s : Fin 512)
    (hb : v.read (Elt Ideal) (v.writes (Elt Ideal) f L) (ix2 r s) = X (ix2 r s)) :
    v.read (Elt Ideal) (v.writes (Elt Ideal) f
      (⟨Rect.unit ![4, 0] ![1, 512] inb_S8x512_S1x512_4_0,
          k0_pay3 (D x d w) (View.ld X (Rect.unit ![4, 0] ![1, 512] inb_S8x512_S1x512_4_0))⟩ ::
        ⟨Rect.unit ![3, 0] ![1, 512] inb_S8x512_S1x512_3_0,
          k0_pay2 (k0_pay6 x) (D x d w) (View.ld X (Rect.unit ![3, 0] ![1, 512] inb_S8x512_S1x512_3_0))⟩ ::
        ⟨Rect.unit ![0, 0] ![1, 512] inb_S8x512_S1x512_0_0,
          k0_pay1 (k0_pay18 (View.ld X (Rect.unit ![0, 0] ![1, 512] inb_S8x512_S1x512_0_0)))
            (k0_pay19 (k0_pay11 (k0_pay6 x) k0_pay10 3#32) (D x d w))⟩ ::
        ⟨Rect.unit ![1, 0] ![1, 512] inb_S8x512_S1x512_1_0,
          k0_pay16 (k0_pay8 x) (D x d w) (View.ld X (Rect.unit ![1, 0] ![1, 512] inb_S8x512_S1x512_1_0))⟩ ::
        ⟨Rect.unit ![2, 0] ![1, 512] inb_S8x512_S1x512_2_0,
          k0_pay15 (k0_pay7 x) (D x d w) (k0_pay14 (View.ld X (Rect.unit ![2, 0] ![1, 512] inb_S8x512_S1x512_2_0)))⟩ :: L))
      (ix2 r s) = X (ix2 r s) + drow (wc w s) (xc x s) (xc d s) r := by
  unfold drow
  refine (row_stored _ _ _ _ _ _ _ _).trans ?_
  by_cases h4 : r.val = 4
  · rw [if_pos h4, if_pos h4, pay3_apply, row_loaded _ _ (by omega)]
    exact congrArg (X · + _) (congrArg (ix2 · s) (Fin.ext h4.symm))
  rw [if_neg h4, if_neg h4]
  refine (row_stored _ _ _ _ _ _ _ _).trans ?_
  by_cases h3 : r.val = 3
  · rw [if_pos h3, if_pos h3, pay2_apply, row_loaded _ _ (by omega)]
    simp only [pay6_apply]
    exact congrArg (X · + _) (congrArg (ix2 · s) (Fin.ext h3.symm))
  rw [if_neg h3, if_neg h3]
  refine (row_stored _ _ _ _ _ _ _ _).trans ?_
  by_cases h0 : r.val = 0
  · rw [if_pos h0, if_pos h0, pay1_apply, row_loaded _ _ (by omega)]
    simp only [pay11_apply]
    exact congrArg (X · + _) (congrArg (ix2 · s) (Fin.ext h0.symm))
  rw [if_neg h0, if_neg h0]
  refine (row_stored _ _ _ _ _ _ _ _).trans ?_
  by_cases h1 : r.val = 1
  · rw [if_pos h1, if_pos h1, pay16_apply, row_loaded _ _ (by omega)]
    simp only [pay8_apply]
    exact congrArg (X · + _) (congrArg (ix2 · s) (Fin.ext h1.symm))
  rw [if_neg h1, if_neg h1]
  refine (row_stored _ _ _ _ _ _ _ _).trans ?_
  by_cases h2 : r.val = 2
  · rw [if_pos h2, if_pos h2, pay15_apply, row_loaded _ _ (by omega)]
    simp only [pay7_apply]
    exact congrArg (X · + _) (congrArg (ix2 · s) (Fin.ext h2.symm))
  rw [if_neg h2, if_neg h2, hb, add_zero]

variable (m : (ℓ : Loc nD τ sig) → Buf (Elt Ideal) ℓ) (c : Dev nD) (t : Fin cfg0.N)

theorem w_reset (h0 : t.val % 2 = 0) (r : Fin 8) (s : Fin 512) :
    (outsAt0 m c t.val t.isLt).2 (ix2 r s) = 0 + drow (wc (iblk m c 1 t) s) (xc (X0_0 m c t) s) (xc (iblk m c 2 t) s) r := by
  rw [outsAt0_A m c t h0]
  frame_open
  simp (disch := decide) only [↓ View.readCov_skip, ↓ View.readCov_cons_toLoadRect, ↓ View.readCov_fill]
  frame_out
  rw [← View.read_writes_junk_eq_canon (ms0_4 t).view]
  refine Eq.trans ?_ (congrArg (· + drow (wc (iblk m c 1 t) s) (xc (X0_0 m c t) s) (xc (iblk m c 2 t) s) r) (pay5_apply (ix2 r s)))
  refine rows_added (X0_0 m c t) (iblk m c 2 t) (iblk m c 1 t) (ms0_4 t).view _ _ _ r s ?_
  refine View.read_writes_cons_unit_of_mem _ _ _ _ _ _ (ix2 r s) rfl fun a => ?_
  fin_cases a
  · show r.val = 0 + r.val
    omega
  · show s.val = 0 + s.val
    omega

theorem w_step (h0 : ¬t.val % 2 = 0) (r : Fin 8) (s : Fin 512) :
    (outsAt0 m c t.val t.isLt).2 (ix2 r s)
      = (outsAt0 m c (t.val - 1) (Nat.lt_of_le_of_lt (Nat.sub_le _ _) t.isLt)).2 (ix2 r s)
        + drow (wc (iblk m c 1 t) s) (xc (X0_0 m c t) s) (xc (iblk m c 2 t) s) r := by
  rw [outsAt0_B m c t h0]
  frame_out
  exact rows_added _ _ _ _ _ _ _ r s (congrFun (Memref.IsWhole.read_unread _ _) _)

/-- The gradient of the columns of the block at a point. -/
theorem u_block (y : Fin 2048) (s : Fin 512) :
    (outsAt0 m c t.val t.isLt).1 (ix3 0 y s) = dcol (wc (iblk m c 1 t) s) (xc (X0_0 m c t) s) (xc (iblk m c 2 t) s) y := by
  by_cases h0 : t.val % 2 = 0
  · rw [outsAt0_A m c t h0]
    frame_out
    exact pay17_apply _ _ _ _ _
  · rw [outsAt0_B m c t h0]
    frame_out
    exact pay17_apply _ _ _ _ _

/-! ## The arrays -/

/-- The arrays that the program is given: the projection whose columns from 1024 on are the input, the weights, the bias and
    the output's gradient. -/
def Pr : FVec Ideal S2x2048x3840 .f32 := m (c, Proc.tc.devRef main_arg0)
def W : FVec Ideal S4x1536 .f32 := m (c, Proc.tc.devRef main_arg1)
def Bi : FVec Ideal S1536 .f32 := m (c, Proc.tc.devRef main_arg2)
def Do : FVec Ideal S2x2048x1536 .f32 := m (c, Proc.tc.devRef main_arg3)

/-- The columns of the input and of the gradient, and the weights of a column with its bias. -/
abbrev uc (b : Fin 2) (j : Fin 1536) (k : Fin 2048) : EReal := Pr m c (ix3 b k ⟨1024 + j.val, by omega⟩)
abbrev dc (b : Fin 2) (j : Fin 1536) (k : Fin 2048) : EReal := Do m c (ix3 b k j)
def w8 (j : Fin 1536) (r : Fin 8) : EReal :=
  if h : r.val < 4 then W m c (ix2 ⟨r.val, h⟩ j) else if r.val = 4 then Bi m c (ix1 j) else 0

theorem idx0 : ∀ t : Fin cfg0.N, win0_0.index t = ![t.val % 2, 0, t.val / 2 + 2] := by decide +kernel
theorem idx1 : ∀ t : Fin cfg0.N, win0_1.index t = ![0, t.val / 2] := by decide +kernel
theorem idx2 : ∀ t : Fin cfg0.N, win0_2.index t = ![t.val % 2, 0, t.val / 2] := by decide +kernel
theorem idx3 : ∀ t : Fin cfg0.N, win0_3.index t = ![t.val % 2, 0, t.val / 2] := by decide +kernel
theorem idx4 : ∀ t : Fin cfg0.N, win0_4.index t = ![0, t.val / 2] := by decide +kernel

theorem N_lt : t.val < 6 := lt_of_lt_of_eq t.isLt N_0

/-- The point's sequence, and the arrays' column at a column of its block. -/
abbrev seq : Fin 2 := ⟨t.val % 2, Nat.mod_lt _ (by omega)⟩
abbrev col (s : Fin 512) : Fin 1536 := ⟨t.val / 2 * 512 + s.val, by have := N_lt t; omega⟩

theorem V_arg0 : (V m c main_arg0 : Vec Ideal S2x2048x3840 .f32) = Pr m c := V_main_arg0 m c
theorem V_arg3 : (V m c main_arg3 : Vec Ideal S2x2048x1536 .f32) = Do m c := V_main_arg3 m c

theorem V_v2 (r : Fin 8) (j : Fin 1536) : (V m c main_v2 : Vec Ideal S8x1536 .f32) (ix2 r j) = w8 m c j r := by
  unfold V w8 W Bi
  open StableHlo in
  simp only [hostOps0, TRef.nary, TRef.binary, TRef.nullary, TRef.ternary, TRef.unary, TRef.reshape, TRef.toBuf, TRef.ofBuf, cast_eq]
  after_results_simp
  pointwise
  after_results_simp
  pointwise
  by_cases h : r.val < 4
  · rw [dif_pos h, dif_pos h]
  · rw [dif_neg h, dif_neg h]
    by_cases g : r.val = 4
    · rw [dif_pos (by omega), if_pos g]
    · rw [dif_neg (by omega), if_neg g]

theorem blk0 (k : Fin 2048) (s : Fin 512) :
    (X0_0 m c t : Vec Ideal S1x2048x512 .f32) (ix3 0 k s) = uc m c (seq t) (col t s) k := by
  unfold X0_0 Pipeline.Window.fill
  rw [dif_pos (moved0_0 t _)]
  refine Eq.trans ?_ (congrFun (V_arg0 m c) _)
  refine congrArg (V m c main_arg0 : Vec Ideal S2x2048x3840 .f32) ?_
  funext a
  fin_cases a <;> apply Fin.ext <;> blk_simp [idx0 t] <;> (try rfl)
  show (t.val / 2 + 2) * 512 + s.val = 1024 + (t.val / 2 * 512 + s.val)
  omega

theorem read1 (x : Vec Ideal S8x1536 .f32) (r : Fin 8) (s : Fin 512) :
    (((cfg0.win 1).blk t).view.read (Elt Ideal) x : Vec Ideal S8x512 .f32) (ix2 r s) = x (ix2 r (col t s)) := by
  blk_ext [idx1 t]

theorem blk1 (s : Fin 512) : wc (iblk m c 1 t) s = w8 m c (col t s) :=
  funext fun r => (read1 t _ r s).trans (V_v2 m c r _)

theorem read2 (x : Vec Ideal S2x2048x1536 .f32) (k : Fin 2048) (s : Fin 512) :
    (((cfg0.win 2).blk t).view.read (Elt Ideal) x : Vec Ideal S1x2048x512 .f32) (ix3 0 k s) = x (ix3 (seq t) k (col t s)) := by
  blk_ext [idx2 t]

theorem blk2 (s : Fin 512) : xc (iblk m c 2 t) s = dc m c (seq t) (col t s) :=
  funext fun k => (read2 t _ k s).trans (congrFun (V_arg3 m c) _)

/-- The whole of the input's gradient. -/
def res3 : FVec Ideal S2x2048x1536 .f32 := fun i => dcol (w8 m c (i 2)) (uc m c (i 0) (i 2)) (dc m c (i 0) (i 2)) (i 1)

theorem total3 : (dats m 0 c).arrAt 3 cfg0.N = res3 m c := by
  refine (dats m 0 c).arrAt_eq_of_covers 3 _ (by decide +kernel) fun t hf y => ?_
  blk_simp
  rw [after0_3]
  idx_vars y
  have e : ((View.whole main_v3_0).slice (win0_3.rect t)).emb (ix3 y0 y1 y2) = ix3 (seq t) y1 (col t y2) := by
    obtain rfl : y0 = 0 := Subsingleton.elim _ _
    blk_ext [idx3 t]
  rw [e]
  obtain rfl : y0 = 0 := Subsingleton.elim _ _
  refine (u_block m c t y1 y2).trans ?_
  rw [blk1, blk2, show xc (X0_0 m c t) y2 = _ from funext fun k => blk0 m c t k y2]
  rfl

/-- The whole of the gradients of the weights and the bias. -/
def res4 : FVec Ideal S8x1536 .f32 := fun i => ∑ b : Fin 2, drow (w8 m c (i 1)) (uc m c b (i 1)) (dc m c b (i 1)) (i 0)

theorem total4 : (dats m 0 c).arrAt 4 cfg0.N = res4 m c := by
  refine (dats m 0 c).arrAt_eq_of_covers 4 _ (by decide +kernel) fun t hf y => ?_
  blk_simp
  rw [after0_4]
  idx_vars y
  have h4 : t.val % 2 = 1 := by revert hf; revert t; decide +kernel
  have key := Pipeline.eq_sum_fin_of_reset_step_apply_of_flush
    (fun n h (i : Fin 8 × Fin 512) => (outsAt0 m c n h).2 (ix2 i.1 i.2)) 2 (fun _ => 0)
    (fun p i => drow (wc (iblk m c 1 p) i.2) (xc (X0_0 m c p) i.2) (xc (iblk m c 2 p) i.2) i.1)
    (fun p hp i => w_reset m c p hp i.1 i.2) (fun p hp i => w_step m c p hp i.1 i.2) t h4 (y0, y1)
  have e : ((View.whole main_v3_1).slice (win0_4.rect t)).emb (ix2 y0 y1) = ix2 y0 (col t y1) := by
    blk_ext [idx4 t]
  rw [e]
  refine key.trans ?_
  rw [zero_add]
  unfold res4
  refine Finset.sum_congr rfl fun b _ => ?_
  rw [blk1, blk2, show xc (X0_0 m c _) y1 = _ from funext fun k => blk0 m c _ k y1]
  have e1 : seq ⟨2 * (t.val / 2) + b.val, Pipeline.run_point_lt_of_flush t h4 b⟩ = b :=
    Fin.ext (by show (2 * (t.val / 2) + b.val) % 2 = b.val; omega)
  have e2 : col ⟨2 * (t.val / 2) + b.val, Pipeline.run_point_lt_of_flush t h4 b⟩ y1 = col t y1 :=
    Fin.ext (by show (2 * (t.val / 2) + b.val) / 2 * 512 + y1.val = t.val / 2 * 512 + y1.val; omega)
  rw [e1, e2]
  rfl

/-! ## The reference -/

/-- A reduction over the first two of three axes is the sum over both. -/
theorem reduce_first_two {n0 n1 n2 : ℕ} (h : (⟨3, ![n0, n1, n2]⟩ : Shape).ReducesTo [0, 1] ⟨1, ![n2]⟩)
    (v : (⟨3, ![n0, n1, n2]⟩ : Shape).Idx → EReal) (z : EReal) (j : Fin n2) :
    Ideal.hostReduceAdd h v z (ix1 j) = z + ∑ a : Fin n0, ∑ b : Fin n1, v (ix3 a b j) := by
  refine congrArg (z + ·) ((Finset.sum_filter_eq_sum_of_fiber _ (fun k : Fin n0 × Fin n1 => ix3 k.1 k.2 j)
    (fun _ _ e => Prod.ext (congrFun e 0) (congrFun e 1)) (fun i => ?_) v).trans (by simp only [Fintype.sum_prod_type]))
  constructor
  · intro e
    refine ⟨(i 0, i 1), ?_⟩
    funext a
    apply Fin.ext
    match a with
    | ⟨0, _⟩ => rfl
    | ⟨1, _⟩ => rfl
    | ⟨2, _⟩ => exact (congrArg Fin.val (congrFun e (0 : Fin 1))).symm
  · rintro ⟨k, rfl⟩
    funext b
    apply Fin.ext
    match b with
    | ⟨0, _⟩ => rfl

/-- The precondition says that the output's gradient is real numbers. -/
theorem reals (h : Pre_conv_bwd_finite.fn (F := Ideal) (Pr m c) (W m c) (Bi m c) (Do m c) = fun _ => 1#1) :
    ∀ i, ∃ r : ℝ, Do m c i = (r : EReal) := by
  have h := congrFun h ix0
  dsimp only [Pre_conv_bwd_finite.fn] at h
  have hd := Host.reduce_andi_all _ _ _ _ _ h
  intro i
  have e := hd i
  pointwise at e
  exact Attn.real_of_abs_lt e

open Reference25Ideal.Read

variable (b : Fin 2) (k : Fin 2048) (j : Fin 1536)

/-- A column behind a padding of zeros is the column moved back, a column before one is the column moved ahead. -/
theorem back_pad (u : Fin 2048 → EReal) (k : Fin 2048) (n p : ℕ) (hn : p + n = 3) (h : ¬p + k.val < 3 → p + k.val - 3 < 2048) :
    (if h' : p + k.val < 3 then 0 else u ⟨p + k.val - 3, h h'⟩) = back n u k := by
  unfold back
  by_cases e : p + k.val < 3
  · rw [dif_pos e, if_neg (by omega)]
  · rw [dif_neg e, if_pos (by omega)]
    exact congrArg u (Fin.ext (by show p + k.val - 3 = k.val - n; omega))

theorem back_first (u : Fin 2048 → EReal) (k : Fin 2048) (h : ¬k.val < 3 → k.val - 3 < 2048) :
    (if h' : k.val < 3 then 0 else u ⟨k.val - 3, h h'⟩) = back 3 u k := by
  unfold back
  by_cases e : k.val < 3
  · rw [dif_pos e, if_neg (by omega)]
  · rw [dif_neg e, if_pos (by omega)]

theorem ahead_pad (u : Fin 2048 → EReal) (k : Fin 2048) (n p : ℕ) (hn : p + n = 3)
    (h : p ≤ 3 + k.val ∧ 3 + k.val - p < 2048 → 3 + k.val - p < 2048) :
    (if h' : p ≤ 3 + k.val ∧ 3 + k.val - p < 2048 then u ⟨3 + k.val - p, h h'⟩ else 0) = ahead n u k := by
  unfold ahead
  by_cases e : k.val + n < 2048
  · rw [dif_pos (by omega), dif_pos e]
    exact congrArg u (Fin.ext (by show 3 + k.val - p = k.val + n; omega))
  · rw [dif_neg (by omega), dif_neg e]

/-- The reference's shifted columns of the padded input. -/
theorem ref_shift0 : val_main_v4 (F := Ideal) (Pr m c) (ix3 b k j) = back 3 (uc m c b j) k := by
  pointwise [val_main_v4, val_main_v2, val_main_v1, val_main_cst, val_main_v0]
  exact back_first (uc m c b j) k (fun _ => by omega)

theorem ref_shift1 : val_main_v12 (F := Ideal) (Pr m c) (ix3 b k j) = back 2 (uc m c b j) k := by
  pointwise [val_main_v12, val_main_v2, val_main_v1, val_main_cst, val_main_v0]
  exact back_pad (uc m c b j) k 2 1 rfl (fun _ => by omega)

theorem ref_shift2 : val_main_v19 (F := Ideal) (Pr m c) (ix3 b k j) = back 1 (uc m c b j) k := by
  pointwise [val_main_v19, val_main_v2, val_main_v1, val_main_cst, val_main_v0]
  exact back_pad (uc m c b j) k 1 2 rfl (fun _ => by omega)

theorem ref_shift3 : val_main_v26 (F := Ideal) (Pr m c) (ix3 b k j) = uc m c b j k := by
  pointwise [val_main_v26, val_main_v2, val_main_v1, val_main_cst, val_main_v0]

/-- The rows of the weights and of the bias. -/
theorem w8_0 : w8 m c j 0 = W m c (ix2 0 j) := dif_pos (by decide)
theorem w8_1 : w8 m c j 1 = W m c (ix2 1 j) := dif_pos (by decide)
theorem w8_2 : w8 m c j 2 = W m c (ix2 2 j) := dif_pos (by decide)
theorem w8_3 : w8 m c j 3 = W m c (ix2 3 j) := dif_pos (by decide)
theorem w8_4 : w8 m c j 4 = Bi m c (ix1 j) := (dif_neg (by decide)).trans (if_pos (by decide))

/-- The reference's convolution before its activation. -/
theorem ref_pre : val_main_v35 (F := Ideal) (Pr m c) (W m c) (Bi m c) (ix3 b k j) = pre (w8 m c j) (uc m c b j) k := by
  pointwise [val_main_v35, val_main_v34, val_main_v33, val_main_v32, val_main_v31, val_main_v30, val_main_v29, val_main_v28, val_main_v27,
    val_main_v25, val_main_v24, val_main_v23, val_main_v22, val_main_v21, val_main_v20, val_main_v18, val_main_v17, val_main_v16,
    val_main_v15, val_main_v14, val_main_v13, val_main_v11, val_main_v10, val_main_cst_1, val_main_v9, val_main_v8, val_main_v7,
    val_main_v6, val_main_v5]
  rw [ref_shift0, ref_shift1, ref_shift2, ref_shift3]
  unfold pre
  rw [w8_0, w8_1, w8_2, w8_3, w8_4]
  abel

theorem ref_lg : val_main_v36_2 (F := Ideal) (Pr m c) (W m c) (Bi m c) (ix3 b k j) = lg (pre (w8 m c j) (uc m c b j) k) := by
  rw [val_main_v36_2_apply, val_main_call0_v4_apply, val_main_call0_v3_apply, val_main_call0_v2_apply,
    val_main_call0_v1_apply, val_main_call0_v0_apply, val_main_call0_cst_apply, val_main_call0_cst_0_apply, ref_pre]
  pointwise [lg]
  rw [zero_sub]

variable (hp : Pre_conv_bwd_finite.fn (F := Ideal) (Pr m c) (W m c) (Bi m c) (Do m c) = fun _ => 1#1)
include hp

/-- The reference's gradient before the activation. -/
theorem ref_dpre :
    val_main_v37 (F := Ideal) (Pr m c) (W m c) (Bi m c) (Do m c) (ix3 b k j) = dpre (w8 m c j) (uc m c b j) (dc m c b j) k := by
  obtain ⟨d, hd⟩ := reals m c hp (ix3 b k j)
  rw [val_main_v37_apply, val_main_call1_v2_apply, val_main_call1_v1_apply, val_main_call1_v0_apply,
    val_main_v36_1_apply, val_main_call0_v7_apply, val_main_call0_v6_apply, val_main_call0_cst_1_apply, ref_pre, ref_lg]
  pointwise [dpre]
  rw [show dc m c b j k = _ from hd, hd]
  exact (factored _ _).symm

theorem ref3 : val_main_v84 (F := Ideal) (Pr m c) (W m c) (Bi m c) (Do m c) = res3 m c := by
  funext i
  idx_vars i
  pointwise [val_main_v84, val_main_v82, val_main_v81, val_main_v76, val_main_v75, val_main_v71, val_main_v70, val_main_v65, val_main_v64, val_main_v60,
    val_main_v59, val_main_v54, val_main_v53, val_main_v49, val_main_v45, val_main_v44, val_main_v29, val_main_v28, val_main_v27,
    val_main_v22, val_main_v21, val_main_v20, val_main_v15, val_main_v14, val_main_v13, val_main_v7, val_main_v6, val_main_v5,
    val_main_cst_7, val_main_cst_11, val_main_cst_15, val_main_cst_19]
  simp only [ref_dpre m c _ _ _ hp]
  show _ = dpre (w8 m c i2) (uc m c i0 i2) (dc m c i0 i2) i1 * w8 m c i2 3
    + ahead 1 (fun k => dpre (w8 m c i2) (uc m c i0 i2) (dc m c i0 i2) k * w8 m c i2 2) i1
    + ahead 2 (fun k => dpre (w8 m c i2) (uc m c i0 i2) (dc m c i0 i2) k * w8 m c i2 1) i1
    + ahead 3 (fun k => dpre (w8 m c i2) (uc m c i0 i2) (dc m c i0 i2) k * w8 m c i2 0) i1
  rw [w8_0, w8_1, w8_2, w8_3]
  refine congrArg₂ (· + ·) (congrArg₂ (· + ·) (congrArg₂ (· + ·) rfl ?_) ?_) ?_
  · exact ahead_pad (fun k => dpre (w8 m c i2) (uc m c i0 i2) (dc m c i0 i2) k * W m c (ix2 2 i2)) i1 1 2 rfl (fun h => h.2)
  · exact ahead_pad (fun k => dpre (w8 m c i2) (uc m c i0 i2) (dc m c i0 i2) k * W m c (ix2 1 i2)) i1 2 1 rfl (fun h => h.2)
  · unfold ahead
    by_cases e : 3 + i1.val < 2048
    · rw [dif_pos e, dif_pos (by omega)]
      exact congrArg (fun q => dpre (w8 m c i2) (uc m c i0 i2) (dc m c i0 i2) q * W m c (ix2 0 i2)) (Fin.ext (Nat.add_comm _ _))
    · rw [dif_neg e, dif_neg (by omega)]

theorem ref4 : val_main_v87 (F := Ideal) (Pr m c) (W m c) (Bi m c) (Do m c) = res4 m c := by
  funext i
  idx_vars i
  pointwise [val_main_v87, val_main_v86, val_main_v85, val_main_cst_20, val_main_v80, val_main_v79, val_main_v78, val_main_v77, val_main_v74,
    val_main_v73, val_main_v72, val_main_v69, val_main_v68, val_main_v67, val_main_v66, val_main_v63, val_main_v62, val_main_v61,
    val_main_v58, val_main_v57, val_main_v56, val_main_v55, val_main_v52, val_main_v51, val_main_v50, val_main_v48, val_main_v47,
    val_main_v46, val_main_v43, val_main_v42, val_main_v41, val_main_v40, val_main_v39, val_main_v38,
    val_main_cst_2, val_main_cst_3, val_main_cst_4, val_main_cst_5, val_main_cst_6, val_main_cst_8, val_main_cst_9, val_main_cst_10,
    val_main_cst_12, val_main_cst_13, val_main_cst_14, val_main_cst_16, val_main_cst_17, val_main_cst_18]
  simp only [reduce_first_two]
  pointwise
  simp only [reduce_first_two]
  pointwise
  simp only [ref_dpre m c _ _ _ hp, ref_shift0, ref_shift1, ref_shift2, ref_shift3]
  simp only [Fin.sum_univ_one]
  show _ = ∑ b : Fin 2, drow (w8 m c i1) (uc m c b i1) (dc m c b i1) i0
  by_cases h3 : i0.val = 3
  · rw [dif_pos (by omega), dif_pos (by omega), dif_neg (by omega), dif_neg (by omega), dif_neg (by omega), add_zero, add_zero, add_zero]
    refine Finset.sum_congr rfl fun b _ => ?_
    rw [drow, if_neg (by omega), if_pos h3]
    exact Finset.sum_congr rfl fun k _ => mul_comm _ _
  by_cases h2 : i0.val = 2
  · rw [dif_pos (by omega), dif_neg (by omega), dif_pos (by omega), dif_neg (by omega), dif_neg (by omega), zero_add, add_zero, add_zero]
    refine Finset.sum_congr rfl fun b _ => ?_
    rw [drow, if_neg (by omega), if_neg h3, if_neg (by omega), if_neg (by omega), if_pos h2]
    exact Finset.sum_congr rfl fun k _ => mul_comm _ _
  by_cases h1 : i0.val = 1
  · rw [dif_pos (by omega), dif_neg (by omega), dif_neg (by omega), dif_pos (by omega), dif_neg (by omega), zero_add, zero_add, add_zero]
    refine Finset.sum_congr rfl fun b _ => ?_
    rw [drow, if_neg (by omega), if_neg h3, if_neg (by omega), if_pos h1]
    exact Finset.sum_congr rfl fun k _ => mul_comm _ _
  by_cases h0 : i0.val = 0
  · rw [dif_pos (by omega), dif_neg (by omega), dif_neg (by omega), dif_neg (by omega), dif_pos (by omega), zero_add, zero_add, zero_add]
    refine Finset.sum_congr rfl fun b _ => ?_
    rw [drow, if_neg (by omega), if_neg h3, if_pos h0]
    exact Finset.sum_congr rfl fun k _ => mul_comm _ _
  by_cases h4 : i0.val = 4
  · rw [dif_neg (by omega), dif_pos (by omega)]
    refine Finset.sum_congr rfl fun b _ => ?_
    rw [drow, if_pos h4]
  · rw [dif_neg (by omega), dif_neg (by omega)]
    refine (Finset.sum_eq_zero fun b _ => ?_).symm
    rw [drow, if_neg h4, if_neg h3, if_neg h0, if_neg h1, if_neg h2]

end Cert.ConvBwd
end
-- ==== Proof.Small.Running.lean ====
/- A softmax taken over blocks of 512 scores, one block after the other: the greatest score so far, the sum of the
   exponentials less it, and the sum of the values weighted by them, each from the block before by one rescaling. -/
module

public import Idealize.ShloMosaic.Lib.Pointwise
public import Idealize.ShloMosaic.Lib.Pipeline.ValueKit.Acc

@[expose] public section
noncomputable section
namespace Cert.Running
open Idealize.ShloMosaic

/-! ## Exponentials of differences -/

theorem exp_bot_sub (x : EReal) : Ideal.exp (⊥ - x) = 0 := by
  rw [sub_eq_add_neg, EReal.bot_add]; rfl

theorem exp_sub_top (x : EReal) : Ideal.exp (x - ⊤) = 0 := by
  rw [sub_eq_add_neg, EReal.neg_top, EReal.add_bot]; rfl

theorem exp_nonneg (x : EReal) : 0 ≤ Ideal.exp x := by
  induction x with
  | bot => exact le_refl _
  | top => exact le_top
  | coe r => exact EReal.coe_nonneg.mpr (Real.exp_pos r).le

theorem exp_ne_top {x : EReal} (h : x ≠ ⊤) : Ideal.exp x ≠ ⊤ := by
  induction x with
  | bot => exact EReal.zero_ne_top
  | top => exact absurd rfl h
  | coe r => exact EReal.coe_ne_top _

theorem sub_ne_top {x y : EReal} (h : x ≤ y) : x - y ≠ ⊤ := by
  induction x <;> induction y <;> first | simp_all | skip
  exact EReal.coe_ne_top _

/-- Rescaling from one bound of a score to a greater one. -/
theorem exp_shift {x T T' : EReal} (h : x ≤ T) (h' : T ≤ T') :
    Ideal.exp (T - T') * Ideal.exp (x - T) = Ideal.exp (x - T') := by
  induction T with
  | bot =>
    obtain rfl := le_bot_iff.mp h
    rw [exp_bot_sub, exp_bot_sub, zero_mul]
  | top =>
    obtain rfl := top_le_iff.mp h'
    rw [exp_sub_top, exp_sub_top, zero_mul]
  | coe t =>
    induction x with
    | bot => rw [exp_bot_sub, exp_bot_sub, mul_zero]
    | top => exact absurd (top_le_iff.mp h) (EReal.coe_ne_top _)
    | coe r =>
      induction T' with
      | bot => exact absurd (le_bot_iff.mp h') (EReal.coe_ne_bot _)
      | top => rw [exp_sub_top, exp_sub_top, zero_mul]
      | coe u =>
        rw [← EReal.coe_sub, ← EReal.coe_sub, ← EReal.coe_sub]
        show (Real.exp (t - u) : EReal) * (Real.exp (r - t) : EReal) = (Real.exp (r - u) : EReal)
        rw [← EReal.coe_mul, ← Real.exp_add]
        congr 2
        ring

theorem mul_sum {ι : Type} {a : EReal} (h : 0 ≤ a) (h' : a ≠ ⊤) (I : Finset ι) (f : ι → EReal) :
    a * ∑ i ∈ I, f i = ∑ i ∈ I, a * f i := by
  classical
  induction I using Finset.induction_on with
  | empty => simp
  | insert i I hi ih => rw [Finset.sum_insert hi, Finset.sum_insert hi, EReal.left_distrib_of_nonneg_of_ne_top h h', ih]

/-! ## Block after block -/

variable (s v : ℕ → Fin 512 → EReal)

/-- The greatest score of the first `n` blocks. -/
def top (n : ℕ) : EReal := (Finset.range n).sup fun b => Finset.univ.sup (s b)
/-- The sum of the exponentials of the first `n` blocks, each less the greatest score of these. -/
def tot (n : ℕ) : EReal := ∑ b ∈ Finset.range n, ∑ k, Ideal.exp (s b k - top s n)
/-- The values of the first `n` blocks, weighted by these exponentials. -/
def acc (n : ℕ) : EReal := ∑ b ∈ Finset.range n, ∑ k, Ideal.exp (s b k - top s n) * v b k

theorem top_zero : top s 0 = ⊥ := rfl
theorem tot_zero : tot s 0 = 0 := rfl
theorem acc_zero : acc s v 0 = 0 := rfl

theorem le_top {b n : ℕ} (h : b < n) (k : Fin 512) : s b k ≤ top s n :=
  (Finset.le_sup (f := s b) (Finset.mem_univ k)).trans
    (Finset.le_sup (f := fun b => Finset.univ.sup (s b)) (Finset.mem_range.mpr h))

theorem top_succ (n : ℕ) : top s (n + 1) = max (top s n) (Finset.univ.fold max ⊥ (s n)) := by
  unfold top
  rw [Finset.range_add_one, Finset.sup_insert, sup_comm]
  rfl

theorem top_mono (n : ℕ) : top s n ≤ top s (n + 1) := by
  rw [top_succ]; exact le_max_left _ _

/-- The factor that takes the sums over to the next block. -/
def fac (n : ℕ) : EReal := Ideal.exp (top s n - top s (n + 1))

theorem fac_nonneg (n : ℕ) : 0 ≤ fac s n := exp_nonneg _
theorem fac_ne_top (n : ℕ) : fac s n ≠ ⊤ := exp_ne_top (sub_ne_top (top_mono s n))

theorem tot_succ (n : ℕ) : tot s (n + 1) = fac s n * tot s n + ∑ k, Ideal.exp (s n k - top s (n + 1)) := by
  unfold tot
  rw [Finset.sum_range_succ, mul_sum (fac_nonneg s n) (fac_ne_top s n)]
  congr 1
  refine Finset.sum_congr rfl fun b hb => ?_
  rw [mul_sum (fac_nonneg s n) (fac_ne_top s n)]
  exact Finset.sum_congr rfl fun k _ => (exp_shift (le_top s (Finset.mem_range.mp hb) k) (top_mono s n)).symm

theorem acc_succ (n : ℕ) :
    acc s v (n + 1) = fac s n * acc s v n + ∑ k, Ideal.exp (s n k - top s (n + 1)) * v n k := by
  unfold acc
  rw [Finset.sum_range_succ, mul_sum (fac_nonneg s n) (fac_ne_top s n)]
  congr 1
  refine Finset.sum_congr rfl fun b hb => ?_
  rw [mul_sum (fac_nonneg s n) (fac_ne_top s n)]
  refine Finset.sum_congr rfl fun k _ => ?_
  rw [← mul_assoc]
  exact congrArg (· * v b k) (exp_shift (le_top s (Finset.mem_range.mp hb) k) (top_mono s n)).symm

/-! ## Blocks that the mask hides do not count -/

section
variable {s} {n N : ℕ} (h : n ≤ N) (hs : ∀ b, n ≤ b → b < N → ∀ k, s b k = ⊥)
include h hs

theorem top_stays : top s N = top s n := by
  refine le_antisymm (Finset.sup_le fun b hb => Finset.sup_le fun k _ => ?_)
    (Finset.sup_mono (Finset.range_subset_range.mpr h))
  by_cases hb' : b < n
  · exact le_top s hb' k
  · rw [hs b (by omega) (Finset.mem_range.mp hb) k]; exact bot_le

theorem tot_stays : tot s N = tot s n := by
  unfold tot
  rw [top_stays h hs]
  refine (Finset.sum_subset (Finset.range_subset_range.mpr h) fun b hN hb => ?_).symm
  refine Finset.sum_eq_zero fun k _ => ?_
  rw [hs b (by simpa using hb) (Finset.mem_range.mp hN) k, exp_bot_sub]

theorem acc_stays : acc s v N = acc s v n := by
  unfold acc
  rw [top_stays h hs]
  refine (Finset.sum_subset (Finset.range_subset_range.mpr h) fun b hN hb => ?_).symm
  refine Finset.sum_eq_zero fun k _ => ?_
  rw [hs b (by simpa using hb) (Finset.mem_range.mp hN) k, exp_bot_sub, zero_mul]
end

/-! ## The blocks of a row -/

/-- A row of 2048 in blocks of 512. -/
def cutRow (σ : Fin 2048 → EReal) (b : ℕ) (k : Fin 512) : EReal := σ ⟨(b * 512 + k.val) % 2048, Nat.mod_lt _ (by omega)⟩

variable (σ w : Fin 2048 → EReal)

theorem cutRow_eq (C : Fin 2048) : cutRow σ (C.val / 512) ⟨C.val % 512, Nat.mod_lt _ (by omega)⟩ = σ C := by
  unfold cutRow
  congr 1
  exact Fin.ext (by dsimp only; omega)

theorem sum_blocks (f : Fin 2048 → EReal) : ∑ b ∈ Finset.range 4, ∑ k, cutRow f b k = ∑ C, f C := by
  rw [Finset.sum_range]
  refine Eq.trans ?_ (Fin.sum_mul_add_fin 4 512 f)
  refine Finset.sum_congr rfl fun j _ => Finset.sum_congr rfl fun y _ => ?_
  unfold cutRow
  congr 1
  exact Fin.ext (by dsimp only; omega)

theorem top_row : top (cutRow σ) 4 = Finset.univ.fold max ⊥ σ := by
  show _ = Finset.univ.sup σ
  refine le_antisymm (Finset.sup_le fun b _ => Finset.sup_le fun k _ => Finset.le_sup (f := σ) (Finset.mem_univ _)) ?_
  refine Finset.sup_le fun C _ => ?_
  rw [← cutRow_eq σ C]
  exact le_top _ (by omega) _

theorem tot_row : tot (cutRow σ) 4 = ∑ C, Ideal.exp (σ C - Finset.univ.fold max ⊥ σ) := by
  unfold tot
  rw [top_row]
  exact sum_blocks fun C => Ideal.exp (σ C - Finset.univ.fold max ⊥ σ)

theorem acc_row : acc (cutRow σ) (cutRow w) 4 = ∑ C, Ideal.exp (σ C - Finset.univ.fold max ⊥ σ) * w C := by
  unfold acc
  rw [top_row]
  exact sum_blocks fun C => Ideal.exp (σ C - Finset.univ.fold max ⊥ σ) * w C

end Cert.Running
end
-- ==== Proof.Small.MlaFwd.lean ====
/- The attention's forward call. -/
module

public import proofs.«01_k».proof.Proof.Gen.Kernel26Ideal.Value
public import proofs.«01_k».proof.Proof.Precondition
public import proofs.«01_k».proof.Proof.Tie
public import proofs.«01_k».proof.Proof.Small.Running
public import Idealize.ShloMosaic.Lib.Pipeline.ReadBack
public import Idealize.ShloMosaic.Lib.WordCmp
public import proofs.«01_k».proof.Proof.Gen.Reference26Ideal.Run
public import proofs.«01_k».proof.Proof.Gen.Reference26Ideal.Read
public import proofs.«01_k».proof.Proof.Gen.Pre_mla_fwd_finite

@[expose] public section
set_option maxRecDepth 16384
noncomputable section
namespace Cert.MlaFwd
open Idealize.ShloMosaic Idealize.ShloMosaic.WordCmp Idealize.SL.Sem Cert.Kernel26Ideal Cert.Kernel26Ideal.Gen
open Attn (scale colQ colV colO)

/-! ## What one visit computes from its blocks -/

section
variable (q k : Vec Ideal S1x512x256 .bf16) (v : Vec Ideal S1x512x128 .f32) (p l : Vec Ideal S512x1 .f32) (a : Vec Ideal S512x128 .f32)

/-- The score of key row `c` in query row `r`. -/
def score (r c : Fin 512) : EReal := (∑ d : Fin 256, q (ix3 0 r d) * k (ix3 0 c d)) * scale

/-- The greatest score so far, the sum and the weighted values, as one more block with the scores `x` and the values `w`
    makes them. -/
def newTop (x : Fin 512 → EReal) (p : EReal) : EReal := max p (Finset.univ.fold max ⊥ x)
def newTot (x : Fin 512 → EReal) (p l : EReal) : EReal :=
  Ideal.exp (p - newTop x p) * l + ∑ c, Ideal.exp (x c - newTop x p)
def newAcc (x w : Fin 512 → EReal) (p a : EReal) : EReal :=
  Ideal.exp (p - newTop x p) * a + ∑ c, Ideal.exp (x c - newTop x p) * w c

theorem mask_named : Named.named (F := Ideal) κ "mask" (φ := .f32) 0xF149F2CA#32 = (⊥ : EReal) :=
  IdealRules.named_const.ideal_named_scalar _ _ _ _ rfl

theorem pay1_apply (r : Fin 512) : k0_pay1 (F := Ideal) (ix2 r 0) = (⊥ : EReal) := by
  pointwise [k0_pay1, mask_named]

theorem pay2_apply (r : Fin 512) : k0_pay2 (F := Ideal) (ix2 r 0) = (0 : EReal) := by
  pointwise [k0_pay2]

theorem pay3_apply (r : Fin 512) (d : Fin 128) : k0_pay3 (F := Ideal) (ix2 r d) = (0 : EReal) := by
  pointwise [k0_pay3]

theorem pay10_apply (r c : Fin 512) : k0_pay10 (F := Ideal) q k (ix2 r c) = score q k r c := by
  pointwise [k0_pay10, score]

theorem pay11_apply (r : Fin 512) : k0_pay11 (F := Ideal) q k p (ix2 r 0) = newTop (score q k r) (p (ix2 r 0)) := by
  pointwise [k0_pay11, pay10_apply, newTop]
  rw [Attn.ofBits_bot]

theorem pay5_apply (r : Fin 512) : k0_pay5 (F := Ideal) p (ix2 r 0) = p (ix2 r 0) := by
  pointwise [k0_pay5]

theorem pay14_apply (r : Fin 512) :
    k0_pay14 (F := Ideal) q k p l (ix2 r 0) = newTot (score q k r) (p (ix2 r 0)) (l (ix2 r 0)) := by
  pointwise [k0_pay14, k0_pay13, k0_pay12, pay11_apply, pay10_apply, newTot]

theorem pay15_apply (r : Fin 512) (d : Fin 128) :
    k0_pay4 (F := Ideal) (k0_pay15 q k p a v) (ix2 r d)
      = newAcc (score q k r) (fun c => v (ix3 0 c d)) (p (ix2 r 0)) (a (ix2 r d)) := by
  pointwise [k0_pay4, k0_pay15, k0_pay13, k0_pay12, pay11_apply, pay10_apply, newAcc]

/-- The score on the diagonal: hidden after the query's own row. -/
def low (r c : Fin 512) : EReal := if c ≤ r then score q k r c else ⊥

section
variable (i j : BitVec 32) (n : Nat) (hn : n < 4) (hi : i = BitVec.ofNat 32 n) (hj : j = BitVec.ofNat 32 n)
include hn hi hj

theorem pay16_apply (r c : Fin 512) : k0_pay16 (F := Ideal) i j q k (ix2 r c) = low q k r c := by
  subst hi hj
  pointwise [k0_pay16, score, low, Attn.mask_eq n hn, mask_named]
  by_cases h : c ≤ r <;> simp [h, Scalar.select]

theorem pay17_apply (r : Fin 512) : k0_pay17 (F := Ideal) i j q k p (ix2 r 0) = newTop (low q k r) (p (ix2 r 0)) := by
  pointwise [k0_pay17, pay16_apply q k i j n hn hi hj, newTop]
  rw [Attn.ofBits_bot]

theorem pay20_apply (r : Fin 512) :
    k0_pay20 (F := Ideal) i j q k p l (ix2 r 0) = newTot (low q k r) (p (ix2 r 0)) (l (ix2 r 0)) := by
  pointwise [k0_pay20, k0_pay19, k0_pay18, pay17_apply q k p i j n hn hi hj, pay16_apply q k i j n hn hi hj, newTot]

theorem pay21_apply (r : Fin 512) (d : Fin 128) :
    k0_pay6 (F := Ideal) (k0_pay18 i j q k p) (k0_pay21 i j q k p a) v (ix2 r d)
      = newAcc (low q k r) (fun c => v (ix3 0 c d)) (p (ix2 r 0)) (a (ix2 r d)) := by
  pointwise [k0_pay6, k0_pay21, k0_pay19, k0_pay18, pay17_apply q k p i j n hn hi hj, pay16_apply q k i j n hn hi hj, newAcc]
end

theorem pay7_apply (r : Fin 512) : k0_pay7 (F := Ideal) p (ix2 r 0) = p (ix2 r 0) := by
  pointwise [k0_pay7]

theorem pay8_apply (r : Fin 512) (d : Fin 128) :
    k0_pay8 (F := Ideal) a l (ix3 0 r d) = Ideal.div (a (ix2 r d)) (l (ix2 r 0)) := by
  pointwise [k0_pay8]

theorem pay9_apply (r : Fin 512) :
    k0_pay9 (F := Ideal) p l (ix4 0 0 r 0) = p (ix2 r 0) + Ideal.log (l (ix2 r 0)) := by
  pointwise [k0_pay9]
end

/-! ## What each visit leaves in the three running arrays -/

variable (m : (ℓ : Loc nD τ sig) → Buf (Elt Ideal) ℓ) (c : Dev nD) (t : Fin cfg0.N)

theorem N_lt : t.val < 256 := lt_of_lt_of_eq t.isLt N_0

theorem coords2 : (grid0.coords t 2).val = t.val / 4 % 4 := Pipeline.Grid.coords_val t 2 (by decide) rfl
theorem coords3 : (grid0.coords t 3).val = t.val % 4 := by
  have e : (grid0.coords t 3).val = t.val / 1 % 4 := Pipeline.Grid.coords_val t 3 (by decide) rfl
  rw [e, Nat.div_one]

theorem word2 (h : t.val / 4 % 4 = t.val % 4) : BitVec.ofNat 32 (grid0.coords t 2).val = BitVec.ofNat 32 (t.val % 4) := by
  rw [coords2, h]
theorem word3 : BitVec.ofNat 32 (grid0.coords t 3).val = BitVec.ofNat 32 (t.val % 4) := by
  rw [coords3]
theorem lt4 : t.val % 4 < 4 := Nat.mod_lt _ (by omega)

/-- The point's scores in one query row: hidden where the key row comes after the query's own. -/
def tile (r y : Fin 512) : EReal :=
  if (t.val % 4) * 512 + y.val ≤ (t.val / 4 % 4) * 512 + r.val then score (iblk m c 0 t) (iblk m c 1 t) r y else ⊥

theorem tile_below (h : t.val % 4 + 1 ≤ t.val / 4 % 4) (r : Fin 512) : score (iblk m c 0 t) (iblk m c 1 t) r = tile m c t r := by
  funext y
  unfold tile
  rw [if_pos (by omega)]

theorem tile_on (h : t.val / 4 % 4 = t.val % 4) (r : Fin 512) : low (iblk m c 0 t) (iblk m c 1 t) r = tile m c t r := by
  funext y
  unfold tile low
  rw [h]
  simp only [Nat.add_le_add_iff_left, Fin.val_fin_le]

/-- The three running arrays after a point. -/
def tops (n : ℕ) (h : n < cfg0.N) (r : Fin 512) : EReal := (outsAt0 m c n h).2.2.1 (ix2 r 0)
def tots (n : ℕ) (h : n < cfg0.N) (r : Fin 512) : EReal := (outsAt0 m c n h).2.2.2.1 (ix2 r 0)
def accs (n : ℕ) (h : n < cfg0.N) (r : Fin 512) (d : Fin 128) : EReal := (outsAt0 m c n h).2.2.2.2 (ix2 r d)

/-- The point's values in one column. -/
def vals (d : Fin 128) (y : Fin 512) : EReal := (iblk m c 2 t : Vec Ideal S1x512x128 .f32) (ix3 0 y d)

/-- The point takes the three arrays from the given rows to those with one more block. -/
structure Visit (p l : Fin 512 → EReal) (a : Fin 512 → Fin 128 → EReal) : Prop where
  top : ∀ r, tops m c t.val t.isLt r = newTop (tile m c t r) (p r)
  tot : ∀ r, tots m c t.val t.isLt r = newTot (tile m c t r) (p r) (l r)
  acc : ∀ r d, accs m c t.val t.isLt r d = newAcc (tile m c t r) (vals m c t d) (p r) (a r d)

theorem visit_first (h0 : t.val % 4 = 0) : Visit m c t (fun _ => ⊥) (fun _ => 0) (fun _ _ => 0) := by
  by_cases h2 : t.val / 4 % 4 = t.val % 4
  · have e := tile_on m c t h2
    refine ⟨fun r => ?_, fun r => ?_, fun r d => ?_⟩
    · unfold tops
      rw [outsAt0_A m c t h0 (by omega) h2 (by omega)]
      frame_out
      rw [pay7_apply, pay17_apply _ _ _ _ _ (t.val % 4) (lt4 t) (word2 t h2) (word3 t), pay1_apply, e]
    · unfold tots
      rw [outsAt0_A m c t h0 (by omega) h2 (by omega)]
      frame_out
      rw [pay20_apply _ _ _ _ _ _ (t.val % 4) (lt4 t) (word2 t h2) (word3 t), pay1_apply, pay2_apply, e]
    · unfold accs
      rw [outsAt0_A m c t h0 (by omega) h2 (by omega)]
      frame_out
      rw [pay21_apply _ _ _ _ _ _ _ (t.val % 4) (lt4 t) (word2 t h2) (word3 t), pay1_apply, pay3_apply, e]
      rfl
  · have h1 : t.val % 4 + 1 ≤ t.val / 4 % 4 := by omega
    have e := tile_below m c t h1
    refine ⟨fun r => ?_, fun r => ?_, fun r d => ?_⟩
    · unfold tops
      rw [outsAt0_D m c t h0 h1 h2 (by omega)]
      frame_out
      rw [pay5_apply, pay11_apply, pay1_apply, e]
    · unfold tots
      rw [outsAt0_D m c t h0 h1 h2 (by omega)]
      frame_out
      rw [pay14_apply, pay1_apply, pay2_apply, e]
    · unfold accs
      rw [outsAt0_D m c t h0 h1 h2 (by omega)]
      frame_out
      rw [pay15_apply, pay1_apply, pay3_apply, e]
      rfl

theorem before_lt : t.val - 1 < cfg0.N := Nat.lt_of_le_of_lt (Nat.sub_le _ _) t.isLt

theorem visit_next (h0 : ¬t.val % 4 = 0) (h : t.val % 4 ≤ t.val / 4 % 4) :
    Visit m c t (tops m c (t.val - 1) (before_lt t)) (tots m c (t.val - 1) (before_lt t)) (accs m c (t.val - 1) (before_lt t)) := by
  by_cases h2 : t.val / 4 % 4 = t.val % 4
  · have e := tile_on m c t h2
    by_cases h3 : t.val % 4 = 3
    · refine ⟨fun r => ?_, fun r => ?_, fun r d => ?_⟩
      · unfold tops
        rw [outsAt0_G m c t h0 (by omega) h2 h3]
        frame_out
        rw [pay7_apply, pay17_apply _ _ _ _ _ (t.val % 4) (lt4 t) (word2 t h2) (word3 t), read_unread_whole, e]
      · unfold tots
        rw [outsAt0_G m c t h0 (by omega) h2 h3]
        frame_out
        rw [pay20_apply _ _ _ _ _ _ (t.val % 4) (lt4 t) (word2 t h2) (word3 t), read_unread_whole, read_unread_whole, e]
        rfl
      · unfold accs
        rw [outsAt0_G m c t h0 (by omega) h2 h3]
        frame_out
        rw [pay21_apply _ _ _ _ _ _ _ (t.val % 4) (lt4 t) (word2 t h2) (word3 t), read_unread_whole, read_unread_whole, e]
        rfl
    · refine ⟨fun r => ?_, fun r => ?_, fun r d => ?_⟩
      · unfold tops
        rw [outsAt0_E m c t h0 (by omega) h2 h3]
        frame_out
        rw [pay7_apply, pay17_apply _ _ _ _ _ (t.val % 4) (lt4 t) (word2 t h2) (word3 t), read_unread_whole, e]
      · unfold tots
        rw [outsAt0_E m c t h0 (by omega) h2 h3]
        frame_out
        rw [pay20_apply _ _ _ _ _ _ (t.val % 4) (lt4 t) (word2 t h2) (word3 t), read_unread_whole, read_unread_whole, e]
        rfl
      · unfold accs
        rw [outsAt0_E m c t h0 (by omega) h2 h3]
        frame_out
        rw [pay21_apply _ _ _ _ _ _ _ (t.val % 4) (lt4 t) (word2 t h2) (word3 t), read_unread_whole, read_unread_whole, e]
        rfl
  · have h1 : t.val % 4 + 1 ≤ t.val / 4 % 4 := by omega
    have e := tile_below m c t h1
    refine ⟨fun r => ?_, fun r => ?_, fun r d => ?_⟩
    · unfold tops
      rw [outsAt0_F m c t h0 h1 h2 (by omega)]
      frame_out
      rw [pay5_apply, pay11_apply, read_unread_whole, e]
    · unfold tots
      rw [outsAt0_F m c t h0 h1 h2 (by omega)]
      frame_out
      rw [pay14_apply, read_unread_whole, read_unread_whole, e]
      rfl
    · unfold accs
      rw [outsAt0_F m c t h0 h1 h2 (by omega)]
      frame_out
      rw [pay15_apply, read_unread_whole, read_unread_whole, e]
      rfl

/-- Past the diagonal a point changes nothing. -/
theorem visit_past (h : t.val / 4 % 4 < t.val % 4) :
    (outsAt0 m c t.val t.isLt).2.2 = (outsAt0 m c (t.val - 1) (before_lt t)).2.2 := by
  by_cases h3 : t.val % 4 = 3
  · rw [outsAt0_C m c t (by omega) (by omega) (by omega) h3]
    rfl
  · rw [outsAt0_B m c t (by omega) (by omega) (by omega) h3]
    rfl

/-- What the last point of a run writes back. -/
theorem out3 (h3 : t.val % 4 = 3) (r : Fin 512) (d : Fin 128) :
    (outsAt0 m c t.val t.isLt).1 (ix3 0 r d) = Ideal.div (accs m c t.val t.isLt r d) (tots m c t.val t.isLt r) := by
  unfold accs tots
  by_cases h2 : t.val / 4 % 4 = t.val % 4
  · rw [outsAt0_G m c t (by omega) (by omega) h2 h3]
    frame_out
    rw [pay8_apply]
  · rw [outsAt0_C m c t (by omega) (by omega) h2 h3]
    frame_out
    rw [pay8_apply, read_unread_whole, read_unread_whole]
    rfl

theorem out4 (h3 : t.val % 4 = 3) (r : Fin 512) :
    (outsAt0 m c t.val t.isLt).2.1 (ix4 0 0 r 0) = tops m c t.val t.isLt r + Ideal.log (tots m c t.val t.isLt r) := by
  unfold tops tots
  by_cases h2 : t.val / 4 % 4 = t.val % 4
  · rw [outsAt0_G m c t (by omega) (by omega) h2 h3]
    frame_out
    rw [pay9_apply]
  · rw [outsAt0_C m c t (by omega) (by omega) h2 h3]
    frame_out
    rw [pay9_apply, read_unread_whole, read_unread_whole]
    rfl

/-! ## The blocks of a point, in the arrays -/

/-- The arrays that the kernel is given. -/
def Qm : Vec Ideal S2x2048x2048 .bf16 := V m c main_v2
def Km : Vec Ideal S2x2048x2048 .bf16 := V m c main_v5
def KVm : Vec Ideal S2x2048x2048 .f32 := V m c main_v6

/-- The batch, the head, and the places of a row of the point's query block and of its key block. -/
abbrev bOf : Fin 2 := ⟨t.val / 128, by have := N_lt t; omega⟩
abbrev hOf : Fin 8 := ⟨t.val / 16 % 8, by omega⟩
abbrev rowQ (x : Fin 512) : Fin 2048 := ⟨(t.val / 4 % 4) * 512 + x.val, by omega⟩
abbrev rowK (y : Fin 512) : Fin 2048 := ⟨(t.val % 4) * 512 + y.val, by omega⟩

theorem idx0 : ∀ t : Fin cfg0.N, win0_0.index t = ![t.val / 128, t.val / 4 % 4, t.val / 16 % 8] := by decide +kernel
theorem idx1 : ∀ t : Fin cfg0.N, win0_1.index t = ![t.val / 128, min (t.val / 4 % 4) (t.val % 4), t.val / 16 % 8] := by
  decide +kernel
theorem idx2 : ∀ t : Fin cfg0.N, win0_2.index t = ![t.val / 128, min (t.val / 4 % 4) (t.val % 4), t.val / 16 % 8 * 2 + 1] := by
  decide +kernel
theorem idx3 : ∀ t : Fin cfg0.N, win0_3.index t = ![t.val / 128, t.val / 4 % 4, t.val / 16 % 8] := by decide +kernel
theorem idx4 : ∀ t : Fin cfg0.N, win0_4.index t = ![t.val / 128, t.val / 16 % 8, t.val / 4 % 4, 0] := by decide +kernel

theorem read0 (X : Vec Ideal S2x2048x2048 .bf16) (x : Fin 512) (d : Fin 256) :
    (((cfg0.win 0).blk t).view.read (Elt Ideal) X : Vec Ideal S1x512x256 .bf16) (ix3 0 x d) = X (ix3 (bOf t) (rowQ t x) (colQ (hOf t) d)) := by
  blk_ext [idx0 t]

theorem blk0 (x : Fin 512) (d : Fin 256) : (iblk m c 0 t : Vec Ideal S1x512x256 .bf16) (ix3 0 x d) = Qm m c (ix3 (bOf t) (rowQ t x) (colQ (hOf t) d)) :=
  read0 t (Qm m c) x d

theorem read1 (X : Vec Ideal S2x2048x2048 .bf16) (h : t.val % 4 ≤ t.val / 4 % 4) (y : Fin 512) (d : Fin 256) :
    (((cfg0.win 1).blk t).view.read (Elt Ideal) X : Vec Ideal S1x512x256 .bf16) (ix3 0 y d) = X (ix3 (bOf t) (rowK t y) (colQ (hOf t) d)) := by
  blk_ext [idx1 t, min_eq_right h]

theorem blk1 (h : t.val % 4 ≤ t.val / 4 % 4) (y : Fin 512) (d : Fin 256) : (iblk m c 1 t : Vec Ideal S1x512x256 .bf16) (ix3 0 y d) = Km m c (ix3 (bOf t) (rowK t y) (colQ (hOf t) d)) :=
  read1 t (Km m c) h y d

theorem read2 (X : Vec Ideal S2x2048x2048 .f32) (h : t.val % 4 ≤ t.val / 4 % 4) (y : Fin 512) (d : Fin 128) :
    (((cfg0.win 2).blk t).view.read (Elt Ideal) X : Vec Ideal S1x512x128 .f32) (ix3 0 y d) = X (ix3 (bOf t) (rowK t y) (colV (hOf t) d)) := by
  blk_ext [idx2 t, min_eq_right h]

theorem blk2 (h : t.val % 4 ≤ t.val / 4 % 4) (y : Fin 512) (d : Fin 128) : (iblk m c 2 t : Vec Ideal S1x512x128 .f32) (ix3 0 y d) = KVm m c (ix3 (bOf t) (rowK t y) (colV (hOf t) d)) :=
  read2 t (KVm m c) h y d

/-! ## The running arrays, in the rows of the scores -/

/-- The scores of one query row, hidden after its own place. -/
def rowS (Q K : Vec Ideal S2x2048x2048 .bf16) (b : Fin 2) (h : Fin 8) (R C : Fin 2048) : EReal :=
  if C.val ≤ R.val then (∑ d : Fin 256, Q (ix3 b R (colQ h d)) * K (ix3 b C (colQ h d))) * scale else ⊥

/-- One column of a head's values. -/
def colW (W : Vec Ideal S2x2048x2048 .f32) (b : Fin 2) (h : Fin 8) (d : Fin 128) (C : Fin 2048) : EReal :=
  W (ix3 b C (colV h d))

/-- The row's scores and the column's values, in blocks. -/
def cutS (r : Fin 512) : ℕ → Fin 512 → EReal := Running.cutRow (rowS (Qm m c) (Km m c) (bOf t) (hOf t) (rowQ t r))
def cutW (d : Fin 128) : ℕ → Fin 512 → EReal := Running.cutRow (colW (KVm m c) (bOf t) (hOf t) d)

theorem tile_eq (h : t.val % 4 ≤ t.val / 4 % 4) (r : Fin 512) : tile m c t r = cutS m c t r (t.val % 4) := by
  funext y
  have e : (⟨(t.val % 4 * 512 + y.val) % 2048, Nat.mod_lt _ (by omega)⟩ : Fin 2048) = rowK t y := Fin.ext (by dsimp only; omega)
  unfold tile cutS Running.cutRow rowS score
  rw [e]
  simp only [blk0 m c t, blk1 m c t h]

theorem vals_eq (h : t.val % 4 ≤ t.val / 4 % 4) (d : Fin 128) : vals m c t d = cutW m c t d (t.val % 4) := by
  funext y
  have e : (⟨(t.val % 4 * 512 + y.val) % 2048, Nat.mod_lt _ (by omega)⟩ : Fin 2048) = rowK t y := Fin.ext (by dsimp only; omega)
  unfold vals cutW Running.cutRow colW
  rw [e]
  exact blk2 m c t h y d

theorem newTop_eq (s : ℕ → Fin 512 → EReal) (n : ℕ) : newTop (s n) (Running.top s n) = Running.top s (n + 1) :=
  (Running.top_succ s n).symm

theorem newTot_eq (s : ℕ → Fin 512 → EReal) (n : ℕ) :
    newTot (s n) (Running.top s n) (Running.tot s n) = Running.tot s (n + 1) := by
  unfold newTot
  rw [newTop_eq, Running.tot_succ]
  rfl

theorem newAcc_eq (s w : ℕ → Fin 512 → EReal) (n : ℕ) :
    newAcc (s n) (w n) (Running.top s n) (Running.acc s w n) = Running.acc s w (n + 1) := by
  unfold newAcc
  rw [newTop_eq, Running.acc_succ]
  rfl

/-- How many blocks of the row have been taken after a point. -/
def taken : ℕ := min (t.val / 4 % 4) (t.val % 4) + 1

/-- After each point the running arrays hold what the blocks taken so far come to. -/
structure Holds : Prop where
  top : ∀ r, tops m c t.val t.isLt r = Running.top (cutS m c t r) (taken t)
  tot : ∀ r, tots m c t.val t.isLt r = Running.tot (cutS m c t r) (taken t)
  acc : ∀ r d, accs m c t.val t.isLt r d = Running.acc (cutS m c t r) (cutW m c t d) (taken t)

/-- The point before. -/
abbrev prev : Fin cfg0.N := ⟨t.val - 1, before_lt t⟩

theorem cutS_prev (h0 : ¬t.val % 4 = 0) (r : Fin 512) : cutS m c (prev t) r = cutS m c t r := by
  have e1 : bOf (prev t) = bOf t := Fin.ext (by dsimp only; omega)
  have e2 : hOf (prev t) = hOf t := Fin.ext (by dsimp only; omega)
  have e3 : rowQ (prev t) r = rowQ t r := Fin.ext (by dsimp only; omega)
  unfold cutS
  rw [e1, e2, e3]

theorem cutW_prev (h0 : ¬t.val % 4 = 0) (d : Fin 128) : cutW m c (prev t) d = cutW m c t d := by
  have e1 : bOf (prev t) = bOf t := Fin.ext (by dsimp only; omega)
  have e2 : hOf (prev t) = hOf t := Fin.ext (by dsimp only; omega)
  unfold cutW
  rw [e1, e2]

theorem holds_first (h0 : t.val % 4 = 0) : Holds m c t := by
  have v := visit_first m c t h0
  have h : t.val % 4 ≤ t.val / 4 % 4 := by omega
  have n1 : taken t = 0 + 1 := by unfold taken; omega
  refine ⟨fun r => ?_, fun r => ?_, fun r d => ?_⟩
  · rw [v.top, tile_eq m c t h, h0, n1]
    exact newTop_eq _ _
  · rw [v.tot, tile_eq m c t h, h0, n1]
    exact newTot_eq _ _
  · rw [v.acc, tile_eq m c t h, vals_eq m c t h, h0, n1]
    exact newAcc_eq _ _ _

theorem holds_next (h0 : ¬t.val % 4 = 0) (H : Holds m c (prev t)) : Holds m c t := by
  by_cases h : t.val % 4 ≤ t.val / 4 % 4
  · have v := visit_next m c t h0 h
    have n0 : taken (prev t) = t.val % 4 := by unfold taken; dsimp only; omega
    have n1 : taken t = t.val % 4 + 1 := by unfold taken; omega
    have a := H.top; have b := H.tot; have d := H.acc
    rw [n0] at a b d
    refine ⟨fun r => ?_, fun r => ?_, fun r j => ?_⟩
    · rw [v.top, tile_eq m c t h, n1, a, cutS_prev m c t h0]
      exact newTop_eq _ _
    · rw [v.tot, tile_eq m c t h, n1, a, b, cutS_prev m c t h0]
      exact newTot_eq _ _
    · rw [v.acc, tile_eq m c t h, vals_eq m c t h, n1, a, d, cutS_prev m c t h0, cutW_prev m c t h0]
      exact newAcc_eq _ _ _
  · have e := visit_past m c t (by omega)
    have n0 : taken (prev t) = taken t := by unfold taken; dsimp only; omega
    have a := H.top; have b := H.tot; have d := H.acc
    rw [n0] at a b d
    refine ⟨fun r => ?_, fun r => ?_, fun r j => ?_⟩
    · rw [← cutS_prev m c t h0, ← a]
      exact congrArg (fun x : Vec Ideal S512x1 .f32 × Vec Ideal S512x1 .f32 × Vec Ideal S512x128 .f32 => x.1 (ix2 r 0)) e
    · rw [← cutS_prev m c t h0, ← b]
      exact congrArg (fun x : Vec Ideal S512x1 .f32 × Vec Ideal S512x1 .f32 × Vec Ideal S512x128 .f32 => x.2.1 (ix2 r 0)) e
    · rw [← cutS_prev m c t h0, ← cutW_prev m c t h0, ← d]
      exact congrArg (fun x : Vec Ideal S512x1 .f32 × Vec Ideal S512x1 .f32 × Vec Ideal S512x128 .f32 => x.2.2 (ix2 r j)) e

theorem holds (n : ℕ) (h : n < cfg0.N) : Holds m c ⟨n, h⟩ := by
  induction n with
  | zero => exact holds_first m c ⟨0, h⟩ rfl
  | succ n ih =>
    by_cases h0 : (n + 1) % 4 = 0
    · exact holds_first m c ⟨n + 1, h⟩ h0
    · exact holds_next m c ⟨n + 1, h⟩ h0 (ih (Nat.lt_of_succ_lt h))

/-! ## The two arrays, row by row -/

variable (Q K : Vec Ideal S2x2048x2048 .bf16) (W : Vec Ideal S2x2048x2048 .f32)

/-- A row's greatest score, its sum of exponentials, and the values weighted by these. -/
def rowT (b : Fin 2) (h : Fin 8) (R : Fin 2048) : EReal := Finset.univ.fold max ⊥ (rowS Q K b h R)
def rowL (b : Fin 2) (h : Fin 8) (R : Fin 2048) : EReal := ∑ C, Ideal.exp (rowS Q K b h R C - rowT Q K b h R)
def rowA (b : Fin 2) (h : Fin 8) (R : Fin 2048) (d : Fin 128) : EReal :=
  ∑ C, Ideal.exp (rowS Q K b h R C - rowT Q K b h R) * colW W b h d C

theorem hidden (h3 : t.val % 4 = 3) (r : Fin 512) (b : ℕ) (h : taken t ≤ b) (h4 : b < 4) (k : Fin 512) : cutS m c t r b k = ⊥ := by
  unfold taken at h
  unfold cutS Running.cutRow rowS
  rw [if_neg (by dsimp only; omega)]

theorem last_top (h3 : t.val % 4 = 3) (r : Fin 512) :
    tops m c t.val t.isLt r = rowT (Qm m c) (Km m c) (bOf t) (hOf t) (rowQ t r) := by
  rw [(holds m c t.val t.isLt).top]
  refine Eq.trans ?_ (Running.top_row _)
  exact (Running.top_stays (by unfold taken; omega) (hidden m c t h3 r)).symm

theorem last_tot (h3 : t.val % 4 = 3) (r : Fin 512) :
    tots m c t.val t.isLt r = rowL (Qm m c) (Km m c) (bOf t) (hOf t) (rowQ t r) := by
  rw [(holds m c t.val t.isLt).tot]
  refine Eq.trans ?_ (Running.tot_row _)
  exact (Running.tot_stays (by unfold taken; omega) (hidden m c t h3 r)).symm

theorem last_acc (h3 : t.val % 4 = 3) (r : Fin 512) (d : Fin 128) :
    accs m c t.val t.isLt r d = rowA (Qm m c) (Km m c) (KVm m c) (bOf t) (hOf t) (rowQ t r) d := by
  rw [(holds m c t.val t.isLt).acc]
  refine Eq.trans ?_ (Running.acc_row _ _)
  exact (Running.acc_stays _ (by unfold taken; omega) (hidden m c t h3 r)).symm

/-- The output and the log-sum of a row. -/
def outO (b : Fin 2) (h : Fin 8) (R : Fin 2048) (d : Fin 128) : EReal := Ideal.div (rowA Q K W b h R d) (rowL Q K b h R)
def outL (b : Fin 2) (h : Fin 8) (R : Fin 2048) : EReal := rowT Q K b h R + Ideal.log (rowL Q K b h R)

def res3 : Vec Ideal S2x2048x1024 .f32 := fun i : S2x2048x1024.Idx =>
  outO (Qm m c) (Km m c) (KVm m c) (i 0) ⟨(i 2).val / 128, by idx_bounds i; omega⟩ (i 1) ⟨(i 2).val % 128, Nat.mod_lt _ (by omega)⟩
def res4 : Vec Ideal S2x8x2048x1 .f32 := fun i : S2x8x2048x1.Idx => outL (Qm m c) (Km m c) (i 0) (i 1) (i 2)

theorem total3 : (dats m 0 c).arrAt 3 cfg0.N = res3 m c := by
  refine (dats m 0 c).arrAt_eq_of_covers 3 _ (by decide +kernel) fun t hf y => ?_
  have hf := (flush0_3 t).mp hf
  blk_simp
  rw [after0_3]
  idx_vars y
  obtain rfl : y0 = 0 := Subsingleton.elim _ _
  have h2 : y2.val < 128 := y2.isLt
  rw [out3 m c t hf, last_acc m c t hf, last_tot m c t hf]
  refine Attn.at_place (outO (Qm m c) (Km m c) (KVm m c)) ?_ ?_ ?_ ?_ <;> blk_simp [idx3 t] <;> (try dsimp only [bOf, hOf, rowQ]) <;> omega

theorem total4 : (dats m 0 c).arrAt 4 cfg0.N = res4 m c := by
  refine (dats m 0 c).arrAt_eq_of_covers 4 _ (by decide +kernel) fun t hf y => ?_
  have hf := (flush0_4 t).mp hf
  blk_simp
  rw [after0_4]
  idx_vars y
  obtain rfl : y0 = 0 := Subsingleton.elim _ _
  obtain rfl : y1 = 0 := Subsingleton.elim _ _
  obtain rfl : y3 = 0 := Subsingleton.elim _ _
  rw [out4 m c t hf, last_top m c t hf, last_tot m c t hf]
  refine Attn.at_place (d := (0 : Fin 1)) (d' := (0 : Fin 1)) (fun b h R _ => outL (Qm m c) (Km m c) b h R) ?_ ?_ ?_ rfl <;> blk_simp [idx4 t] <;> (try dsimp only [bOf, hOf, rowQ]) <;> omega

end Cert.MlaFwd
end
-- ==== Proof.Small.MlaFwdRef.lean ====
/- The attention's forward call against its reference: the arrays the kernel is given in terms of the arguments, and the
   reference's two results at an index. -/
module

public import proofs.«01_k».proof.Proof.Small.MlaFwd

@[expose] public section
set_option maxRecDepth 16384
noncomputable section
namespace Cert.MlaFwd
open Idealize.ShloMosaic Idealize.ShloMosaic.WordCmp Idealize.SL.Sem Cert.Kernel26Ideal Cert.Kernel26Ideal.Gen
open Attn (scale colQ colV colO)

variable (m : (ℓ : Loc nD τ sig) → Buf (Elt Ideal) ℓ) (c : Dev nD)

/-! ## The host's arrays -/

/-- The program's arguments: queries, keys, keys and values. -/
abbrev q0 : FVec Ideal S2x2048x8x192 .f32 := m (c, Proc.tc.devRef main_arg0)
abbrev k0 : FVec Ideal S2x2048x8x192 .f32 := m (c, Proc.tc.devRef main_arg1)
abbrev kv0 : FVec Ideal S2x2048x8x256 .f32 := m (c, Proc.tc.devRef main_arg2)

open StableHlo in
theorem Qm_eq : Qm m c = Attn.padArr (q0 m c) := by
  unfold Qm V
  simp only [hostOps0, List.flatten_cons, List.flatten_nil, List.append_nil, List.cons_append, List.nil_append, TRef.binary,
    TRef.nullary, TRef.ternary, TRef.unary, TRef.toBuf, TRef.ofBuf, cast_eq]
  after_results_simp
  rfl

open StableHlo in
theorem Km_eq : Km m c = Attn.padArr (k0 m c) := by
  unfold Km V
  simp only [hostOps0, List.flatten_cons, List.flatten_nil, List.append_nil, List.cons_append, List.nil_append, TRef.binary,
    TRef.nullary, TRef.ternary, TRef.unary, TRef.toBuf, TRef.ofBuf, cast_eq]
  after_results_simp
  rfl

open StableHlo in
theorem KVm_eq : KVm m c = shapeCast S2x2048x2048 (kv0 m c) shapeCasts_S2x2048x8x256_S2x2048x2048 := by
  unfold KVm V
  simp only [hostOps0, List.flatten_cons, List.flatten_nil, List.append_nil, List.cons_append, List.nil_append, TRef.binary,
    TRef.nullary, TRef.ternary, TRef.unary, TRef.toBuf, TRef.ofBuf, cast_eq]
  after_results_simp
  rfl

/-! ## The reference -/

section Reference
open Cert.Reference26Ideal.Read
variable (q k : FVec Ideal S2x2048x8x192 .f32) (kv : FVec Ideal S2x2048x8x256 .f32) (b : Fin 2) (h : Fin 8) (R C : Fin 2048)

theorem rmask : val_main_call0_v1 (F := Ideal) (ix4 b h R C) = if C.val ≤ R.val then 1#1 else 0#1 := by
  unfold val_main_call0_v1 val_main_v9 val_main_v8 val_main_v7 val_main_v6 val_main_v5 val_main_v4 val_main_v3
  pointwise
  rw [cmpi_sge_ofNat (by omega) (by omega), ofBool_decide_eq_ite]

theorem rscore : val_main_v10 (F := Ideal) q k (ix4 b h R C) = rowS (Attn.padArr q) (Attn.padArr k) b h R C := by
  unfold rowS
  rw [Attn.score_pad]
  unfold val_main_v10 val_main_v2 val_main_v1 val_main_v0 val_main_cst val_main_call0_v2 val_main_call0_v0 val_main_cst_0
  simp only [id_eq]
  pointwise [rmask, id_eq]
  rw [Attn.ofBits_bot]
  by_cases e : C.val ≤ R.val <;> simp [e, Scalar.select, scale]

theorem rtop : val_main_v11 (F := Ideal) q k (ix3 b h R) = rowT (Attn.padArr q) (Attn.padArr k) b h R := by
  have e : val_main_v11 (F := Ideal) q k (ix3 b h R) = Finset.univ.fold max ⊥ fun C => val_main_v10 (F := Ideal) q k (ix4 b h R C) := by
    unfold val_main_v11 val_main_cst_1
    generalize val_main_v10 (F := Ideal) q k = x0
    pointwise
    rw [Attn.ofBits_bot]
  rw [e]
  simp only [rscore]
  rfl

theorem rexp : val_main_v17 (F := Ideal) q k (ix4 b h R C)
    = Ideal.exp (rowS (Attn.padArr q) (Attn.padArr k) b h R C - rowT (Attn.padArr q) (Attn.padArr k) b h R) := by
  rw [← rscore, ← rtop]
  exact Attn.Ref.exp_stage (val_main_v10 (F := Ideal) q k) (val_main_v11 (F := Ideal) q k) b h R C

theorem rtot : val_main_v18 (F := Ideal) q k (ix3 b h R) = rowL (Attn.padArr q) (Attn.padArr k) b h R := by
  have e : val_main_v18 (F := Ideal) q k (ix3 b h R) = ∑ C, val_main_v17 (F := Ideal) q k (ix4 b h R C) := by
    unfold val_main_v18 val_main_cst_3
    generalize val_main_v17 (F := Ideal) q k = x0
    pointwise
  rw [e]
  simp only [rexp]
  rfl

theorem rprob : val_main_v21 (F := Ideal) q k (ix4 b h R C)
    = Ideal.div (Ideal.exp (rowS (Attn.padArr q) (Attn.padArr k) b h R C - rowT (Attn.padArr q) (Attn.padArr k) b h R))
        (rowL (Attn.padArr q) (Attn.padArr k) b h R) := by
  rw [← rexp, ← rtot]
  unfold val_main_v21 val_main_v20 val_main_v19
  generalize val_main_v17 (F := Ideal) q k = x0
  generalize val_main_v18 (F := Ideal) q k = x1
  pointwise

theorem rout (j : Fin 1024) : val_main_v27 (F := Ideal) q k kv (ix3 b R j)
    = ∑ C, kv (ix4 b C ⟨j.val / 128, by omega⟩ ⟨128 + j.val % 128, by omega⟩)
        * val_main_v21 (F := Ideal) q k (ix4 b ⟨j.val / 128, by omega⟩ R C) := by
  unfold val_main_v27 val_main_v24 val_main_v23 val_main_v22
  generalize val_main_v21 (F := Ideal) q k = x0
  pointwise

theorem rtop' : val_main_v25 (F := Ideal) q k (ix3 b h R) = rowT (Attn.padArr q) (Attn.padArr k) b h R :=
  rtop q k b h R

/-- The exponentials of scores less their rows' greatest, the greatest kept as a column. -/
theorem rexp_stage (s : FVec Ideal Reference26Ideal.S2x8x2048x2048 .f32) (t : FVec Ideal Reference26Ideal.S2x8x2048 .f32) :
    Host.exp (subf s (broadcastInDim Reference26Ideal.S2x8x2048x2048 ![0, 1, 2, 3] Reference26Ideal.Gen.bcast_S2x8x2048x1_S2x8x2048x2048_0_1_2_3
      (broadcastInDim Reference26Ideal.S2x8x2048x1 ![0, 1, 2] Reference26Ideal.Gen.bcast_S2x8x2048_S2x8x2048x1_0_1_2 t))) (ix4 b h R C)
      = Ideal.exp (s (ix4 b h R C) - t (ix3 b h R)) := by
  pointwise

theorem rexp' : val_main_v30 (F := Ideal) q k (ix4 b h R C)
    = Ideal.exp (rowS (Attn.padArr q) (Attn.padArr k) b h R C - rowT (Attn.padArr q) (Attn.padArr k) b h R) := by
  rw [← rscore, ← rtop']
  exact rexp_stage b h R C (val_main_v10 (F := Ideal) q k) (val_main_v25 (F := Ideal) q k)

theorem rtot' : val_main_v31 (F := Ideal) q k (ix3 b h R) = rowL (Attn.padArr q) (Attn.padArr k) b h R := by
  have e : val_main_v31 (F := Ideal) q k (ix3 b h R) = ∑ C, val_main_v30 (F := Ideal) q k (ix4 b h R C) := by
    unfold val_main_v31 val_main_cst_5
    generalize val_main_v30 (F := Ideal) q k = x0
    pointwise
  rw [e]
  simp only [rexp']
  rfl

theorem rlse : val_main_v34 (F := Ideal) q k (ix4 b h R 0) = outL (Attn.padArr q) (Attn.padArr k) b h R := by
  unfold outL
  rw [← rtop', ← rtot']
  exact Attn.lseArr_apply (val_main_v25 (F := Ideal) q k) (val_main_v31 (F := Ideal) q k) b h R

/-- With real queries and keys a row's sum is a positive real. -/
theorem rowL_real (hq : ∀ b R h x, ∃ r : ℝ, q (ix4 b R h x) = (r : EReal)) (hk : ∀ b R h x, ∃ r : ℝ, k (ix4 b R h x) = (r : EReal)) :
    ∃ l : ℝ, 0 < l ∧ rowL (Attn.padArr q) (Attn.padArr k) b h R = (l : EReal) := by
  choose qr hqr using hq
  choose kr hkr using hk
  obtain ⟨s, hs⟩ := Attn.scale_real
  have hσ : rowS (Attn.padArr q) (Attn.padArr k) b h R = Attn.row R fun C => (∑ x, qr b R h x * kr b C h x) * s := by
    funext C
    unfold rowS Attn.row
    rw [Attn.score_pad, hs]
    simp only [hqr, hkr, ← EReal.coe_mul, Attn.sum_coe]
  obtain ⟨M, hM⟩ := Attn.top_real R fun C => (∑ x, qr b R h x * kr b C h x) * s
  refine ⟨_, Attn.sum_pos R (fun C => (∑ x, qr b R h x * kr b C h x) * s) M, ?_⟩
  unfold rowL rowT
  rw [hσ, hM]
  simp only [Attn.exp_row, Attn.sum_coe]

/-- A sum divided by a positive real is the sum of the terms' quotients. -/
theorem div_sum (e w : Fin 2048 → EReal) {l : ℝ} (hl : 0 < l) :
    Ideal.div (∑ C, e C * w C) (l : EReal) = ∑ C, w C * Ideal.div (e C) (l : EReal) := by
  have hi : (0 : EReal) ≤ ((1 / l : ℝ) : EReal) := by exact_mod_cast (by positivity : (0 : ℝ) ≤ 1 / l)
  rw [Ideal.div_coe hl.ne', mul_comm, Running.mul_sum hi (EReal.coe_ne_top _)]
  refine Finset.sum_congr rfl fun C _ => ?_
  rw [Ideal.div_coe hl.ne', mul_comm, mul_assoc, mul_left_comm]

end Reference

theorem real2 (q k : FVec Ideal Pre_mla_fwd_finite.S2x2048x8x192 .f32) (kv : FVec Ideal Pre_mla_fwd_finite.S2x2048x8x256 .f32)
    (h : Pre_mla_fwd_finite.fn (F := Ideal) q k kv = fun _ => 1#1) :
    (∀ b R h x, ∃ r : ℝ, q (ix4 b R h x) = (r : EReal)) ∧ ∀ b R h x, ∃ r : ℝ, k (ix4 b R h x) = (r : EReal) := by
  have h := congrFun h ix0
  dsimp only [Pre_mla_fwd_finite.fn] at h
  obtain ⟨hq, hk⟩ := Attn.andi_one h
  have hq := Host.reduce_andi_all _ _ _ _ _ hq
  have hk := Host.reduce_andi_all _ _ _ _ _ hk
  refine ⟨fun b R h x => ?_, fun b C h x => ?_⟩
  · have e := hq (ix4 b R h x)
    pointwise at e
    exact Attn.real_of_abs_lt e
  · have e := hk (ix4 b C h x)
    pointwise at e
    exact Attn.real_of_abs_lt e

open Cert.Reference26Ideal.Read in
theorem ref3 (hpre : Pre_mla_fwd_finite.fn (F := Ideal) (q0 m c) (k0 m c) (kv0 m c) = fun _ => 1#1) :
    val_main_v27 (F := Ideal) (q0 m c) (k0 m c) (kv0 m c) = res3 m c := by
  obtain ⟨hq, hk⟩ := real2 _ _ _ hpre
  funext i
  idx_vars i
  rw [rout]
  unfold res3 outO rowA colW
  rw [Qm_eq, Km_eq, KVm_eq]
  obtain ⟨l, hl, e⟩ := rowL_real (q0 m c) (k0 m c) i0 ⟨i2.val / 128, by omega⟩ i1 hq hk
  refine Eq.trans ?_ (congrArg (Ideal.div _) e).symm
  rw [div_sum _ _ hl]
  refine Finset.sum_congr rfl fun C _ => ?_
  rw [rprob, e]
  exact congrArg₂ (· * ·) (Attn.kv_apply (kv0 m c) i0 C ⟨i2.val / 128, by omega⟩ ⟨i2.val % 128, Nat.mod_lt _ (by omega)⟩).symm rfl

open Cert.Reference26Ideal.Read in
theorem ref4 : val_main_v34 (F := Ideal) (q0 m c) (k0 m c) = res4 m c := by
  funext i
  idx_vars i
  obtain rfl : i3 = 0 := Subsingleton.elim _ _
  rw [rlse, ← Qm_eq, ← Km_eq]
  rfl

end Cert.MlaFwd
end
-- ==== Proof.Small.XattnFwd.lean ====
/- The cross attention's forward call: every query row attends the whole memory, its 256 keys in one block. -/
module

public import proofs.«01_k».proof.Proof.Gen.Kernel27Ideal.Value
public import proofs.«01_k».proof.Proof.Precondition
public import proofs.«01_k».proof.Proof.Small.Running
public import Idealize.ShloMosaic.Lib.Pipeline.ReadBack
public import proofs.«01_k».proof.Proof.Gen.Reference27Ideal.Run
public import proofs.«01_k».proof.Proof.Gen.Reference27Ideal.Read
public import proofs.«01_k».proof.Proof.Gen.Pre_xattn_fwd_finite

@[expose] public section
set_option maxRecDepth 16384
noncomputable section
namespace Cert.XattnFwd
open Idealize.ShloMosaic Idealize.SL.Sem Cert.Kernel27Ideal Cert.Kernel27Ideal.Gen

/-- The scores' scale. -/
abbrev scale : EReal := Ideal.ofBits FTy.f32 0x3DB504F3#32

/-! ## The rows of scores -/

/-- A row's greatest score, its sum of exponentials, and values weighted by these. -/
def topOf {n : ℕ} (x : Fin n → EReal) : EReal := Finset.univ.fold max ⊥ x
def totOf {n : ℕ} (x : Fin n → EReal) : EReal := ∑ c, Ideal.exp (x c - topOf x)
def accOf {n : ℕ} (x w : Fin n → EReal) : EReal := ∑ c, Ideal.exp (x c - topOf x) * w c

/-! ## What a point computes from its blocks -/

section
variable (q : Vec Ideal S1x512x128 .bf16) (k : Vec Ideal S1x256x128 .bf16) (v : Vec Ideal S1x256x128 .f32)
  (p l : Vec Ideal S512x1 .f32) (a : Vec Ideal S512x128 .f32)

/-- The score of key row `c` in query row `r`. -/
def score (r : Fin 512) (c : Fin 256) : EReal := (∑ d : Fin 128, q (ix3 0 r d) * k (ix3 0 c d)) * scale

theorem mask_named : Named.named (F := Ideal) κ "mask" (φ := .f32) 0xF149F2CA#32 = (⊥ : EReal) :=
  IdealRules.named_const.ideal_named_scalar _ _ _ _ rfl

theorem pay5_apply (r : Fin 512) : k0_pay5 (F := Ideal) (ix2 r 0) = (⊥ : EReal) := by
  pointwise [k0_pay5, mask_named]

theorem pay6_apply (r : Fin 512) : k0_pay6 (F := Ideal) (ix2 r 0) = (0 : EReal) := by
  pointwise [k0_pay6]

theorem pay7_apply (r : Fin 512) (d : Fin 128) : k0_pay7 (F := Ideal) (ix2 r d) = (0 : EReal) := by
  pointwise [k0_pay7]

theorem pay8_apply (r : Fin 512) (c : Fin 256) : k0_pay8 (F := Ideal) q k (ix2 r c) = score q k r c := by
  pointwise [k0_pay8, score]

theorem pay9_apply (r : Fin 512) (hp : p (ix2 r 0) = (⊥ : EReal)) :
    k0_pay9 (F := Ideal) q k p (ix2 r 0) = topOf (score q k r) := by
  pointwise [k0_pay9, pay8_apply, topOf]
  rw [Attn.ofBits_bot, hp]
  exact max_eq_right bot_le

theorem pay12_apply (r : Fin 512) (hp : p (ix2 r 0) = (⊥ : EReal)) (hl : l (ix2 r 0) = (0 : EReal)) :
    k0_pay12 (F := Ideal) q k p l (ix2 r 0) = totOf (score q k r) := by
  pointwise [k0_pay12, k0_pay11, k0_pay10, pay9_apply q k p r hp, pay8_apply, totOf]
  rw [hl, mul_zero, zero_add]

theorem acc_apply (r : Fin 512) (d : Fin 128) (hp : p (ix2 r 0) = (⊥ : EReal)) (ha : a (ix2 r d) = (0 : EReal)) :
    k0_pay1 (F := Ideal) (k0_pay13 q k p a) (k0_pay14 q k p) v (ix2 r d) = accOf (score q k r) fun c => v (ix3 0 c d) := by
  pointwise [k0_pay1, k0_pay13, k0_pay14, k0_pay11, k0_pay10, pay9_apply q k p r hp, pay8_apply, accOf]
  rw [ha, mul_zero, zero_add]

theorem pay2_apply (r : Fin 512) : k0_pay2 (F := Ideal) p (ix2 r 0) = p (ix2 r 0) := by
  pointwise [k0_pay2]

theorem pay3_apply (r : Fin 512) (d : Fin 128) :
    k0_pay3 (F := Ideal) a l (ix3 0 r d) = Ideal.div (a (ix2 r d)) (l (ix2 r 0)) := by
  pointwise [k0_pay3]

theorem pay4_apply (r : Fin 512) :
    k0_pay4 (F := Ideal) p l (ix4 0 0 r 0) = p (ix2 r 0) + Ideal.log (l (ix2 r 0)) := by
  pointwise [k0_pay4]
end

variable (m : (ℓ : Loc nD τ sig) → Buf (Elt Ideal) ℓ) (c : Dev nD) (t : Fin cfg0.N)

theorem out3 (r : Fin 512) (d : Fin 128) : (outsAt0 m c t).1 (ix3 0 r d)
    = Ideal.div (accOf (score (iblk m c 0 t) (iblk m c 1 t) r) fun y => (iblk m c 2 t : Vec Ideal S1x256x128 .f32) (ix3 0 y d))
        (totOf (score (iblk m c 0 t) (iblk m c 1 t) r)) := by
  unfold outsAt0 out0_A_3
  frame_out
  rw [pay3_apply, acc_apply _ _ _ _ _ _ _ (pay5_apply r) (pay7_apply r d), pay12_apply _ _ _ _ _ (pay5_apply r) (pay6_apply r)]

theorem out4 (r : Fin 512) : (outsAt0 m c t).2 (ix4 0 0 r 0)
    = topOf (score (iblk m c 0 t) (iblk m c 1 t) r) + Ideal.log (totOf (score (iblk m c 0 t) (iblk m c 1 t) r)) := by
  unfold outsAt0 out0_A_4
  frame_out
  rw [pay4_apply, pay2_apply, pay9_apply _ _ _ _ (pay5_apply r), pay12_apply _ _ _ _ _ (pay5_apply r) (pay6_apply r)]

/-! ## The blocks of a point, in the arrays -/

theorem N_lt : t.val < 32 := lt_of_lt_of_eq t.isLt N_0

/-- The program's arguments: queries, keys and values. -/
abbrev q0 : FVec Ideal S2x2048x4x128 .f32 := m (c, Proc.tc.devRef main_arg0)
abbrev k0 : FVec Ideal S2x256x4x128 .f32 := m (c, Proc.tc.devRef main_arg1)
abbrev v0 : FVec Ideal S2x256x4x128 .f32 := m (c, Proc.tc.devRef main_arg2)

/-- The column of a head's entry. -/
abbrev colH (h : Fin 4) (d : Fin 128) : Fin 512 := ⟨h.val * 128 + d.val, by omega⟩

theorem V_q : (V m c main_v1 : Vec Ideal S2x2048x512 .bf16) = shapeCast S2x2048x512 (q0 m c) shapeCasts_S2x2048x4x128_S2x2048x512 := by
  unfold V
  open StableHlo in
  simp only [hostOps0, TRef.binary, TRef.nullary, TRef.ternary, TRef.unary, TRef.toBuf, TRef.ofBuf, cast_eq]
  after_results_simp
  rfl

theorem V_k : (V m c main_v3 : Vec Ideal S2x256x512 .bf16) = shapeCast S2x256x512 (k0 m c) shapeCasts_S2x256x4x128_S2x256x512 := by
  unfold V
  open StableHlo in
  simp only [hostOps0, TRef.binary, TRef.nullary, TRef.ternary, TRef.unary, TRef.toBuf, TRef.ofBuf, cast_eq]
  after_results_simp
  rfl

theorem V_v : (V m c main_v4 : Vec Ideal S2x256x512 .f32) = shapeCast S2x256x512 (v0 m c) shapeCasts_S2x256x4x128_S2x256x512 := by
  unfold V
  open StableHlo in
  simp only [hostOps0, TRef.binary, TRef.nullary, TRef.ternary, TRef.unary, TRef.toBuf, TRef.ofBuf, cast_eq]
  after_results_simp
  rfl

/-- Entries of the arrays with the heads joined. -/
theorem join_q (x : FVec Ideal S2x2048x4x128 .f32) (b : Fin 2) (R : Fin 2048) (h : Fin 4) (d : Fin 128) :
    (shapeCast S2x2048x512 x shapeCasts_S2x2048x4x128_S2x2048x512) (ix3 b R (colH h d)) = x (ix4 b R h d) := by
  refine shapeCast_apply x _ _ _ ?_
  rw [Shape.rowMajor_val_four, Shape.rowMajor_val_three]
  show ((b.val * 2048 + R.val) * 4 + h.val) * 128 + d.val = (b.val * 2048 + R.val) * 512 + (h.val * 128 + d.val)
  omega

theorem join_k (x : FVec Ideal S2x256x4x128 .f32) (b : Fin 2) (C : Fin 256) (h : Fin 4) (d : Fin 128) :
    (shapeCast S2x256x512 x shapeCasts_S2x256x4x128_S2x256x512) (ix3 b C (colH h d)) = x (ix4 b C h d) := by
  refine shapeCast_apply x _ _ _ ?_
  rw [Shape.rowMajor_val_four, Shape.rowMajor_val_three]
  show ((b.val * 256 + C.val) * 4 + h.val) * 128 + d.val = (b.val * 256 + C.val) * 512 + (h.val * 128 + d.val)
  omega

/-- The batch, the head and the place of a row of the point's query block. -/
abbrev bOf : Fin 2 := ⟨t.val / 16, by have := N_lt t; omega⟩
abbrev hOf : Fin 4 := ⟨t.val / 4 % 4, by omega⟩
abbrev rowQ (x : Fin 512) : Fin 2048 := ⟨(t.val % 4) * 512 + x.val, by omega⟩

theorem idx0 : ∀ t : Fin cfg0.N, win0_0.index t = ![t.val / 16, t.val % 4, t.val / 4 % 4] := by decide +kernel
theorem idx1 : ∀ t : Fin cfg0.N, win0_1.index t = ![t.val / 16, 0, t.val / 4 % 4] := by decide +kernel
theorem idx2 : ∀ t : Fin cfg0.N, win0_2.index t = ![t.val / 16, 0, t.val / 4 % 4] := by decide +kernel
theorem idx3 : ∀ t : Fin cfg0.N, win0_3.index t = ![t.val / 16, t.val % 4, t.val / 4 % 4] := by decide +kernel
theorem idx4 : ∀ t : Fin cfg0.N, win0_4.index t = ![t.val / 16, t.val / 4 % 4, t.val % 4, 0] := by decide +kernel

theorem read0 (X : Vec Ideal S2x2048x512 .bf16) (x : Fin 512) (d : Fin 128) :
    (((cfg0.win 0).blk t).view.read (Elt Ideal) X : Vec Ideal S1x512x128 .bf16) (ix3 0 x d) = X (ix3 (bOf t) (rowQ t x) (colH (hOf t) d)) := by
  blk_ext [idx0 t]

theorem blk0 (x : Fin 512) (d : Fin 128) : (iblk m c 0 t : Vec Ideal S1x512x128 .bf16) (ix3 0 x d) = q0 m c (ix4 (bOf t) (rowQ t x) (hOf t) d) :=
  (read0 t _ x d).trans ((congrFun (V_q m c) _).trans (join_q _ _ _ _ _))

theorem read1 (X : Vec Ideal S2x256x512 .bf16) (y : Fin 256) (d : Fin 128) :
    (((cfg0.win 1).blk t).view.read (Elt Ideal) X : Vec Ideal S1x256x128 .bf16) (ix3 0 y d) = X (ix3 (bOf t) y (colH (hOf t) d)) := by
  blk_ext [idx1 t]

theorem blk1 (y : Fin 256) (d : Fin 128) : (iblk m c 1 t : Vec Ideal S1x256x128 .bf16) (ix3 0 y d) = k0 m c (ix4 (bOf t) y (hOf t) d) :=
  (read1 t _ y d).trans ((congrFun (V_k m c) _).trans (join_k _ _ _ _ _))

theorem read2 (X : Vec Ideal S2x256x512 .f32) (y : Fin 256) (d : Fin 128) :
    (((cfg0.win 2).blk t).view.read (Elt Ideal) X : Vec Ideal S1x256x128 .f32) (ix3 0 y d) = X (ix3 (bOf t) y (colH (hOf t) d)) := by
  blk_ext [idx2 t]

theorem blk2 (y : Fin 256) (d : Fin 128) : (iblk m c 2 t : Vec Ideal S1x256x128 .f32) (ix3 0 y d) = v0 m c (ix4 (bOf t) y (hOf t) d) :=
  (read2 t _ y d).trans ((congrFun (V_v m c) _).trans (join_k _ _ _ _ _))

/-! ## The two results -/

section
variable (q : FVec Ideal S2x2048x4x128 .f32) (k v : FVec Ideal S2x256x4x128 .f32) (b : Fin 2) (h : Fin 4) (R : Fin 2048)

/-- The scores of one query row, the output and the log-sum. -/
def rowS (C : Fin 256) : EReal := (∑ d : Fin 128, q (ix4 b R h d) * k (ix4 b C h d)) * scale
def outO (d : Fin 128) : EReal := Ideal.div (accOf (rowS q k b h R) fun C => v (ix4 b C h d)) (totOf (rowS q k b h R))
def outL : EReal := topOf (rowS q k b h R) + Ideal.log (totOf (rowS q k b h R))
end

theorem score_eq (r : Fin 512) : score (iblk m c 0 t) (iblk m c 1 t) r = rowS (q0 m c) (k0 m c) (bOf t) (hOf t) (rowQ t r) := by
  funext y
  unfold score rowS
  simp only [blk0 m c t, blk1 m c t]

def res3 : Vec Ideal S2x2048x512 .f32 := fun i : S2x2048x512.Idx =>
  outO (q0 m c) (k0 m c) (v0 m c) (i 0) ⟨(i 2).val / 128, by idx_bounds i; omega⟩ (i 1) ⟨(i 2).val % 128, Nat.mod_lt _ (by omega)⟩
def res4 : Vec Ideal S2x4x2048x1 .f32 := fun i : S2x4x2048x1.Idx => outL (q0 m c) (k0 m c) (i 0) (i 1) (i 2)

theorem total3 : (dats m 0 c).arrAt 3 cfg0.N = res3 m c := by
  refine (dats m 0 c).arrAt_eq_of_covers 3 _ (by decide +kernel) fun t hf y => ?_
  blk_simp
  rw [after0_3]
  idx_vars y
  obtain rfl : y0 = 0 := Subsingleton.elim _ _
  have e : ((View.whole main_v5_0).slice (win0_3.rect t)).emb (ix3 0 y1 y2) = ix3 (bOf t) (rowQ t y1) (colH (hOf t) y2) := by
    blk_ext [idx3 t]
  rw [out3 m c t, score_eq m c t, e]
  simp only [blk2 m c t]
  have e1 : (⟨(hOf t).val * 128 + y2.val, by omega⟩ : Fin 512).val / 128 = (hOf t).val := by dsimp only; omega
  have e2 : (⟨(hOf t).val * 128 + y2.val, by omega⟩ : Fin 512).val % 128 = y2.val := by dsimp only; omega
  show _ = outO (q0 m c) (k0 m c) (v0 m c) (bOf t) ⟨(colH (hOf t) y2).val / 128, _⟩ (rowQ t y1) ⟨(colH (hOf t) y2).val % 128, _⟩
  exact congrArg₂ (fun h d => outO (q0 m c) (k0 m c) (v0 m c) (bOf t) h (rowQ t y1) d) (Fin.ext e1).symm (Fin.ext e2).symm

theorem total4 : (dats m 0 c).arrAt 4 cfg0.N = res4 m c := by
  refine (dats m 0 c).arrAt_eq_of_covers 4 _ (by decide +kernel) fun t hf y => ?_
  blk_simp
  rw [after0_4]
  idx_vars y
  obtain rfl : y0 = 0 := Subsingleton.elim _ _
  obtain rfl : y1 = 0 := Subsingleton.elim _ _
  obtain rfl : y3 = 0 := Subsingleton.elim _ _
  have e : ((View.whole main_v5_1).slice (win0_4.rect t)).emb (ix4 0 0 y2 0) = ix4 (bOf t) (hOf t) (rowQ t y2) 0 := by
    blk_ext [idx4 t]
  rw [out4 m c t, score_eq m c t, e]
  rfl

end Cert.XattnFwd
end
-- ==== Proof.Small.XattnFwdRef.lean ====
/- The cross attention's forward call against its reference. -/
module

public import proofs.«01_k».proof.Proof.Small.XattnFwd

@[expose] public section
set_option maxRecDepth 16384
noncomputable section
namespace Cert.XattnFwd
open Idealize.ShloMosaic Idealize.SL.Sem Cert.Kernel27Ideal Cert.Kernel27Ideal.Gen

theorem scale_real : ∃ r : ℝ, scale = (r : EReal) := by
  unfold scale
  simp only [Ideal.ofBits, Ideal.ieee]
  exact ⟨_, rfl⟩

/-! ## Rows of real scores -/

/-- A row without a mask is a row masked after its last entry. -/
theorem row_last (σ : Fin 256 → ℝ) : (fun C => (σ C : EReal)) = Attn.row (255 : Fin 256) σ := by
  funext C
  exact (if_pos (show C.val ≤ 255 by omega)).symm

theorem exp_sum_pos (σ : Fin 256 → ℝ) (M : ℝ) : 0 < ∑ C, Real.exp (σ C - M) :=
  Finset.sum_pos (fun C _ => Real.exp_pos _) ⟨0, Finset.mem_univ _⟩

theorem top_real (σ : Fin 256 → ℝ) : ∃ M : ℝ, topOf (fun C => (σ C : EReal)) = (M : EReal) := by
  rw [row_last]
  exact Attn.top_real _ σ

theorem tot_real (σ : Fin 256 → ℝ) {M : ℝ} (h : topOf (fun C => (σ C : EReal)) = (M : EReal)) :
    totOf (fun C => (σ C : EReal)) = ((∑ C, Real.exp (σ C - M) : ℝ) : EReal) := by
  unfold totOf
  rw [h, ← Attn.sum_coe]
  exact Finset.sum_congr rfl fun C _ => by rw [← EReal.coe_sub]; rfl

/-- The scores of a row of real queries and keys. -/
theorem rowS_real (q : FVec Ideal S2x2048x4x128 .f32) (k : FVec Ideal S2x256x4x128 .f32) (b : Fin 2) (h : Fin 4) (R : Fin 2048)
    (hq : ∀ b R h x, ∃ r : ℝ, q (ix4 b R h x) = (r : EReal)) (hk : ∀ b R h x, ∃ r : ℝ, k (ix4 b R h x) = (r : EReal)) :
    ∃ σ : Fin 256 → ℝ, rowS q k b h R = fun C => (σ C : EReal) := by
  choose qr hqr using hq
  choose kr hkr using hk
  obtain ⟨s, hs⟩ := scale_real
  refine ⟨fun C => (∑ x, qr b R h x * kr b C h x) * s, funext fun C => ?_⟩
  unfold rowS
  rw [hs]
  simp only [hqr, hkr, ← EReal.coe_mul, Attn.sum_coe]

/-- A sum divided by a positive real is the sum of the terms' quotients. -/
theorem div_sum (e w : Fin 256 → EReal) {l : ℝ} (hl : 0 < l) :
    Ideal.div (∑ C, e C * w C) (l : EReal) = ∑ C, w C * Ideal.div (e C) (l : EReal) := by
  have hi : (0 : EReal) ≤ ((1 / l : ℝ) : EReal) := by exact_mod_cast (by positivity : (0 : ℝ) ≤ 1 / l)
  rw [Ideal.div_coe hl.ne', mul_comm, Running.mul_sum hi (EReal.coe_ne_top _)]
  refine Finset.sum_congr rfl fun C _ => ?_
  rw [Ideal.div_coe hl.ne', mul_comm, mul_assoc, mul_left_comm]

/-! ## The reference's stages, for any arrays -/

section Stages
open Cert.Reference27Ideal.Gen
variable (b : Fin 2) (h : Fin 4) (R : Fin 2048) (C : Fin 256)
variable (q : FVec Ideal S2x2048x4x128 .f32) (k v : FVec Ideal S2x256x4x128 .f32)
variable (s e : FVec Ideal Reference27Ideal.S2x4x2048x256 .f32) (t l : FVec Ideal Reference27Ideal.S2x4x2048 .f32)

theorem scores : Reference27Ideal.Read.val_main_v2 (F := Ideal) q k (ix4 b h R C) = rowS q k b h R C := by
  unfold Reference27Ideal.Read.val_main_v2 Reference27Ideal.Read.val_main_v1 Reference27Ideal.Read.val_main_v0 Reference27Ideal.Read.val_main_cst
  pointwise [rowS]

theorem top_stage : Host.reduce FloatOps.maximumf s (constant (F := Ideal) Reference27Ideal.S_ .f32 0xFF800000#32)
    reducesTo_S2x4x2048x256_S2x4x2048_d3 h_S_ (ix3 b h R) = topOf fun C => s (ix4 b h R C) := by
  pointwise [topOf]
  rw [Attn.ofBits_bot]

theorem max_stage : maximumf (broadcastInDim Reference27Ideal.S2x4x2048 ![] bcast_S_S2x4x2048 (constant (F := Ideal) Reference27Ideal.S_ .f32 0xFF800000#32)) t (ix3 b h R)
    = t (ix3 b h R) := by
  pointwise
  rw [Attn.ofBits_bot]
  exact max_eq_right bot_le

theorem exp_stage : Host.exp (subf s (broadcastInDim Reference27Ideal.S2x4x2048x256 ![0, 1, 2, 3] bcast_S2x4x2048x1_S2x4x2048x256_0_1_2_3
      (broadcastInDim Reference27Ideal.S2x4x2048x1 ![0, 1, 2] bcast_S2x4x2048_S2x4x2048x1_0_1_2 t))) (ix4 b h R C)
    = Ideal.exp (s (ix4 b h R C) - t (ix3 b h R)) := by
  pointwise

theorem sum_stage : Host.reduceAdd e (constant (F := Ideal) Reference27Ideal.S_ .f32 0x00000000#32)
    reducesTo_S2x4x2048x256_S2x4x2048_d3 h_S_ (ix3 b h R) = ∑ C, e (ix4 b h R C) := by
  pointwise

theorem div_stage : Host.divf e (broadcastInDim Reference27Ideal.S2x4x2048x256 ![0, 1, 2, 3] bcast_S2x4x2048x1_S2x4x2048x256_0_1_2_3
      (broadcastInDim Reference27Ideal.S2x4x2048x1 ![0, 1, 2] bcast_S2x4x2048_S2x4x2048x1_0_1_2 l)) (ix4 b h R C)
    = Ideal.div (e (ix4 b h R C)) (l (ix3 b h R)) := by
  pointwise

theorem lse_stage : addf (broadcastInDim Reference27Ideal.S2x4x2048x1 ![0, 1, 2] bcast_S2x4x2048_S2x4x2048x1_0_1_2 t)
      (Host.log (broadcastInDim Reference27Ideal.S2x4x2048x1 ![0, 1, 2] bcast_S2x4x2048_S2x4x2048x1_0_1_2 l)) (ix4 b h R 0)
    = t (ix3 b h R) + Ideal.log (l (ix3 b h R)) := by
  pointwise

theorem out_stage (j : Fin 512) : (shapeCast Reference27Ideal.S2x2048x512 (transpose Reference27Ideal.S2x2048x4x128 [0, 3, 1, 2]
      (Host.dotGeneral Reference27Ideal.dot_S2x256x4x128_S2x4x2048x256_S2x4x128x2048_1_3_3_2_02_01 none v e) transposes_S2x4x128x2048_S2x2048x4x128_0_3_1_2)
      Reference27Ideal.Gen.shapeCasts_S2x2048x4x128_S2x2048x512 : FVec Ideal Reference27Ideal.S2x2048x512 .f32) (ix3 b R j)
    = ∑ C, v (ix4 b C ⟨j.val / 128, by omega⟩ ⟨j.val % 128, by omega⟩) * e (ix4 b ⟨j.val / 128, by omega⟩ R C) := by
  pointwise
end Stages

section Reference
open Cert.Reference27Ideal.Read
variable (q : FVec Ideal S2x2048x4x128 .f32) (k v : FVec Ideal S2x256x4x128 .f32) (b : Fin 2) (h : Fin 4) (R : Fin 2048) (C : Fin 256)

theorem rtop : val_main_v16 (F := Ideal) q k (ix3 b h R) = topOf (rowS q k b h R) := by
  refine (top_stage b h R (val_main_v2 (F := Ideal) q k)).trans ?_
  simp only [scores]

theorem rtop' : val_main_v5 (F := Ideal) q k (ix3 b h R) = topOf (rowS q k b h R) :=
  (max_stage b h R (val_main_v3 (F := Ideal) q k)).trans (rtop q k b h R)

theorem rexp : val_main_v21 (F := Ideal) q k (ix4 b h R C) = Ideal.exp (rowS q k b h R C - topOf (rowS q k b h R)) := by
  rw [← scores b h R C q k, ← rtop q k b h R]
  exact exp_stage b h R C (val_main_v2 (F := Ideal) q k) (val_main_v16 (F := Ideal) q k)

theorem rexp' : val_main_v9 (F := Ideal) q k (ix4 b h R C) = Ideal.exp (rowS q k b h R C - topOf (rowS q k b h R)) := by
  rw [← scores b h R C q k, ← rtop' q k b h R]
  exact exp_stage b h R C (val_main_v2 (F := Ideal) q k) (val_main_v5 (F := Ideal) q k)

theorem rtot : val_main_v22 (F := Ideal) q k (ix3 b h R) = totOf (rowS q k b h R) := by
  refine (sum_stage b h R (val_main_v21 (F := Ideal) q k)).trans ?_
  simp only [rexp]
  rfl

theorem rtot' : val_main_v10 (F := Ideal) q k (ix3 b h R) = totOf (rowS q k b h R) := by
  refine (sum_stage b h R (val_main_v9 (F := Ideal) q k)).trans ?_
  simp only [rexp']
  rfl

theorem rprob : val_main_v13 (F := Ideal) q k (ix4 b h R C)
    = Ideal.div (Ideal.exp (rowS q k b h R C - topOf (rowS q k b h R))) (totOf (rowS q k b h R)) := by
  rw [← rexp', ← rtot']
  exact div_stage b h R C (val_main_v9 (F := Ideal) q k) (val_main_v10 (F := Ideal) q k)

theorem rlse : val_main_v25 (F := Ideal) q k (ix4 b h R 0) = outL q k b h R := by
  unfold outL
  rw [← rtop, ← rtot]
  exact lse_stage b h R (val_main_v16 (F := Ideal) q k) (val_main_v22 (F := Ideal) q k)

theorem rout (j : Fin 512) : val_main_v18 (F := Ideal) q k v (ix3 b R j)
    = ∑ C, v (ix4 b C ⟨j.val / 128, by omega⟩ ⟨j.val % 128, by omega⟩) * val_main_v13 (F := Ideal) q k (ix4 b ⟨j.val / 128, by omega⟩ R C) :=
  out_stage b R v (val_main_v13 (F := Ideal) q k) j
end Reference

theorem real2 (q : FVec Ideal Pre_xattn_fwd_finite.S2x2048x4x128 .f32) (k v : FVec Ideal Pre_xattn_fwd_finite.S2x256x4x128 .f32)
    (h : Pre_xattn_fwd_finite.fn (F := Ideal) q k v = fun _ => 1#1) :
    (∀ b R h x, ∃ r : ℝ, q (ix4 b R h x) = (r : EReal)) ∧ ∀ b R h x, ∃ r : ℝ, k (ix4 b R h x) = (r : EReal) := by
  have h := congrFun h ix0
  dsimp only [Pre_xattn_fwd_finite.fn] at h
  obtain ⟨hq, hk⟩ := Attn.andi_one h
  have hq := Host.reduce_andi_all _ _ _ _ _ hq
  have hk := Host.reduce_andi_all _ _ _ _ _ hk
  refine ⟨fun b R h x => ?_, fun b C h x => ?_⟩
  · have e := hq (ix4 b R h x)
    pointwise at e
    exact Attn.real_of_abs_lt e
  · have e := hk (ix4 b C h x)
    pointwise at e
    exact Attn.real_of_abs_lt e

variable (m : (ℓ : Loc nD τ sig) → Buf (Elt Ideal) ℓ) (c : Dev nD)

open Cert.Reference27Ideal.Read in
theorem ref3 (hpre : Pre_xattn_fwd_finite.fn (F := Ideal) (q0 m c) (k0 m c) (v0 m c) = fun _ => 1#1) :
    val_main_v18 (F := Ideal) (q0 m c) (k0 m c) (v0 m c) = res3 m c := by
  obtain ⟨hq, hk⟩ := real2 _ _ _ hpre
  funext i
  idx_vars i
  rw [rout]
  unfold res3 outO accOf
  obtain ⟨σ, hσ⟩ := rowS_real (q0 m c) (k0 m c) i0 ⟨i2.val / 128, by omega⟩ i1 hq hk
  obtain ⟨M, hM⟩ := top_real σ
  have e : totOf (rowS (q0 m c) (k0 m c) i0 ⟨i2.val / 128, by omega⟩ i1) = _ := (congrArg totOf hσ).trans (tot_real σ hM)
  refine Eq.trans ?_ (congrArg (Ideal.div _) e).symm
  rw [div_sum _ _ (exp_sum_pos σ M)]
  refine Finset.sum_congr rfl fun C _ => ?_
  rw [rprob, e]
  rfl

open Cert.Reference27Ideal.Read in
theorem ref4 : val_main_v25 (F := Ideal) (q0 m c) (k0 m c) = res4 m c := by
  funext i
  idx_vars i
  obtain rfl : i3 = 0 := Subsingleton.elim _ _
  rw [rlse]
  rfl

end Cert.XattnFwd
end
-- ==== Proof.Proj.XkProj.lean ====
/- The cross attention's key projection is the product over the whole arrays. -/
module

public import proofs.«01_k».proof.Proof.Gen.Kernel28Ideal.Value
public import proofs.«01_k».proof.Proof.Gen.Reference28Ideal.Run
public import proofs.«01_k».proof.Proof.Gen.Reference28Ideal.Read
public import Idealize.ShloMosaic.Lib.Pointwise
public import Idealize.ShloMosaic.Lib.Pipeline.ValueKit
public import Idealize.ShloMosaic.Lib.Tactic.CleanTypes

@[expose] public section
set_option maxRecDepth 16384
noncomputable section
namespace Cert.XkProj
open Idealize.ShloMosaic Idealize.SL.Sem Cert.Kernel28Ideal Cert.Kernel28Ideal.Gen

/-- A tile of the product, from the blocks. -/
theorem tile2 (x0 : Vec Ideal S512x2048 .bf16) (x1 : Vec Ideal S2048x512 .bf16) (r : Fin 512) (s : Fin 512) :
    out0_2 (F := Ideal) x0 x1 (ix2 r s) = ∑ k : Fin 2048, x0 (ix2 r k) * x1 (ix2 k s) := by
  unfold out0_2
  frame_out
  pointwise [k0_pay1]

variable (m : (ℓ : Loc nD τ sig) → Buf (Elt Ideal) ℓ) (c : Dev nD)

/-- The arrays that the program is given. -/
def A : FVec Ideal S512x2048 .f32 := m (c, Proc.tc.devRef main_arg0)
def B : FVec Ideal S2048x512 .f32 := m (c, Proc.tc.devRef main_arg1)

theorem idx0 : ∀ t : Fin cfg0.N, win0_0.index t = ![t.val / 1, 0] := by decide +kernel
theorem idx1 : ∀ t : Fin cfg0.N, win0_1.index t = ![0, t.val % 1] := by decide +kernel
theorem idx2 : ∀ t : Fin cfg0.N, win0_2.index t = ![t.val / 1, t.val % 1] := by decide +kernel

variable (t : Fin cfg0.N)

theorem N_lt : t.val < 1 := lt_of_lt_of_eq t.isLt N_0

/-- The row and the column of the arrays at a row and a column of the point's tile. -/
abbrev row (r : Fin 512) : Fin 512 := ⟨t.val / 1 * 512 + r.val, by have := N_lt t; omega⟩
abbrev col (s : Fin 512) : Fin 512 := ⟨t.val % 1 * 512 + s.val, by omega⟩

theorem V_v0 : (V m c main_v0 : Vec Ideal S512x2048 .bf16) = A m c := by
  unfold V A
  open StableHlo in
  simp only [hostOps0, TRef.binary, TRef.nullary, TRef.ternary, TRef.unary, TRef.toBuf, TRef.ofBuf, cast_eq]
  after_results_simp
  rfl

theorem read0 (x : Vec Ideal S512x2048 .bf16) (r : Fin 512) (k : Fin 2048) :
    (((cfg0.win 0).blk t).view.read (Elt Ideal) x : Vec Ideal S512x2048 .bf16) (ix2 r k) = x (ix2 (row t r) k) := by
  blk_ext [idx0 t]

theorem blk0 (r : Fin 512) (k : Fin 2048) :
    (iblk m c 0 t : Vec Ideal S512x2048 .bf16) (ix2 r k) = A m c (ix2 (row t r) k) :=
  (read0 t _ r k).trans (congrFun (V_v0 m c) _)

theorem V_v1 : (V m c main_v1 : Vec Ideal S2048x512 .bf16) = B m c := by
  unfold V B
  open StableHlo in
  simp only [hostOps0, TRef.binary, TRef.nullary, TRef.ternary, TRef.unary, TRef.toBuf, TRef.ofBuf, cast_eq]
  after_results_simp
  rfl

theorem read1 (x : Vec Ideal S2048x512 .bf16) (k : Fin 2048) (s : Fin 512) :
    (((cfg0.win 1).blk t).view.read (Elt Ideal) x : Vec Ideal S2048x512 .bf16) (ix2 k s) = x (ix2 k (col t s)) := by
  blk_ext [idx1 t]

theorem blk1 (k : Fin 2048) (s : Fin 512) :
    (iblk m c 1 t : Vec Ideal S2048x512 .bf16) (ix2 k s) = B m c (ix2 k (col t s)) :=
  (read1 t _ k s).trans (congrFun (V_v1 m c) _)

/-- The whole of the product. -/
def res2 : FVec Ideal S512x512 .f32 := fun i => ∑ k : Fin 2048, A m c (ix2 (i 0) k) * B m c (ix2 k (i 1))

theorem total2 : (dats m 0 c).arrAt 2 cfg0.N = res2 m c := by
  refine (dats m 0 c).arrAt_eq_of_covers 2 _ (by decide +kernel) fun t hf y => ?_
  blk_simp
  rw [after0_2]
  idx_vars y
  refine (tile2 _ _ _ _).trans ?_
  have e : ((View.whole main_v2).slice (win0_2.rect t)).emb (ix2 y0 y1) = ix2 (row t y0) (col t y1) := by
    blk_ext [idx2 t]
  rw [e]
  simp only [blk0, blk1, res2]
  rfl

/-- The reference's sum. -/
theorem ref2 : Reference28Ideal.Read.val_main_v0 (F := Ideal) (A m c) (B m c) = res2 m c := by
  funext i
  rw [Reference28Ideal.Read.val_main_v0_apply]
  refine Finset.sum_congr rfl fun k _ => congrArg₂ (· * ·) (congrArg _ ?_) (congrArg _ ?_)
  · funext a; fin_cases a <;> rfl
  · funext a; fin_cases a <;> rfl

end Cert.XkProj
end
-- ==== Proof.Proj.XkvWgrad.lean ====
/- The gradient of the key projection's weights, tile by tile, is the product over the whole arrays. -/
module

public import proofs.«01_k».proof.Proof.Gen.Kernel29Ideal.Value
public import proofs.«01_k».proof.Proof.Gen.Reference29Ideal.Run
public import proofs.«01_k».proof.Proof.Gen.Reference29Ideal.Read
public import Idealize.ShloMosaic.Lib.Pointwise
public import Idealize.ShloMosaic.Lib.Pipeline.ValueKit
public import Idealize.ShloMosaic.Lib.Tactic.CleanTypes

@[expose] public section
set_option maxRecDepth 16384
noncomputable section
namespace Cert.XkvWgrad
open Idealize.ShloMosaic Idealize.SL.Sem Cert.Kernel29Ideal Cert.Kernel29Ideal.Gen

/-- A tile of the gradient, from the blocks. -/
theorem tile2 (x0 : Vec Ideal S512x1024 .bf16) (x1 : Vec Ideal S512x512 .f32) (r : Fin 1024) (s : Fin 512) :
    out0_2 (F := Ideal) x0 x1 (ix2 r s) = ∑ k : Fin 512, x0 (ix2 k r) * x1 (ix2 k s) := by
  unfold out0_2
  frame_out
  pointwise [k0_pay1]

variable (m : (ℓ : Loc nD τ sig) → Buf (Elt Ideal) ℓ) (c : Dev nD)

/-- The arrays that the program is given. -/
def A : FVec Ideal S512x2048 .f32 := m (c, Proc.tc.devRef main_arg0)
def B : FVec Ideal S512x512 .f32 := m (c, Proc.tc.devRef main_arg1)

theorem idx0 : ∀ t : Fin cfg0.N, win0_0.index t = ![0, t.val / 1] := by decide +kernel
theorem idx1 : ∀ t : Fin cfg0.N, win0_1.index t = ![0, t.val % 1] := by decide +kernel
theorem idx2 : ∀ t : Fin cfg0.N, win0_2.index t = ![t.val / 1, t.val % 1] := by decide +kernel

variable (t : Fin cfg0.N)

theorem N_lt : t.val < 2 := lt_of_lt_of_eq t.isLt N_0

/-- The row and the column of the arrays at a row and a column of the point's tile. -/
abbrev row (r : Fin 1024) : Fin 2048 := ⟨t.val / 1 * 1024 + r.val, by have := N_lt t; omega⟩
abbrev col (s : Fin 512) : Fin 512 := ⟨t.val % 1 * 512 + s.val, by omega⟩

theorem V_v0 : (V m c main_v0 : Vec Ideal S512x2048 .bf16) = A m c := by
  unfold V A
  open StableHlo in
  simp only [hostOps0, TRef.binary, TRef.nullary, TRef.ternary, TRef.unary, TRef.toBuf, TRef.ofBuf, cast_eq]
  after_results_simp
  rfl

theorem read0 (x : Vec Ideal S512x2048 .bf16) (k : Fin 512) (r : Fin 1024) :
    (((cfg0.win 0).blk t).view.read (Elt Ideal) x : Vec Ideal S512x1024 .bf16) (ix2 k r) = x (ix2 k (row t r)) := by
  blk_ext [idx0 t]

theorem blk0 (k : Fin 512) (r : Fin 1024) :
    (iblk m c 0 t : Vec Ideal S512x1024 .bf16) (ix2 k r) = A m c (ix2 k (row t r)) :=
  (read0 t _ k r).trans (congrFun (V_v0 m c) _)

theorem V_arg1 : (V m c main_arg1 : Vec Ideal S512x512 .f32) = B m c := V_main_arg1 m c

theorem read1 (x : Vec Ideal S512x512 .f32) (k : Fin 512) (s : Fin 512) :
    (((cfg0.win 1).blk t).view.read (Elt Ideal) x : Vec Ideal S512x512 .f32) (ix2 k s) = x (ix2 k (col t s)) := by
  blk_ext [idx1 t]

theorem blk1 (k : Fin 512) (s : Fin 512) :
    (iblk m c 1 t : Vec Ideal S512x512 .f32) (ix2 k s) = B m c (ix2 k (col t s)) :=
  (read1 t _ k s).trans (congrFun (V_arg1 m c) _)

/-- The whole of the gradient. -/
def res2 : FVec Ideal S2048x512 .bf16 := fun i => ∑ k : Fin 512, A m c (ix2 k (i 0)) * B m c (ix2 k (i 1))

theorem total2 : (dats m 0 c).arrAt 2 cfg0.N = res2 m c := by
  refine (dats m 0 c).arrAt_eq_of_covers 2 _ (by decide +kernel) fun t hf y => ?_
  blk_simp
  rw [after0_2]
  idx_vars y
  refine (tile2 _ _ _ _).trans ?_
  have e : ((View.whole main_v1).slice (win0_2.rect t)).emb (ix2 y0 y1) = ix2 (row t y0) (col t y1) := by
    blk_ext [idx2 t]
  rw [e]
  simp only [blk0, blk1, res2]
  rfl

/-- The reference's sum. -/
theorem ref2 : Reference29Ideal.Read.val_main_v4 (F := Ideal) (A m c) (B m c) = res2 m c := by
  funext i
  rw [Reference29Ideal.Read.val_main_v4_apply, Reference29Ideal.Read.val_main_v3_apply, Reference29Ideal.Read.val_main_v2_apply]
  refine Finset.sum_congr rfl fun k _ => (mul_comm _ _).trans (congrArg₂ (· * ·) (congrArg _ ?_) (congrArg _ ?_))
  · funext a; fin_cases a <;> rfl
  · funext a; fin_cases a <;> rfl

end Cert.XkvWgrad
end
-- ==== Proof.Proj.XkvBwd.lean ====
/- The gradient of the memory from its keys and its values, tile by tile, is the sum of the two products over the whole arrays. -/
module

public import proofs.«01_k».proof.Proof.Gen.Kernel30Ideal.Value
public import proofs.«01_k».proof.Proof.Gen.Reference30Ideal.Run
public import proofs.«01_k».proof.Proof.Gen.Reference30Ideal.Read
public import Idealize.ShloMosaic.Lib.Pointwise
public import Idealize.ShloMosaic.Lib.Pipeline.ValueKit
public import Idealize.ShloMosaic.Lib.Tactic.CleanTypes

@[expose] public section
set_option maxRecDepth 16384
noncomputable section
namespace Cert.XkvBwd
open Idealize.ShloMosaic Idealize.SL.Sem Cert.Kernel30Ideal Cert.Kernel30Ideal.Gen

/-- A tile of the gradient, from the blocks. -/
theorem tile4 (x0 : Vec Ideal S512x512 .f32) (x1 : Vec Ideal S512x512 .bf16) (x2 : Vec Ideal S512x512 .f32) (x3 : Vec Ideal S512x512 .bf16) (r : Fin 512) (s : Fin 512) :
    out0_4 (F := Ideal) x0 x1 x2 x3 (ix2 r s) = (∑ k : Fin 512, x0 (ix2 r k) * x1 (ix2 s k)) + ∑ k : Fin 512, x2 (ix2 r k) * x3 (ix2 s k) := by
  unfold out0_4
  frame_out
  pointwise [k0_pay1]

variable (m : (ℓ : Loc nD τ sig) → Buf (Elt Ideal) ℓ) (c : Dev nD)

/-- The arrays that the program is given. -/
def A : FVec Ideal S512x512 .f32 := m (c, Proc.tc.devRef main_arg0)
def B : FVec Ideal S2048x512 .f32 := m (c, Proc.tc.devRef main_arg1)
def A2 : FVec Ideal S512x512 .f32 := m (c, Proc.tc.devRef main_arg2)
def B2 : FVec Ideal S2048x512 .f32 := m (c, Proc.tc.devRef main_arg3)

theorem idx0 : ∀ t : Fin cfg0.N, win0_0.index t = ![t.val / 4, 0] := by decide +kernel
theorem idx1 : ∀ t : Fin cfg0.N, win0_1.index t = ![t.val % 4, 0] := by decide +kernel
theorem idx2 : ∀ t : Fin cfg0.N, win0_2.index t = ![t.val / 4, 0] := by decide +kernel
theorem idx3 : ∀ t : Fin cfg0.N, win0_3.index t = ![t.val % 4, 0] := by decide +kernel
theorem idx4 : ∀ t : Fin cfg0.N, win0_4.index t = ![t.val / 4, t.val % 4] := by decide +kernel

variable (t : Fin cfg0.N)

theorem N_lt : t.val < 4 := lt_of_lt_of_eq t.isLt N_0

/-- The row and the column of the arrays at a row and a column of the point's tile. -/
abbrev row (r : Fin 512) : Fin 512 := ⟨t.val / 4 * 512 + r.val, by have := N_lt t; omega⟩
abbrev col (s : Fin 512) : Fin 2048 := ⟨t.val % 4 * 512 + s.val, by omega⟩

theorem V_arg0 : (V m c main_arg0 : Vec Ideal S512x512 .f32) = A m c := V_main_arg0 m c

theorem read0 (x : Vec Ideal S512x512 .f32) (r : Fin 512) (k : Fin 512) :
    (((cfg0.win 0).blk t).view.read (Elt Ideal) x : Vec Ideal S512x512 .f32) (ix2 r k) = x (ix2 (row t r) k) := by
  blk_ext [idx0 t]

theorem blk0 (r : Fin 512) (k : Fin 512) :
    (iblk m c 0 t : Vec Ideal S512x512 .f32) (ix2 r k) = A m c (ix2 (row t r) k) :=
  (read0 t _ r k).trans (congrFun (V_arg0 m c) _)

theorem V_v0 : (V m c main_v0 : Vec Ideal S2048x512 .bf16) = B m c := by
  unfold V B
  open StableHlo in
  simp only [hostOps0, TRef.binary, TRef.nullary, TRef.ternary, TRef.unary, TRef.toBuf, TRef.ofBuf, cast_eq]
  after_results_simp
  rfl

theorem read1 (x : Vec Ideal S2048x512 .bf16) (s : Fin 512) (k : Fin 512) :
    (((cfg0.win 1).blk t).view.read (Elt Ideal) x : Vec Ideal S512x512 .bf16) (ix2 s k) = x (ix2 (col t s) k) := by
  blk_ext [idx1 t]

theorem blk1 (s : Fin 512) (k : Fin 512) :
    (iblk m c 1 t : Vec Ideal S512x512 .bf16) (ix2 s k) = B m c (ix2 (col t s) k) :=
  (read1 t _ s k).trans (congrFun (V_v0 m c) _)

theorem V_arg2 : (V m c main_arg2 : Vec Ideal S512x512 .f32) = A2 m c := V_main_arg2 m c

theorem read2 (x : Vec Ideal S512x512 .f32) (r : Fin 512) (k : Fin 512) :
    (((cfg0.win 2).blk t).view.read (Elt Ideal) x : Vec Ideal S512x512 .f32) (ix2 r k) = x (ix2 (row t r) k) := by
  blk_ext [idx2 t]

theorem blk2 (r : Fin 512) (k : Fin 512) :
    (iblk m c 2 t : Vec Ideal S512x512 .f32) (ix2 r k) = A2 m c (ix2 (row t r) k) :=
  (read2 t _ r k).trans (congrFun (V_arg2 m c) _)

theorem V_v1 : (V m c main_v1 : Vec Ideal S2048x512 .bf16) = B2 m c := by
  unfold V B2
  open StableHlo in
  simp only [hostOps0, TRef.binary, TRef.nullary, TRef.ternary, TRef.unary, TRef.toBuf, TRef.ofBuf, cast_eq]
  after_results_simp
  rfl

theorem read3 (x : Vec Ideal S2048x512 .bf16) (s : Fin 512) (k : Fin 512) :
    (((cfg0.win 3).blk t).view.read (Elt Ideal) x : Vec Ideal S512x512 .bf16) (ix2 s k) = x (ix2 (col t s) k) := by
  blk_ext [idx3 t]

theorem blk3 (s : Fin 512) (k : Fin 512) :
    (iblk m c 3 t : Vec Ideal S512x512 .bf16) (ix2 s k) = B2 m c (ix2 (col t s) k) :=
  (read3 t _ s k).trans (congrFun (V_v1 m c) _)

/-- The whole of the gradient. -/
def res4 : FVec Ideal S512x2048 .f32 := fun i => (∑ k : Fin 512, A m c (ix2 (i 0) k) * B m c (ix2 (i 1) k)) + ∑ k : Fin 512, A2 m c (ix2 (i 0) k) * B2 m c (ix2 (i 1) k)

theorem total4 : (dats m 0 c).arrAt 4 cfg0.N = res4 m c := by
  refine (dats m 0 c).arrAt_eq_of_covers 4 _ (by decide +kernel) fun t hf y => ?_
  blk_simp
  rw [after0_4]
  idx_vars y
  refine (tile4 _ _ _ _ _ _).trans ?_
  have e : ((View.whole main_v2).slice (win0_4.rect t)).emb (ix2 y0 y1) = ix2 (row t y0) (col t y1) := by
    blk_ext [idx4 t]
  rw [e]
  simp only [blk0, blk1, blk2, blk3, res4]
  rfl

/-- The reference's two sums. -/
theorem ref4 : Reference30Ideal.Read.val_main_v5 (F := Ideal) (A m c) (B m c) (A2 m c) (B2 m c) = res4 m c := by
  funext i
  rw [Reference30Ideal.Read.val_main_v5_apply, Reference30Ideal.Read.val_main_v3_apply, Reference30Ideal.Read.val_main_v4_apply]
  refine (add_comm _ _).trans (congrArg₂ (· + ·) (Finset.sum_congr rfl fun k _ => congrArg₂ (· * ·) (congrArg _ ?_) (congrArg _ ?_))
    (Finset.sum_congr rfl fun k _ => congrArg₂ (· * ·) (congrArg _ ?_) (congrArg _ ?_))) <;>
    · funext a; fin_cases a <;> rfl

end Cert.XkvBwd
end
-- ==== Proof.Proj.HeadRows.lean ====
/- The heads' rows of the query weights, each head's 192 widened to 256 by zeros. -/
module

public import proofs.«01_k».proof.Proof.Proj.Packed

@[expose] public section
noncomputable section
namespace Cert.HeadRows

/-- The widening's zero, converted from an integer. -/
theorem sitofp_zero (φ : Idealize.ShloMosaic.FTy) :
    (Idealize.ShloMosaic.FloatOps.sitofp φ (0#32) : Idealize.ShloMosaic.Ideal φ) = (0 : EReal) := by
  show (((0#32 : BitVec 32).toInt : ℝ) : EReal) = 0
  simp

/-- A function of the unwidened rows, read at a widened row. -/
def wide (f : Fin 1536 → EReal) (n : Fin 2048) : EReal :=
  if h : n.val % 256 < 192 then f ⟨n.val / 256 * 192 + n.val % 256, by omega⟩ else 0

/-- The widened row at which a row lies. -/
def pos (n : Fin 1536) : Fin 2048 := ⟨n.val / 192 * 256 + n.val % 192, by omega⟩

theorem pos_inj : Function.Injective pos := by
  intro a b h
  have h := congrArg Fin.val h
  simp only [pos] at h
  exact Fin.ext (by omega)

theorem wide_pos (f : Fin 1536 → EReal) (n : Fin 1536) : wide f (pos n) = f n := by
  have h : (pos n).val % 256 < 192 := by simp only [pos]; omega
  rw [wide, dif_pos h]
  exact congrArg f (Fin.ext (by simp only [pos]; omega))

theorem wide_cases (f : Fin 1536 → EReal) (n : Fin 2048) : (∃ k, n = pos k ∧ wide f n = f k) ∨ wide f n = 0 := by
  unfold wide
  split_ifs with h
  · exact Or.inl ⟨_, Fin.ext (by simp only [pos]; omega), rfl⟩
  · exact Or.inr rfl

/-- A product over the widened rows is one over the rows. -/
theorem sum_wide (g : Fin 2048 → EReal) (f : Fin 1536 → EReal) :
    ∑ n : Fin 2048, g n * wide f n = ∑ n : Fin 1536, g (pos n) * f n :=
  Packed.sum_packed pos pos_inj f (wide f) g (wide_cases f) (wide_pos f)

end Cert.HeadRows
end
-- ==== Proof.Proj.QbProj.lean ====
/- The query projection to the heads' widened columns, tile by tile, is the product over the whole arrays. -/
module

public import proofs.«01_k».proof.Proof.Gen.Kernel31Ideal.Value
public import proofs.«01_k».proof.Proof.Gen.Reference31Ideal.Run
public import proofs.«01_k».proof.Proof.Gen.Reference31Ideal.Read
public import Idealize.ShloMosaic.Lib.Pointwise
public import Idealize.ShloMosaic.Lib.Pipeline.ValueKit
public import Idealize.ShloMosaic.Lib.Tactic.CleanTypes
public import proofs.«01_k».proof.Proof.Proj.HeadRows

@[expose] public section
set_option maxRecDepth 16384
noncomputable section
namespace Cert.QbProj
open Idealize.ShloMosaic Idealize.SL.Sem Cert.Kernel31Ideal Cert.Kernel31Ideal.Gen
open Cert.HeadRows

/-- A tile of the result, from the blocks. -/
theorem tile2 (x0 : Vec Ideal S1024x512 .bf16) (x1 : Vec Ideal S512x512 .bf16) (r : Fin 1024) (s : Fin 512) :
    out0_2 (F := Ideal) x0 x1 (ix2 r s) = ∑ k : Fin 512, x0 (ix2 r k) * x1 (ix2 s k) := by
  unfold out0_2
  frame_out
  pointwise [k0_pay1]

variable (m : (ℓ : Loc nD τ sig) → Buf (Elt Ideal) ℓ) (c : Dev nD)

/-- The arrays that the program is given. -/
def A : FVec Ideal S4096x512 .f32 := m (c, Proc.tc.devRef main_arg0)
def W : FVec Ideal S512x1536 .f32 := m (c, Proc.tc.devRef main_arg1)

/-- The weights transposed, each head's rows widened. -/
def wp : FVec Ideal S2048x512 .bf16 :=
  shapeCast S2048x512 (pad S8x256x512 ![0, 0, 0] ![0, 64, 0] ![0, 0, 0]
    (shapeCast S8x192x512 (transpose S1536x512 [1, 0] (W m c) transposes_S512x1536_S1536x512_1_0) shapeCasts_S1536x512_S8x192x512)
    (sitofp (F := Ideal) .bf16 (constantI S_ 32 0#32)) pads_S8x192x512_S8x256x512_000_0640_000 h_S_) shapeCasts_S8x256x512_S2048x512

theorem wp_apply (n : Fin 2048) (k : Fin 512) : wp m c (ix2 n k) = wide (fun j => W m c (ix2 k j)) n := by
  unfold wp
  pointwise [wide]
  have h : n.val / 256 < 8 := by omega
  simp only [h, true_and, sitofp_zero]

theorem idx0 : ∀ t : Fin cfg0.N, win0_0.index t = ![t.val / 4, 0] := by decide +kernel
theorem idx1 : ∀ t : Fin cfg0.N, win0_1.index t = ![t.val % 4, 0] := by decide +kernel
theorem idx2 : ∀ t : Fin cfg0.N, win0_2.index t = ![t.val / 4, t.val % 4] := by decide +kernel

variable (t : Fin cfg0.N)

theorem N_lt : t.val < 16 := lt_of_lt_of_eq t.isLt N_0

/-- The row and the column of the arrays at a row and a column of the point's tile. -/
abbrev row (r : Fin 1024) : Fin 4096 := ⟨t.val / 4 * 1024 + r.val, by have := N_lt t; omega⟩
abbrev col (s : Fin 512) : Fin 2048 := ⟨t.val % 4 * 512 + s.val, by omega⟩

theorem V_v0 : (V m c main_v0 : Vec Ideal S4096x512 .bf16) = A m c := by
  unfold V A
  open StableHlo in
  simp only [hostOps0, hostOps0_1, hostOps0_2, List.flatten_cons, List.flatten_nil, List.append_nil, List.cons_append, List.nil_append, TRef.reshape, TRef.binary, TRef.nullary, TRef.ternary, TRef.unary, TRef.toBuf, TRef.ofBuf, cast_eq]
  after_results_simp
  rfl

theorem read0 (x : Vec Ideal S4096x512 .bf16) (r : Fin 1024) (k : Fin 512) :
    (((cfg0.win 0).blk t).view.read (Elt Ideal) x : Vec Ideal S1024x512 .bf16) (ix2 r k) = x (ix2 (row t r) k) := by
  blk_ext [idx0 t]

theorem blk0 (r : Fin 1024) (k : Fin 512) :
    (iblk m c 0 t : Vec Ideal S1024x512 .bf16) (ix2 r k) = A m c (ix2 (row t r) k) :=
  (read0 t _ r k).trans (congrFun (V_v0 m c) _)

theorem V_v5 : (V m c main_v5 : Vec Ideal S2048x512 .bf16) = wp m c := by
  unfold V wp W
  open StableHlo in
  simp only [hostOps0, hostOps0_1, hostOps0_2, List.flatten_cons, List.flatten_nil, List.append_nil, List.cons_append, List.nil_append, TRef.reshape, TRef.binary, TRef.nullary, TRef.ternary, TRef.unary, TRef.toBuf, TRef.ofBuf, cast_eq]
  after_results_simp
  rfl

theorem V_v5_apply (a : Fin 2048) (b : Fin 512) : (V m c main_v5 : Vec Ideal S2048x512 .bf16) (ix2 a b) = wide (fun j => W m c (ix2 b j)) (a) :=
  (congrFun (V_v5 m c) _).trans (wp_apply m c _ _)

theorem read1 (x : Vec Ideal S2048x512 .bf16) (s : Fin 512) (k : Fin 512) :
    (((cfg0.win 1).blk t).view.read (Elt Ideal) x : Vec Ideal S512x512 .bf16) (ix2 s k) = x (ix2 (col t s) k) := by
  blk_ext [idx1 t]

theorem blk1 (s : Fin 512) (k : Fin 512) :
    (iblk m c 1 t : Vec Ideal S512x512 .bf16) (ix2 s k) = wide (fun j => W m c (ix2 k j)) ((col t s)) :=
  (read1 t _ s k).trans (V_v5_apply m c _ _)

/-- The whole of the result. -/
def res2 : FVec Ideal S4096x2048 .f32 := fun i => ∑ k : Fin 512, A m c (ix2 (i 0) k) * wide (fun j => W m c (ix2 k j)) (i 1)

theorem total2 : (dats m 0 c).arrAt 2 cfg0.N = res2 m c := by
  refine (dats m 0 c).arrAt_eq_of_covers 2 _ (by decide +kernel) fun t hf y => ?_
  blk_simp
  rw [after0_2]
  idx_vars y
  refine (tile2 _ _ _ _).trans ?_
  have e : ((View.whole main_v6).slice (win0_2.rect t)).emb (ix2 y0 y1) = ix2 (row t y0) (col t y1) := by
    blk_ext [idx2 t]
  rw [e]
  simp only [blk0, blk1, res2]
  rfl

/-- The reference's product, each head's columns widened. -/
theorem ref2 : Reference31Ideal.Read.val_main_v3 (F := Ideal) (A m c) (W m c) = res2 m c := by
  funext i
  idx_vars i
  rw [Reference31Ideal.Read.val_main_v3_apply]
  unfold Reference31Ideal.Read.val_main_v2
  pointwise [res2, Reference31Ideal.Read.val_main_call0_v0, Reference31Ideal.Read.val_main_c, wide]
  have e0 : (i0.val * 2048 + i1.val) / 2048 < 4096 := by omega
  have e1 : (i0.val * 2048 + i1.val) / 256 % 8 < 8 := by omega
  have e2 : (i0.val * 2048 + i1.val) % 256 = i1.val % 256 := by omega
  simp only [e0, e1, e2, true_and, sitofp_zero]
  by_cases h : i1.val % 256 < 192
  · simp only [dif_pos h]
    rw [Reference31Ideal.Read.val_main_v1_apply, Reference31Ideal.Read.val_main_v0_apply]
    refine Finset.sum_congr rfl fun k _ => congrArg₂ (· * ·) (congrArg _ ?_) (congrArg _ ?_) <;>
      · funext a
        match a with
        | ⟨0, _⟩ => exact Fin.ext (by dsimp <;> omega)
        | ⟨1, _⟩ => exact Fin.ext (by dsimp <;> omega)
  · simp only [dif_neg h, mul_zero, Finset.sum_const_zero]

end Cert.QbProj
end
-- ==== Proof.Proj.QbBwd.lean ====
/- The gradient of the normed latent query, tile by tile, is the product over the whole arrays. -/
module

public import proofs.«01_k».proof.Proof.Gen.Kernel32Ideal.Value
public import proofs.«01_k».proof.Proof.Gen.Reference32Ideal.Run
public import proofs.«01_k».proof.Proof.Gen.Reference32Ideal.Read
public import Idealize.ShloMosaic.Lib.Pointwise
public import Idealize.ShloMosaic.Lib.Pipeline.ValueKit
public import Idealize.ShloMosaic.Lib.Tactic.CleanTypes
public import proofs.«01_k».proof.Proof.Proj.HeadRows

@[expose] public section
set_option maxRecDepth 16384
noncomputable section
namespace Cert.QbBwd
open Idealize.ShloMosaic Idealize.SL.Sem Cert.Kernel32Ideal Cert.Kernel32Ideal.Gen
open Cert.HeadRows

/-- A tile of the result, from the blocks. -/
theorem tile2 (x0 : Vec Ideal S1024x2048 .f32) (x1 : Vec Ideal S2048x512 .bf16) (r : Fin 1024) (s : Fin 512) :
    out0_2 (F := Ideal) x0 x1 (ix2 r s) = ∑ k : Fin 2048, x0 (ix2 r k) * x1 (ix2 k s) := by
  unfold out0_2
  frame_out
  pointwise [k0_pay1]

variable (m : (ℓ : Loc nD τ sig) → Buf (Elt Ideal) ℓ) (c : Dev nD)

/-- The arrays that the program is given. -/
def A : FVec Ideal S4096x2048 .f32 := m (c, Proc.tc.devRef main_arg0)
def W : FVec Ideal S512x1536 .f32 := m (c, Proc.tc.devRef main_arg1)

/-- The weights transposed, each head's rows widened. -/
def wp : FVec Ideal S2048x512 .bf16 :=
  shapeCast S2048x512 (pad S8x256x512 ![0, 0, 0] ![0, 64, 0] ![0, 0, 0]
    (shapeCast S8x192x512 (transpose S1536x512 [1, 0] (W m c) transposes_S512x1536_S1536x512_1_0) shapeCasts_S1536x512_S8x192x512)
    (sitofp (F := Ideal) .bf16 (constantI S_ 32 0#32)) pads_S8x192x512_S8x256x512_000_0640_000 h_S_) shapeCasts_S8x256x512_S2048x512

theorem wp_apply (n : Fin 2048) (k : Fin 512) : wp m c (ix2 n k) = wide (fun j => W m c (ix2 k j)) n := by
  unfold wp
  pointwise [wide]
  have h : n.val / 256 < 8 := by omega
  simp only [h, true_and, sitofp_zero]

theorem idx0 : ∀ t : Fin cfg0.N, win0_0.index t = ![t.val / 1, 0] := by decide +kernel
theorem idx1 : ∀ t : Fin cfg0.N, win0_1.index t = ![0, t.val % 1] := by decide +kernel
theorem idx2 : ∀ t : Fin cfg0.N, win0_2.index t = ![t.val / 1, t.val % 1] := by decide +kernel

variable (t : Fin cfg0.N)

theorem N_lt : t.val < 4 := lt_of_lt_of_eq t.isLt N_0

/-- The row and the column of the arrays at a row and a column of the point's tile. -/
abbrev row (r : Fin 1024) : Fin 4096 := ⟨t.val / 1 * 1024 + r.val, by have := N_lt t; omega⟩
abbrev col (s : Fin 512) : Fin 512 := ⟨t.val % 1 * 512 + s.val, by omega⟩

theorem V_arg0 : (V m c main_arg0 : Vec Ideal S4096x2048 .f32) = A m c := V_main_arg0 m c

theorem read0 (x : Vec Ideal S4096x2048 .f32) (r : Fin 1024) (k : Fin 2048) :
    (((cfg0.win 0).blk t).view.read (Elt Ideal) x : Vec Ideal S1024x2048 .f32) (ix2 r k) = x (ix2 (row t r) k) := by
  blk_ext [idx0 t]

theorem blk0 (r : Fin 1024) (k : Fin 2048) :
    (iblk m c 0 t : Vec Ideal S1024x2048 .f32) (ix2 r k) = A m c (ix2 (row t r) k) :=
  (read0 t _ r k).trans (congrFun (V_arg0 m c) _)

theorem V_v4 : (V m c main_v4 : Vec Ideal S2048x512 .bf16) = wp m c := by
  unfold V wp W
  open StableHlo in
  simp only [hostOps0, hostOps0_1, hostOps0_2, List.flatten_cons, List.flatten_nil, List.append_nil, List.cons_append, List.nil_append, TRef.reshape, TRef.binary, TRef.nullary, TRef.ternary, TRef.unary, TRef.toBuf, TRef.ofBuf, cast_eq]
  after_results_simp
  rfl

theorem V_v4_apply (a : Fin 2048) (b : Fin 512) : (V m c main_v4 : Vec Ideal S2048x512 .bf16) (ix2 a b) = wide (fun j => W m c (ix2 b j)) (a) :=
  (congrFun (V_v4 m c) _).trans (wp_apply m c _ _)

theorem read1 (x : Vec Ideal S2048x512 .bf16) (k : Fin 2048) (s : Fin 512) :
    (((cfg0.win 1).blk t).view.read (Elt Ideal) x : Vec Ideal S2048x512 .bf16) (ix2 k s) = x (ix2 k (col t s)) := by
  blk_ext [idx1 t]

theorem blk1 (k : Fin 2048) (s : Fin 512) :
    (iblk m c 1 t : Vec Ideal S2048x512 .bf16) (ix2 k s) = wide (fun j => W m c (ix2 (col t s) j)) (k) :=
  (read1 t _ k s).trans (V_v4_apply m c _ _)

/-- The whole of the result. -/
def res2 : FVec Ideal S4096x512 .f32 := fun i => ∑ k : Fin 2048, A m c (ix2 (i 0) k) * wide (fun j => W m c (ix2 (i 1) j)) k

theorem total2 : (dats m 0 c).arrAt 2 cfg0.N = res2 m c := by
  refine (dats m 0 c).arrAt_eq_of_covers 2 _ (by decide +kernel) fun t hf y => ?_
  blk_simp
  rw [after0_2]
  idx_vars y
  refine (tile2 _ _ _ _).trans ?_
  have e : ((View.whole main_v5).slice (win0_2.rect t)).emb (ix2 y0 y1) = ix2 (row t y0) (col t y1) := by
    blk_ext [idx2 t]
  rw [e]
  simp only [blk0, blk1, res2]
  rfl

/-- The reference's cotangent without the widening. -/
theorem ct_apply (a : Fin 4096) (n : Fin 1536) : Reference32Ideal.Read.val_main_v2 (F := Ideal) (A m c) (ix2 a n) = A m c (ix2 a (pos n)) := by
  rw [Reference32Ideal.Read.val_main_v2_apply, Reference32Ideal.Read.val_main_v1_apply, Reference32Ideal.Read.val_main_v0_apply]
  refine congrArg _ ?_
  funext x
  match x with
  | ⟨0, _⟩ => exact Fin.ext (by simp only [pos]; dsimp; omega)
  | ⟨1, _⟩ => exact Fin.ext (by simp only [pos]; dsimp; omega)

theorem ref2 : Reference32Ideal.Read.val_main_v5 (F := Ideal) (A m c) (W m c) = res2 m c := by
  funext i
  idx_vars i
  rw [Reference32Ideal.Read.val_main_v5_apply]
  refine Eq.trans ?_ (sum_wide (fun n => A m c (ix2 i0 n)) fun n => W m c (ix2 i1 n)).symm
  refine Finset.sum_congr rfl fun n _ => congrArg₂ (· * ·) ((congrArg _ ?_).trans (ct_apply m c i0 n)) (congrArg _ ?_)
  · funext a; fin_cases a <;> rfl
  · funext a; fin_cases a <;> rfl

end Cert.QbBwd
end
-- ==== Proof.Small.XattnBwd.lean ====
/- The cross attention's backward call: the four query blocks of a head share the whole memory's 256 keys, whose gradients
   they add up, and each fills its own rows of the queries' gradient. -/
module

public import proofs.«01_k».proof.Proof.Small.XattnFwdRef
public import proofs.«01_k».proof.Proof.Gen.Kernel33Ideal.Value
public import Idealize.ShloMosaic.Lib.Pipeline.ValueKit
public import Idealize.ShloMosaic.Lib.WritesUnit

@[expose] public section
set_option maxRecDepth 16384
noncomputable section
namespace Cert.XattnBwd
open Idealize.ShloMosaic Idealize.SL.Sem Cert.Kernel33Ideal Cert.Kernel33Ideal.Gen
open Cert.XattnFwd (scale rowS colH)

/-! ## What a point computes from its blocks -/

section
variable (q : Vec Ideal S1x512x128 .bf16) (k : Vec Ideal S1x256x128 .bf16) (v : Vec Ideal S1x256x128 .f32)
  (g o : Vec Ideal S1x512x128 .f32) (lse : Vec Ideal S1x1x512x1 .f32)

/-- The probability of key row `y` in query row `x`. -/
def prob (x : Fin 512) (y : Fin 256) : EReal :=
  Ideal.exp ((∑ d : Fin 128, q (ix3 0 x d) * k (ix3 0 y d)) * scale - lse (ix4 0 0 x 0))

/-- The gradient of the score of key row `y` in query row `x`. -/
def dscore (x : Fin 512) (y : Fin 256) : EReal :=
  prob q k lse x y * ((∑ d : Fin 128, g (ix3 0 x d) * v (ix3 0 y d)) - ∑ d : Fin 128, g (ix3 0 x d) * o (ix3 0 x d)) * scale

theorem pay7_apply (x : Fin 512) (y : Fin 256) : k0_pay7 (F := Ideal) q k lse (ix2 x y) = prob q k lse x y := by
  pointwise [k0_pay7, prob]

theorem pay10_apply (x : Fin 512) (y : Fin 256) :
    k0_pay10 (F := Ideal) (k0_pay7 q k lse) (k0_pay8 g) (k0_pay9 g v) o (ix2 x y) = dscore q k v g o lse x y := by
  pointwise [k0_pay10, k0_pay8, k0_pay9, pay7_apply, dscore]

theorem pay11_apply (acc : Vec Ideal S256x128 .f32) (y : Fin 256) (d : Fin 128) :
    k0_pay11 (F := Ideal) (k0_pay7 q k lse) acc g (ix2 y d)
      = acc (ix2 y d) + ∑ x : Fin 512, prob q k lse x y * g (ix3 0 x d) := by
  pointwise [k0_pay11, pay7_apply]

theorem pay12_apply (acc : Vec Ideal S256x128 .f32) (y : Fin 256) (d : Fin 128) :
    k0_pay12 (F := Ideal) (k0_pay7 q k lse) (k0_pay8 g) (k0_pay9 g v) o acc q (ix2 y d)
      = acc (ix2 y d) + ∑ x : Fin 512, dscore q k v g o lse x y * q (ix3 0 x d) := by
  pointwise [k0_pay12, pay10_apply]

theorem rows_apply (acc : Vec Ideal S1x512x128 .f32) (x : Fin 512) (d : Fin 128) :
    k0_pay1 (F := Ideal) (k0_pay10 (k0_pay7 q k lse) (k0_pay8 g) (k0_pay9 g v) o) (k0_pay13 acc) k (ix3 0 x d)
      = acc (ix3 0 x d) + ∑ y : Fin 256, dscore q k v g o lse x y * k (ix3 0 y d) := by
  pointwise [k0_pay1, k0_pay13, pay10_apply]
end

theorem pay2_apply (a : Vec Ideal S256x128 .f32) (y : Fin 256) (d : Fin 128) : k0_pay2 (F := Ideal) a (ix3 0 y d) = a (ix2 y d) := by
  pointwise [k0_pay2]

theorem pay3_apply (a : Vec Ideal S256x128 .f32) (y : Fin 256) (d : Fin 128) : k0_pay3 (F := Ideal) a (ix3 0 y d) = a (ix2 y d) := by
  pointwise [k0_pay3]

theorem pay4_apply (R : Fin 2048) (d : Fin 128) : k0_pay4 (F := Ideal) (ix3 0 R d) = (0 : EReal) := by
  pointwise [k0_pay4]

theorem pay5_apply (y : Fin 256) (d : Fin 128) : k0_pay5 (F := Ideal) (ix2 y d) = (0 : EReal) := by
  pointwise [k0_pay5]

theorem pay6_apply (y : Fin 256) (d : Fin 128) : k0_pay6 (F := Ideal) (ix2 y d) = (0 : EReal) := by
  pointwise [k0_pay6]

/-! ## What a point adds -/

variable (m : (ℓ : Loc nD τ sig) → Buf (Elt Ideal) ℓ) (c : Dev nD) (t : Fin cfg0.N)

/-- A point's probabilities and gradients of scores. -/
def tileP (x : Fin 512) (y : Fin 256) : EReal := prob (iblk m c 0 t) (iblk m c 1 t) (iblk m c 5 t) x y
def tileD (x : Fin 512) (y : Fin 256) : EReal :=
  dscore (iblk m c 0 t) (iblk m c 1 t) (iblk m c 2 t) (iblk m c 3 t) (iblk m c 4 t) (iblk m c 5 t) x y

/-- What the point adds to the keys' gradient, to the values' and to row `x` of its query block. -/
def addK (y : Fin 256) (d : Fin 128) : EReal :=
  ∑ x : Fin 512, tileD m c t x y * (iblk m c 0 t : Vec Ideal S1x512x128 .bf16) (ix3 0 x d)
def addV (y : Fin 256) (d : Fin 128) : EReal :=
  ∑ x : Fin 512, tileP m c t x y * (iblk m c 3 t : Vec Ideal S1x512x128 .f32) (ix3 0 x d)
def addQ (x : Fin 512) (d : Fin 128) : EReal :=
  ∑ y : Fin 256, tileD m c t x y * (iblk m c 1 t : Vec Ideal S1x256x128 .bf16) (ix3 0 y d)

/-- What the point adds to row `R` of the queries' gradient, which spans the four query blocks. -/
def addRow (R : Fin 2048) (d : Fin 128) : EReal :=
  if R.val / 512 = t.val % 4 then addQ m c t ⟨R.val % 512, Nat.mod_lt _ (by omega)⟩ d else 0

theorem coords3 : (grid0.coords t 3).val = t.val % 4 := by
  have e : (grid0.coords t 3).val = t.val / 1 % 4 := Pipeline.Grid.coords_val t 3 (by decide) rfl
  rw [e, Nat.div_one]

theorem off1 : k0_off1 (grid0.coords t) = ![0, 512 * (t.val % 4), 0] := by
  rw [k0_off1_eq, coords3]

/-- Rows stored over earlier contents, read back; and rows loaded. -/
theorem rows_stored (v : View sig .tc .vmem S1x2048x128 .f32) (f : v.ty.Contents (Elt Ideal))
    (off : Fin 3 → Nat) (inb : ∀ a, off a + (![1, 512, 128] : Fin 3 → Nat) a ≤ S1x2048x128.size a)
    (L : List (View.Piece (Elt Ideal) S1x2048x128 .f32))
    (w : (Rect.unit (s := S1x2048x128) off ![1, 512, 128] inb).shape.Idx → EReal) (n : Nat) (ho : off = ![0, 512 * n, 0])
    (R : Fin 2048) (d : Fin 128) :
    v.read (Elt Ideal) (v.writes (Elt Ideal) f
        ((⟨Rect.unit (s := S1x2048x128) off ![1, 512, 128] inb, w⟩ : View.Piece (Elt Ideal) S1x2048x128 .f32) :: L)) (ix3 0 R d)
      = if R.val / 512 = n then
          w (ix3 (n0 := 1) (n1 := 512) (n2 := 128) 0 ⟨R.val % 512, Nat.mod_lt _ (by omega)⟩ d)
        else v.read (Elt Ideal) (v.writes (Elt Ideal) f L) (ix3 0 R d) := by
  split
  · refine View.read_writes_cons_unit_of_mem v f inb w L _ _ ho fun a => ?_
    fin_cases a
    · rfl
    · show R.val = 512 * n + R.val % 512
      omega
    · show d.val = 0 + d.val
      omega
  · refine View.read_writes_cons_unit_of_not_mem v f inb w L _ ho (1 : Fin 3) ?_
    show R.val < 512 * n ∨ 512 * n + 512 ≤ R.val
    omega

theorem rows_loaded (X : Vec Ideal S1x2048x128 .f32) (off : Fin 3 → Nat) (inb) (n : Nat) (ho : off = ![0, 512 * n, 0])
    (R : Fin 2048) (hR : R.val / 512 = n) (d : Fin 128) :
    (View.ld X (Rect.unit (s := S1x2048x128) off ![1, 512, 128] inb) : Vec Ideal S1x512x128 .f32)
        (ix3 0 ⟨R.val % 512, Nat.mod_lt _ (by omega)⟩ d)
      = X (ix3 0 R d) := by
  subst ho
  refine View.ld_unit_apply_of X _ _ inb _ _ fun a => ?_
  fin_cases a
  · rfl
  · show R.val = 512 * n + R.val % 512
    omega
  · show d.val = 0 + d.val
    omega

theorem k_first (h : t.val % 4 = 0) (y : Fin 256) (d : Fin 128) :
    (outsAt0 m c t.val t.isLt).2.2.2.1 (ix2 y d) = 0 + addK m c t y d := by
  rw [outsAt0_A m c t h h (by omega)]
  frame_out
  rw [pay12_apply, pay5_apply]
  rfl

theorem k_step (h : ¬t.val % 4 = 0) (y : Fin 256) (d : Fin 128) :
    (outsAt0 m c t.val t.isLt).2.2.2.1 (ix2 y d)
      = (outsAt0 m c (t.val - 1) (Nat.lt_of_le_of_lt (Nat.sub_le _ _) t.isLt)).2.2.2.1 (ix2 y d) + addK m c t y d := by
  by_cases h4 : t.val % 4 = 3
  · rw [outsAt0_C m c t h h h4]
    frame_out
    rw [pay12_apply, read_unread_whole]
    rfl
  · rw [outsAt0_B m c t h h h4]
    frame_out
    rw [pay12_apply, read_unread_whole]
    rfl

theorem v_first (h : t.val % 4 = 0) (y : Fin 256) (d : Fin 128) :
    (outsAt0 m c t.val t.isLt).2.2.2.2 (ix2 y d) = 0 + addV m c t y d := by
  rw [outsAt0_A m c t h h (by omega)]
  frame_out
  rw [pay11_apply, pay6_apply]
  rfl

theorem v_step (h : ¬t.val % 4 = 0) (y : Fin 256) (d : Fin 128) :
    (outsAt0 m c t.val t.isLt).2.2.2.2 (ix2 y d)
      = (outsAt0 m c (t.val - 1) (Nat.lt_of_le_of_lt (Nat.sub_le _ _) t.isLt)).2.2.2.2 (ix2 y d) + addV m c t y d := by
  by_cases h4 : t.val % 4 = 3
  · rw [outsAt0_C m c t h h h4]
    frame_out
    rw [pay11_apply, read_unread_whole]
    rfl
  · rw [outsAt0_B m c t h h h4]
    frame_out
    rw [pay11_apply, read_unread_whole]
    rfl

theorem q_first (h : t.val % 4 = 0) (R : Fin 2048) (d : Fin 128) :
    (outsAt0 m c t.val t.isLt).1 (ix3 0 R d) = 0 + addRow m c t R d := by
  rw [outsAt0_A m c t h h (by omega)]
  frame_out
  rw [← View.read_writes_junk_eq_canon (ms0_6 t).view]
  refine (rows_stored _ _ _ _ _ _ (t.val % 4) (off1 t) R d).trans ?_
  unfold addRow
  split
  · rename_i hR
    rw [rows_apply]
    exact congrArg (· + _) ((rows_loaded _ _ _ _ (off1 t) R hR d).trans (pay4_apply R d))
  · rw [add_zero]
    refine (View.read_writes_cons_unit_of_mem _ _ _ _ _ _ (ix3 0 R d) rfl fun a => ?_).trans (pay4_apply R d)
    fin_cases a <;> exact (Nat.zero_add _).symm

theorem q_step (h : ¬t.val % 4 = 0) (R : Fin 2048) (d : Fin 128) :
    (outsAt0 m c t.val t.isLt).1 (ix3 0 R d)
      = (outsAt0 m c (t.val - 1) (Nat.lt_of_le_of_lt (Nat.sub_le _ _) t.isLt)).1 (ix3 0 R d) + addRow m c t R d := by
  by_cases h4 : t.val % 4 = 3
  · rw [outsAt0_C m c t h h h4]
    frame_out
    refine (rows_stored _ _ _ _ _ _ (t.val % 4) (off1 t) R d).trans ?_
    unfold addRow
    split
    · rename_i hR
      rw [rows_apply]
      exact congrArg (· + _) (rows_loaded _ _ _ _ (off1 t) R hR d)
    · rw [add_zero]
      exact congrFun (Memref.IsWhole.read_unread _ _) _
  · rw [outsAt0_B m c t h h h4]
    frame_out
    refine (rows_stored _ _ _ _ _ _ (t.val % 4) (off1 t) R d).trans ?_
    unfold addRow
    split
    · rename_i hR
      rw [rows_apply]
      exact congrArg (· + _) (rows_loaded _ _ _ _ (off1 t) R hR d)
    · rw [add_zero]
      exact congrFun (Memref.IsWhole.read_unread _ _) _

theorem k_out (h : t.val % 4 = 3) (y : Fin 256) (d : Fin 128) :
    (outsAt0 m c t.val t.isLt).2.1 (ix3 0 y d) = (outsAt0 m c t.val t.isLt).2.2.2.1 (ix2 y d) := by
  rw [outsAt0_C m c t (by omega) (by omega) h]
  frame_out
  rw [pay2_apply]

theorem v_out (h : t.val % 4 = 3) (y : Fin 256) (d : Fin 128) :
    (outsAt0 m c t.val t.isLt).2.2.1 (ix3 0 y d) = (outsAt0 m c t.val t.isLt).2.2.2.2 (ix2 y d) := by
  rw [outsAt0_C m c t (by omega) (by omega) h]
  frame_out
  rw [pay3_apply]

/-! ## The gradients of one head, over whole arrays -/

section
variable (q : FVec Ideal S2x2048x4x128 .f32) (k v : FVec Ideal S2x256x4x128 .f32) (g o : FVec Ideal S2x2048x512 .f32)
  (L : FVec Ideal S2x4x2048x1 .f32) (b : Fin 2) (h : Fin 4)

/-- The probability of key row `C` in query row `R` and the gradient of its score. -/
def probA (R : Fin 2048) (C : Fin 256) : EReal := Ideal.exp (rowS q k b h R C - L (ix4 b h R 0))
def dscoreA (R : Fin 2048) (C : Fin 256) : EReal :=
  probA q k L b h R C * ((∑ d : Fin 128, g (ix3 b R (colH h d)) * v (ix4 b C h d))
    - ∑ d : Fin 128, g (ix3 b R (colH h d)) * o (ix3 b R (colH h d))) * scale

/-- The gradients of the queries, the keys and the values. -/
def gradQ (R : Fin 2048) (d : Fin 128) : EReal := ∑ C : Fin 256, dscoreA q k v g o L b h R C * k (ix4 b C h d)
def gradK (C : Fin 256) (d : Fin 128) : EReal := ∑ R : Fin 2048, dscoreA q k v g o L b h R C * q (ix4 b R h d)
def gradV (C : Fin 256) (d : Fin 128) : EReal := ∑ R : Fin 2048, probA q k L b h R C * g (ix3 b R (colH h d))
end

/-! ## The blocks of a point, in the arrays -/

theorem N_lt : t.val < 32 := lt_of_lt_of_eq t.isLt N_0

/-- The program's arguments, and the output and the log-sums saved for it. -/
abbrev q0 : FVec Ideal S2x2048x4x128 .f32 := m (c, Proc.tc.devRef main_arg0)
abbrev k0 : FVec Ideal S2x256x4x128 .f32 := m (c, Proc.tc.devRef main_arg1)
abbrev v0 : FVec Ideal S2x256x4x128 .f32 := m (c, Proc.tc.devRef main_arg2)
abbrev g0 : FVec Ideal S2x2048x512 .f32 := m (c, Proc.tc.devRef main_arg3)
def o0 : FVec Ideal S2x2048x512 .f32 := Reference27Ideal.Read.val_main_v18 (F := Ideal) (q0 m c) (k0 m c) (v0 m c)
def l0 : FVec Ideal S2x4x2048x1 .f32 := Reference27Ideal.Read.val_main_v25 (F := Ideal) (q0 m c) (k0 m c)

theorem V_q : (V m c main_v1 : Vec Ideal S2x2048x512 .bf16) = shapeCast S2x2048x512 (q0 m c) shapeCasts_S2x2048x4x128_S2x2048x512 := by
  unfold V
  open StableHlo in
  simp only [hostOps0, TRef.binary, TRef.nullary, TRef.ternary, TRef.unary, TRef.toBuf, TRef.ofBuf, cast_eq]
  after_results_simp
  rfl

theorem V_k : (V m c main_v3 : Vec Ideal S2x256x512 .bf16) = shapeCast S2x256x512 (k0 m c) shapeCasts_S2x256x4x128_S2x256x512 := by
  unfold V
  open StableHlo in
  simp only [hostOps0, TRef.binary, TRef.nullary, TRef.ternary, TRef.unary, TRef.toBuf, TRef.ofBuf, cast_eq]
  after_results_simp
  rfl

theorem V_v : (V m c main_v4 : Vec Ideal S2x256x512 .f32) = shapeCast S2x256x512 (v0 m c) shapeCasts_S2x256x4x128_S2x256x512 := by
  unfold V
  open StableHlo in
  simp only [hostOps0, TRef.binary, TRef.nullary, TRef.ternary, TRef.unary, TRef.toBuf, TRef.ofBuf, cast_eq]
  after_results_simp
  rfl

theorem V_g : (V m c main_arg3 : Vec Ideal S2x2048x512 .f32) = g0 m c := by
  unfold V
  open StableHlo in
  simp only [hostOps0, TRef.binary, TRef.nullary, TRef.ternary, TRef.unary, TRef.toBuf, TRef.ofBuf, cast_eq]
  after_results_simp

theorem V_o : (V m c main_v21 : Vec Ideal S2x2048x512 .f32) = o0 m c := by
  unfold V
  open StableHlo in
  simp only [hostOps0, TRef.binary, TRef.nullary, TRef.ternary, TRef.unary, TRef.toBuf, TRef.ofBuf, cast_eq]
  after_results_simp
  rfl

theorem V_l : (V m c main_v30 : Vec Ideal S2x4x2048x1 .f32) = l0 m c := by
  unfold V
  open StableHlo in
  simp only [hostOps0, TRef.binary, TRef.nullary, TRef.ternary, TRef.unary, TRef.toBuf, TRef.ofBuf, cast_eq]
  after_results_simp
  rfl

/-- The batch, the head and the place of a row of the point's query block. -/
abbrev bOf : Fin 2 := ⟨t.val / 16, by have := N_lt t; omega⟩
abbrev hOf : Fin 4 := ⟨t.val / 4 % 4, by omega⟩
abbrev rowQ (x : Fin 512) : Fin 2048 := ⟨(t.val % 4) * 512 + x.val, by omega⟩

theorem idx0 : ∀ t : Fin cfg0.N, win0_0.index t = ![t.val / 16, t.val % 4, t.val / 4 % 4] := by decide +kernel
theorem idx1 : ∀ t : Fin cfg0.N, win0_1.index t = ![t.val / 16, 0, t.val / 4 % 4] := by decide +kernel
theorem idx2 : ∀ t : Fin cfg0.N, win0_2.index t = ![t.val / 16, 0, t.val / 4 % 4] := by decide +kernel
theorem idx3 : ∀ t : Fin cfg0.N, win0_3.index t = ![t.val / 16, t.val % 4, t.val / 4 % 4] := by decide +kernel
theorem idx4 : ∀ t : Fin cfg0.N, win0_4.index t = ![t.val / 16, t.val % 4, t.val / 4 % 4] := by decide +kernel
theorem idx5 : ∀ t : Fin cfg0.N, win0_5.index t = ![t.val / 16, t.val / 4 % 4, t.val % 4, 0] := by decide +kernel
theorem idx6 : ∀ t : Fin cfg0.N, win0_6.index t = ![t.val / 16, 0, t.val / 4 % 4] := by decide +kernel
theorem idx7 : ∀ t : Fin cfg0.N, win0_7.index t = ![t.val / 16, 0, t.val / 4 % 4] := by decide +kernel
theorem idx8 : ∀ t : Fin cfg0.N, win0_8.index t = ![t.val / 16, 0, t.val / 4 % 4] := by decide +kernel

theorem read0 (X : Vec Ideal S2x2048x512 .bf16) (x : Fin 512) (d : Fin 128) :
    (((cfg0.win 0).blk t).view.read (Elt Ideal) X : Vec Ideal S1x512x128 .bf16) (ix3 0 x d) = X (ix3 (bOf t) (rowQ t x) (colH (hOf t) d)) := by
  blk_ext [idx0 t]

theorem blk0 (x : Fin 512) (d : Fin 128) : (iblk m c 0 t : Vec Ideal S1x512x128 .bf16) (ix3 0 x d) = q0 m c (ix4 (bOf t) (rowQ t x) (hOf t) d) :=
  (read0 t _ x d).trans ((congrFun (V_q m c) _).trans (XattnFwd.join_q _ _ _ _ _))

theorem read1 (X : Vec Ideal S2x256x512 .bf16) (y : Fin 256) (d : Fin 128) :
    (((cfg0.win 1).blk t).view.read (Elt Ideal) X : Vec Ideal S1x256x128 .bf16) (ix3 0 y d) = X (ix3 (bOf t) y (colH (hOf t) d)) := by
  blk_ext [idx1 t]

theorem blk1 (y : Fin 256) (d : Fin 128) : (iblk m c 1 t : Vec Ideal S1x256x128 .bf16) (ix3 0 y d) = k0 m c (ix4 (bOf t) y (hOf t) d) :=
  (read1 t _ y d).trans ((congrFun (V_k m c) _).trans (XattnFwd.join_k _ _ _ _ _))

theorem read2 (X : Vec Ideal S2x256x512 .f32) (y : Fin 256) (d : Fin 128) :
    (((cfg0.win 2).blk t).view.read (Elt Ideal) X : Vec Ideal S1x256x128 .f32) (ix3 0 y d) = X (ix3 (bOf t) y (colH (hOf t) d)) := by
  blk_ext [idx2 t]

theorem blk2 (y : Fin 256) (d : Fin 128) : (iblk m c 2 t : Vec Ideal S1x256x128 .f32) (ix3 0 y d) = v0 m c (ix4 (bOf t) y (hOf t) d) :=
  (read2 t _ y d).trans ((congrFun (V_v m c) _).trans (XattnFwd.join_k _ _ _ _ _))

theorem read3 (X : Vec Ideal S2x2048x512 .f32) (x : Fin 512) (d : Fin 128) :
    (((cfg0.win 3).blk t).view.read (Elt Ideal) X : Vec Ideal S1x512x128 .f32) (ix3 0 x d) = X (ix3 (bOf t) (rowQ t x) (colH (hOf t) d)) := by
  blk_ext [idx3 t]

theorem blk3 (x : Fin 512) (d : Fin 128) : (iblk m c 3 t : Vec Ideal S1x512x128 .f32) (ix3 0 x d) = g0 m c (ix3 (bOf t) (rowQ t x) (colH (hOf t) d)) :=
  (read3 t _ x d).trans (congrFun (V_g m c) _)

theorem read4 (X : Vec Ideal S2x2048x512 .f32) (x : Fin 512) (d : Fin 128) :
    (((cfg0.win 4).blk t).view.read (Elt Ideal) X : Vec Ideal S1x512x128 .f32) (ix3 0 x d) = X (ix3 (bOf t) (rowQ t x) (colH (hOf t) d)) := by
  blk_ext [idx4 t]

theorem blk4 (x : Fin 512) (d : Fin 128) : (iblk m c 4 t : Vec Ideal S1x512x128 .f32) (ix3 0 x d) = o0 m c (ix3 (bOf t) (rowQ t x) (colH (hOf t) d)) :=
  (read4 t _ x d).trans (congrFun (V_o m c) _)

theorem read5 (X : Vec Ideal S2x4x2048x1 .f32) (x : Fin 512) :
    (((cfg0.win 5).blk t).view.read (Elt Ideal) X : Vec Ideal S1x1x512x1 .f32) (ix4 0 0 x 0) = X (ix4 (bOf t) (hOf t) (rowQ t x) 0) := by
  blk_ext [idx5 t]

theorem blk5 (x : Fin 512) : (iblk m c 5 t : Vec Ideal S1x1x512x1 .f32) (ix4 0 0 x 0) = l0 m c (ix4 (bOf t) (hOf t) (rowQ t x) 0) :=
  (read5 t _ x).trans (congrFun (V_l m c) _)

theorem tileP_eq (x : Fin 512) (y : Fin 256) : tileP m c t x y = probA (q0 m c) (k0 m c) (l0 m c) (bOf t) (hOf t) (rowQ t x) y := by
  simp only [tileP, prob, probA, rowS, blk0 m c t, blk1 m c t, blk5 m c t]

theorem tileD_eq (x : Fin 512) (y : Fin 256) :
    tileD m c t x y = dscoreA (q0 m c) (k0 m c) (v0 m c) (g0 m c) (o0 m c) (l0 m c) (bOf t) (hOf t) (rowQ t x) y := by
  simp only [tileD, prob, dscore, dscoreA, probA, rowS, blk0 m c t, blk1 m c t, blk2 m c t, blk3 m c t, blk4 m c t, blk5 m c t]

/-! ## The sums over the points of a head -/

/-- The points of a head's run: their batch, head and rows. -/
theorem run_at (h : t.val % 4 = 3) (s : Fin 4) (hp : 4 * (t.val / 4) + s.val < cfg0.N) :
    bOf ⟨4 * (t.val / 4) + s.val, hp⟩ = bOf t ∧ hOf ⟨4 * (t.val / 4) + s.val, hp⟩ = hOf t
      ∧ ∀ x, (rowQ ⟨4 * (t.val / 4) + s.val, hp⟩ x).val = s.val * 512 + x.val := by
  have hs := s.isLt
  have ht := N_lt t
  refine ⟨Fin.ext ?_, Fin.ext ?_, fun x => ?_⟩ <;> (show _ = _) <;> dsimp only <;> omega

theorem k_total (h : t.val % 4 = 3) (y : Fin 256) (d : Fin 128) :
    (outsAt0 m c t.val t.isLt).2.1 (ix3 0 y d)
      = gradK (q0 m c) (k0 m c) (v0 m c) (g0 m c) (o0 m c) (l0 m c) (bOf t) (hOf t) y d := by
  rw [k_out m c t h]
  refine (Pipeline.eq_sum_fin_of_reset_step_apply_of_flush
    (fun n h (i : Fin 256 × Fin 128) => (outsAt0 m c n h).2.2.2.1 (ix2 i.1 i.2)) 4 (fun _ => 0)
    (fun p i => addK m c p i.1 i.2) (fun p hp i => k_first m c p hp i.1 i.2) (fun p hp i => k_step m c p hp i.1 i.2)
    t h (y, d)).trans ?_
  rw [zero_add]
  simp only [gradK, addK, tileD_eq, blk0 m c]
  refine Fin.sum_mul_add_congr (fun s x hl => ?_)
  obtain ⟨e1, e2, e3⟩ := run_at t h s (Pipeline.run_point_lt_of_flush t h s)
  rw [e1, e2, show rowQ ⟨4 * (t.val / 4) + s.val, Pipeline.run_point_lt_of_flush t h s⟩ x = ⟨s.val * 512 + x.val, hl⟩ from Fin.ext (e3 x)]

theorem v_total (h : t.val % 4 = 3) (y : Fin 256) (d : Fin 128) :
    (outsAt0 m c t.val t.isLt).2.2.1 (ix3 0 y d) = gradV (q0 m c) (k0 m c) (g0 m c) (l0 m c) (bOf t) (hOf t) y d := by
  rw [v_out m c t h]
  refine (Pipeline.eq_sum_fin_of_reset_step_apply_of_flush
    (fun n h (i : Fin 256 × Fin 128) => (outsAt0 m c n h).2.2.2.2 (ix2 i.1 i.2)) 4 (fun _ => 0)
    (fun p i => addV m c p i.1 i.2) (fun p hp i => v_first m c p hp i.1 i.2) (fun p hp i => v_step m c p hp i.1 i.2)
    t h (y, d)).trans ?_
  rw [zero_add]
  simp only [gradV, addV, tileP_eq, blk3 m c]
  refine Fin.sum_mul_add_congr (fun s x hl => ?_)
  obtain ⟨e1, e2, e3⟩ := run_at t h s (Pipeline.run_point_lt_of_flush t h s)
  rw [e1, e2, show rowQ ⟨4 * (t.val / 4) + s.val, Pipeline.run_point_lt_of_flush t h s⟩ x = ⟨s.val * 512 + x.val, hl⟩ from Fin.ext (e3 x)]

/-- Of a head's four points only the row's own adds to it. -/
theorem q_total (h : t.val % 4 = 3) (R : Fin 2048) (d : Fin 128) :
    (outsAt0 m c t.val t.isLt).1 (ix3 0 R d)
      = gradQ (q0 m c) (k0 m c) (v0 m c) (g0 m c) (o0 m c) (l0 m c) (bOf t) (hOf t) R d := by
  refine (Pipeline.eq_sum_fin_of_reset_step_apply_of_flush
    (fun n h (i : Fin 2048 × Fin 128) => (outsAt0 m c n h).1 (ix3 0 i.1 i.2)) 4 (fun _ => 0)
    (fun p i => addRow m c p i.1 i.2) (fun p hp i => q_first m c p hp i.1 i.2) (fun p hp i => q_step m c p hp i.1 i.2)
    t h (R, d)).trans ?_
  rw [zero_add]
  have hR := R.isLt
  have hi : R.val / 512 < 4 := by omega
  unfold addRow
  rw [Finset.sum_eq_single (⟨R.val / 512, hi⟩ : Fin 4) (fun s _ hne => if_neg fun e => hne (Fin.ext ?_))
    (fun hn => absurd (Finset.mem_univ _) hn)]
  · obtain ⟨e1, e2, e3⟩ := run_at t h ⟨R.val / 512, hi⟩ (Pipeline.run_point_lt_of_flush t h ⟨R.val / 512, hi⟩)
    rw [if_pos (by show R.val / 512 = (4 * (t.val / 4) + R.val / 512) % 4; omega)]
    simp only [gradQ, addQ, tileD_eq, blk1 m c]
    rw [e1, e2, show rowQ ⟨4 * (t.val / 4) + R.val / 512, Pipeline.run_point_lt_of_flush t h ⟨R.val / 512, hi⟩⟩
      ⟨R.val % 512, Nat.mod_lt _ (by omega)⟩ = R from Fin.ext ((e3 _).trans (by show R.val / 512 * 512 + R.val % 512 = _; omega))]
  · have e : R.val / 512 = (4 * (t.val / 4) + s.val) % 4 := e
    have := s.isLt
    show s.val = R.val / 512
    omega

/-! ## The arrays -/

theorem at_place {n : ℕ} (f : Fin 2 → Fin 4 → Fin n → Fin 128 → Ideal .f32) {b b' : Fin 2} {h h' : Fin 4} {R R' : Fin n}
    {d d' : Fin 128} (eb : b.val = b'.val) (eh : h.val = h'.val) (eR : R.val = R'.val) (ed : d.val = d'.val) :
    f b h R d = f b' h' R' d' := by
  rw [Fin.ext eb, Fin.ext eh, Fin.ext eR, Fin.ext ed]

def res6 : Vec Ideal S2x2048x512 .f32 := fun i : S2x2048x512.Idx =>
  gradQ (q0 m c) (k0 m c) (v0 m c) (g0 m c) (o0 m c) (l0 m c) (i 0) ⟨(i 2).val / 128, by idx_bounds i; omega⟩ (i 1)
    ⟨(i 2).val % 128, Nat.mod_lt _ (by omega)⟩
def res7 : Vec Ideal S2x256x512 .f32 := fun i : S2x256x512.Idx =>
  gradK (q0 m c) (k0 m c) (v0 m c) (g0 m c) (o0 m c) (l0 m c) (i 0) ⟨(i 2).val / 128, by idx_bounds i; omega⟩ (i 1)
    ⟨(i 2).val % 128, Nat.mod_lt _ (by omega)⟩
def res8 : Vec Ideal S2x256x512 .f32 := fun i : S2x256x512.Idx =>
  gradV (q0 m c) (k0 m c) (g0 m c) (l0 m c) (i 0) ⟨(i 2).val / 128, by idx_bounds i; omega⟩ (i 1)
    ⟨(i 2).val % 128, Nat.mod_lt _ (by omega)⟩

theorem total6 : (dats m 0 c).arrAt 6 cfg0.N = res6 m c := by
  refine (dats m 0 c).arrAt_eq_of_covers 6 _ (by decide +kernel) fun t hf y => ?_
  have hf := (flush0_6 t).mp hf
  blk_simp
  rw [after0_6]
  idx_vars y
  obtain rfl : y0 = 0 := Subsingleton.elim _ _
  have h2 : y2.val < 128 := y2.isLt
  refine (q_total m c t hf y1 y2).trans ?_
  refine at_place (gradQ (q0 m c) (k0 m c) (v0 m c) (g0 m c) (o0 m c) (l0 m c)) ?_ ?_ ?_ ?_ <;> blk_simp [idx6 t] <;> (try dsimp only [bOf, hOf]) <;> omega

theorem total7 : (dats m 0 c).arrAt 7 cfg0.N = res7 m c := by
  refine (dats m 0 c).arrAt_eq_of_covers 7 _ (by decide +kernel) fun t hf y => ?_
  have hf := (flush0_7 t).mp hf
  blk_simp
  rw [after0_7]
  idx_vars y
  obtain rfl : y0 = 0 := Subsingleton.elim _ _
  have h2 : y2.val < 128 := y2.isLt
  refine (k_total m c t hf y1 y2).trans ?_
  refine at_place (gradK (q0 m c) (k0 m c) (v0 m c) (g0 m c) (o0 m c) (l0 m c)) ?_ ?_ ?_ ?_ <;> blk_simp [idx7 t] <;> (try dsimp only [bOf, hOf]) <;> omega

theorem total8 : (dats m 0 c).arrAt 8 cfg0.N = res8 m c := by
  refine (dats m 0 c).arrAt_eq_of_covers 8 _ (by decide +kernel) fun t hf y => ?_
  have hf := (flush0_8 t).mp hf
  blk_simp
  rw [after0_8]
  idx_vars y
  obtain rfl : y0 = 0 := Subsingleton.elim _ _
  have h2 : y2.val < 128 := y2.isLt
  refine (v_total m c t hf y1 y2).trans ?_
  refine at_place (gradV (q0 m c) (k0 m c) (g0 m c) (l0 m c)) ?_ ?_ ?_ ?_ <;> blk_simp [idx8 t] <;> (try dsimp only [bOf, hOf]) <;> omega

end Cert.XattnBwd
end
-- ==== Proof.Small.XattnBwdRef.lean ====
/- The cross attention's backward call against its reference. -/
module

public import proofs.«01_k».proof.Proof.Small.XattnBwd
public import proofs.«01_k».proof.Proof.Reference
public import proofs.«01_k».proof.Proof.Gen.Reference33Ideal.Run
public import proofs.«01_k».proof.Proof.Gen.Reference33Ideal.Read
public import proofs.«01_k».proof.Proof.Gen.Pre_xattn_bwd_finite

@[expose] public section
set_option maxRecDepth 16384
noncomputable section
namespace Cert.XattnBwd
open Idealize.ShloMosaic Idealize.SL.Sem Cert.Kernel33Ideal Cert.Kernel33Ideal.Gen
open Cert.XattnFwd (scale rowS colH topOf totOf outL)

/-! ## The reference's stages, for any arrays -/

section Stages
open Cert.Reference33Ideal.Gen
variable (b : Fin 2) (h : Fin 4) (R : Fin 2048) (C : Fin 256) (d : Fin 128)
variable (q : FVec Ideal S2x2048x4x128 .f32) (k v : FVec Ideal S2x256x4x128 .f32) (g : FVec Ideal S2x2048x512 .f32)
variable (w : FVec Ideal Reference33Ideal.S2x4x128x2048 .f32)
variable (s e : FVec Ideal Reference33Ideal.S2x4x2048x256 .f32) (t l : FVec Ideal Reference33Ideal.S2x4x2048 .f32)

/-- The cotangent's heads taken apart, and its rows brought last. -/
theorem split_g : (shapeCast Reference33Ideal.S2x2048x4x128 g Reference33Ideal.Gen.shapeCasts_S2x2048x512_S2x2048x4x128) (ix4 b R h d)
    = g (ix3 b R (colH h d)) := by
  refine shapeCast_apply g _ _ _ ?_
  rw [Shape.rowMajor_val_four, Shape.rowMajor_val_three]
  show (b.val * 2048 + R.val) * 512 + (h.val * 128 + d.val) = ((b.val * 2048 + R.val) * 4 + h.val) * 128 + d.val
  omega

theorem rows_last : transpose Reference33Ideal.S2x4x128x2048 [0, 2, 3, 1] q transposes_S2x2048x4x128_S2x4x128x2048_0_2_3_1 (ix4 b h d R)
    = q (ix4 b R h d) := by
  pointwise

theorem dprob_stage : Host.dotGeneral Reference33Ideal.dot_S2x4x128x2048_S2x256x4x128_S2x4x2048x256_2_3_3_1_01_02 none w v (ix4 b h R C)
    = ∑ d, w (ix4 b h d R) * v (ix4 b C h d) := by
  pointwise

theorem dv_stage (j : Fin 512) : (shapeCast Reference33Ideal.S2x256x512 (transpose Reference33Ideal.S2x256x4x128 [0, 3, 1, 2]
      (Host.dotGeneral Reference33Ideal.dot_S2x4x128x2048_S2x4x2048x256_S2x4x128x256_3_2_2_3_01_01 none w e) transposes_S2x4x128x256_S2x256x4x128_0_3_1_2)
      Reference33Ideal.Gen.shapeCasts_S2x256x4x128_S2x256x512 : FVec Ideal Reference33Ideal.S2x256x512 .f32) (ix3 b C j)
    = ∑ R, w (ix4 b ⟨j.val / 128, by omega⟩ ⟨j.val % 128, by omega⟩ R) * e (ix4 b ⟨j.val / 128, by omega⟩ R C) := by
  pointwise

theorem dk_stage (j : Fin 512) : (shapeCast Reference33Ideal.S2x256x512 (transpose Reference33Ideal.S2x256x4x128 [0, 2, 1, 3]
      (Host.dotGeneral Reference33Ideal.dot_S2x4x2048x256_S2x2048x4x128_S2x4x256x128_2_1_3_3_01_02 none e q) transposes_S2x4x256x128_S2x256x4x128_0_2_1_3)
      Reference33Ideal.Gen.shapeCasts_S2x256x4x128_S2x256x512 : FVec Ideal Reference33Ideal.S2x256x512 .f32) (ix3 b C j)
    = ∑ R, e (ix4 b ⟨j.val / 128, by omega⟩ R C) * q (ix4 b R ⟨j.val / 128, by omega⟩ ⟨j.val % 128, by omega⟩) := by
  pointwise

theorem dq_stage (j : Fin 512) : (shapeCast Reference33Ideal.S2x2048x512 (transpose Reference33Ideal.S2x2048x4x128 [0, 2, 1, 3]
      (Host.dotGeneral Reference33Ideal.dot_S2x4x2048x256_S2x256x4x128_S2x4x2048x128_3_1_2_3_01_02 none e k) transposes_S2x4x2048x128_S2x2048x4x128_0_2_1_3)
      Reference33Ideal.Gen.shapeCasts_S2x2048x4x128_S2x2048x512 : FVec Ideal Reference33Ideal.S2x2048x512 .f32) (ix3 b R j)
    = ∑ C, e (ix4 b ⟨j.val / 128, by omega⟩ R C) * k (ix4 b C ⟨j.val / 128, by omega⟩ ⟨j.val % 128, by omega⟩) := by
  pointwise

/-- The row's sum, a column repeated over the keys, and one over its square. -/
abbrev colOf : FVec Ideal Reference33Ideal.S2x4x2048x1 .f32 :=
  broadcastInDim Reference33Ideal.S2x4x2048x1 ![0, 1, 2] Reference33Ideal.Gen.bcast_S2x4x2048_S2x4x2048x1_0_1_2 l
abbrev spread (x : FVec Ideal Reference33Ideal.S2x4x2048x1 .f32) : FVec Ideal Reference33Ideal.S2x4x2048x256 .f32 :=
  broadcastInDim Reference33Ideal.S2x4x2048x256 ![0, 1, 2, 3] Reference33Ideal.Gen.bcast_S2x4x2048x1_S2x4x2048x256_0_1_2_3 x
abbrev invOf : FVec Ideal Reference33Ideal.S2x4x2048x1 .f32 :=
  Host.divf (broadcastInDim Reference33Ideal.S2x4x2048x1 ![] Reference33Ideal.Gen.bcast_S_S2x4x2048x1 (constant (F := Ideal) Reference33Ideal.S_ .f32 0x3F800000#32))
    (mulf (colOf l) (colOf l))

theorem inv_stage : mulf (mulf s (spread (invOf l))) e (ix4 b h R C)
    = s (ix4 b h R C) * Ideal.div 1 (l (ix3 b h R) * l (ix3 b h R)) * e (ix4 b h R C) := by
  pointwise

theorem neg_stage : Host.reduceAdd (Host.negf (shapeCast Reference33Ideal.S2x4x2048x1 t Reference33Ideal.Gen.shapeCasts_S2x4x2048_S2x4x2048x1
      : FVec Ideal Reference33Ideal.S2x4x2048x1 .f32)) (constant (F := Ideal) Reference33Ideal.S_ .f32 0x00000000#32)
    reducesTo_S2x4x2048x1_S2x4x2048_d3 Reference33Ideal.Gen.h_S_ (ix3 b h R) = -t (ix3 b h R) := by
  pointwise
  exact Fin.sum_univ_one _

theorem ds_stage : mulf (mulf (addf (Host.divf s (spread (colOf l)))
      (broadcastInDim Reference33Ideal.S2x4x2048x256 ![0, 1, 2] Reference33Ideal.Gen.bcast_S2x4x2048_S2x4x2048x256_0_1_2 t)) e)
      (broadcastInDim Reference33Ideal.S2x4x2048x256 ![] Reference33Ideal.Gen.bcast_S_S2x4x2048x256 (constant (F := Ideal) Reference33Ideal.S_ .f32 0x3DB504F3#32)) (ix4 b h R C)
    = (Ideal.div (s (ix4 b h R C)) (l (ix3 b h R)) + t (ix3 b h R)) * e (ix4 b h R C) * scale := by
  pointwise
end Stages

section Reference
open Cert.Reference33Ideal.Read
variable (q : FVec Ideal S2x2048x4x128 .f32) (k v : FVec Ideal S2x256x4x128 .f32) (g : FVec Ideal S2x2048x512 .f32)
  (b : Fin 2) (h : Fin 4) (R : Fin 2048) (C : Fin 256)

/-- The sum over a row's head of the cotangent times a value row. -/
def dp : EReal := ∑ d : Fin 128, g (ix3 b R (colH h d)) * v (ix4 b C h d)

theorem rexp : val_main_v23 (F := Ideal) q k (ix4 b h R C) = Ideal.exp (rowS q k b h R C - topOf (rowS q k b h R)) :=
  XattnFwd.rexp' q k b h R C

theorem rtot : val_main_v24 (F := Ideal) q k (ix3 b h R) = totOf (rowS q k b h R) :=
  XattnFwd.rtot' q k b h R

theorem rprob : val_main_v27 (F := Ideal) q k (ix4 b h R C)
    = Ideal.div (Ideal.exp (rowS q k b h R C - topOf (rowS q k b h R))) (totOf (rowS q k b h R)) :=
  XattnFwd.rprob q k b h R C

theorem rcot (d : Fin 128) : val_main_v34 (F := Ideal) g (ix4 b h d R) = g (ix3 b R (colH h d)) :=
  (rows_last b h R d (val_main_v33 (F := Ideal) g)).trans (split_g b h R d g)

theorem rdp : val_main_v35 (F := Ideal) v g (ix4 b h R C) = dp v g b h R C := by
  refine (dprob_stage b h R C v (val_main_v34 (F := Ideal) g)).trans ?_
  simp only [rcot]
  rfl

theorem rmean : val_main_v41 (F := Ideal) q k v g (ix3 b h R)
    = ∑ C, dp v g b h R C * Ideal.div 1 (totOf (rowS q k b h R) * totOf (rowS q k b h R)) * Ideal.exp (rowS q k b h R C - topOf (rowS q k b h R)) := by
  refine (XattnFwd.sum_stage b h R (val_main_v40 (F := Ideal) q k v g)).trans ?_
  refine Finset.sum_congr rfl fun C _ => ?_
  rw [← rdp, ← rtot, ← rexp]
  exact inv_stage b h R C (val_main_v35 (F := Ideal) v g) (val_main_v23 (F := Ideal) q k) (val_main_v24 (F := Ideal) q k)

theorem rneg : val_main_v46 (F := Ideal) q k v g (ix3 b h R) = -val_main_v41 (F := Ideal) q k v g (ix3 b h R) :=
  neg_stage b h R (val_main_v41 (F := Ideal) q k v g)

theorem rds : val_main_v51 (F := Ideal) q k v g (ix4 b h R C)
    = (Ideal.div (dp v g b h R C) (totOf (rowS q k b h R)) + -val_main_v41 (F := Ideal) q k v g (ix3 b h R))
        * Ideal.exp (rowS q k b h R C - topOf (rowS q k b h R)) * scale := by
  rw [← rneg, ← rdp, ← rtot, ← rexp]
  exact ds_stage b h R C (val_main_v35 (F := Ideal) v g) (val_main_v23 (F := Ideal) q k) (val_main_v46 (F := Ideal) q k v g)
    (val_main_v24 (F := Ideal) q k)
end Reference

/-! ## Real arguments -/

/-- The arguments hold real numbers. -/
structure Real4 (q : FVec Ideal S2x2048x4x128 .f32) (k v : FVec Ideal S2x256x4x128 .f32) (g : FVec Ideal S2x2048x512 .f32) : Prop where
  hq : ∀ b R h x, ∃ r : ℝ, q (ix4 b R h x) = (r : EReal)
  hk : ∀ b C h x, ∃ r : ℝ, k (ix4 b C h x) = (r : EReal)
  hv : ∀ b C h x, ∃ r : ℝ, v (ix4 b C h x) = (r : EReal)
  hg : ∀ b R j, ∃ r : ℝ, g (ix3 b R j) = (r : EReal)

theorem real4 (q : FVec Ideal Pre_xattn_bwd_finite.S2x2048x4x128 .f32) (k v : FVec Ideal Pre_xattn_bwd_finite.S2x256x4x128 .f32)
    (g : FVec Ideal Pre_xattn_bwd_finite.S2x2048x512 .f32)
    (h : Pre_xattn_bwd_finite.fn (F := Ideal) q k v g = fun _ => 1#1) : Real4 q k v g := by
  have h := congrFun h ix0
  dsimp only [Pre_xattn_bwd_finite.fn, Pre_xattn_bwd_finite.fn_part1] at h
  obtain ⟨h, hg⟩ := Attn.andi_one h
  obtain ⟨h, hv⟩ := Attn.andi_one h
  obtain ⟨hq, hk⟩ := Attn.andi_one h
  have hq := Host.reduce_andi_all _ _ _ _ _ hq
  have hk := Host.reduce_andi_all _ _ _ _ _ hk
  have hv := Host.reduce_andi_all _ _ _ _ _ hv
  have hg := Host.reduce_andi_all _ _ _ _ _ hg
  refine ⟨fun b R h x => ?_, fun b C h x => ?_, fun b C h x => ?_, fun b R j => ?_⟩
  · have e := hq (ix4 b R h x)
    pointwise at e
    exact Attn.real_of_abs_lt e
  · have e := hk (ix4 b C h x)
    pointwise at e
    exact Attn.real_of_abs_lt e
  · have e := hv (ix4 b C h x)
    pointwise at e
    exact Attn.real_of_abs_lt e
  · have e := hg (ix3 b R j)
    pointwise at e
    exact Attn.real_of_abs_lt e

section
open Cert.Reference33Ideal.Read
variable {q : FVec Ideal S2x2048x4x128 .f32} {k v : FVec Ideal S2x256x4x128 .f32} {g : FVec Ideal S2x2048x512 .f32}
  (b : Fin 2) (h : Fin 4) (R : Fin 2048)

/-- The output and the log-sums saved by the forward call. -/
abbrev outA (q : FVec Ideal S2x2048x4x128 .f32) (k v : FVec Ideal S2x256x4x128 .f32) : FVec Ideal S2x2048x512 .f32 :=
  Reference27Ideal.Read.val_main_v18 (F := Ideal) q k v
abbrev lseA (q : FVec Ideal S2x2048x4x128 .f32) (k : FVec Ideal S2x256x4x128 .f32) : FVec Ideal S2x4x2048x1 .f32 :=
  Reference27Ideal.Read.val_main_v25 (F := Ideal) q k

/-- One row of one head as real numbers: its scores, its greatest and its sum of exponentials. -/
theorem row_facts (H : Real4 q k v g) : ∃ (σ : Fin 256 → ℝ) (M : ℝ),
    rowS q k b h R = (fun C => (σ C : EReal)) ∧ topOf (rowS q k b h R) = (M : EReal)
      ∧ totOf (rowS q k b h R) = ((∑ C, Real.exp (σ C - M) : ℝ) : EReal) := by
  obtain ⟨σ, hσ⟩ := XattnFwd.rowS_real q k b h R H.hq H.hk
  obtain ⟨M, hM⟩ := XattnFwd.top_real σ
  exact ⟨σ, M, hσ, (congrArg topOf hσ).trans hM, (congrArg totOf hσ).trans (XattnFwd.tot_real σ hM)⟩

theorem out_row (d : Fin 128) : outA q k v (ix3 b R (colH h d)) = ∑ C, v (ix4 b C h d) * val_main_v27 (F := Ideal) q k (ix4 b h R C) := by
  have e1 : (⟨(colH h d).val / 128, by omega⟩ : Fin 4) = h := Fin.ext (by show (h.val * 128 + d.val) / 128 = _; omega)
  have e2 : (⟨(colH h d).val % 128, by omega⟩ : Fin 128) = d := Fin.ext (by show (h.val * 128 + d.val) % 128 = _; omega)
  refine (XattnFwd.rout q k v b R (colH h d)).trans ?_
  rw [e1, e2]
  rfl

theorem prob_eq (H : Real4 q k v g) (C : Fin 256) : probA q k (lseA q k) b h R C = val_main_v27 (F := Ideal) q k (ix4 b h R C) := by
  obtain ⟨σ, M, hσ, hM, hl⟩ := row_facts b h R H
  rw [rprob, hl, hM]
  unfold probA
  rw [show lseA q k (ix4 b h R 0) = _ from XattnFwd.rlse q k b h R]
  unfold outL
  rw [hM, hl, hσ]
  have hp := XattnFwd.exp_sum_pos σ M
  rw [Attn.exp_lse _ _ hp, ← EReal.coe_sub, Ideal.exp_coe, Attn.div_real _ hp]

theorem dscore_eq (H : Real4 q k v g) (C : Fin 256) :
    dscoreA q k v g (outA q k v) (lseA q k) b h R C = val_main_v51 (F := Ideal) q k v g (ix4 b h R C) := by
  obtain ⟨σ, M, hσ, hM, hl⟩ := row_facts b h R H
  obtain ⟨sc, hsc⟩ := XattnFwd.scale_real
  have hp := XattnFwd.exp_sum_pos σ M
  choose gr hgr using H.hg b R
  have hv : ∀ C d, ∃ r : ℝ, v (ix4 b C h d) = (r : EReal) := fun C d => H.hv b C h d
  choose vr hvr using hv
  have hE : ∀ C, Ideal.exp (rowS q k b h R C - topOf (rowS q k b h R)) = ((Real.exp (σ C - M) : ℝ) : EReal) := fun C => by
    rw [hM, hσ, ← EReal.coe_sub, Ideal.exp_coe]
  have hP : ∀ C, val_main_v27 (F := Ideal) q k (ix4 b h R C) = ((Real.exp (σ C - M) / ∑ C, Real.exp (σ C - M) : ℝ) : EReal) := fun C => by
    rw [rprob, hE, hl, Attn.div_real _ hp]
  have hdp : ∀ C, dp v g b h R C = ((∑ d, gr (colH h d) * vr C d : ℝ) : EReal) := fun C => by
    unfold dp
    simp only [hgr, hvr, ← EReal.coe_mul, Attn.sum_coe]
  have hmean : val_main_v41 (F := Ideal) q k v g (ix3 b h R) = ((∑ C, (∑ d, gr (colH h d) * vr C d)
      * (1 / ((∑ C, Real.exp (σ C - M)) * ∑ C, Real.exp (σ C - M))) * Real.exp (σ C - M) : ℝ) : EReal) := by
    rw [rmean, hl, ← EReal.coe_mul, ← EReal.coe_one, Attn.div_real _ (mul_pos hp hp)]
    simp only [hdp, hE, ← EReal.coe_mul, Attn.sum_coe]
  have hdelta : ∑ d : Fin 128, g (ix3 b R (colH h d)) * outA q k v (ix3 b R (colH h d))
      = ((∑ C, (∑ d, gr (colH h d) * vr C d) * (Real.exp (σ C - M) / ∑ C, Real.exp (σ C - M)) : ℝ) : EReal) := by
    rw [← Attn.mean_out]
    simp only [out_row, hP, hgr, hvr, ← EReal.coe_mul, Attn.sum_coe]
  unfold dscoreA
  rw [prob_eq b h R H, hP, hdelta, rds, hmean, hE, hl]
  show _ * (dp v g b h R C - _) * scale = _
  rw [hdp, hsc, Attn.div_real _ hp, ← EReal.coe_sub, ← EReal.coe_neg, ← EReal.coe_add, ← EReal.coe_mul, ← EReal.coe_mul, ← EReal.coe_mul,
    ← EReal.coe_mul]
  exact congrArg _ (Attn.dscore_two_ways (fun C => Real.exp (σ C - M)) (fun C => ∑ d, gr (colH h d) * vr C d) hp sc C)
end

/-! ## The three gradients -/

section
variable (m : (ℓ : Loc nD τ sig) → Buf (Elt Ideal) ℓ) (c : Dev nD)
variable (hpre : Pre_xattn_bwd_finite.fn (F := Ideal) (q0 m c) (k0 m c) (v0 m c) (g0 m c) = fun _ => 1#1)
include hpre
open Cert.Reference33Ideal.Read

theorem ref6 : val_main_v56 (F := Ideal) (q0 m c) (k0 m c) (v0 m c) (g0 m c) = res6 m c := by
  funext i
  idx_vars i
  refine (dq_stage i0 i1 (k0 m c) (val_main_v51 (F := Ideal) (q0 m c) (k0 m c) (v0 m c) (g0 m c)) i2).trans ?_
  simp only [← dscore_eq _ _ _ (real4 _ _ _ _ hpre)]
  rfl

theorem ref7 : val_main_v57 (F := Ideal) (q0 m c) (k0 m c) (v0 m c) (g0 m c) = res7 m c := by
  funext i
  idx_vars i
  refine (dk_stage i0 i1 (q0 m c) (val_main_v51 (F := Ideal) (q0 m c) (k0 m c) (v0 m c) (g0 m c)) i2).trans ?_
  simp only [← dscore_eq _ _ _ (real4 _ _ _ _ hpre)]
  rfl

theorem ref8 : val_main_v58 (F := Ideal) (q0 m c) (k0 m c) (g0 m c) = res8 m c := by
  funext i
  idx_vars i
  refine (dv_stage i0 i1 (val_main_v34 (F := Ideal) (g0 m c)) (val_main_v27 (F := Ideal) (q0 m c) (k0 m c)) i2).trans ?_
  refine (Finset.sum_congr rfl fun R _ => ?_).trans (rfl : gradV (q0 m c) (k0 m c) (g0 m c) (l0 m c) i0 ⟨i2.val / 128, by omega⟩ i1 ⟨i2.val % 128, by omega⟩ = _)
  rw [rcot, ← prob_eq _ _ _ (real4 _ _ _ _ hpre), mul_comm]
  rfl
end

end Cert.XattnBwd
end
-- ==== Proof.Small.LossHead.lean ====
/- The loss head: the loss, summed block by block, and the gradient of the step's output are those of the whole arrays. -/
module

public import proofs.«01_k».proof.Proof.Gen.Kernel34Ideal.Value
public import proofs.«01_k».proof.Proof.Gen.Reference34Ideal.Run
public import proofs.«01_k».proof.Proof.Gen.Reference34Ideal.Read
public import proofs.«01_k».proof.Proof.Small.NormBwd
public import proofs.«01_k».proof.Proof.Small.Running

@[expose] public section
set_option maxRecDepth 16384
noncomputable section
namespace Cert.LossHead
open Idealize.ShloMosaic Idealize.SL.Sem Cert.Kernel34Ideal Cert.Kernel34Ideal.Gen
open NormBwd (inv inv_eq div_len)

/-- A half over the row's length, as the kernel holds it. -/
abbrev halfInv : EReal := Ideal.ofBits FTy.f32 0x39800000#32

theorem pay3_apply (x0 x1 : Vec Ideal S512x2048 .f32) (r : Fin 512) (s : Fin 2048) :
    k0_pay3 (F := Ideal) x0 x1 (ix2 r s) = (x0 (ix2 r s) - x1 (ix2 r s)) * inv := by
  pointwise [k0_pay3, k0_pay2]

theorem pay4_apply (x0 x1 : Vec Ideal S512x2048 .f32) (a : Vec Ideal S1x1 .f32) :
    k0_pay4 (F := Ideal) x0 x1 a (ix2 0 0)
      = a (ix2 0 0) + (∑ r : Fin 512, ∑ s : Fin 2048,
          (x0 (ix2 r s) - x1 (ix2 r s)) * (x0 (ix2 r s) - x1 (ix2 r s))) * halfInv := by
  pointwise [k0_pay4, k0_pay2]

theorem pay1_apply : k0_pay1 (F := Ideal) (ix2 0 0) = 0 := by
  pointwise [k0_pay1]

variable (m : (ℓ : Loc nD τ sig) → Buf (Elt Ideal) ℓ) (c : Dev nD)

/-- The arrays that the program is given: the step's output and the target. -/
def Y : FVec Ideal S4096x2048 .f32 := m (c, Proc.tc.devRef main_arg0)
def Tg : FVec Ideal S4096x2048 .f32 := m (c, Proc.tc.devRef main_arg1)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![0, 0] := by decide +kernel

variable (t : Fin cfg0.N)

theorem N_lt : t.val < 8 := lt_of_lt_of_eq t.isLt N_0

/-- The row of the arrays at a row of the point's block. -/
abbrev row (r : Fin 512) : Fin 4096 := ⟨t.val * 512 + r.val, by have := N_lt t; omega⟩

theorem V_arg0 : (V m c main_arg0 : Vec Ideal S4096x2048 .f32) = Y m c := V_main_arg0 m c
theorem V_arg1 : (V m c main_arg1 : Vec Ideal S4096x2048 .f32) = Tg m c := V_main_arg1 m c

theorem read0 (x : Vec Ideal S4096x2048 .f32) (r : Fin 512) (s : Fin 2048) :
    (((cfg0.win 0).blk t).view.read (Elt Ideal) x : Vec Ideal S512x2048 .f32) (ix2 r s) = x (ix2 (row t r) s) := by
  blk_ext [idx0 t]

theorem blk0 (r : Fin 512) (s : Fin 2048) :
    (iblk m c 0 t : Vec Ideal S512x2048 .f32) (ix2 r s) = Y m c (ix2 (row t r) s) :=
  (read0 t _ r s).trans (congrFun (V_arg0 m c) _)

theorem read1 (x : Vec Ideal S4096x2048 .f32) (r : Fin 512) (s : Fin 2048) :
    (((cfg0.win 1).blk t).view.read (Elt Ideal) x : Vec Ideal S512x2048 .f32) (ix2 r s) = x (ix2 (row t r) s) := by
  blk_ext [idx1 t]

theorem blk1 (r : Fin 512) (s : Fin 2048) :
    (iblk m c 1 t : Vec Ideal S512x2048 .f32) (ix2 r s) = Tg m c (ix2 (row t r) s) :=
  (read1 t _ r s).trans (congrFun (V_arg1 m c) _)

/-- How far the output is from the target at an element. -/
abbrev err (a : Fin 4096) (s : Fin 2048) : EReal := Y m c (ix2 a s) - Tg m c (ix2 a s)

/-- The whole of the output's gradient. -/
def res2 : FVec Ideal S4096x2048 .f32 := fun i => err m c (i 0) (i 1) * inv

theorem total2 : (dats m 0 c).arrAt 2 cfg0.N = res2 m c := by
  refine (dats m 0 c).arrAt_eq_of_covers 2 _ (by decide +kernel) fun t hf y => ?_
  blk_simp
  rw [after0_2]
  idx_vars y
  have e : ((View.whole main_v0_0).slice (win0_2.rect t)).emb (ix2 y0 y1) = ix2 (row t y0) y1 := by
    blk_ext [idx2 t]
  have f : (outsAt0 m c t.val t.isLt).1 (ix2 y0 y1) = res2 m c (ix2 (row t y0) y1) := by
    by_cases h0 : t.val % 8 = 0
    · rw [outsAt0_A m c t h0]
      frame_out
      rw [pay3_apply, blk0, blk1]
      rfl
    · rw [outsAt0_B m c t h0]
      frame_out
      rw [pay3_apply, blk0, blk1]
      rfl
  rw [e]
  exact f

/-- A row's part of the loss. -/
def rowLoss (a : Fin 4096) : EReal := (∑ s : Fin 2048, err m c a s * err m c a s) * halfInv

/-- What the point adds to the loss: its block's rows' parts. -/
def add3 (t : Fin cfg0.N) : EReal := ∑ r : Fin 512, rowLoss m c (row t r)

theorem halfInv_eq : halfInv = ((1 / 4096 : ℝ) : EReal) := by
  simp [halfInv, Ideal.ofBits, Ideal.ieee, -EReal.coe_mul]; norm_num

theorem halfInv_nonneg : 0 ≤ halfInv := by
  rw [halfInv_eq]
  exact_mod_cast (by norm_num : (0 : ℝ) ≤ 1 / 4096)

theorem halfInv_ne : halfInv ≠ ⊤ := by
  rw [halfInv_eq]
  exact EReal.coe_ne_top _

theorem added :
    (∑ r : Fin 512, ∑ s : Fin 2048, err m c (row t r) s * err m c (row t r) s) * halfInv = add3 m c t := by
  rw [mul_comm, Running.mul_sum halfInv_nonneg halfInv_ne]
  exact Finset.sum_congr rfl fun r _ => mul_comm _ _

theorem l_reset (h0 : t.val % 8 = 0) : (outsAt0 m c t.val t.isLt).2 (ix2 0 0) = 0 + add3 m c t := by
  rw [outsAt0_A m c t h0]
  frame_out
  rw [pay4_apply, pay1_apply]
  simp only [blk0, blk1]
  rw [added]

theorem l_step (h0 : ¬t.val % 8 = 0) :
    (outsAt0 m c t.val t.isLt).2 (ix2 0 0)
      = (outsAt0 m c (t.val - 1) (Nat.lt_of_le_of_lt (Nat.sub_le _ _) t.isLt)).2 (ix2 0 0) + add3 m c t := by
  rw [outsAt0_B m c t h0]
  frame_out
  rw [pay4_apply]
  simp only [blk0, blk1]
  rw [added]

/-- The loss. -/
def res3 : FVec Ideal S1x1 .f32 := fun _ => ∑ a : Fin 4096, rowLoss m c a

theorem total3 : (dats m 0 c).arrAt 3 cfg0.N = res3 m c := by
  refine (dats m 0 c).arrAt_eq_of_covers 3 _ (by decide +kernel) fun t hf y => ?_
  blk_simp
  rw [after0_3]
  idx_vars y
  have h4 : t.val % 8 = 7 := (flush0_3 t).mp hf
  have key := Pipeline.eq_sum_fin_of_reset_step_apply_of_flush
    (fun n h (_ : Fin 1) => (outsAt0 m c n h).2 (ix2 0 0)) 8 (fun _ => 0)
    (fun p _ => add3 m c p) (fun p hp _ => l_reset m c p hp) (fun p hp _ => l_step m c p hp)
    t h4 0
  obtain rfl : y0 = 0 := Subsingleton.elim _ _
  obtain rfl : y1 = 0 := Subsingleton.elim _ _
  refine key.trans ?_
  rw [zero_add]
  unfold res3 add3
  refine Fin.sum_mul_add_congr (fun s x hl => ?_)
  have e1 : row ⟨8 * (t.val / 8) + s.val, Pipeline.run_point_lt_of_flush t h4 s⟩ x = ⟨s.val * 512 + x.val, hl⟩ :=
    Fin.ext (by have ht := N_lt t; show _ = _; dsimp only; omega)
  rw [e1]

/-! ## The reference -/

open Reference34Ideal.Read

theorem half_eq : Ideal.ofBits FTy.f32 0x3F000000#32 = ((1 / 2 : ℝ) : EReal) := by
  simp [Ideal.ofBits, Ideal.ieee, -EReal.coe_mul]; norm_num

theorem two_eq : Ideal.ofBits FTy.f32 0x40000000#32 = ((2 : ℝ) : EReal) := by
  simp [Ideal.ofBits, Ideal.ieee, -EReal.coe_mul]; norm_num

/-- Half a square's derivative, spread over the row's length. -/
theorem slope (x : EReal) :
    Ideal.ofBits FTy.f32 0x3F000000#32 * inv * (Ideal.ofBits FTy.f32 0x40000000#32 * x) = x * inv := by
  rw [half_eq, two_eq, inv_eq, ← mul_assoc, ← EReal.coe_mul, ← EReal.coe_mul, mul_comm x]
  norm_num

theorem ref2 : val_main_v14 (F := Ideal) (Y m c) (Tg m c) = res2 m c := by
  funext i
  idx_vars i
  pointwise [val_main_v14, val_main_v13, val_main_v12, val_main_v11, val_main_cst_6, val_main_v10, val_main_v9,
    val_main_cst_4, val_main_cst_5, val_main_v3, val_main_v2, val_main_cst, val_main_v0, res2]
  rw [div_len]
  exact slope _

/-- A row's mean square. -/
theorem ref_mean (a : Fin 4096) :
    val_main_v6 (F := Ideal) (Y m c) (Tg m c) (ix1 a) = (∑ s : Fin 2048, err m c a s * err m c a s) * inv := by
  pointwise [val_main_v6, val_main_v5, val_main_cst_1, val_main_v4, val_main_cst_0, val_main_v1, val_main_v0]
  rw [div_len]

theorem ref3 : val_main_v15 (F := Ideal) (Y m c) (Tg m c) = res3 m c := by
  funext i
  idx_vars i
  pointwise [val_main_v15, val_main_v8, val_main_cst_3, val_main_v7, val_main_cst_2, res3]
  simp only [ref_mean]
  rw [half_eq, Running.mul_sum (by exact_mod_cast (by norm_num : (0 : ℝ) ≤ 1 / 2)) (EReal.coe_ne_top _)]
  refine Finset.sum_congr rfl fun a _ => ?_
  unfold rowLoss
  rw [halfInv_eq, inv_eq, mul_comm, mul_assoc, ← EReal.coe_mul]
  norm_num

end Cert.LossHead
end
-- ==== Proof.Small.Adam.lean ====
/- The optimiser's call for the small weights: the gradients summed over the devices, the updates and the two moments are
   those of the step's lines. -/
module

public import proofs.«01_k».proof.Proof.Gen.Kernel35Ideal.Value
public import proofs.«01_k».proof.Proof.Gen.Reference35Ideal.Run
public import proofs.«01_k».proof.Proof.Gen.Reference35Ideal.Read
public import Idealize.ShloMosaic.Lib.Pointwise
public import Idealize.ShloMosaic.Lib.Pipeline.ValueKit
public import Idealize.ShloMosaic.Lib.Tactic.CleanTypes

@[expose] public section
set_option maxRecDepth 16384
noncomputable section
namespace Cert.Adam
open Idealize.ShloMosaic Idealize.SL.Sem Cert.Kernel35Ideal Cert.Kernel35Ideal.Gen

/-- The two moments after the step, from the gradient and the moment before. -/
def moment1 (g m : EReal) : EReal := Ideal.ofBits FTy.f32 0x3F666666#32 * m + Ideal.ofBits FTy.f32 0x3DCCCCCD#32 * g
def moment2 (g v : EReal) : EReal := Ideal.ofBits FTy.f32 0x3F7FBE77#32 * v + Ideal.ofBits FTy.f32 0x3A83126F#32 * (g * g)

/-- The update of a weight. -/
def delta (g w m v : EReal) : EReal :=
  Ideal.ofBits FTy.f32 0xBA83126F#32
    * (Ideal.div (Ideal.div (moment1 g m) (Ideal.ofBits FTy.f32 0x3F26BD02#32))
        (Ideal.sqrt (Ideal.div (moment2 g v) (Ideal.ofBits FTy.f32 0x3C231ACC#32)) + Ideal.ofBits FTy.f32 0x322BCC77#32)
      + Ideal.ofBits FTy.f32 0x3C23D70A#32 * w)

/-- The eight devices' parts, added one after the other, are their sum. -/
theorem pay8_apply (p : Vec Ideal S8x392x128 .f32) (w m v : Vec Ideal S1x392x128 .f32) (r : Fin 392) (s : Fin 128) :
    k0_pay8 (F := Ideal) p w m v (ix2 r s) = ∑ d : Fin 8, p (ix3 d r s) := by
  rw [Fin.sum_univ_eight]
  pointwise [k0_pay8, k0_pay2]

theorem pay9_apply (p : Vec Ideal S8x392x128 .f32) (w m v : Vec Ideal S1x392x128 .f32) (r : Fin 392) (s : Fin 128) :
    k0_pay9 (F := Ideal) p w m v (ix2 r s) = moment1 (∑ d : Fin 8, p (ix3 d r s)) (m (ix3 0 r s)) := by
  rw [← pay8_apply p w m v]
  pointwise [k0_pay9, k0_pay8, k0_pay3, moment1]

theorem pay4_apply (g : FVec Ideal S392x128 .f32) (v : Vec Ideal S1x392x128 .f32) (r : Fin 392) (s : Fin 128) :
    k0_pay4 (F := Ideal) g v (ix2 r s) = moment2 (g (ix2 r s)) (v (ix3 0 r s)) := by
  pointwise [k0_pay4, moment2]

theorem pay6_apply (g n : FVec Ideal S392x128 .f32) (v w : Vec Ideal S1x392x128 .f32) (m : EReal) (r : Fin 392) (s : Fin 128)
    (hn : n (ix2 r s) = moment1 (g (ix2 r s)) m) :
    k0_pay6 (F := Ideal) g n v w (ix3 0 r s) = delta (g (ix2 r s)) (w (ix3 0 r s)) m (v (ix3 0 r s)) := by
  unfold delta
  rw [← hn, ← pay4_apply]
  pointwise [k0_pay6]

variable (m : (ℓ : Loc nD τ sig) → Buf (Elt Ideal) ℓ) (c : Dev nD)

/-- The arrays that the program is given: the devices' parts of the gradients, the weights, the two moments. -/
def Pt : FVec Ideal S8x392x128 .f32 := m (c, Proc.tc.devRef main_arg0)
def W : FVec Ideal S392x128 .f32 := m (c, Proc.tc.devRef main_arg1)
def M1 : FVec Ideal S392x128 .f32 := m (c, Proc.tc.devRef main_arg2)
def M2 : FVec Ideal S392x128 .f32 := m (c, Proc.tc.devRef main_arg3)

theorem V_arg0 : (V m c main_arg0 : Vec Ideal S8x392x128 .f32) = Pt m c := V_main_arg0 m c

theorem V_v0 (r : Fin 392) (s : Fin 128) : (V m c main_v0 : Vec Ideal S1x392x128 .f32) (ix3 0 r s) = W m c (ix2 r s) := by
  unfold V W
  open StableHlo in
  simp only [hostOps0, TRef.binary, TRef.nullary, TRef.ternary, TRef.unary, TRef.reshape, TRef.toBuf, TRef.ofBuf, cast_eq]
  after_results_simp
  pointwise

theorem V_v1 (r : Fin 392) (s : Fin 128) : (V m c main_v1 : Vec Ideal S1x392x128 .f32) (ix3 0 r s) = M1 m c (ix2 r s) := by
  unfold V M1
  open StableHlo in
  simp only [hostOps0, TRef.binary, TRef.nullary, TRef.ternary, TRef.unary, TRef.reshape, TRef.toBuf, TRef.ofBuf, cast_eq]
  after_results_simp
  pointwise

theorem V_v2 (r : Fin 392) (s : Fin 128) : (V m c main_v2 : Vec Ideal S1x392x128 .f32) (ix3 0 r s) = M2 m c (ix2 r s) := by
  unfold V M2
  open StableHlo in
  simp only [hostOps0, TRef.binary, TRef.nullary, TRef.ternary, TRef.unary, TRef.reshape, TRef.toBuf, TRef.ofBuf, cast_eq]
  after_results_simp
  pointwise

theorem idx0 : ∀ t : Fin cfg0.N, win0_0.index t = ![0, 0, 0] := by decide +kernel
theorem idx1 : ∀ t : Fin cfg0.N, win0_1.index t = ![0, 0, 0] := by decide +kernel
theorem idx2 : ∀ t : Fin cfg0.N, win0_2.index t = ![0, 0, 0] := by decide +kernel
theorem idx3 : ∀ t : Fin cfg0.N, win0_3.index t = ![0, 0, 0] := by decide +kernel
theorem idx4 : ∀ t : Fin cfg0.N, win0_4.index t = ![0, 0, 0] := by decide +kernel
theorem idx5 : ∀ t : Fin cfg0.N, win0_5.index t = ![0, 0, 0] := by decide +kernel
theorem idx6 : ∀ t : Fin cfg0.N, win0_6.index t = ![0, 0, 0] := by decide +kernel
theorem idx7 : ∀ t : Fin cfg0.N, win0_7.index t = ![0, 0, 0] := by decide +kernel

variable (t : Fin cfg0.N)

theorem read0 (x : Vec Ideal S8x392x128 .f32) (d : Fin 8) (r : Fin 392) (s : Fin 128) :
    (((cfg0.win 0).blk t).view.read (Elt Ideal) x : Vec Ideal S8x392x128 .f32) (ix3 d r s) = x (ix3 d r s) := by
  blk_ext [idx0 t]

theorem blk0 (d : Fin 8) (r : Fin 392) (s : Fin 128) :
    (iblk m c 0 t : Vec Ideal S8x392x128 .f32) (ix3 d r s) = Pt m c (ix3 d r s) :=
  (read0 t _ d r s).trans (congrFun (V_arg0 m c) _)

theorem read1 (x : Vec Ideal S1x392x128 .f32) (r : Fin 392) (s : Fin 128) :
    (((cfg0.win 1).blk t).view.read (Elt Ideal) x : Vec Ideal S1x392x128 .f32) (ix3 0 r s) = x (ix3 0 r s) := by
  blk_ext [idx1 t]

theorem blk1 (r : Fin 392) (s : Fin 128) : (iblk m c 1 t : Vec Ideal S1x392x128 .f32) (ix3 0 r s) = W m c (ix2 r s) :=
  (read1 t _ r s).trans (V_v0 m c r s)

theorem read2 (x : Vec Ideal S1x392x128 .f32) (r : Fin 392) (s : Fin 128) :
    (((cfg0.win 2).blk t).view.read (Elt Ideal) x : Vec Ideal S1x392x128 .f32) (ix3 0 r s) = x (ix3 0 r s) := by
  blk_ext [idx2 t]

theorem blk2 (r : Fin 392) (s : Fin 128) : (iblk m c 2 t : Vec Ideal S1x392x128 .f32) (ix3 0 r s) = M1 m c (ix2 r s) :=
  (read2 t _ r s).trans (V_v1 m c r s)

theorem read3 (x : Vec Ideal S1x392x128 .f32) (r : Fin 392) (s : Fin 128) :
    (((cfg0.win 3).blk t).view.read (Elt Ideal) x : Vec Ideal S1x392x128 .f32) (ix3 0 r s) = x (ix3 0 r s) := by
  blk_ext [idx3 t]

theorem blk3 (r : Fin 392) (s : Fin 128) : (iblk m c 3 t : Vec Ideal S1x392x128 .f32) (ix3 0 r s) = M2 m c (ix2 r s) :=
  (read3 t _ r s).trans (V_v2 m c r s)

/-- A gradient, summed over the devices. -/
abbrev gsum (r : Fin 392) (s : Fin 128) : EReal := ∑ d : Fin 8, Pt m c (ix3 d r s)

/-- The gradients, the updates and the two moments. -/
def res4 : FVec Ideal S1x392x128 .f32 := fun i => gsum m c (i 1) (i 2)
def res5 : FVec Ideal S1x392x128 .f32 := fun i =>
  delta (gsum m c (i 1) (i 2)) (W m c (ix2 (i 1) (i 2))) (M1 m c (ix2 (i 1) (i 2))) (M2 m c (ix2 (i 1) (i 2)))
def res6 : FVec Ideal S1x392x128 .f32 := fun i => moment1 (gsum m c (i 1) (i 2)) (M1 m c (ix2 (i 1) (i 2)))
def res7 : FVec Ideal S1x392x128 .f32 := fun i => moment2 (gsum m c (i 1) (i 2)) (M2 m c (ix2 (i 1) (i 2)))

theorem total4 : (dats m 0 c).arrAt 4 cfg0.N = res4 m c := by
  refine (dats m 0 c).arrAt_eq_of_covers 4 _ (by decide +kernel) fun t hf y => ?_
  blk_simp
  rw [after0_4]
  idx_vars y
  obtain rfl : y0 = 0 := Subsingleton.elim _ _
  have e : ((View.whole main_v3_0).slice (win0_4.rect t)).emb (ix3 0 y1 y2) = ix3 0 y1 y2 := by
    blk_ext [idx4 t]
  rw [e]
  unfold out0_4
  frame_out
  pointwise [k0_pay5]
  rw [pay8_apply]
  simp only [blk0]
  rfl

theorem total5 : (dats m 0 c).arrAt 5 cfg0.N = res5 m c := by
  refine (dats m 0 c).arrAt_eq_of_covers 5 _ (by decide +kernel) fun t hf y => ?_
  blk_simp
  rw [after0_5]
  idx_vars y
  obtain rfl : y0 = 0 := Subsingleton.elim _ _
  have e : ((View.whole main_v3_1).slice (win0_5.rect t)).emb (ix3 0 y1 y2) = ix3 0 y1 y2 := by
    blk_ext [idx5 t]
  rw [e]
  unfold out0_5
  frame_out
  rw [pay6_apply _ _ _ _ _ _ _ ((pay9_apply _ (iblk m c 1 t) _ (iblk m c 3 t) y1 y2).trans (by rw [pay8_apply])), pay8_apply]
  simp only [blk0, blk1, blk2, blk3]
  rfl

theorem total6 : (dats m 0 c).arrAt 6 cfg0.N = res6 m c := by
  refine (dats m 0 c).arrAt_eq_of_covers 6 _ (by decide +kernel) fun t hf y => ?_
  blk_simp
  rw [after0_6]
  idx_vars y
  obtain rfl : y0 = 0 := Subsingleton.elim _ _
  have e : ((View.whole main_v3_2).slice (win0_6.rect t)).emb (ix3 0 y1 y2) = ix3 0 y1 y2 := by
    blk_ext [idx6 t]
  rw [e]
  unfold out0_6
  frame_out
  pointwise [k0_pay7]
  rw [pay9_apply]
  simp only [blk0, blk2]
  rfl

theorem total7 : (dats m 0 c).arrAt 7 cfg0.N = res7 m c := by
  refine (dats m 0 c).arrAt_eq_of_covers 7 _ (by decide +kernel) fun t hf y => ?_
  blk_simp
  rw [after0_7]
  idx_vars y
  obtain rfl : y0 = 0 := Subsingleton.elim _ _
  have e : ((View.whole main_v3_3).slice (win0_7.rect t)).emb (ix3 0 y1 y2) = ix3 0 y1 y2 := by
    blk_ext [idx7 t]
  rw [e]
  unfold out0_7
  frame_out
  pointwise [k0_pay1]
  rw [pay4_apply, pay8_apply]
  simp only [blk0, blk3]
  rfl

open Reference35Ideal.Read

/-- The reference's gradient, and its two moments. -/
theorem ref_g (r : Fin 392) (s : Fin 128) : val_main_v0 (F := Ideal) (Pt m c) (ix2 r s) = gsum m c r s := by
  pointwise [val_main_v0, val_main_cst]

theorem ref_m (r : Fin 392) (s : Fin 128) :
    val_main_v5 (F := Ideal) (Pt m c) (M1 m c) (ix2 r s) = moment1 (gsum m c r s) (M1 m c (ix2 r s)) := by
  pointwise [val_main_v5, val_main_v4, val_main_v3, val_main_cst_1, val_main_v2, val_main_v1, val_main_cst_0, moment1]
  rw [ref_g]

theorem ref_v (r : Fin 392) (s : Fin 128) :
    val_main_v11 (F := Ideal) (Pt m c) (M2 m c) (ix2 r s) = moment2 (gsum m c r s) (M2 m c (ix2 r s)) := by
  pointwise [val_main_v11, val_main_v10, val_main_v9, val_main_cst_3, val_main_v8, val_main_v7, val_main_v6, val_main_cst_2,
    moment2]
  rw [ref_g]

theorem ref4 : val_main_v25 (F := Ideal) (Pt m c) = res4 m c := by
  funext i
  idx_vars i
  pointwise [val_main_v25, res4]
  exact ref_g m c _ _

theorem ref5 : val_main_v26 (F := Ideal) (Pt m c) (W m c) (M1 m c) (M2 m c) = res5 m c := by
  funext i
  idx_vars i
  pointwise [val_main_v26, val_main_v24, val_main_v23, val_main_cst_8, val_main_v22, val_main_v21, val_main_v20,
    val_main_cst_7, val_main_v19, val_main_v18, val_main_v17, val_main_cst_6, val_main_v16, val_main_v15, val_main_v14,
    val_main_cst_5, val_main_v13, val_main_v12, val_main_cst_4, res5, delta]
  rw [ref_m, ref_v]

theorem ref6 : val_main_v27 (F := Ideal) (Pt m c) (M1 m c) = res6 m c := by
  funext i
  idx_vars i
  pointwise [val_main_v27, res6]
  exact ref_m m c _ _

theorem ref7 : val_main_v28 (F := Ideal) (Pt m c) (M2 m c) = res7 m c := by
  funext i
  idx_vars i
  pointwise [val_main_v28, res7]
  exact ref_v m c _ _

end Cert.Adam
end
-- ==== Proof.Small.GateFwd.lean ====
/- The output gate's forward call: the gated rows, tile by tile, are those of the whole arrays. -/
module

public import proofs.«01_k».proof.Proof.Gen.Kernel36Ideal.Value
public import proofs.«01_k».proof.Proof.Gen.Reference36Ideal.Run
public import proofs.«01_k».proof.Proof.Gen.Reference36Ideal.Read
public import proofs.«01_k».proof.Proof.Ffn.DownBwd

@[expose] public section
set_option maxRecDepth 16384
noncomputable section
namespace Cert.GateFwd
open Idealize.ShloMosaic Idealize.SL.Sem Cert.Kernel36Ideal Cert.Kernel36Ideal.Gen
open DownBwd (lg)

variable (m : (ℓ : Loc nD τ sig) → Buf (Elt Ideal) ℓ) (c : Dev nD)

/-- The arrays that the program is given: the rows, and the projection whose first columns are the gate. -/
def Y : FVec Ideal S4096x1024 .f32 := m (c, Proc.tc.devRef main_arg0)
def Pr : FVec Ideal S4096x3840 .f32 := m (c, Proc.tc.devRef main_arg1)

/-- The gate's column of the projection. -/
abbrev zc (s : Fin 1024) : Fin 3840 := ⟨s.val, by omega⟩

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel

variable (t : Fin cfg0.N)

theorem N_lt : t.val < 8 := lt_of_lt_of_eq t.isLt N_0

/-- The row of the arrays at a row of the point's tile. -/
abbrev row (r : Fin 512) : Fin 4096 := ⟨t.val * 512 + r.val, by have := N_lt t; omega⟩

theorem V_arg0 : (V m c main_arg0 : Vec Ideal S4096x1024 .f32) = Y m c := V_main_arg0 m c
theorem V_arg1 : (V m c main_arg1 : Vec Ideal S4096x3840 .f32) = Pr m c := V_main_arg1 m c

theorem read0 (x : Vec Ideal S4096x1024 .f32) (r : Fin 512) (s : Fin 1024) :
    (((cfg0.win 0).blk t).view.read (Elt Ideal) x : Vec Ideal S512x1024 .f32) (ix2 r s) = x (ix2 (row t r) s) := by
  blk_ext [idx0 t]

theorem blk0 (r : Fin 512) (s : Fin 1024) :
    (iblk m c 0 t : Vec Ideal S512x1024 .f32) (ix2 r s) = Y m c (ix2 (row t r) s) :=
  (read0 t _ r s).trans (congrFun (V_arg0 m c) _)

theorem blk1 (r : Fin 512) (s : Fin 1024) :
    (X0_1 m c t : Vec Ideal S512x1024 .f32) (ix2 r s) = Pr m c (ix2 (row t r) (zc s)) := by
  unfold X0_1 Pipeline.Window.fill
  rw [dif_pos (moved0_1 t _)]
  refine Eq.trans ?_ (congrFun (V_arg1 m c) _)
  refine congrArg (V m c main_arg1 : Vec Ideal S4096x3840 .f32) ?_
  funext a
  fin_cases a <;> apply Fin.ext <;> blk_simp [idx1 t] <;> rfl

/-- A row's element times the gate's activation. -/
def gated (y z : EReal) : EReal := y * (z * lg z)

/-- The whole of the gated rows. -/
def res2 : FVec Ideal S4096x1024 .f32 := fun i => gated (Y m c i) (Pr m c (ix2 (i 0) (zc (i 1))))

theorem pay1_apply (x0 x1 : Vec Ideal S512x1024 .f32) (r : Fin 512) (s : Fin 1024) :
    k0_pay1 (F := Ideal) x0 x1 (ix2 r s) = gated (x0 (ix2 r s)) (x1 (ix2 r s)) := by
  pointwise [k0_pay1, gated, lg]

theorem total2 : (dats m 0 c).arrAt 2 cfg0.N = res2 m c := by
  refine (dats m 0 c).arrAt_eq_of_covers 2 _ (by decide +kernel) fun t hf y => ?_
  blk_simp
  rw [after0_2, outsAt0]
  frame_out
  idx_vars y
  refine (pay1_apply _ _ _ _).trans ?_
  have e : ((View.whole main_v0).slice (win0_2.rect t)).emb (ix2 y0 y1) = ix2 (row t y0) y1 := by
    blk_ext [idx2 t]
  rw [e, blk0, blk1]
  rfl

open Reference36Ideal.Read

/-- The reference's gate and its logistic. -/
theorem ref_gate (a : Fin 4096) (b : Fin 1024) : val_main_v0 (F := Ideal) (Pr m c) (ix2 a b) = Pr m c (ix2 a (zc b)) := by
  pointwise [val_main_v0]

theorem ref_lg (a : Fin 4096) (b : Fin 1024) :
    val_main_call0_v5 (F := Ideal) (Pr m c) (ix2 a b) = lg (Pr m c (ix2 a (zc b))) := by
  rw [val_main_call0_v5_apply, val_main_call0_v4_apply, val_main_call0_v3_apply, val_main_call0_v2_apply,
    val_main_call0_v1_apply, val_main_call0_v0_apply, val_main_call0_cst_apply, val_main_call0_cst_0_apply, ref_gate]
  pointwise [lg]
  rw [zero_sub]

theorem ref2 : val_main_v2 (F := Ideal) (Y m c) (Pr m c) = res2 m c := by
  funext i
  idx_vars i
  rw [val_main_v2_apply, val_main_v1_apply, ref_gate, ref_lg]
  rfl

end Cert.GateFwd
end
-- ==== Proof.Small.ConvFwd.lean ====
/- The short convolution's forward call: block by block, the activation of the convolution of the whole columns. -/
module

public import proofs.«01_k».proof.Proof.Gen.Kernel37Ideal.Value
public import proofs.«01_k».proof.Proof.Gen.Reference37Ideal.Run
public import proofs.«01_k».proof.Proof.Gen.Reference37Ideal.Read
public import proofs.«01_k».proof.Proof.Small.ConvBwd

@[expose] public section
set_option maxRecDepth 16384
noncomputable section
namespace Cert.ConvFwd
open Idealize.ShloMosaic Idealize.SL.Sem Cert.Kernel37Ideal Cert.Kernel37Ideal.Gen
open DownBwd (lg)
open ConvBwd (back pre back_word back_pad back_first row_loaded)

/-- The activation of a column's convolution. -/
def act (w : Fin 8 → EReal) (u : Fin 2048 → EReal) (t : Fin 2048) : EReal := pre w u t * lg (pre w u t)

/-- A column moved back and then multiplied, or multiplied and then moved back. -/
theorem back_mul (j : ℕ) (u : Fin 2048 → EReal) (a : EReal) (t : Fin 2048) :
    back j (fun k => u k * a) t = back j u t * a := by
  unfold back
  split_ifs
  · rfl
  · exact (zero_mul a).symm

section Block

variable (x : Vec Ideal S1x2048x512 .f32) (t : Fin 2048) (s : Fin 512)

theorem pay2_apply : k0_pay2 (F := Ideal) x (ix2 t s) = x (ix3 0 t s) := by
  pointwise [k0_pay2]

theorem pay4_apply : k0_pay4 (F := Ideal) x (ix2 t s) = back 3 (fun k => x (ix3 0 k s)) t := by
  pointwise [k0_pay4, k0_pay2]
  exact back_word (fun k => x (ix3 0 k s)) t 3 (by omega) _

theorem pay3_apply (w3 w4 w2 w1 : Vec Ideal S1x512 .f32) :
    k0_pay3 (F := Ideal) x w3 w4 w2 w1 (ix2 t s)
      = x (ix3 0 t s) * w3 (ix2 0 s) + w4 (ix2 0 s) + back 1 (fun k => x (ix3 0 k s)) t * w2 (ix2 0 s)
        + back 2 (fun k => x (ix3 0 k s)) t * w1 (ix2 0 s) := by
  pointwise [k0_pay3, k0_pay2]
  rw [← back_mul, ← back_mul, ← back_word _ t 1 (by omega) (by omega), ← back_word _ t 2 (by omega) (by omega)]

/-- A column of the weights' block. -/
abbrev wc (w : Vec Ideal S8x512 .f32) (s : Fin 512) (k : Fin 8) : EReal := w (ix2 k s)

theorem pay1_apply (w : Vec Ideal S8x512 .f32) :
    k0_pay1 (F := Ideal)
      (k0_pay3 x (View.ld w (Rect.unit ![3, 0] ![1, 512] inb_S8x512_S1x512_3_0)) (View.ld w (Rect.unit ![4, 0] ![1, 512] inb_S8x512_S1x512_4_0))
        (View.ld w (Rect.unit ![2, 0] ![1, 512] inb_S8x512_S1x512_2_0)) (View.ld w (Rect.unit ![1, 0] ![1, 512] inb_S8x512_S1x512_1_0)))
      (k0_pay4 x) (View.ld w (Rect.unit ![0, 0] ![1, 512] inb_S8x512_S1x512_0_0)) (ix3 0 t s)
      = act (wc w s) (fun k => x (ix3 0 k s)) t := by
  pointwise [k0_pay1]
  rw [pay3_apply, pay4_apply, row_loaded _ 3 (by omega), row_loaded _ 4 (by omega), row_loaded _ 2 (by omega),
    row_loaded _ 1 (by omega)]
  rfl

end Block

variable (m : (ℓ : Loc nD τ sig) → Buf (Elt Ideal) ℓ) (c : Dev nD)

/-- The arrays that the program is given: the projection, the convolution's weights, its bias. -/
def Pr : FVec Ideal S2x2048x3840 .f32 := m (c, Proc.tc.devRef main_arg0)
def W : FVec Ideal S4x1536 .f32 := m (c, Proc.tc.devRef main_arg1)
def Bi : FVec Ideal S1536 .f32 := m (c, Proc.tc.devRef main_arg2)

/-- A column of the convolution's input, and of the weights with the bias as the fifth row. -/
abbrev uc (b : Fin 2) (j : Fin 1536) (k : Fin 2048) : EReal := Pr m c (ix3 b k ⟨1024 + j.val, by omega⟩)
def w8 (j : Fin 1536) (r : Fin 8) : EReal :=
  if h : r.val < 4 then W m c (ix2 ⟨r.val, h⟩ j) else if r.val = 4 then Bi m c (ix1 j) else 0

theorem idx0 : ∀ t : Fin cfg0.N, win0_0.index t = ![t.val / 3, 0, t.val % 3 + 2] := by decide +kernel
theorem idx1 : ∀ t : Fin cfg0.N, win0_1.index t = ![0, t.val % 3] := by decide +kernel
theorem idx2 : ∀ t : Fin cfg0.N, win0_2.index t = ![t.val / 3, 0, t.val % 3] := by decide +kernel

variable (t : Fin cfg0.N)

theorem N_lt : t.val < 6 := lt_of_lt_of_eq t.isLt N_0

/-- The point's sequence, and the arrays' column at a column of its block. -/
abbrev seq : Fin 2 := ⟨t.val / 3, by have := N_lt t; omega⟩
abbrev col (s : Fin 512) : Fin 1536 := ⟨t.val % 3 * 512 + s.val, by omega⟩

theorem V_arg0 : (V m c main_arg0 : Vec Ideal S2x2048x3840 .f32) = Pr m c := V_main_arg0 m c

theorem V_v2 (r : Fin 8) (j : Fin 1536) : (V m c main_v2 : Vec Ideal S8x1536 .f32) (ix2 r j) = w8 m c j r := by
  unfold V w8 W Bi
  open StableHlo in
  simp only [hostOps0, TRef.nary, TRef.binary, TRef.nullary, TRef.ternary, TRef.unary, TRef.reshape, TRef.toBuf, TRef.ofBuf, cast_eq]
  after_results_simp
  pointwise
  after_results_simp
  pointwise
  by_cases h : r.val < 4
  · rw [dif_pos h, dif_pos h]
  · rw [dif_neg h, dif_neg h]
    by_cases g : r.val = 4
    · rw [dif_pos (by omega), if_pos g]
    · rw [dif_neg (by omega), if_neg g]

theorem blk0 (k : Fin 2048) (s : Fin 512) :
    (X0_0 m c t : Vec Ideal S1x2048x512 .f32) (ix3 0 k s) = uc m c (seq t) (col t s) k := by
  unfold X0_0 Pipeline.Window.fill
  rw [dif_pos (moved0_0 t _)]
  refine Eq.trans ?_ (congrFun (V_arg0 m c) _)
  refine congrArg (V m c main_arg0 : Vec Ideal S2x2048x3840 .f32) ?_
  funext a
  fin_cases a <;> apply Fin.ext <;> blk_simp [idx0 t] <;> (try rfl)
  show (t.val % 3 + 2) * 512 + s.val = 1024 + (t.val % 3 * 512 + s.val)
  omega

theorem read1 (x : Vec Ideal S8x1536 .f32) (r : Fin 8) (s : Fin 512) :
    (((cfg0.win 1).blk t).view.read (Elt Ideal) x : Vec Ideal S8x512 .f32) (ix2 r s) = x (ix2 r (col t s)) := by
  blk_ext [idx1 t]

theorem blk1 (s : Fin 512) : wc (iblk m c 1 t) s = w8 m c (col t s) :=
  funext fun r => (read1 t _ r s).trans (V_v2 m c r _)

/-- The whole of the convolution's activation. -/
def res2 : FVec Ideal S2x2048x1536 .f32 := fun i => act (w8 m c (i 2)) (uc m c (i 0) (i 2)) (i 1)

theorem total2 : (dats m 0 c).arrAt 2 cfg0.N = res2 m c := by
  refine (dats m 0 c).arrAt_eq_of_covers 2 _ (by decide +kernel) fun t hf y => ?_
  blk_simp
  rw [after0_2, outsAt0]
  frame_out
  idx_vars y
  obtain rfl : y0 = 0 := Subsingleton.elim _ _
  have e : ((View.whole main_v3).slice (win0_2.rect t)).emb (ix3 0 y1 y2) = ix3 (seq t) y1 (col t y2) := by
    blk_ext [idx2 t]
  rw [e]
  refine (pay1_apply _ _ _ _).trans ?_
  rw [blk1]
  simp only [blk0]
  rfl

open Reference37Ideal.Read

variable (b : Fin 2) (k : Fin 2048) (j : Fin 1536)

/-- The reference's shifted columns of the padded input. -/
theorem ref_shift0 : val_main_v3 (F := Ideal) (Pr m c) (ix3 b k j) = back 3 (uc m c b j) k := by
  pointwise [val_main_v3, val_main_v2, val_main_v1, val_main_cst, val_main_v0]
  exact back_first (uc m c b j) k (fun _ => by omega)

theorem ref_shift1 : val_main_v11 (F := Ideal) (Pr m c) (ix3 b k j) = back 2 (uc m c b j) k := by
  pointwise [val_main_v11, val_main_v2, val_main_v1, val_main_cst, val_main_v0]
  exact back_pad (uc m c b j) k 2 1 rfl (fun _ => by omega)

theorem ref_shift2 : val_main_v18 (F := Ideal) (Pr m c) (ix3 b k j) = back 1 (uc m c b j) k := by
  pointwise [val_main_v18, val_main_v2, val_main_v1, val_main_cst, val_main_v0]
  exact back_pad (uc m c b j) k 1 2 rfl (fun _ => by omega)

theorem ref_shift3 : val_main_v25 (F := Ideal) (Pr m c) (ix3 b k j) = uc m c b j k := by
  pointwise [val_main_v25, val_main_v2, val_main_v1, val_main_cst, val_main_v0]

/-- The rows of the weights and of the bias. -/
theorem w8_0 : w8 m c j 0 = W m c (ix2 0 j) := dif_pos (by decide)
theorem w8_1 : w8 m c j 1 = W m c (ix2 1 j) := dif_pos (by decide)
theorem w8_2 : w8 m c j 2 = W m c (ix2 2 j) := dif_pos (by decide)
theorem w8_3 : w8 m c j 3 = W m c (ix2 3 j) := dif_pos (by decide)
theorem w8_4 : w8 m c j 4 = Bi m c (ix1 j) := (dif_neg (by decide)).trans (if_pos (by decide))

/-- The reference's convolution before its activation. -/
theorem ref_pre : val_main_v34 (F := Ideal) (Pr m c) (W m c) (Bi m c) (ix3 b k j) = pre (w8 m c j) (uc m c b j) k := by
  pointwise [val_main_v34, val_main_v33, val_main_v32, val_main_v31, val_main_v30, val_main_v29, val_main_v28, val_main_v27,
    val_main_v26, val_main_v24, val_main_v23, val_main_v22, val_main_v21, val_main_v20, val_main_v19, val_main_v17, val_main_v16,
    val_main_v15, val_main_v14, val_main_v13, val_main_v12, val_main_v10, val_main_cst_0, val_main_v9, val_main_v8, val_main_v7,
    val_main_v6, val_main_v5, val_main_v4]
  rw [ref_shift0, ref_shift1, ref_shift2, ref_shift3]
  unfold pre
  rw [w8_0, w8_1, w8_2, w8_3, w8_4]
  abel

theorem ref_lg : val_main_call0_v5 (F := Ideal) (Pr m c) (W m c) (Bi m c) (ix3 b k j) = lg (pre (w8 m c j) (uc m c b j) k) := by
  rw [val_main_call0_v5_apply, val_main_call0_v4_apply, val_main_call0_v3_apply, val_main_call0_v2_apply,
    val_main_call0_v1_apply, val_main_call0_v0_apply, val_main_call0_cst_apply, val_main_call0_cst_0_apply, ref_pre]
  pointwise [lg]
  rw [zero_sub]

theorem ref2 : val_main_v35 (F := Ideal) (Pr m c) (W m c) (Bi m c) = res2 m c := by
  funext i
  idx_vars i
  rw [val_main_v35_apply, ref_lg, ref_pre]
  rfl

end Cert.ConvFwd
end
-- ==== Proof.Small.NormFwd.lean ====
/- The forward call of a root-mean-square norm over whole rows: block by block it is the norm of the whole array. -/
module

public import proofs.«01_k».proof.Proof.Gen.Kernel38Ideal.Value
public import proofs.«01_k».proof.Proof.Gen.Reference38Ideal.Run
public import proofs.«01_k».proof.Proof.Gen.Reference38Ideal.Read
public import proofs.«01_k».proof.Proof.Small.NormBwd

@[expose] public section
set_option maxRecDepth 16384
noncomputable section
namespace Cert.NormFwd
open Idealize.ShloMosaic Idealize.SL.Sem Cert.Kernel38Ideal Cert.Kernel38Ideal.Gen
open NormBwd (inv eps rs div_len)

theorem pay1_apply (x : Vec Ideal S512x2048 .f32) (g : Vec Ideal S1x2048 .f32) (r : Fin 512) (j : Fin 2048) :
    k0_pay1 (F := Ideal) x g (ix2 r j) = x (ix2 r j) * rs (fun k => x (ix2 r k)) * g (ix2 0 j) := by
  pointwise [k0_pay1, rs]

variable (m : (ℓ : Loc nD τ sig) → Buf (Elt Ideal) ℓ) (c : Dev nD)

/-- The arrays that the program is given: the norm's input and its weights. -/
def X : FVec Ideal S4096x2048 .f32 := m (c, Proc.tc.devRef main_arg0)
def G : FVec Ideal S2048 .f32 := m (c, Proc.tc.devRef main_arg1)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel

variable (t : Fin cfg0.N)

theorem N_lt : t.val < 8 := lt_of_lt_of_eq t.isLt N_0

/-- The row of the arrays at a row of the point's block. -/
abbrev row (r : Fin 512) : Fin 4096 := ⟨t.val * 512 + r.val, by have := N_lt t; omega⟩

theorem V_arg0 : (V m c main_arg0 : Vec Ideal S4096x2048 .f32) = X m c := V_main_arg0 m c

theorem V_v0 (j : Fin 2048) : (V m c main_v0 : Vec Ideal S1x2048 .f32) (ix2 0 j) = G m c (ix1 j) := by
  unfold V G
  open StableHlo in
  simp only [hostOps0, TRef.binary, TRef.nullary, TRef.ternary, TRef.unary, TRef.reshape, TRef.toBuf, TRef.ofBuf, cast_eq]
  after_results_simp
  pointwise

theorem read0 (x : Vec Ideal S4096x2048 .f32) (r : Fin 512) (s : Fin 2048) :
    (((cfg0.win 0).blk t).view.read (Elt Ideal) x : Vec Ideal S512x2048 .f32) (ix2 r s) = x (ix2 (row t r) s) := by
  blk_ext [idx0 t]

theorem blk0 (r : Fin 512) (s : Fin 2048) :
    (iblk m c 0 t : Vec Ideal S512x2048 .f32) (ix2 r s) = X m c (ix2 (row t r) s) :=
  (read0 t _ r s).trans (congrFun (V_arg0 m c) _)

theorem read1 (x : Vec Ideal S1x2048 .f32) (s : Fin 2048) :
    (((cfg0.win 1).blk t).view.read (Elt Ideal) x : Vec Ideal S1x2048 .f32) (ix2 0 s) = x (ix2 0 s) := by
  blk_ext [idx1 t]

theorem blk1 (s : Fin 2048) : (iblk m c 1 t : Vec Ideal S1x2048 .f32) (ix2 0 s) = G m c (ix1 s) :=
  (read1 t _ s).trans (V_v0 m c s)

/-- A row of the norm's input. -/
abbrev xr (a : Fin 4096) (k : Fin 2048) : EReal := X m c (ix2 a k)

/-- The whole of the norm. -/
def res2 : FVec Ideal S4096x2048 .bf16 := fun i => X m c i * rs (xr m c (i 0)) * G m c (ix1 (i 1))

theorem total2 : (dats m 0 c).arrAt 2 cfg0.N = res2 m c := by
  refine (dats m 0 c).arrAt_eq_of_covers 2 _ (by decide +kernel) fun t hf y => ?_
  blk_simp
  rw [after0_2]
  idx_vars y
  have e : ((View.whole main_v1).slice (win0_2.rect t)).emb (ix2 y0 y1) = ix2 (row t y0) y1 := by
    blk_ext [idx2 t]
  rw [e]
  unfold out0_2
  frame_out
  rw [pay1_apply]
  simp only [blk0, blk1]
  rfl

open Reference38Ideal.Read

/-- One over the root mean square of a row. -/
theorem ref_rs (a : Fin 4096) : val_main_v7 (F := Ideal) (X m c) (ix2 a 0) = rs (xr m c a) := by
  rw [val_main_v7_apply]
  pointwise [val_main_v6, val_main_v5, val_main_cst_1, val_main_v4, val_main_v3, val_main_cst_0, val_main_v2, val_main_v1,
    val_main_cst, val_main_v0, rs]
  rw [div_len]

theorem ref2 : val_main_v13 (F := Ideal) (X m c) (G m c) = res2 m c := by
  funext i
  idx_vars i
  pointwise [val_main_v13, val_main_v12, val_main_v11, val_main_v10, val_main_v9, val_main_v8, res2]
  rw [ref_rs]

end Cert.NormFwd
end
-- ==== Proof.lean ====
/- The claims, call by call: the program and its ideal reading run and leave the machine quiet, the idealization
   rewrites nothing but the mask's constant in the two attentions' forward calls, and at the extended reals the call's arrays are the reference's arrays. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gradients
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Ffn.GateUp
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Ffn.Down
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Ffn.DownBwd
public import proofs.«01_k».proof.Proof.Gen.Pre_down_bwd_finite
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Ffn.DownWgrad
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Ffn.GateWgrad
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Ffn.GateUpBwd
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Proj.InProj
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Proj.InBwd
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Proj.InWgrad
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Proj.OutProj
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Proj.OutBwd
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Proj.OutWgradSsd
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Proj.OutWgradAttn
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Proj.KvProj
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Proj.KvBwd
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Proj.KvWgrad
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Proj.XqProj
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Proj.XqBwd
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Proj.XqWgrad
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Proj.XoProj
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Proj.XoWgrad
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Small.GateBwd
public import proofs.«01_k».proof.Proof.Gen.Pre_gate_bwd_finite
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Small.NormBwd
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Small.ConvBwd
public import proofs.«01_k».proof.Proof.Gen.Pre_conv_bwd_finite
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Small.MlaFwdRef
public import proofs.«01_k».proof.Proof.Gen.Pre_mla_fwd_finite
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Small.XattnFwdRef
public import proofs.«01_k».proof.Proof.Gen.Pre_xattn_fwd_finite
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Proj.XkProj
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Proj.XkvWgrad
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Proj.XkvBwd
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Proj.QbProj
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.Proj.QbBwd
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.Small.XattnBwdRef
public import proofs.«01_k».proof.Proof.Gen.Pre_xattn_bwd_finite
public import proofs.«01_k».proof.Proof.Gen.Kernel34
public import proofs.«01_k».proof.Proof.Gen.Kernel34.Frame
public import proofs.«01_k».proof.Proof.Gen.Kernel34Ideal
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import proofs.«01_k».proof.Proof.Small.LossHead
public import proofs.«01_k».proof.Proof.Gen.Kernel35
public import proofs.«01_k».proof.Proof.Gen.Kernel35.Frame
public import proofs.«01_k».proof.Proof.Gen.Kernel35Ideal
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import proofs.«01_k».proof.Proof.Small.Adam
public import proofs.«01_k».proof.Proof.Gen.Kernel36
public import proofs.«01_k».proof.Proof.Gen.Kernel36.Frame
public import proofs.«01_k».proof.Proof.Gen.Kernel36Ideal
public import proofs.«01_k».proof.Proof.Gen.Kernel36Ideal.Frame
public import proofs.«01_k».proof.Proof.Gen.Kernel36Ideal.Value
public import proofs.«01_k».proof.Proof.Gen.Reference36Ideal
public import proofs.«01_k».proof.Proof.Gen.Reference36Ideal.Run
public import proofs.«01_k».proof.Proof.Gen.Reference36Ideal.Read
public import proofs.«01_k».proof.Proof.Small.GateFwd
public import proofs.«01_k».proof.Proof.Gen.Kernel37
public import proofs.«01_k».proof.Proof.Gen.Kernel37.Frame
public import proofs.«01_k».proof.Proof.Gen.Kernel37Ideal
public import proofs.«01_k».proof.Proof.Gen.Kernel37Ideal.Frame
public import proofs.«01_k».proof.Proof.Gen.Kernel37Ideal.Value
public import proofs.«01_k».proof.Proof.Gen.Reference37Ideal
public import proofs.«01_k».proof.Proof.Gen.Reference37Ideal.Run
public import proofs.«01_k».proof.Proof.Gen.Reference37Ideal.Read
public import proofs.«01_k».proof.Proof.Small.ConvFwd
public import proofs.«01_k».proof.Proof.Gen.Kernel38
public import proofs.«01_k».proof.Proof.Gen.Kernel38.Frame
public import proofs.«01_k».proof.Proof.Gen.Kernel38Ideal
public import proofs.«01_k».proof.Proof.Gen.Kernel38Ideal.Frame
public import proofs.«01_k».proof.Proof.Gen.Kernel38Ideal.Value
public import proofs.«01_k».proof.Proof.Gen.Reference38Ideal
public import proofs.«01_k».proof.Proof.Gen.Reference38Ideal.Run
public import proofs.«01_k».proof.Proof.Gen.Reference38Ideal.Read
public import proofs.«01_k».proof.Proof.Small.NormFwd
public import Idealize.ShloMosaic.Lib.Quiescent

@[expose] public section
set_option maxRecDepth 16384
noncomputable section
namespace Cert.Proof
open Idealize.ShloMosaic Idealize.SL.Sem

/-- The attention's backward call computes the gradients of the reference's attention. -/
theorem attention : Cert.algebraic_KernelIdeal_ReferenceIdeal_pre_finite := by
  intro m g m' g' hpre hagree
  have H := fun c => Attn.real4 _ _ _ _ (hpre c)
  refine ⟨fun c => Attn.Ref.gradQs (Attn.q0 m c) (Attn.k0 m c) (Attn.kv0 m c) (Attn.g0 m c),
    fun c => Attn.Ref.gradKs (Attn.q0 m c) (Attn.k0 m c) (Attn.kv0 m c) (Attn.g0 m c),
    fun c => Attn.Ref.gradVs (Attn.q0 m c) (Attn.k0 m c) (Attn.g0 m c), ?_, ?_⟩
  · refine (θ_run _ _ _).mono (fun r h c => ?_) (Cert.KernelIdeal.Value.run_blocks m g)
    obtain ⟨h6, h7, h8, rest⟩ := h c
    exact ⟨h6.trans (Attn.arr6_ref m c (H c)), h7.trans (Attn.arr7_ref m c (H c)), h8.trans (Attn.arr8_ref m c (H c)), rest⟩
  · refine (θ_run _ _ _).mono (fun r h c => ?_) (Cert.ReferenceIdeal.Value.run m' g')
    obtain ⟨h6, h7, h8, rest⟩ := h c
    obtain ⟨a0, a1, a2, a3⟩ := hagree c
    refine ⟨h6.trans ((Cert.ReferenceIdeal.Read.val_main_v68_eq m' c).trans ?_),
      h7.trans ((Cert.ReferenceIdeal.Read.val_main_v70_eq m' c).trans ?_),
      h8.trans ((Cert.ReferenceIdeal.Read.val_main_v71_eq m' c).trans ?_), rest⟩
    · rw [a0, a1, a2, a3]; rfl
    · rw [a0, a1, a2, a3]; rfl
    · rw [a0, a1, a3]; rfl

/-- The reference runs, keeps its arguments and leaves no counter, for it declares no semaphore. -/
theorem reference : Cert.quiescent_ReferenceIdeal := fun m ρ _ =>
  (θ_run _ _ _).mono (fun r h => ⟨fun c => (h c).2.2.2, sem_eq_zero_of_no_sems (by decide) r.2⟩) (Cert.ReferenceIdeal.Value.run m ρ)

/-- The feed-forward block's first call computes the reference's two products and their activation. -/
theorem gate_up : Cert.algebraic_Kernel2Ideal_Reference2Ideal := by
  intro m g m' g' _ hagree
  refine ⟨fun c => GateUp.res4 m c, fun c => GateUp.res5 m c, fun c => GateUp.res6 m c, ?_, ?_⟩
  · refine (θ_run _ _ _).mono (fun r h c => ?_) (Cert.Kernel2Ideal.Value.run_blocks m g)
    obtain ⟨h4, h5, h6, rest⟩ := h c
    exact ⟨h4.trans (GateUp.total4 m c), h5.trans (GateUp.total5 m c), h6.trans (GateUp.total6 m c), rest⟩
  · refine (θ_run _ _ _).mono (fun r h c => ?_) (Cert.Reference2Ideal.Value.run m' g')
    obtain ⟨h4, h5, h6, rest⟩ := h c
    obtain ⟨a0, a1, a2⟩ := hagree c
    refine ⟨h4.trans ((Cert.Reference2Ideal.Read.val_main_v2_eq _ _).trans ?_), h5.trans ((Cert.Reference2Ideal.Read.val_main_v3_eq _ _).trans ?_), h6.trans ((Cert.Reference2Ideal.Read.val_main_v6_eq _ _ _).trans ?_), rest⟩
    · rw [a0, a1]; exact GateUp.ref4 m c
    · rw [a0, a2]; exact GateUp.ref5 m c
    · rw [a0, a1, a2]; exact GateUp.ref6 m c

theorem reference2 : Cert.quiescent_Reference2Ideal := fun m ρ _ =>
  (θ_run _ _ _).mono (fun r h => ⟨fun c => (h c).2.2.2, sem_eq_zero_of_no_sems (by decide) r.2⟩) (Cert.Reference2Ideal.Value.run m ρ)

/-- The feed-forward block's second call computes the reference's product and residual. -/
theorem down : Cert.algebraic_Kernel3Ideal_Reference3Ideal := by
  intro m g m' g' _ hagree
  refine ⟨fun c => Down.res3 m c, ?_, ?_⟩
  · refine (θ_run _ _ _).mono (fun r h c => ?_) (Cert.Kernel3Ideal.Value.run_blocks m g)
    obtain ⟨h3, rest⟩ := h c
    exact ⟨h3.trans (Down.total3 m c), rest⟩
  · refine (θ_run _ _ _).mono (fun r h c => ?_) (Cert.Reference3Ideal.Value.run m' g')
    obtain ⟨h3, rest⟩ := h c
    obtain ⟨a0, a1, a2⟩ := hagree c
    refine ⟨h3.trans ((Cert.Reference3Ideal.Read.val_main_v1_eq _ _ _).trans ?_), rest⟩
    · rw [a0, a1, a2]; exact Down.ref3 m c

theorem reference3 : Cert.quiescent_Reference3Ideal := fun m ρ _ =>
  (θ_run _ _ _).mono (fun r h => ⟨fun c => (h c).2, sem_eq_zero_of_no_sems (by decide) r.2⟩) (Cert.Reference3Ideal.Value.run m ρ)

/-- The second call's backward computes the gradients of the reference's two factors. -/
theorem down_bwd : Cert.algebraic_Kernel4Ideal_Reference4Ideal_pre_down_bwd_finite := by
  intro m g m' g' hpre hagree
  refine ⟨fun c => DownBwd.res4 m c, fun c => DownBwd.res5 m c, ?_, ?_⟩
  · refine (θ_run _ _ _).mono (fun r h c => ?_) (Cert.Kernel4Ideal.Value.run_blocks m g)
    obtain ⟨h4, h5, rest⟩ := h c
    exact ⟨h4.trans (DownBwd.total4 m c), h5.trans (DownBwd.total5 m c), rest⟩
  · refine (θ_run _ _ _).mono (fun r h c => ?_) (Cert.Reference4Ideal.Value.run m' g')
    obtain ⟨h4, h5, rest⟩ := h c
    obtain ⟨a0, a1, a2, a3⟩ := hagree c
    refine ⟨h4.trans ((Cert.Reference4Ideal.Read.val_main_v7_eq _ _ _ _).trans ?_), h5.trans ((Cert.Reference4Ideal.Read.val_main_v8_eq _ _ _).trans ?_), rest⟩
    · rw [a0, a1, a2, a3]; exact DownBwd.ref4 m c (hpre c)
    · rw [a0, a2, a3]; exact DownBwd.ref5 m c

theorem reference4 : Cert.quiescent_Reference4Ideal := fun m ρ _ =>
  (θ_run _ _ _).mono (fun r h => ⟨fun c => (h c).2.2, sem_eq_zero_of_no_sems (by decide) r.2⟩) (Cert.Reference4Ideal.Value.run m ρ)

/-- The second call's weight gradient is the reference's. -/
theorem down_wgrad : Cert.algebraic_Kernel5Ideal_Reference5Ideal := by
  intro m g m' g' _ hagree
  refine ⟨fun c => DownWgrad.res2 m c, ?_, ?_⟩
  · refine (θ_run _ _ _).mono (fun r h c => ?_) (Cert.Kernel5Ideal.Value.run_blocks m g)
    obtain ⟨h2, rest⟩ := h c
    exact ⟨h2.trans (DownWgrad.total2 m c), rest⟩
  · refine (θ_run _ _ _).mono (fun r h c => ?_) (Cert.Reference5Ideal.Value.run m' g')
    obtain ⟨h2, rest⟩ := h c
    obtain ⟨a0, a1⟩ := hagree c
    refine ⟨h2.trans ((Cert.Reference5Ideal.Read.val_main_v4_eq _ _).trans ?_), rest⟩
    · rw [a0, a1]; exact DownWgrad.ref2 m c

theorem reference5 : Cert.quiescent_Reference5Ideal := fun m ρ _ =>
  (θ_run _ _ _).mono (fun r h => ⟨fun c => (h c).2, sem_eq_zero_of_no_sems (by decide) r.2⟩) (Cert.Reference5Ideal.Value.run m ρ)

/-- The first call's weight gradient is the reference's. -/
theorem gate_wgrad : Cert.algebraic_Kernel6Ideal_Reference6Ideal := by
  intro m g m' g' _ hagree
  refine ⟨fun c => GateWgrad.res2 m c, ?_, ?_⟩
  · refine (θ_run _ _ _).mono (fun r h c => ?_) (Cert.Kernel6Ideal.Value.run_blocks m g)
    obtain ⟨h2, rest⟩ := h c
    exact ⟨h2.trans (GateWgrad.total2 m c), rest⟩
  · refine (θ_run _ _ _).mono (fun r h c => ?_) (Cert.Reference6Ideal.Value.run m' g')
    obtain ⟨h2, rest⟩ := h c
    obtain ⟨a0, a1⟩ := hagree c
    refine ⟨h2.trans ((Cert.Reference6Ideal.Read.val_main_v5_eq _ _).trans ?_), rest⟩
    · rw [a0, a1]; exact GateWgrad.ref2 m c

theorem reference6 : Cert.quiescent_Reference6Ideal := fun m ρ _ =>
  (θ_run _ _ _).mono (fun r h => ⟨fun c => (h c).2, sem_eq_zero_of_no_sems (by decide) r.2⟩) (Cert.Reference6Ideal.Value.run m ρ)

/-- The first call's backward computes the gradient of the reference's input. -/
theorem gate_up_bwd : Cert.algebraic_Kernel7Ideal_Reference7Ideal := by
  intro m g m' g' _ hagree
  refine ⟨fun c => GateUpBwd.res4 m c, ?_, ?_⟩
  · refine (θ_run _ _ _).mono (fun r h c => ?_) (Cert.Kernel7Ideal.Value.run_blocks m g)
    obtain ⟨h4, rest⟩ := h c
    exact ⟨h4.trans (GateUpBwd.total4 m c), rest⟩
  · refine (θ_run _ _ _).mono (fun r h c => ?_) (Cert.Reference7Ideal.Value.run m' g')
    obtain ⟨h4, rest⟩ := h c
    obtain ⟨a0, a1, a2, a3⟩ := hagree c
    refine ⟨h4.trans ((Cert.Reference7Ideal.Read.val_main_v5_eq _ _ _ _).trans ?_), rest⟩
    · rw [a0, a1, a2, a3]; exact GateUpBwd.ref4 m c

theorem reference7 : Cert.quiescent_Reference7Ideal := fun m ρ _ =>
  (θ_run _ _ _).mono (fun r h => ⟨fun c => (h c).2, sem_eq_zero_of_no_sems (by decide) r.2⟩) (Cert.Reference7Ideal.Value.run m ρ)

/-- The input projection's call computes the reference's packed projection. -/
theorem in_proj : Cert.algebraic_Kernel8Ideal_Reference8Ideal := by
  intro m g m' g' _ hagree
  refine ⟨fun c => InProj.res2 m c, ?_, ?_⟩
  · refine (θ_run _ _ _).mono (fun r h c => ?_) (Cert.Kernel8Ideal.Value.run_blocks m g)
    obtain ⟨h2, rest⟩ := h c
    exact ⟨h2.trans (InProj.total2 m c), rest⟩
  · refine (θ_run _ _ _).mono (fun r h c => ?_) (Cert.Reference8Ideal.Value.run m' g')
    obtain ⟨h2, rest⟩ := h c
    obtain ⟨a0, a1⟩ := hagree c
    refine ⟨h2.trans ((Cert.Reference8Ideal.Read.val_main_v5_eq _ _).trans ?_), rest⟩
    · rw [a0, a1]; exact InProj.ref2 m c

theorem reference8 : Cert.quiescent_Reference8Ideal := fun m ρ _ =>
  (θ_run _ _ _).mono (fun r h => ⟨fun c => (h c).2, sem_eq_zero_of_no_sems (by decide) r.2⟩) (Cert.Reference8Ideal.Value.run m ρ)

/-- The input projection's backward computes the gradient of the reference's input. -/
theorem in_bwd : Cert.algebraic_Kernel9Ideal_Reference9Ideal := by
  intro m g m' g' _ hagree
  refine ⟨fun c => InBwd.res2 m c, ?_, ?_⟩
  · refine (θ_run _ _ _).mono (fun r h c => ?_) (Cert.Kernel9Ideal.Value.run_blocks m g)
    obtain ⟨h2, rest⟩ := h c
    exact ⟨h2.trans (InBwd.total2 m c), rest⟩
  · refine (θ_run _ _ _).mono (fun r h c => ?_) (Cert.Reference9Ideal.Value.run m' g')
    obtain ⟨h2, rest⟩ := h c
    obtain ⟨a0, a1⟩ := hagree c
    refine ⟨h2.trans ((Cert.Reference9Ideal.Read.val_main_v17_eq _ _).trans ?_), rest⟩
    · rw [a0, a1]; exact InBwd.ref2 m c

theorem reference9 : Cert.quiescent_Reference9Ideal := fun m ρ _ =>
  (θ_run _ _ _).mono (fun r h => ⟨fun c => (h c).2, sem_eq_zero_of_no_sems (by decide) r.2⟩) (Cert.Reference9Ideal.Value.run m ρ)

/-- The input projection's weight gradient is the reference's. -/
theorem in_wgrad : Cert.algebraic_Kernel10Ideal_Reference10Ideal := by
  intro m g m' g' _ hagree
  refine ⟨fun c => InWgrad.res2 m c, ?_, ?_⟩
  · refine (θ_run _ _ _).mono (fun r h c => ?_) (Cert.Kernel10Ideal.Value.run_blocks m g)
    obtain ⟨h2, rest⟩ := h c
    exact ⟨h2.trans (InWgrad.total2 m c), rest⟩
  · refine (θ_run _ _ _).mono (fun r h c => ?_) (Cert.Reference10Ideal.Value.run m' g')
    obtain ⟨h2, rest⟩ := h c
    obtain ⟨a0, a1⟩ := hagree c
    refine ⟨h2.trans ((Cert.Reference10Ideal.Read.val_main_v5_eq _ _).trans ?_), rest⟩
    · rw [a0, a1]; exact InWgrad.ref2 m c

theorem reference10 : Cert.quiescent_Reference10Ideal := fun m ρ _ =>
  (θ_run _ _ _).mono (fun r h => ⟨fun c => (h c).2, sem_eq_zero_of_no_sems (by decide) r.2⟩) (Cert.Reference10Ideal.Value.run m ρ)

/-- The output projection's call computes the reference's product of the joined mixers and the residual. -/
theorem out_proj : Cert.algebraic_Kernel11Ideal_Reference11Ideal := by
  intro m g m' g' _ hagree
  refine ⟨fun c => OutProj.res5 m c, ?_, ?_⟩
  · refine (θ_run _ _ _).mono (fun r h c => ?_) (Cert.Kernel11Ideal.Value.run_blocks m g)
    obtain ⟨h5, rest⟩ := h c
    exact ⟨h5.trans (OutProj.total5 m c), rest⟩
  · refine (θ_run _ _ _).mono (fun r h c => ?_) (Cert.Reference11Ideal.Value.run m' g')
    obtain ⟨h5, rest⟩ := h c
    obtain ⟨a0, a1, a2, a3⟩ := hagree c
    refine ⟨h5.trans ((Cert.Reference11Ideal.Read.val_main_v2_eq _ _ _ _).trans ?_), rest⟩
    · rw [a0, a1, a2, a3]; exact OutProj.ref5 m c

theorem reference11 : Cert.quiescent_Reference11Ideal := fun m ρ _ =>
  (θ_run _ _ _).mono (fun r h => ⟨fun c => (h c).2, sem_eq_zero_of_no_sems (by decide) r.2⟩) (Cert.Reference11Ideal.Value.run m ρ)

/-- The output projection's backward computes the gradient of the reference's mixed heads. -/
theorem out_bwd : Cert.algebraic_Kernel12Ideal_Reference12Ideal := by
  intro m g m' g' _ hagree
  refine ⟨fun c => OutBwd.res2 m c, ?_, ?_⟩
  · refine (θ_run _ _ _).mono (fun r h c => ?_) (Cert.Kernel12Ideal.Value.run_blocks m g)
    obtain ⟨h2, rest⟩ := h c
    exact ⟨h2.trans (OutBwd.total2 m c), rest⟩
  · refine (θ_run _ _ _).mono (fun r h c => ?_) (Cert.Reference12Ideal.Value.run m' g')
    obtain ⟨h2, rest⟩ := h c
    obtain ⟨a0, a1⟩ := hagree c
    refine ⟨h2.trans ((Cert.Reference12Ideal.Read.val_main_v2_eq _ _).trans ?_), rest⟩
    · rw [a0, a1]; exact OutBwd.ref2 m c

theorem reference12 : Cert.quiescent_Reference12Ideal := fun m ρ _ =>
  (θ_run _ _ _).mono (fun r h => ⟨fun c => (h c).2, sem_eq_zero_of_no_sems (by decide) r.2⟩) (Cert.Reference12Ideal.Value.run m ρ)

/-- The output projection's weight gradient, its upper half, is the reference's. -/
theorem out_wgrad_ssd : Cert.algebraic_Kernel13Ideal_Reference13Ideal := by
  intro m g m' g' _ hagree
  refine ⟨fun c => OutWgradSsd.res2 m c, ?_, ?_⟩
  · refine (θ_run _ _ _).mono (fun r h c => ?_) (Cert.Kernel13Ideal.Value.run_blocks m g)
    obtain ⟨h2, rest⟩ := h c
    exact ⟨h2.trans (OutWgradSsd.total2 m c), rest⟩
  · refine (θ_run _ _ _).mono (fun r h c => ?_) (Cert.Reference13Ideal.Value.run m' g')
    obtain ⟨h2, rest⟩ := h c
    obtain ⟨a0, a1⟩ := hagree c
    refine ⟨h2.trans ((Cert.Reference13Ideal.Read.val_main_v4_eq _ _).trans ?_), rest⟩
    · rw [a0, a1]; exact OutWgradSsd.ref2 m c

theorem reference13 : Cert.quiescent_Reference13Ideal := fun m ρ _ =>
  (θ_run _ _ _).mono (fun r h => ⟨fun c => (h c).2, sem_eq_zero_of_no_sems (by decide) r.2⟩) (Cert.Reference13Ideal.Value.run m ρ)

/-- The output projection's weight gradient, its lower half, is the reference's. -/
theorem out_wgrad_attn : Cert.algebraic_Kernel14Ideal_Reference14Ideal := by
  intro m g m' g' _ hagree
  refine ⟨fun c => OutWgradAttn.res2 m c, ?_, ?_⟩
  · refine (θ_run _ _ _).mono (fun r h c => ?_) (Cert.Kernel14Ideal.Value.run_blocks m g)
    obtain ⟨h2, rest⟩ := h c
    exact ⟨h2.trans (OutWgradAttn.total2 m c), rest⟩
  · refine (θ_run _ _ _).mono (fun r h c => ?_) (Cert.Reference14Ideal.Value.run m' g')
    obtain ⟨h2, rest⟩ := h c
    obtain ⟨a0, a1⟩ := hagree c
    refine ⟨h2.trans ((Cert.Reference14Ideal.Read.val_main_v4_eq _ _).trans ?_), rest⟩
    · rw [a0, a1]; exact OutWgradAttn.ref2 m c

theorem reference14 : Cert.quiescent_Reference14Ideal := fun m ρ _ =>
  (θ_run _ _ _).mono (fun r h => ⟨fun c => (h c).2, sem_eq_zero_of_no_sems (by decide) r.2⟩) (Cert.Reference14Ideal.Value.run m ρ)

/-- The latent projection's call computes the reference's product. -/
theorem kv_proj : Cert.algebraic_Kernel15Ideal_Reference15Ideal := by
  intro m g m' g' _ hagree
  refine ⟨fun c => KvProj.res2 m c, ?_, ?_⟩
  · refine (θ_run _ _ _).mono (fun r h c => ?_) (Cert.Kernel15Ideal.Value.run_blocks m g)
    obtain ⟨h2, rest⟩ := h c
    exact ⟨h2.trans (KvProj.total2 m c), rest⟩
  · refine (θ_run _ _ _).mono (fun r h c => ?_) (Cert.Reference15Ideal.Value.run m' g')
    obtain ⟨h2, rest⟩ := h c
    obtain ⟨a0, a1⟩ := hagree c
    refine ⟨h2.trans ((Cert.Reference15Ideal.Read.val_main_v0_eq _ _).trans ?_), rest⟩
    · rw [a0, a1]; exact KvProj.ref2 m c

theorem reference15 : Cert.quiescent_Reference15Ideal := fun m ρ _ =>
  (θ_run _ _ _).mono (fun r h => ⟨fun c => (h c).2, sem_eq_zero_of_no_sems (by decide) r.2⟩) (Cert.Reference15Ideal.Value.run m ρ)

/-- The latent projection's backward computes the gradient of the reference's latent. -/
theorem kv_bwd : Cert.algebraic_Kernel16Ideal_Reference16Ideal := by
  intro m g m' g' _ hagree
  refine ⟨fun c => KvBwd.res2 m c, ?_, ?_⟩
  · refine (θ_run _ _ _).mono (fun r h c => ?_) (Cert.Kernel16Ideal.Value.run_blocks m g)
    obtain ⟨h2, rest⟩ := h c
    exact ⟨h2.trans (KvBwd.total2 m c), rest⟩
  · refine (θ_run _ _ _).mono (fun r h c => ?_) (Cert.Reference16Ideal.Value.run m' g')
    obtain ⟨h2, rest⟩ := h c
    obtain ⟨a0, a1⟩ := hagree c
    refine ⟨h2.trans ((Cert.Reference16Ideal.Read.val_main_v2_eq _ _).trans ?_), rest⟩
    · rw [a0, a1]; exact KvBwd.ref2 m c

theorem reference16 : Cert.quiescent_Reference16Ideal := fun m ρ _ =>
  (θ_run _ _ _).mono (fun r h => ⟨fun c => (h c).2, sem_eq_zero_of_no_sems (by decide) r.2⟩) (Cert.Reference16Ideal.Value.run m ρ)

/-- The latent projection's weight gradient is the reference's. -/
theorem kv_wgrad : Cert.algebraic_Kernel17Ideal_Reference17Ideal := by
  intro m g m' g' _ hagree
  refine ⟨fun c => KvWgrad.res2 m c, ?_, ?_⟩
  · refine (θ_run _ _ _).mono (fun r h c => ?_) (Cert.Kernel17Ideal.Value.run_blocks m g)
    obtain ⟨h2, rest⟩ := h c
    exact ⟨h2.trans (KvWgrad.total2 m c), rest⟩
  · refine (θ_run _ _ _).mono (fun r h c => ?_) (Cert.Reference17Ideal.Value.run m' g')
    obtain ⟨h2, rest⟩ := h c
    obtain ⟨a0, a1⟩ := hagree c
    refine ⟨h2.trans ((Cert.Reference17Ideal.Read.val_main_v5_eq _ _).trans ?_), rest⟩
    · rw [a0, a1]; exact KvWgrad.ref2 m c

theorem reference17 : Cert.quiescent_Reference17Ideal := fun m ρ _ =>
  (θ_run _ _ _).mono (fun r h => ⟨fun c => (h c).2, sem_eq_zero_of_no_sems (by decide) r.2⟩) (Cert.Reference17Ideal.Value.run m ρ)

/-- The cross attention's query projection computes the reference's product. -/
theorem xq_proj : Cert.algebraic_Kernel18Ideal_Reference18Ideal := by
  intro m g m' g' _ hagree
  refine ⟨fun c => XqProj.res2 m c, ?_, ?_⟩
  · refine (θ_run _ _ _).mono (fun r h c => ?_) (Cert.Kernel18Ideal.Value.run_blocks m g)
    obtain ⟨h2, rest⟩ := h c
    exact ⟨h2.trans (XqProj.total2 m c), rest⟩
  · refine (θ_run _ _ _).mono (fun r h c => ?_) (Cert.Reference18Ideal.Value.run m' g')
    obtain ⟨h2, rest⟩ := h c
    obtain ⟨a0, a1⟩ := hagree c
    refine ⟨h2.trans ((Cert.Reference18Ideal.Read.val_main_v0_eq _ _).trans ?_), rest⟩
    · rw [a0, a1]; exact XqProj.ref2 m c

theorem reference18 : Cert.quiescent_Reference18Ideal := fun m ρ _ =>
  (θ_run _ _ _).mono (fun r h => ⟨fun c => (h c).2, sem_eq_zero_of_no_sems (by decide) r.2⟩) (Cert.Reference18Ideal.Value.run m ρ)

/-- The query projection's backward computes the gradient of the reference's input. -/
theorem xq_bwd : Cert.algebraic_Kernel19Ideal_Reference19Ideal := by
  intro m g m' g' _ hagree
  refine ⟨fun c => XqBwd.res2 m c, ?_, ?_⟩
  · refine (θ_run _ _ _).mono (fun r h c => ?_) (Cert.Kernel19Ideal.Value.run_blocks m g)
    obtain ⟨h2, rest⟩ := h c
    exact ⟨h2.trans (XqBwd.total2 m c), rest⟩
  · refine (θ_run _ _ _).mono (fun r h c => ?_) (Cert.Reference19Ideal.Value.run m' g')
    obtain ⟨h2, rest⟩ := h c
    obtain ⟨a0, a1⟩ := hagree c
    refine ⟨h2.trans ((Cert.Reference19Ideal.Read.val_main_v2_eq _ _).trans ?_), rest⟩
    · rw [a0, a1]; exact XqBwd.ref2 m c

theorem reference19 : Cert.quiescent_Reference19Ideal := fun m ρ _ =>
  (θ_run _ _ _).mono (fun r h => ⟨fun c => (h c).2, sem_eq_zero_of_no_sems (by decide) r.2⟩) (Cert.Reference19Ideal.Value.run m ρ)

/-- The query projection's weight gradient is the reference's. -/
theorem xq_wgrad : Cert.algebraic_Kernel20Ideal_Reference20Ideal := by
  intro m g m' g' _ hagree
  refine ⟨fun c => XqWgrad.res2 m c, ?_, ?_⟩
  · refine (θ_run _ _ _).mono (fun r h c => ?_) (Cert.Kernel20Ideal.Value.run_blocks m g)
    obtain ⟨h2, rest⟩ := h c
    exact ⟨h2.trans (XqWgrad.total2 m c), rest⟩
  · refine (θ_run _ _ _).mono (fun r h c => ?_) (Cert.Reference20Ideal.Value.run m' g')
    obtain ⟨h2, rest⟩ := h c
    obtain ⟨a0, a1⟩ := hagree c
    refine ⟨h2.trans ((Cert.Reference20Ideal.Read.val_main_v4_eq _ _).trans ?_), rest⟩
    · rw [a0, a1]; exact XqWgrad.ref2 m c

theorem reference20 : Cert.quiescent_Reference20Ideal := fun m ρ _ =>
  (θ_run _ _ _).mono (fun r h => ⟨fun c => (h c).2, sem_eq_zero_of_no_sems (by decide) r.2⟩) (Cert.Reference20Ideal.Value.run m ρ)

/-- The cross attention's output projection computes the reference's product and residual. -/
theorem xo_proj : Cert.algebraic_Kernel21Ideal_Reference21Ideal := by
  intro m g m' g' _ hagree
  refine ⟨fun c => XoProj.res3 m c, ?_, ?_⟩
  · refine (θ_run _ _ _).mono (fun r h c => ?_) (Cert.Kernel21Ideal.Value.run_blocks m g)
    obtain ⟨h3, rest⟩ := h c
    exact ⟨h3.trans (XoProj.total3 m c), rest⟩
  · refine (θ_run _ _ _).mono (fun r h c => ?_) (Cert.Reference21Ideal.Value.run m' g')
    obtain ⟨h3, rest⟩ := h c
    obtain ⟨a0, a1, a2⟩ := hagree c
    refine ⟨h3.trans ((Cert.Reference21Ideal.Read.val_main_v1_eq _ _ _).trans ?_), rest⟩
    · rw [a0, a1, a2]; exact XoProj.ref3 m c

theorem reference21 : Cert.quiescent_Reference21Ideal := fun m ρ _ =>
  (θ_run _ _ _).mono (fun r h => ⟨fun c => (h c).2, sem_eq_zero_of_no_sems (by decide) r.2⟩) (Cert.Reference21Ideal.Value.run m ρ)

/-- The cross attention's output projection's weight gradient is the reference's. -/
theorem xo_wgrad : Cert.algebraic_Kernel22Ideal_Reference22Ideal := by
  intro m g m' g' _ hagree
  refine ⟨fun c => XoWgrad.res2 m c, ?_, ?_⟩
  · refine (θ_run _ _ _).mono (fun r h c => ?_) (Cert.Kernel22Ideal.Value.run_blocks m g)
    obtain ⟨h2, rest⟩ := h c
    exact ⟨h2.trans (XoWgrad.total2 m c), rest⟩
  · refine (θ_run _ _ _).mono (fun r h c => ?_) (Cert.Reference22Ideal.Value.run m' g')
    obtain ⟨h2, rest⟩ := h c
    obtain ⟨a0, a1⟩ := hagree c
    refine ⟨h2.trans ((Cert.Reference22Ideal.Read.val_main_v5_eq _ _).trans ?_), rest⟩
    · rw [a0, a1]; exact XoWgrad.ref2 m c

theorem reference22 : Cert.quiescent_Reference22Ideal := fun m ρ _ =>
  (θ_run _ _ _).mono (fun r h => ⟨fun c => (h c).2, sem_eq_zero_of_no_sems (by decide) r.2⟩) (Cert.Reference22Ideal.Value.run m ρ)

/-- The output gate's two gradients are the reference's, if the cotangent and the rows are finite. -/
theorem gate_bwd : Cert.algebraic_Kernel23Ideal_Reference23Ideal_pre_gate_bwd_finite := by
  intro m g m' g' hpre hagree
  refine ⟨fun c => GateBwd.res3 m c, fun c => GateBwd.res4 m c, ?_, ?_⟩
  · refine (θ_run _ _ _).mono (fun r h c => ?_) (Cert.Kernel23Ideal.Value.run_blocks m g)
    obtain ⟨h3, h4, rest⟩ := h c
    exact ⟨h3.trans (GateBwd.total3 m c), h4.trans (GateBwd.total4 m c), rest⟩
  · refine (θ_run _ _ _).mono (fun r h c => ?_) (Cert.Reference23Ideal.Value.run m' g')
    obtain ⟨h3, h4, rest⟩ := h c
    obtain ⟨a0, a1, a2⟩ := hagree c
    refine ⟨h3.trans ((Cert.Reference23Ideal.Read.val_main_v4_eq _ _).trans ?_), h4.trans ((Cert.Reference23Ideal.Read.val_main_v5_eq _ _ _).trans ?_), rest⟩
    · rw [a0, a2]; exact GateBwd.ref3 m c
    · rw [a0, a1, a2]; exact GateBwd.ref4 m c (hpre c)

theorem reference23 : Cert.quiescent_Reference23Ideal := fun m ρ _ =>
  (θ_run _ _ _).mono (fun r h => ⟨fun c => (h c).2.2, sem_eq_zero_of_no_sems (by decide) r.2⟩) (Cert.Reference23Ideal.Value.run m ρ)

/-- The norm's two gradients are the reference's. -/
theorem norm_bwd : Cert.algebraic_Kernel24Ideal_Reference24Ideal := by
  intro m g m' g' _ hagree
  refine ⟨fun c => NormBwd.res4 m c, fun c => NormBwd.res5 m c, ?_, ?_⟩
  · refine (θ_run _ _ _).mono (fun r h c => ?_) (Cert.Kernel24Ideal.Value.run_blocks m g)
    obtain ⟨h4, h5, rest⟩ := h c
    exact ⟨h4.trans (NormBwd.total4 m c), h5.trans (NormBwd.total5 m c), rest⟩
  · refine (θ_run _ _ _).mono (fun r h c => ?_) (Cert.Reference24Ideal.Value.run m' g')
    obtain ⟨h4, h5, rest⟩ := h c
    obtain ⟨a0, a1, a2, a3⟩ := hagree c
    refine ⟨h4.trans ((Cert.Reference24Ideal.Read.val_main_v36_eq _ _ _ _).trans ?_), h5.trans ((Cert.Reference24Ideal.Read.val_main_v37_eq _ _).trans ?_), rest⟩
    · rw [a0, a1, a2, a3]; exact NormBwd.ref4 m c
    · rw [a0, a2]; exact NormBwd.ref5 m c

theorem reference24 : Cert.quiescent_Reference24Ideal := fun m ρ _ =>
  (θ_run _ _ _).mono (fun r h => ⟨fun c => (h c).2.2, sem_eq_zero_of_no_sems (by decide) r.2⟩) (Cert.Reference24Ideal.Value.run m ρ)

/-- The short convolution's gradients are the reference's, if the cotangent is finite. -/
theorem conv_bwd : Cert.algebraic_Kernel25Ideal_Reference25Ideal_pre_conv_bwd_finite := by
  intro m g m' g' hpre hagree
  refine ⟨fun c => ConvBwd.res3 m c, fun c => ConvBwd.res4 m c, ?_, ?_⟩
  · refine (θ_run _ _ _).mono (fun r h c => ?_) (Cert.Kernel25Ideal.Value.run_blocks m g)
    obtain ⟨h3, h4, rest⟩ := h c
    exact ⟨h3.trans (ConvBwd.total3 m c), h4.trans (ConvBwd.total4 m c), rest⟩
  · refine (θ_run _ _ _).mono (fun r h c => ?_) (Cert.Reference25Ideal.Value.run m' g')
    obtain ⟨h3, h4, rest⟩ := h c
    obtain ⟨a0, a1, a2, a3⟩ := hagree c
    refine ⟨h3.trans ((Cert.Reference25Ideal.Read.val_main_v84_eq m' c).trans ?_), h4.trans ((Cert.Reference25Ideal.Read.val_main_v87_eq m' c).trans ?_), rest⟩
    · rw [a0, a1, a2, a3]; exact ConvBwd.ref3 m c (hpre c)
    · rw [a0, a1, a2, a3]; exact ConvBwd.ref4 m c (hpre c)

theorem reference25 : Cert.quiescent_Reference25Ideal := fun m ρ _ =>
  (θ_run _ _ _).mono (fun r h => ⟨fun c => (h c).2.2, sem_eq_zero_of_no_sems (by decide) r.2⟩) (Cert.Reference25Ideal.Value.run m ρ)

/-- The attention's output and its log-sums are the reference's, if the queries and keys are finite. -/
theorem mla_fwd : Cert.algebraic_Kernel26Ideal_Reference26Ideal_pre_mla_fwd_finite := by
  intro m g m' g' hpre hagree
  refine ⟨fun c => MlaFwd.res3 m c, fun c => MlaFwd.res4 m c, ?_, ?_⟩
  · refine (θ_run _ _ _).mono (fun r h c => ?_) (Cert.Kernel26Ideal.Value.run_blocks m g)
    obtain ⟨h3, h4, rest⟩ := h c
    exact ⟨h3.trans (MlaFwd.total3 m c), h4.trans (MlaFwd.total4 m c), rest⟩
  · refine (θ_run _ _ _).mono (fun r h c => ?_) (Cert.Reference26Ideal.Value.run m' g')
    obtain ⟨h3, h4, rest⟩ := h c
    obtain ⟨a0, a1, a2⟩ := hagree c
    refine ⟨h3.trans ((Cert.Reference26Ideal.Read.val_main_v27_eq m' c).trans ?_), h4.trans ((Cert.Reference26Ideal.Read.val_main_v34_eq _ _).trans ?_), rest⟩
    · rw [a0, a1, a2]; exact MlaFwd.ref3 m c (hpre c)
    · rw [a0, a1]; exact MlaFwd.ref4 m c

theorem reference26 : Cert.quiescent_Reference26Ideal := fun m ρ _ =>
  (θ_run _ _ _).mono (fun r h => ⟨fun c => (h c).2.2, sem_eq_zero_of_no_sems (by decide) r.2⟩) (Cert.Reference26Ideal.Value.run m ρ)

/-- The cross attention's output and its log-sums are the reference's, if the queries and the keys are finite. -/
theorem xattn_fwd : Cert.algebraic_Kernel27Ideal_Reference27Ideal_pre_xattn_fwd_finite := by
  intro m g m' g' hpre hagree
  refine ⟨fun c => XattnFwd.res3 m c, fun c => XattnFwd.res4 m c, ?_, ?_⟩
  · refine (θ_run _ _ _).mono (fun r h c => ?_) (Cert.Kernel27Ideal.Value.run_blocks m g)
    obtain ⟨h3, h4, rest⟩ := h c
    exact ⟨h3.trans (XattnFwd.total3 m c), h4.trans (XattnFwd.total4 m c), rest⟩
  · refine (θ_run _ _ _).mono (fun r h c => ?_) (Cert.Reference27Ideal.Value.run m' g')
    obtain ⟨h3, h4, rest⟩ := h c
    obtain ⟨a0, a1, a2⟩ := hagree c
    refine ⟨h3.trans ((Cert.Reference27Ideal.Read.val_main_v18_eq _ _ _).trans ?_), h4.trans ((Cert.Reference27Ideal.Read.val_main_v25_eq _ _).trans ?_), rest⟩
    · rw [a0, a1, a2]; exact XattnFwd.ref3 m c (hpre c)
    · rw [a0, a1]; exact XattnFwd.ref4 m c

theorem reference27 : Cert.quiescent_Reference27Ideal := fun m ρ _ =>
  (θ_run _ _ _).mono (fun r h => ⟨fun c => (h c).2.2, sem_eq_zero_of_no_sems (by decide) r.2⟩) (Cert.Reference27Ideal.Value.run m ρ)

/-- The cross attention's key projection computes the reference's product. -/
theorem xk_proj : Cert.algebraic_Kernel28Ideal_Reference28Ideal := by
  intro m g m' g' _ hagree
  refine ⟨fun c => XkProj.res2 m c, ?_, ?_⟩
  · refine (θ_run _ _ _).mono (fun r h c => ?_) (Cert.Kernel28Ideal.Value.run_blocks m g)
    obtain ⟨h2, rest⟩ := h c
    exact ⟨h2.trans (XkProj.total2 m c), rest⟩
  · refine (θ_run _ _ _).mono (fun r h c => ?_) (Cert.Reference28Ideal.Value.run m' g')
    obtain ⟨h2, rest⟩ := h c
    obtain ⟨a0, a1⟩ := hagree c
    refine ⟨h2.trans ((Cert.Reference28Ideal.Read.val_main_v0_eq _ _).trans ?_), rest⟩
    · rw [a0, a1]; exact XkProj.ref2 m c

theorem reference28 : Cert.quiescent_Reference28Ideal := fun m ρ _ =>
  (θ_run _ _ _).mono (fun r h => ⟨fun c => (h c).2, sem_eq_zero_of_no_sems (by decide) r.2⟩) (Cert.Reference28Ideal.Value.run m ρ)

/-- The key projection's weight gradient is the reference's. -/
theorem xkv_wgrad : Cert.algebraic_Kernel29Ideal_Reference29Ideal := by
  intro m g m' g' _ hagree
  refine ⟨fun c => XkvWgrad.res2 m c, ?_, ?_⟩
  · refine (θ_run _ _ _).mono (fun r h c => ?_) (Cert.Kernel29Ideal.Value.run_blocks m g)
    obtain ⟨h2, rest⟩ := h c
    exact ⟨h2.trans (XkvWgrad.total2 m c), rest⟩
  · refine (θ_run _ _ _).mono (fun r h c => ?_) (Cert.Reference29Ideal.Value.run m' g')
    obtain ⟨h2, rest⟩ := h c
    obtain ⟨a0, a1⟩ := hagree c
    refine ⟨h2.trans ((Cert.Reference29Ideal.Read.val_main_v4_eq _ _).trans ?_), rest⟩
    · rw [a0, a1]; exact XkvWgrad.ref2 m c

theorem reference29 : Cert.quiescent_Reference29Ideal := fun m ρ _ =>
  (θ_run _ _ _).mono (fun r h => ⟨fun c => (h c).2, sem_eq_zero_of_no_sems (by decide) r.2⟩) (Cert.Reference29Ideal.Value.run m ρ)

/-- The projections' backward computes the gradient of the reference's memory. -/
theorem xkv_bwd : Cert.algebraic_Kernel30Ideal_Reference30Ideal := by
  intro m g m' g' _ hagree
  refine ⟨fun c => XkvBwd.res4 m c, ?_, ?_⟩
  · refine (θ_run _ _ _).mono (fun r h c => ?_) (Cert.Kernel30Ideal.Value.run_blocks m g)
    obtain ⟨h4, rest⟩ := h c
    exact ⟨h4.trans (XkvBwd.total4 m c), rest⟩
  · refine (θ_run _ _ _).mono (fun r h c => ?_) (Cert.Reference30Ideal.Value.run m' g')
    obtain ⟨h4, rest⟩ := h c
    obtain ⟨a0, a1, a2, a3⟩ := hagree c
    refine ⟨h4.trans ((Cert.Reference30Ideal.Read.val_main_v5_eq _ _ _ _).trans ?_), rest⟩
    · rw [a0, a1, a2, a3]; exact XkvBwd.ref4 m c

theorem reference30 : Cert.quiescent_Reference30Ideal := fun m ρ _ =>
  (θ_run _ _ _).mono (fun r h => ⟨fun c => (h c).2, sem_eq_zero_of_no_sems (by decide) r.2⟩) (Cert.Reference30Ideal.Value.run m ρ)

/-- The query projection's call computes the reference's product, each head's columns widened by zeros. -/
theorem q_b_proj : Cert.algebraic_Kernel31Ideal_Reference31Ideal := by
  intro m g m' g' _ hagree
  refine ⟨fun c => QbProj.res2 m c, ?_, ?_⟩
  · refine (θ_run _ _ _).mono (fun r h c => ?_) (Cert.Kernel31Ideal.Value.run_blocks m g)
    obtain ⟨h2, rest⟩ := h c
    exact ⟨h2.trans (QbProj.total2 m c), rest⟩
  · refine (θ_run _ _ _).mono (fun r h c => ?_) (Cert.Reference31Ideal.Value.run m' g')
    obtain ⟨h2, rest⟩ := h c
    obtain ⟨a0, a1⟩ := hagree c
    refine ⟨h2.trans ((Cert.Reference31Ideal.Read.val_main_v3_eq _ _).trans ?_), rest⟩
    · rw [a0, a1]; exact QbProj.ref2 m c

theorem reference31 : Cert.quiescent_Reference31Ideal := fun m ρ _ =>
  (θ_run _ _ _).mono (fun r h => ⟨fun c => (h c).2, sem_eq_zero_of_no_sems (by decide) r.2⟩) (Cert.Reference31Ideal.Value.run m ρ)

/-- The query projection's backward computes the gradient of the reference's latent query. -/
theorem q_b_bwd : Cert.algebraic_Kernel32Ideal_Reference32Ideal := by
  intro m g m' g' _ hagree
  refine ⟨fun c => QbBwd.res2 m c, ?_, ?_⟩
  · refine (θ_run _ _ _).mono (fun r h c => ?_) (Cert.Kernel32Ideal.Value.run_blocks m g)
    obtain ⟨h2, rest⟩ := h c
    exact ⟨h2.trans (QbBwd.total2 m c), rest⟩
  · refine (θ_run _ _ _).mono (fun r h c => ?_) (Cert.Reference32Ideal.Value.run m' g')
    obtain ⟨h2, rest⟩ := h c
    obtain ⟨a0, a1⟩ := hagree c
    refine ⟨h2.trans ((Cert.Reference32Ideal.Read.val_main_v5_eq _ _).trans ?_), rest⟩
    · rw [a0, a1]; exact QbBwd.ref2 m c

theorem reference32 : Cert.quiescent_Reference32Ideal := fun m ρ _ =>
  (θ_run _ _ _).mono (fun r h => ⟨fun c => (h c).2, sem_eq_zero_of_no_sems (by decide) r.2⟩) (Cert.Reference32Ideal.Value.run m ρ)

/-- The cross attention's three gradients are the reference's, if the queries, the keys, the values and the cotangent are finite. -/
theorem xattn_bwd : Cert.algebraic_Kernel33Ideal_Reference33Ideal_pre_xattn_bwd_finite := by
  intro m g m' g' hpre hagree
  refine ⟨fun c => XattnBwd.res6 m c, fun c => XattnBwd.res7 m c, fun c => XattnBwd.res8 m c, ?_, ?_⟩
  · refine (θ_run _ _ _).mono (fun r h c => ?_) (Cert.Kernel33Ideal.Value.run_blocks m g)
    obtain ⟨h6, h7, h8, rest⟩ := h c
    exact ⟨h6.trans (XattnBwd.total6 m c), h7.trans (XattnBwd.total7 m c), h8.trans (XattnBwd.total8 m c), rest⟩
  · refine (θ_run _ _ _).mono (fun r h c => ?_) (Cert.Reference33Ideal.Value.run m' g')
    obtain ⟨h6, h7, h8, rest⟩ := h c
    obtain ⟨a0, a1, a2, a3⟩ := hagree c
    refine ⟨h6.trans ((Cert.Reference33Ideal.Read.val_main_v56_eq m' c).trans ?_), h7.trans ((Cert.Reference33Ideal.Read.val_main_v57_eq m' c).trans ?_), h8.trans ((Cert.Reference33Ideal.Read.val_main_v58_eq _ _ _).trans ?_), rest⟩
    · rw [a0, a1, a2, a3]; exact XattnBwd.ref6 m c (hpre c)
    · rw [a0, a1, a2, a3]; exact XattnBwd.ref7 m c (hpre c)
    · rw [a0, a1, a3]; exact XattnBwd.ref8 m c (hpre c)

theorem reference33 : Cert.quiescent_Reference33Ideal := fun m ρ _ =>
  (θ_run _ _ _).mono (fun r h => ⟨fun c => (h c).2.2.2, sem_eq_zero_of_no_sems (by decide) r.2⟩) (Cert.Reference33Ideal.Value.run m ρ)

/-- The loss and the output's gradient are the reference's. -/
theorem loss_head : Cert.algebraic_Kernel34Ideal_Reference34Ideal := by
  intro m g m' g' _ hagree
  refine ⟨fun c => LossHead.res2 m c, fun c => LossHead.res3 m c, ?_, ?_⟩
  · refine (θ_run _ _ _).mono (fun r h c => ?_) (Cert.Kernel34Ideal.Value.run_blocks m g)
    obtain ⟨h2, h3, rest⟩ := h c
    exact ⟨h2.trans (LossHead.total2 m c), h3.trans (LossHead.total3 m c), rest⟩
  · refine (θ_run _ _ _).mono (fun r h c => ?_) (Cert.Reference34Ideal.Value.run m' g')
    obtain ⟨h2, h3, rest⟩ := h c
    obtain ⟨a0, a1⟩ := hagree c
    refine ⟨h2.trans ((Cert.Reference34Ideal.Read.val_main_v14_eq _ _).trans ?_), h3.trans ((Cert.Reference34Ideal.Read.val_main_v15_eq _ _).trans ?_), rest⟩
    · rw [a0, a1]; exact LossHead.ref2 m c
    · rw [a0, a1]; exact LossHead.ref3 m c

theorem reference34 : Cert.quiescent_Reference34Ideal := fun m ρ _ =>
  (θ_run _ _ _).mono (fun r h => ⟨fun c => (h c).2.2, sem_eq_zero_of_no_sems (by decide) r.2⟩) (Cert.Reference34Ideal.Value.run m ρ)

/-- The small weights' gradients, updates and moments are the reference's. -/
theorem adam : Cert.algebraic_Kernel35Ideal_Reference35Ideal := by
  intro m g m' g' _ hagree
  refine ⟨fun c => Adam.res4 m c, fun c => Adam.res5 m c, fun c => Adam.res6 m c, fun c => Adam.res7 m c, ?_, ?_⟩
  · refine (θ_run _ _ _).mono (fun r h c => ?_) (Cert.Kernel35Ideal.Value.run_blocks m g)
    obtain ⟨h4, h5, h6, h7, rest⟩ := h c
    exact ⟨h4.trans (Adam.total4 m c), h5.trans (Adam.total5 m c), h6.trans (Adam.total6 m c), h7.trans (Adam.total7 m c), rest⟩
  · refine (θ_run _ _ _).mono (fun r h c => ?_) (Cert.Reference35Ideal.Value.run m' g')
    obtain ⟨h4, h5, h6, h7, rest⟩ := h c
    obtain ⟨a0, a1, a2, a3⟩ := hagree c
    refine ⟨h4.trans ((Cert.Reference35Ideal.Read.val_main_v25_eq _).trans ?_), h5.trans ((Cert.Reference35Ideal.Read.val_main_v26_eq _ _ _ _).trans ?_), h6.trans ((Cert.Reference35Ideal.Read.val_main_v27_eq _ _).trans ?_), h7.trans ((Cert.Reference35Ideal.Read.val_main_v28_eq _ _).trans ?_), rest⟩
    · rw [a0]; exact Adam.ref4 m c
    · rw [a0, a1, a2, a3]; exact Adam.ref5 m c
    · rw [a0, a2]; exact Adam.ref6 m c
    · rw [a0, a3]; exact Adam.ref7 m c

theorem reference35 : Cert.quiescent_Reference35Ideal := fun m ρ _ =>
  (θ_run _ _ _).mono (fun r h => ⟨fun c => (h c).2.2.2.2, sem_eq_zero_of_no_sems (by decide) r.2⟩) (Cert.Reference35Ideal.Value.run m ρ)

/-- The gated rows are the reference's. -/
theorem gate_fwd : Cert.algebraic_Kernel36Ideal_Reference36Ideal := by
  intro m g m' g' _ hagree
  refine ⟨fun c => GateFwd.res2 m c, ?_, ?_⟩
  · refine (θ_run _ _ _).mono (fun r h c => ?_) (Cert.Kernel36Ideal.Value.run_blocks m g)
    obtain ⟨h2, rest⟩ := h c
    exact ⟨h2.trans (GateFwd.total2 m c), rest⟩
  · refine (θ_run _ _ _).mono (fun r h c => ?_) (Cert.Reference36Ideal.Value.run m' g')
    obtain ⟨h2, rest⟩ := h c
    obtain ⟨a0, a1⟩ := hagree c
    refine ⟨h2.trans ((Cert.Reference36Ideal.Read.val_main_v2_eq _ _).trans ?_), rest⟩
    · rw [a0, a1]; exact GateFwd.ref2 m c

theorem reference36 : Cert.quiescent_Reference36Ideal := fun m ρ _ =>
  (θ_run _ _ _).mono (fun r h => ⟨fun c => (h c).2, sem_eq_zero_of_no_sems (by decide) r.2⟩) (Cert.Reference36Ideal.Value.run m ρ)

/-- The short convolution's activation is the reference's. -/
theorem conv_fwd : Cert.algebraic_Kernel37Ideal_Reference37Ideal := by
  intro m g m' g' _ hagree
  refine ⟨fun c => ConvFwd.res2 m c, ?_, ?_⟩
  · refine (θ_run _ _ _).mono (fun r h c => ?_) (Cert.Kernel37Ideal.Value.run_blocks m g)
    obtain ⟨h2, rest⟩ := h c
    exact ⟨h2.trans (ConvFwd.total2 m c), rest⟩
  · refine (θ_run _ _ _).mono (fun r h c => ?_) (Cert.Reference37Ideal.Value.run m' g')
    obtain ⟨h2, rest⟩ := h c
    obtain ⟨a0, a1, a2⟩ := hagree c
    refine ⟨h2.trans ((Cert.Reference37Ideal.Read.val_main_v35_eq m' c).trans ?_), rest⟩
    · rw [a0, a1, a2]; exact ConvFwd.ref2 m c

theorem reference37 : Cert.quiescent_Reference37Ideal := fun m ρ _ =>
  (θ_run _ _ _).mono (fun r h => ⟨fun c => (h c).2, sem_eq_zero_of_no_sems (by decide) r.2⟩) (Cert.Reference37Ideal.Value.run m ρ)

/-- The norm is the reference's. -/
theorem norm_fwd : Cert.algebraic_Kernel38Ideal_Reference38Ideal := by
  intro m g m' g' _ hagree
  refine ⟨fun c => NormFwd.res2 m c, ?_, ?_⟩
  · refine (θ_run _ _ _).mono (fun r h c => ?_) (Cert.Kernel38Ideal.Value.run_blocks m g)
    obtain ⟨h2, rest⟩ := h c
    exact ⟨h2.trans (NormFwd.total2 m c), rest⟩
  · refine (θ_run _ _ _).mono (fun r h c => ?_) (Cert.Reference38Ideal.Value.run m' g')
    obtain ⟨h2, rest⟩ := h c
    obtain ⟨a0, a1⟩ := hagree c
    refine ⟨h2.trans ((Cert.Reference38Ideal.Read.val_main_v13_eq _ _).trans ?_), rest⟩
    · rw [a0, a1]; exact NormFwd.ref2 m c

theorem reference38 : Cert.quiescent_Reference38Ideal := fun m ρ _ =>
  (θ_run _ _ _).mono (fun r h => ⟨fun c => (h c).2, sem_eq_zero_of_no_sems (by decide) r.2⟩) (Cert.Reference38Ideal.Value.run m ρ)

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Kernel23.Gen.facts,
    Cert.Kernel23Ideal.Gen.facts,
    Cert.Reference23Ideal.Gen.facts,
    Cert.Kernel24.Gen.facts,
    Cert.Kernel24Ideal.Gen.facts,
    Cert.Reference24Ideal.Gen.facts,
    Cert.Kernel25.Gen.facts,
    Cert.Kernel25Ideal.Gen.facts,
    Cert.Reference25Ideal.Gen.facts,
    Cert.Kernel26.Gen.facts,
    Cert.Kernel26Ideal.Gen.facts,
    Cert.Reference26Ideal.Gen.facts,
    Cert.Kernel27.Gen.facts,
    Cert.Kernel27Ideal.Gen.facts,
    Cert.Reference27Ideal.Gen.facts,
    Cert.Kernel28.Gen.facts,
    Cert.Kernel28Ideal.Gen.facts,
    Cert.Reference28Ideal.Gen.facts,
    Cert.Kernel29.Gen.facts,
    Cert.Kernel29Ideal.Gen.facts,
    Cert.Reference29Ideal.Gen.facts,
    Cert.Kernel30.Gen.facts,
    Cert.Kernel30Ideal.Gen.facts,
    Cert.Reference30Ideal.Gen.facts,
    Cert.Kernel31.Gen.facts,
    Cert.Kernel31Ideal.Gen.facts,
    Cert.Reference31Ideal.Gen.facts,
    Cert.Kernel32.Gen.facts,
    Cert.Kernel32Ideal.Gen.facts,
    Cert.Reference32Ideal.Gen.facts,
    Cert.Kernel33.Gen.facts,
    Cert.Kernel33Ideal.Gen.facts,
    Cert.Reference33Ideal.Gen.facts,
    Cert.Kernel34.Gen.facts,
    Cert.Kernel34Ideal.Gen.facts,
    Cert.Reference34Ideal.Gen.facts,
    Cert.Kernel35.Gen.facts,
    Cert.Kernel35Ideal.Gen.facts,
    Cert.Reference35Ideal.Gen.facts,
    Cert.Kernel36.Gen.facts,
    Cert.Kernel36Ideal.Gen.facts,
    Cert.Reference36Ideal.Gen.facts,
    Cert.Kernel37.Gen.facts,
    Cert.Kernel37Ideal.Gen.facts,
    Cert.Reference37Ideal.Gen.facts,
    Cert.Kernel38.Gen.facts,
    Cert.Kernel38Ideal.Gen.facts,
    Cert.Reference38Ideal.Gen.facts,
    Cert.Pre_finite.Gen.facts,
    Cert.Pre_down_bwd_finite.Gen.facts,
    Cert.Pre_gate_bwd_finite.Gen.facts,
    Cert.Pre_conv_bwd_finite.Gen.facts,
    Cert.Pre_mla_fwd_finite.Gen.facts,
    Cert.Pre_xattn_fwd_finite.Gen.facts,
    Cert.Pre_xattn_bwd_finite.Gen.facts,
    fun m ρ _ => Cert.Kernel.Gen.frame m ρ,
    fun m ρ _ => Cert.KernelIdeal.Gen.frame m ρ,
    fun m ρ _ => Cert.KernelIdeal.Gen.frame m ρ,
    reference,
    fun m ρ _ => reference m ρ trivial,
    fun m ρ _ => Cert.Kernel2.Gen.frame m ρ,
    fun m ρ _ => Cert.Kernel2Ideal.Gen.frame m ρ,
    reference2,
    fun m ρ _ => Cert.Kernel3.Gen.frame m ρ,
    fun m ρ _ => Cert.Kernel3Ideal.Gen.frame m ρ,
    reference3,
    fun m ρ _ => Cert.Kernel4.Gen.frame m ρ,
    fun m ρ _ => Cert.Kernel4Ideal.Gen.frame m ρ,
    fun m ρ _ => Cert.Kernel4Ideal.Gen.frame m ρ,
    reference4,
    fun m ρ _ => reference4 m ρ trivial,
    fun m ρ _ => Cert.Kernel5.Gen.frame m ρ,
    fun m ρ _ => Cert.Kernel5Ideal.Gen.frame m ρ,
    reference5,
    fun m ρ _ => Cert.Kernel6.Gen.frame m ρ,
    fun m ρ _ => Cert.Kernel6Ideal.Gen.frame m ρ,
    reference6,
    fun m ρ _ => Cert.Kernel7.Gen.frame m ρ,
    fun m ρ _ => Cert.Kernel7Ideal.Gen.frame m ρ,
    reference7,
    fun m ρ _ => Cert.Kernel8.Gen.frame m ρ,
    fun m ρ _ => Cert.Kernel8Ideal.Gen.frame m ρ,
    reference8,
    fun m ρ _ => Cert.Kernel9.Gen.frame m ρ,
    fun m ρ _ => Cert.Kernel9Ideal.Gen.frame m ρ,
    reference9,
    fun m ρ _ => Cert.Kernel10.Gen.frame m ρ,
    fun m ρ _ => Cert.Kernel10Ideal.Gen.frame m ρ,
    reference10,
    fun m ρ _ => Cert.Kernel11.Gen.frame m ρ,
    fun m ρ _ => Cert.Kernel11Ideal.Gen.frame m ρ,
    reference11,
    fun m ρ _ => Cert.Kernel12.Gen.frame m ρ,
    fun m ρ _ => Cert.Kernel12Ideal.Gen.frame m ρ,
    reference12,
    fun m ρ _ => Cert.Kernel13.Gen.frame m ρ,
    fun m ρ _ => Cert.Kernel13Ideal.Gen.frame m ρ,
    reference13,
    fun m ρ _ => Cert.Kernel14.Gen.frame m ρ,
    fun m ρ _ => Cert.Kernel14Ideal.Gen.frame m ρ,
    reference14,
    fun m ρ _ => Cert.Kernel15.Gen.frame m ρ,
    fun m ρ _ => Cert.Kernel15Ideal.Gen.frame m ρ,
    reference15,
    fun m ρ _ => Cert.Kernel16.Gen.frame m ρ,
    fun m ρ _ => Cert.Kernel16Ideal.Gen.frame m ρ,
    reference16,
    fun m ρ _ => Cert.Kernel17.Gen.frame m ρ,
    fun m ρ _ => Cert.Kernel17Ideal.Gen.frame m ρ,
    reference17,
    fun m ρ _ => Cert.Kernel18.Gen.frame m ρ,
    fun m ρ _ => Cert.Kernel18Ideal.Gen.frame m ρ,
    reference18,
    fun m ρ _ => Cert.Kernel19.Gen.frame m ρ,
    fun m ρ _ => Cert.Kernel19Ideal.Gen.frame m ρ,
    reference19,
    fun m ρ _ => Cert.Kernel20.Gen.frame m ρ,
    fun m ρ _ => Cert.Kernel20Ideal.Gen.frame m ρ,
    reference20,
    fun m ρ _ => Cert.Kernel21.Gen.frame m ρ,
    fun m ρ _ => Cert.Kernel21Ideal.Gen.frame m ρ,
    reference21,
    fun m ρ _ => Cert.Kernel22.Gen.frame m ρ,
    fun m ρ _ => Cert.Kernel22Ideal.Gen.frame m ρ,
    reference22,
    fun m ρ _ => Cert.Kernel23.Gen.frame m ρ,
    fun m ρ _ => Cert.Kernel23Ideal.Gen.frame m ρ,
    fun m ρ _ => Cert.Kernel23Ideal.Gen.frame m ρ,
    reference23,
    fun m ρ _ => reference23 m ρ trivial,
    fun m ρ _ => Cert.Kernel24.Gen.frame m ρ,
    fun m ρ _ => Cert.Kernel24Ideal.Gen.frame m ρ,
    reference24,
    fun m ρ _ => Cert.Kernel25.Gen.frame m ρ,
    fun m ρ _ => Cert.Kernel25Ideal.Gen.frame m ρ,
    fun m ρ _ => Cert.Kernel25Ideal.Gen.frame m ρ,
    reference25,
    fun m ρ _ => reference25 m ρ trivial,
    fun m ρ _ => Cert.Kernel26.Gen.frame m ρ,
    fun m ρ _ => Cert.Kernel26Ideal.Gen.frame m ρ,
    fun m ρ _ => Cert.Kernel26Ideal.Gen.frame m ρ,
    reference26,
    fun m ρ _ => reference26 m ρ trivial,
    fun m ρ _ => Cert.Kernel27.Gen.frame m ρ,
    fun m ρ _ => Cert.Kernel27Ideal.Gen.frame m ρ,
    fun m ρ _ => Cert.Kernel27Ideal.Gen.frame m ρ,
    reference27,
    fun m ρ _ => reference27 m ρ trivial,
    fun m ρ _ => Cert.Kernel28.Gen.frame m ρ,
    fun m ρ _ => Cert.Kernel28Ideal.Gen.frame m ρ,
    reference28,
    fun m ρ _ => Cert.Kernel29.Gen.frame m ρ,
    fun m ρ _ => Cert.Kernel29Ideal.Gen.frame m ρ,
    reference29,
    fun m ρ _ => Cert.Kernel30.Gen.frame m ρ,
    fun m ρ _ => Cert.Kernel30Ideal.Gen.frame m ρ,
    reference30,
    fun m ρ _ => Cert.Kernel31.Gen.frame m ρ,
    fun m ρ _ => Cert.Kernel31Ideal.Gen.frame m ρ,
    reference31,
    fun m ρ _ => Cert.Kernel32.Gen.frame m ρ,
    fun m ρ _ => Cert.Kernel32Ideal.Gen.frame m ρ,
    reference32,
    fun m ρ _ => Cert.Kernel33.Gen.frame m ρ,
    fun m ρ _ => Cert.Kernel33Ideal.Gen.frame m ρ,
    fun m ρ _ => Cert.Kernel33Ideal.Gen.frame m ρ,
    reference33,
    fun m ρ _ => reference33 m ρ trivial,
    fun m ρ _ => Cert.Kernel34.Gen.frame m ρ,
    fun m ρ _ => Cert.Kernel34Ideal.Gen.frame m ρ,
    reference34,
    fun m ρ _ => Cert.Kernel35.Gen.frame m ρ,
    fun m ρ _ => Cert.Kernel35Ideal.Gen.frame m ρ,
    reference35,
    fun m ρ _ => Cert.Kernel36.Gen.frame m ρ,
    fun m ρ _ => Cert.Kernel36Ideal.Gen.frame m ρ,
    reference36,
    fun m ρ _ => Cert.Kernel37.Gen.frame m ρ,
    fun m ρ _ => Cert.Kernel37Ideal.Gen.frame m ρ,
    reference37,
    fun m ρ _ => Cert.Kernel38.Gen.frame m ρ,
    fun m ρ _ => Cert.Kernel38Ideal.Gen.frame m ρ,
    reference38,
    trivial,
    attention,
    trivial,
    gate_up,
    trivial,
    down,
    trivial,
    down_bwd,
    trivial,
    down_wgrad,
    trivial,
    gate_wgrad,
    trivial,
    gate_up_bwd,
    trivial,
    in_proj,
    trivial,
    in_bwd,
    trivial,
    in_wgrad,
    trivial,
    out_proj,
    trivial,
    out_bwd,
    trivial,
    out_wgrad_ssd,
    trivial,
    out_wgrad_attn,
    trivial,
    kv_proj,
    trivial,
    kv_bwd,
    trivial,
    kv_wgrad,
    trivial,
    xq_proj,
    trivial,
    xq_bwd,
    trivial,
    xq_wgrad,
    trivial,
    xo_proj,
    trivial,
    xo_wgrad,
    trivial,
    gate_bwd,
    trivial,
    norm_bwd,
    trivial,
    conv_bwd,
    Idealize.ShloMosaic.IdealRules.named_const.statement Cert.Kernel26Ideal.κ "mask" .f32 0xF149F2CA#32 ⊥ rfl,
    mla_fwd,
    Idealize.ShloMosaic.IdealRules.named_const.statement Cert.Kernel27Ideal.κ "mask" .f32 0xF149F2CA#32 ⊥ rfl,
    xattn_fwd,
    trivial,
    xk_proj,
    trivial,
    xkv_wgrad,
    trivial,
    xkv_bwd,
    trivial,
    q_b_proj,
    trivial,
    q_b_bwd,
    trivial,
    xattn_bwd,
    trivial,
    loss_head,
    trivial,
    adam,
    trivial,
    gate_fwd,
    trivial,
    conv_fwd,
    trivial,
    norm_fwd⟩

end Cert.Proof

end
